-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxRefIdeal (m : (ℓ : Loc Cert.BranchDxRefIdeal.nD Cert.BranchDxRefIdeal.τ Cert.BranchDxRefIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwRefIdeal (m : (ℓ : Loc Cert.BranchDwRefIdeal.nD Cert.BranchDwRefIdeal.τ Cert.BranchDwRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_InValues (m : (ℓ : Loc Cert.InValues.nD Cert.InValues.τ Cert.InValues.sig) → Buf (Elt Bits) ℓ) : Prop :=
  True

def Pre_InValuesIdeal (m : (ℓ : Loc Cert.InValuesIdeal.nD Cert.InValuesIdeal.τ Cert.InValuesIdeal.sig) → Buf (Elt Ideal) ℓ) : Prop :=
  True

def Pre_InValuesRefIdeal (m : (ℓ : Loc Cert.InValuesRefIdeal.nD Cert.InValuesRefIdeal.τ Cert.InValuesRefIdeal.sig) → Buf (Elt Ideal) ℓ) : Prop :=
  True

def Pre_InGates (m : (ℓ : Loc Cert.InGates.nD Cert.InGates.τ Cert.InGates.sig) → Buf (Elt Bits) ℓ) : Prop :=
  True

def Pre_InGatesIdeal (m : (ℓ : Loc Cert.InGatesIdeal.nD Cert.InGatesIdeal.τ Cert.InGatesIdeal.sig) → Buf (Elt Ideal) ℓ) : Prop :=
  True

def Pre_InGatesRefIdeal (m : (ℓ : Loc Cert.InGatesRefIdeal.nD Cert.InGatesRefIdeal.τ Cert.InGatesRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_ActBwd (m : (ℓ : Loc Cert.ActBwd.nD Cert.ActBwd.τ Cert.ActBwd.sig) → Buf (Elt Bits) ℓ) : Prop :=
  True

def Pre_ActBwdIdeal (m : (ℓ : Loc Cert.ActBwdIdeal.nD Cert.ActBwdIdeal.τ Cert.ActBwdIdeal.sig) → Buf (Elt Ideal) ℓ) : Prop :=
  True

def Pre_ActBwdIdeal_finite_gradient [hPre_finite_gradient : Cert.Pre_finite_gradient.Facts] (m : (ℓ : Loc Cert.ActBwdIdeal.nD Cert.ActBwdIdeal.τ Cert.ActBwdIdeal.sig) → Buf (Elt Ideal) ℓ) : Prop :=
  ∀ c : Dev Cert.ActBwdIdeal.nD,
    (Cert.Pre_finite_gradient.fn (F := Ideal) (m ((c.tc : Thread Cert.ActBwdIdeal.nD Cert.ActBwdIdeal.τ).loc Cert.ActBwdIdeal.main_arg0)) (m ((c.tc : Thread Cert.ActBwdIdeal.nD Cert.ActBwdIdeal.τ).loc Cert.ActBwdIdeal.main_arg1)) (m ((c.tc : Thread Cert.ActBwdIdeal.nD Cert.ActBwdIdeal.τ).loc Cert.ActBwdIdeal.main_arg2))).1 = (fun _ => 1#1)
    ∧ (Cert.Pre_finite_gradient.fn (F := Ideal) (m ((c.tc : Thread Cert.ActBwdIdeal.nD Cert.ActBwdIdeal.τ).loc Cert.ActBwdIdeal.main_arg0)) (m ((c.tc : Thread Cert.ActBwdIdeal.nD Cert.ActBwdIdeal.τ).loc Cert.ActBwdIdeal.main_arg1)) (m ((c.tc : Thread Cert.ActBwdIdeal.nD Cert.ActBwdIdeal.τ).loc Cert.ActBwdIdeal.main_arg2))).2 = (fun _ => 1#1)

def Pre_ActBwdRefIdeal (m : (ℓ : Loc Cert.ActBwdRefIdeal.nD Cert.ActBwdRefIdeal.τ Cert.ActBwdRefIdeal.sig) → Buf (Elt Ideal) ℓ) : Prop :=
  True

def Pre_ActBwdRefIdeal_finite_gradient [hPre_finite_gradient : Cert.Pre_finite_gradient.Facts] (m : (ℓ : Loc Cert.ActBwdRefIdeal.nD Cert.ActBwdRefIdeal.τ Cert.ActBwdRefIdeal.sig) → Buf (Elt Ideal) ℓ) : Prop :=
  ∀ c : Dev Cert.ActBwdRefIdeal.nD,
    (Cert.Pre_finite_gradient.fn (F := Ideal) (m ((c.tc : Thread Cert.ActBwdRefIdeal.nD Cert.ActBwdRefIdeal.τ).loc Cert.ActBwdRefIdeal.main_arg0)) (m ((c.tc : Thread Cert.ActBwdRefIdeal.nD Cert.ActBwdRefIdeal.τ).loc Cert.ActBwdRefIdeal.main_arg1)) (m ((c.tc : Thread Cert.ActBwdRefIdeal.nD Cert.ActBwdRefIdeal.τ).loc Cert.ActBwdRefIdeal.main_arg2))).1 = (fun _ => 1#1)
    ∧ (Cert.Pre_finite_gradient.fn (F := Ideal) (m ((c.tc : Thread Cert.ActBwdRefIdeal.nD Cert.ActBwdRefIdeal.τ).loc Cert.ActBwdRefIdeal.main_arg0)) (m ((c.tc : Thread Cert.ActBwdRefIdeal.nD Cert.ActBwdRefIdeal.τ).loc Cert.ActBwdRefIdeal.main_arg1)) (m ((c.tc : Thread Cert.ActBwdRefIdeal.nD Cert.ActBwdRefIdeal.τ).loc Cert.ActBwdRefIdeal.main_arg2))).2 = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_GatesBwd (m : (ℓ : Loc Cert.GatesBwd.nD Cert.GatesBwd.τ Cert.GatesBwd.sig) → Buf (Elt Bits) ℓ) : Prop :=
  True

def Pre_GatesBwdIdeal (m : (ℓ : Loc Cert.GatesBwdIdeal.nD Cert.GatesBwdIdeal.τ Cert.GatesBwdIdeal.sig) → Buf (Elt Ideal) ℓ) : Prop :=
  True

def Pre_GatesBwdRefIdeal (m : (ℓ : Loc Cert.GatesBwdRefIdeal.nD Cert.GatesBwdRefIdeal.τ Cert.GatesBwdRefIdeal.sig) → Buf (Elt Ideal) ℓ) : Prop :=
  True

def Pre_LastNormBwd (m : (ℓ : Loc Cert.LastNormBwd.nD Cert.LastNormBwd.τ Cert.LastNormBwd.sig) → Buf (Elt Bits) ℓ) : Prop :=
  True

def Pre_LastNormBwdIdeal (m : (ℓ : Loc Cert.LastNormBwdIdeal.nD Cert.LastNormBwdIdeal.τ Cert.LastNormBwdIdeal.sig) → Buf (Elt Ideal) ℓ) : Prop :=
  True

def Pre_LastNormBwdRefIdeal (m : (ℓ : Loc Cert.LastNormBwdRefIdeal.nD Cert.LastNormBwdRefIdeal.τ Cert.LastNormBwdRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_NormBwdChain (m : (ℓ : Loc Cert.NormBwdChain.nD Cert.NormBwdChain.τ Cert.NormBwdChain.sig) → Buf (Elt Bits) ℓ) : Prop :=
  True

def Pre_NormBwdChainIdeal (m : (ℓ : Loc Cert.NormBwdChainIdeal.nD Cert.NormBwdChainIdeal.τ Cert.NormBwdChainIdeal.sig) → Buf (Elt Ideal) ℓ) : Prop :=
  True

def Pre_NormBwdChainRefIdeal (m : (ℓ : Loc Cert.NormBwdChainRefIdeal.nD Cert.NormBwdChainRefIdeal.τ Cert.NormBwdChainRefIdeal.sig) → Buf (Elt Ideal) ℓ) : Prop :=
  True

def Pre_NormBwdHalf (m : (ℓ : Loc Cert.NormBwdHalf.nD Cert.NormBwdHalf.τ Cert.NormBwdHalf.sig) → Buf (Elt Bits) ℓ) : Prop :=
  True

def Pre_NormBwdHalfIdeal (m : (ℓ : Loc Cert.NormBwdHalfIdeal.nD Cert.NormBwdHalfIdeal.τ Cert.NormBwdHalfIdeal.sig) → Buf (Elt Ideal) ℓ) : Prop :=
  True

def Pre_NormBwdHalfRefIdeal (m : (ℓ : Loc Cert.NormBwdHalfRefIdeal.nD Cert.NormBwdHalfRefIdeal.τ Cert.NormBwdHalfRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_ResNorm (m : (ℓ : Loc Cert.ResNorm.nD Cert.ResNorm.τ Cert.ResNorm.sig) → Buf (Elt Bits) ℓ) : Prop :=
  True

def Pre_ResNormIdeal (m : (ℓ : Loc Cert.ResNormIdeal.nD Cert.ResNormIdeal.τ Cert.ResNormIdeal.sig) → Buf (Elt Ideal) ℓ) : Prop :=
  True

def Pre_ResNormRefIdeal (m : (ℓ : Loc Cert.ResNormRefIdeal.nD Cert.ResNormRefIdeal.τ Cert.ResNormRefIdeal.sig) → Buf (Elt Ideal) ℓ) : Prop :=
  True

def Pre_ResNormMix (m : (ℓ : Loc Cert.ResNormMix.nD Cert.ResNormMix.τ Cert.ResNormMix.sig) → Buf (Elt Bits) ℓ) : Prop :=
  True

def Pre_ResNormMixIdeal (m : (ℓ : Loc Cert.ResNormMixIdeal.nD Cert.ResNormMixIdeal.τ Cert.ResNormMixIdeal.sig) → Buf (Elt Ideal) ℓ) : Prop :=
  True

def Pre_ResNormMixRefIdeal (m : (ℓ : Loc Cert.ResNormMixRefIdeal.nD Cert.ResNormMixRefIdeal.τ Cert.ResNormMixRefIdeal.sig) → Buf (Elt Ideal) ℓ) : Prop :=
  True

def Pre_ResNormLast (m : (ℓ : Loc Cert.ResNormLast.nD Cert.ResNormLast.τ Cert.ResNormLast.sig) → Buf (Elt Bits) ℓ) : Prop :=
  True

def Pre_ResNormLastIdeal (m : (ℓ : Loc Cert.ResNormLastIdeal.nD Cert.ResNormLastIdeal.τ Cert.ResNormLastIdeal.sig) → Buf (Elt Ideal) ℓ) : Prop :=
  True

def Pre_ResNormLastRefIdeal (m : (ℓ : Loc Cert.ResNormLastRefIdeal.nD Cert.ResNormLastRefIdeal.τ Cert.ResNormLastRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_finite_columns [hPre_finite_columns : Cert.Pre_finite_columns.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_finite_columns.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_finite_columns [hPre_finite_columns : Cert.Pre_finite_columns.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_finite_columns.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2))) = (fun _ => 1#1)

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_finite_pool_gradient [hPre_finite_pool_gradient : Cert.Pre_finite_pool_gradient.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_finite_pool_gradient.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4))).1 = (fun _ => 1#1)
    ∧ (Cert.Pre_finite_pool_gradient.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4))).2.1 = (fun _ => 1#1)
    ∧ (Cert.Pre_finite_pool_gradient.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4))).2.2 = (fun _ => 1#1)

def Pre_PoolBwdRefIdeal (m : (ℓ : Loc Cert.PoolBwdRefIdeal.nD Cert.PoolBwdRefIdeal.τ Cert.PoolBwdRefIdeal.sig) → Buf (Elt Ideal) ℓ) : Prop :=
  True

def Pre_PoolBwdRefIdeal_finite_pool_gradient [hPre_finite_pool_gradient : Cert.Pre_finite_pool_gradient.Facts] (m : (ℓ : Loc Cert.PoolBwdRefIdeal.nD Cert.PoolBwdRefIdeal.τ Cert.PoolBwdRefIdeal.sig) → Buf (Elt Ideal) ℓ) : Prop :=
  ∀ c : Dev Cert.PoolBwdRefIdeal.nD,
    (Cert.Pre_finite_pool_gradient.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3)) (m ((c.tc : Thread Cert.PoolBwdRefIdeal.nD Cert.PoolBwdRefIdeal.τ).loc Cert.PoolBwdRefIdeal.main_arg4))).1 = (fun _ => 1#1)
    ∧ (Cert.Pre_finite_pool_gradient.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3)) (m ((c.tc : Thread Cert.PoolBwdRefIdeal.nD Cert.PoolBwdRefIdeal.τ).loc Cert.PoolBwdRefIdeal.main_arg4))).2.1 = (fun _ => 1#1)
    ∧ (Cert.Pre_finite_pool_gradient.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3)) (m ((c.tc : Thread Cert.PoolBwdRefIdeal.nD Cert.PoolBwdRefIdeal.τ).loc Cert.PoolBwdRefIdeal.main_arg4))).2.2 = (fun _ => 1#1)

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ r.2.sem = fun _ => 0)

def quiescent_BranchDxRefIdeal [hBranchDxRefIdeal : Cert.BranchDxRefIdeal.Facts] : Prop :=
  ∀ (m : (ℓ : Loc Cert.BranchDxRefIdeal.nD Cert.BranchDxRefIdeal.τ Cert.BranchDxRefIdeal.sig) → Buf (Elt Ideal) ℓ) (g : Dev Cert.BranchDxRefIdeal.nD → PrngReg), Pre_BranchDxRefIdeal m →
    θ_run (Cert.BranchDxRefIdeal.defs (F := Ideal)) (onTc (τ := Cert.BranchDxRefIdeal.τ) (Cert.BranchDxRefIdeal.main (F := Ideal))) ⟨m, fun _ => 0, g⟩ (fun r => (∀ c : Dev Cert.BranchDxRefIdeal.nD,
      r.2.mem ((c.tc : Thread Cert.BranchDxRefIdeal.nD Cert.BranchDxRefIdeal.τ).loc Cert.BranchDxRefIdeal.main_arg0) = m ((c.tc : Thread Cert.BranchDxRefIdeal.nD Cert.BranchDxRefIdeal.τ).loc Cert.BranchDxRefIdeal.main_arg0)
      ∧ r.2.mem ((c.tc : Thread Cert.BranchDxRefIdeal.nD Cert.BranchDxRefIdeal.τ).loc Cert.BranchDxRefIdeal.main_arg1) = m ((c.tc : Thread Cert.BranchDxRefIdeal.nD Cert.BranchDxRefIdeal.τ).loc Cert.BranchDxRefIdeal.main_arg1))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ r.2.sem = fun _ => 0)

def quiescent_BranchDwRefIdeal [hBranchDwRefIdeal : Cert.BranchDwRefIdeal.Facts] : Prop :=
  ∀ (m : (ℓ : Loc Cert.BranchDwRefIdeal.nD Cert.BranchDwRefIdeal.τ Cert.BranchDwRefIdeal.sig) → Buf (Elt Ideal) ℓ) (g : Dev Cert.BranchDwRefIdeal.nD → PrngReg), Pre_BranchDwRefIdeal m →
    θ_run (Cert.BranchDwRefIdeal.defs (F := Ideal)) (onTc (τ := Cert.BranchDwRefIdeal.τ) (Cert.BranchDwRefIdeal.main (F := Ideal))) ⟨m, fun _ => 0, g⟩ (fun r => (∀ c : Dev Cert.BranchDwRefIdeal.nD,
      r.2.mem ((c.tc : Thread Cert.BranchDwRefIdeal.nD Cert.BranchDwRefIdeal.τ).loc Cert.BranchDwRefIdeal.main_arg0) = m ((c.tc : Thread Cert.BranchDwRefIdeal.nD Cert.BranchDwRefIdeal.τ).loc Cert.BranchDwRefIdeal.main_arg0)
      ∧ r.2.mem ((c.tc : Thread Cert.BranchDwRefIdeal.nD Cert.BranchDwRefIdeal.τ).loc Cert.BranchDwRefIdeal.main_arg1) = m ((c.tc : Thread Cert.BranchDwRefIdeal.nD Cert.BranchDwRefIdeal.τ).loc Cert.BranchDwRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_InValues [hInValues : Cert.InValues.Facts] : Prop :=
  ∀ (m : (ℓ : Loc Cert.InValues.nD Cert.InValues.τ Cert.InValues.sig) → Buf (Elt Bits) ℓ) (g : Dev Cert.InValues.nD → PrngReg), Pre_InValues m →
    θ_run (Cert.InValues.defs (F := Bits)) (onTc (τ := Cert.InValues.τ) (Cert.InValues.main (F := Bits))) ⟨m, fun _ => 0, g⟩ (fun r => (∀ c : Dev Cert.InValues.nD,
      r.2.mem ((c.tc : Thread Cert.InValues.nD Cert.InValues.τ).loc Cert.InValues.main_arg0) = m ((c.tc : Thread Cert.InValues.nD Cert.InValues.τ).loc Cert.InValues.main_arg0)
      ∧ r.2.mem ((c.tc : Thread Cert.InValues.nD Cert.InValues.τ).loc Cert.InValues.main_arg1) = m ((c.tc : Thread Cert.InValues.nD Cert.InValues.τ).loc Cert.InValues.main_arg1))
      ∧ r.2.sem = fun _ => 0)

def quiescent_InValuesIdeal [hInValuesIdeal : Cert.InValuesIdeal.Facts] : Prop :=
  ∀ (m : (ℓ : Loc Cert.InValuesIdeal.nD Cert.InValuesIdeal.τ Cert.InValuesIdeal.sig) → Buf (Elt Ideal) ℓ) (g : Dev Cert.InValuesIdeal.nD → PrngReg), Pre_InValuesIdeal m →
    θ_run (Cert.InValuesIdeal.defs (F := Ideal)) (onTc (τ := Cert.InValuesIdeal.τ) (Cert.InValuesIdeal.main (F := Ideal))) ⟨m, fun _ => 0, g⟩ (fun r => (∀ c : Dev Cert.InValuesIdeal.nD,
      r.2.mem ((c.tc : Thread Cert.InValuesIdeal.nD Cert.InValuesIdeal.τ).loc Cert.InValuesIdeal.main_arg0) = m ((c.tc : Thread Cert.InValuesIdeal.nD Cert.InValuesIdeal.τ).loc Cert.InValuesIdeal.main_arg0)
      ∧ r.2.mem ((c.tc : Thread Cert.InValuesIdeal.nD Cert.InValuesIdeal.τ).loc Cert.InValuesIdeal.main_arg1) = m ((c.tc : Thread Cert.InValuesIdeal.nD Cert.InValuesIdeal.τ).loc Cert.InValuesIdeal.main_arg1))
      ∧ r.2.sem = fun _ => 0)

def quiescent_InValuesRefIdeal [hInValuesRefIdeal : Cert.InValuesRefIdeal.Facts] : Prop :=
  ∀ (m : (ℓ : Loc Cert.InValuesRefIdeal.nD Cert.InValuesRefIdeal.τ Cert.InValuesRefIdeal.sig) → Buf (Elt Ideal) ℓ) (g : Dev Cert.InValuesRefIdeal.nD → PrngReg), Pre_InValuesRefIdeal m →
    θ_run (Cert.InValuesRefIdeal.defs (F := Ideal)) (onTc (τ := Cert.InValuesRefIdeal.τ) (Cert.InValuesRefIdeal.main (F := Ideal))) ⟨m, fun _ => 0, g⟩ (fun r => (∀ c : Dev Cert.InValuesRefIdeal.nD,
      r.2.mem ((c.tc : Thread Cert.InValuesRefIdeal.nD Cert.InValuesRefIdeal.τ).loc Cert.InValuesRefIdeal.main_arg0) = m ((c.tc : Thread Cert.InValuesRefIdeal.nD Cert.InValuesRefIdeal.τ).loc Cert.InValuesRefIdeal.main_arg0)
      ∧ r.2.mem ((c.tc : Thread Cert.InValuesRefIdeal.nD Cert.InValuesRefIdeal.τ).loc Cert.InValuesRefIdeal.main_arg1) = m ((c.tc : Thread Cert.InValuesRefIdeal.nD Cert.InValuesRefIdeal.τ).loc Cert.InValuesRefIdeal.main_arg1))
      ∧ r.2.sem = fun _ => 0)

def quiescent_InGates [hInGates : Cert.InGates.Facts] : Prop :=
  ∀ (m : (ℓ : Loc Cert.InGates.nD Cert.InGates.τ Cert.InGates.sig) → Buf (Elt Bits) ℓ) (g : Dev Cert.InGates.nD → PrngReg), Pre_InGates m →
    θ_run (Cert.InGates.defs (F := Bits)) (onTc (τ := Cert.InGates.τ) (Cert.InGates.main (F := Bits))) ⟨m, fun _ => 0, g⟩ (fun r => (∀ c : Dev Cert.InGates.nD,
      r.2.mem ((c.tc : Thread Cert.InGates.nD Cert.InGates.τ).loc Cert.InGates.main_arg0) = m ((c.tc : Thread Cert.InGates.nD Cert.InGates.τ).loc Cert.InGates.main_arg0)
      ∧ r.2.mem ((c.tc : Thread Cert.InGates.nD Cert.InGates.τ).loc Cert.InGates.main_arg1) = m ((c.tc : Thread Cert.InGates.nD Cert.InGates.τ).loc Cert.InGates.main_arg1))
      ∧ r.2.sem = fun _ => 0)

def quiescent_InGatesIdeal [hInGatesIdeal : Cert.InGatesIdeal.Facts] : Prop :=
  ∀ (m : (ℓ : Loc Cert.InGatesIdeal.nD Cert.InGatesIdeal.τ Cert.InGatesIdeal.sig) → Buf (Elt Ideal) ℓ) (g : Dev Cert.InGatesIdeal.nD → PrngReg), Pre_InGatesIdeal m →
    θ_run (Cert.InGatesIdeal.defs (F := Ideal)) (onTc (τ := Cert.InGatesIdeal.τ) (Cert.InGatesIdeal.main (F := Ideal))) ⟨m, fun _ => 0, g⟩ (fun r => (∀ c : Dev Cert.InGatesIdeal.nD,
      r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
      ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1))
      ∧ r.2.sem = fun _ => 0)

def quiescent_InGatesRefIdeal [hInGatesRefIdeal : Cert.InGatesRefIdeal.Facts] : Prop :=
  ∀ (m : (ℓ : Loc Cert.InGatesRefIdeal.nD Cert.InGatesRefIdeal.τ Cert.InGatesRefIdeal.sig) → Buf (Elt Ideal) ℓ) (g : Dev Cert.InGatesRefIdeal.nD → PrngReg), Pre_InGatesRefIdeal m →
    θ_run (Cert.InGatesRefIdeal.defs (F := Ideal)) (onTc (τ := Cert.InGatesRefIdeal.τ) (Cert.InGatesRefIdeal.main (F := Ideal))) ⟨m, fun _ => 0, g⟩ (fun r => (∀ c : Dev Cert.InGatesRefIdeal.nD,
      r.2.mem ((c.tc : Thread Cert.InGatesRefIdeal.nD Cert.InGatesRefIdeal.τ).loc Cert.InGatesRefIdeal.main_arg0) = m ((c.tc : Thread Cert.InGatesRefIdeal.nD Cert.InGatesRefIdeal.τ).loc Cert.InGatesRefIdeal.main_arg0)
      ∧ r.2.mem ((c.tc : Thread Cert.InGatesRefIdeal.nD Cert.InGatesRefIdeal.τ).loc Cert.InGatesRefIdeal.main_arg1) = m ((c.tc : Thread Cert.InGatesRefIdeal.nD Cert.InGatesRefIdeal.τ).loc Cert.InGatesRefIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_ActBwd [hActBwd : Cert.ActBwd.Facts] : Prop :=
  ∀ (m : (ℓ : Loc Cert.ActBwd.nD Cert.ActBwd.τ Cert.ActBwd.sig) → Buf (Elt Bits) ℓ) (g : Dev Cert.ActBwd.nD → PrngReg), Pre_ActBwd m →
    θ_run (Cert.ActBwd.defs (F := Bits)) (onTc (τ := Cert.ActBwd.τ) (Cert.ActBwd.main (F := Bits))) ⟨m, fun _ => 0, g⟩ (fun r => (∀ c : Dev Cert.ActBwd.nD,
      r.2.mem ((c.tc : Thread Cert.ActBwd.nD Cert.ActBwd.τ).loc Cert.ActBwd.main_arg0) = m ((c.tc : Thread Cert.ActBwd.nD Cert.ActBwd.τ).loc Cert.ActBwd.main_arg0)
      ∧ r.2.mem ((c.tc : Thread Cert.ActBwd.nD Cert.ActBwd.τ).loc Cert.ActBwd.main_arg1) = m ((c.tc : Thread Cert.ActBwd.nD Cert.ActBwd.τ).loc Cert.ActBwd.main_arg1)
      ∧ r.2.mem ((c.tc : Thread Cert.ActBwd.nD Cert.ActBwd.τ).loc Cert.ActBwd.main_arg2) = m ((c.tc : Thread Cert.ActBwd.nD Cert.ActBwd.τ).loc Cert.ActBwd.main_arg2))
      ∧ r.2.sem = fun _ => 0)

def quiescent_ActBwdIdeal [hActBwdIdeal : Cert.ActBwdIdeal.Facts] : Prop :=
  ∀ (m : (ℓ : Loc Cert.ActBwdIdeal.nD Cert.ActBwdIdeal.τ Cert.ActBwdIdeal.sig) → Buf (Elt Ideal) ℓ) (g : Dev Cert.ActBwdIdeal.nD → PrngReg), Pre_ActBwdIdeal m →
    θ_run (Cert.ActBwdIdeal.defs (F := Ideal)) (onTc (τ := Cert.ActBwdIdeal.τ) (Cert.ActBwdIdeal.main (F := Ideal))) ⟨m, fun _ => 0, g⟩ (fun r => (∀ c : Dev Cert.ActBwdIdeal.nD,
      r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
      ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
      ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2))
      ∧ r.2.sem = fun _ => 0)

def quiescent_ActBwdIdeal_pre_finite_gradient [hActBwdIdeal : Cert.ActBwdIdeal.Facts] [hPre_finite_gradient : Cert.Pre_finite_gradient.Facts] : Prop :=
  ∀ (m : (ℓ : Loc Cert.ActBwdIdeal.nD Cert.ActBwdIdeal.τ Cert.ActBwdIdeal.sig) → Buf (Elt Ideal) ℓ) (g : Dev Cert.ActBwdIdeal.nD → PrngReg), Pre_ActBwdIdeal_finite_gradient m →
    θ_run (Cert.ActBwdIdeal.defs (F := Ideal)) (onTc (τ := Cert.ActBwdIdeal.τ) (Cert.ActBwdIdeal.main (F := Ideal))) ⟨m, fun _ => 0, g⟩ (fun r => (∀ c : Dev Cert.ActBwdIdeal.nD,
      r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
      ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
      ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2))
      ∧ r.2.sem = fun _ => 0)

def quiescent_ActBwdRefIdeal [hActBwdRefIdeal : Cert.ActBwdRefIdeal.Facts] : Prop :=
  ∀ (m : (ℓ : Loc Cert.ActBwdRefIdeal.nD Cert.ActBwdRefIdeal.τ Cert.ActBwdRefIdeal.sig) → Buf (Elt Ideal) ℓ) (g : Dev Cert.ActBwdRefIdeal.nD → PrngReg), Pre_ActBwdRefIdeal m →
    θ_run (Cert.ActBwdRefIdeal.defs (F := Ideal)) (onTc (τ := Cert.ActBwdRefIdeal.τ) (Cert.ActBwdRefIdeal.main (F := Ideal))) ⟨m, fun _ => 0, g⟩ (fun r => (∀ c : Dev Cert.ActBwdRefIdeal.nD,
      r.2.mem ((c.tc : Thread Cert.ActBwdRefIdeal.nD Cert.ActBwdRefIdeal.τ).loc Cert.ActBwdRefIdeal.main_arg0) = m ((c.tc : Thread Cert.ActBwdRefIdeal.nD Cert.ActBwdRefIdeal.τ).loc Cert.ActBwdRefIdeal.main_arg0)
      ∧ r.2.mem ((c.tc : Thread Cert.ActBwdRefIdeal.nD Cert.ActBwdRefIdeal.τ).loc Cert.ActBwdRefIdeal.main_arg1) = m ((c.tc : Thread Cert.ActBwdRefIdeal.nD Cert.ActBwdRefIdeal.τ).loc Cert.ActBwdRefIdeal.main_arg1)
      ∧ r.2.mem ((c.tc : Thread Cert.ActBwdRefIdeal.nD Cert.ActBwdRefIdeal.τ).loc Cert.ActBwdRefIdeal.main_arg2) = m ((c.tc : Thread Cert.ActBwdRefIdeal.nD Cert.ActBwdRefIdeal.τ).loc Cert.ActBwdRefIdeal.main_arg2))
      ∧ r.2.sem = fun _ => 0)

def quiescent_ActBwdRefIdeal_pre_finite_gradient [hActBwdRefIdeal : Cert.ActBwdRefIdeal.Facts] [hPre_finite_gradient : Cert.Pre_finite_gradient.Facts] : Prop :=
  ∀ (m : (ℓ : Loc Cert.ActBwdRefIdeal.nD Cert.ActBwdRefIdeal.τ Cert.ActBwdRefIdeal.sig) → Buf (Elt Ideal) ℓ) (g : Dev Cert.ActBwdRefIdeal.nD → PrngReg), Pre_ActBwdRefIdeal_finite_gradient m →
    θ_run (Cert.ActBwdRefIdeal.defs (F := Ideal)) (onTc (τ := Cert.ActBwdRefIdeal.τ) (Cert.ActBwdRefIdeal.main (F := Ideal))) ⟨m, fun _ => 0, g⟩ (fun r => (∀ c : Dev Cert.ActBwdRefIdeal.nD,
      r.2.mem ((c.tc : Thread Cert.ActBwdRefIdeal.nD Cert.ActBwdRefIdeal.τ).loc Cert.ActBwdRefIdeal.main_arg0) = m ((c.tc : Thread Cert.ActBwdRefIdeal.nD Cert.ActBwdRefIdeal.τ).loc Cert.ActBwdRefIdeal.main_arg0)
      ∧ r.2.mem ((c.tc : Thread Cert.ActBwdRefIdeal.nD Cert.ActBwdRefIdeal.τ).loc Cert.ActBwdRefIdeal.main_arg1) = m ((c.tc : Thread Cert.ActBwdRefIdeal.nD Cert.ActBwdRefIdeal.τ).loc Cert.ActBwdRefIdeal.main_arg1)
      ∧ r.2.mem ((c.tc : Thread Cert.ActBwdRefIdeal.nD Cert.ActBwdRefIdeal.τ).loc Cert.ActBwdRefIdeal.main_arg2) = m ((c.tc : Thread Cert.ActBwdRefIdeal.nD Cert.ActBwdRefIdeal.τ).loc Cert.ActBwdRefIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def quiescent_GatesBwd [hGatesBwd : Cert.GatesBwd.Facts] : Prop :=
  ∀ (m : (ℓ : Loc Cert.GatesBwd.nD Cert.GatesBwd.τ Cert.GatesBwd.sig) → Buf (Elt Bits) ℓ) (g : Dev Cert.GatesBwd.nD → PrngReg), Pre_GatesBwd m →
    θ_run (Cert.GatesBwd.defs (F := Bits)) (onTc (τ := Cert.GatesBwd.τ) (Cert.GatesBwd.main (F := Bits))) ⟨m, fun _ => 0, g⟩ (fun r => (∀ c : Dev Cert.GatesBwd.nD,
      r.2.mem ((c.tc : Thread Cert.GatesBwd.nD Cert.GatesBwd.τ).loc Cert.GatesBwd.main_arg0) = m ((c.tc : Thread Cert.GatesBwd.nD Cert.GatesBwd.τ).loc Cert.GatesBwd.main_arg0)
      ∧ r.2.mem ((c.tc : Thread Cert.GatesBwd.nD Cert.GatesBwd.τ).loc Cert.GatesBwd.main_arg1) = m ((c.tc : Thread Cert.GatesBwd.nD Cert.GatesBwd.τ).loc Cert.GatesBwd.main_arg1)
      ∧ r.2.mem ((c.tc : Thread Cert.GatesBwd.nD Cert.GatesBwd.τ).loc Cert.GatesBwd.main_arg2) = m ((c.tc : Thread Cert.GatesBwd.nD Cert.GatesBwd.τ).loc Cert.GatesBwd.main_arg2)
      ∧ r.2.mem ((c.tc : Thread Cert.GatesBwd.nD Cert.GatesBwd.τ).loc Cert.GatesBwd.main_arg3) = m ((c.tc : Thread Cert.GatesBwd.nD Cert.GatesBwd.τ).loc Cert.GatesBwd.main_arg3))
      ∧ r.2.sem = fun _ => 0)

def quiescent_GatesBwdIdeal [hGatesBwdIdeal : Cert.GatesBwdIdeal.Facts] : Prop :=
  ∀ (m : (ℓ : Loc Cert.GatesBwdIdeal.nD Cert.GatesBwdIdeal.τ Cert.GatesBwdIdeal.sig) → Buf (Elt Ideal) ℓ) (g : Dev Cert.GatesBwdIdeal.nD → PrngReg), Pre_GatesBwdIdeal m →
    θ_run (Cert.GatesBwdIdeal.defs (F := Ideal)) (onTc (τ := Cert.GatesBwdIdeal.τ) (Cert.GatesBwdIdeal.main (F := Ideal))) ⟨m, fun _ => 0, g⟩ (fun r => (∀ c : Dev Cert.GatesBwdIdeal.nD,
      r.2.mem ((c.tc : Thread Cert.GatesBwdIdeal.nD Cert.GatesBwdIdeal.τ).loc Cert.GatesBwdIdeal.main_arg0) = m ((c.tc : Thread Cert.GatesBwdIdeal.nD Cert.GatesBwdIdeal.τ).loc Cert.GatesBwdIdeal.main_arg0)
      ∧ r.2.mem ((c.tc : Thread Cert.GatesBwdIdeal.nD Cert.GatesBwdIdeal.τ).loc Cert.GatesBwdIdeal.main_arg1) = m ((c.tc : Thread Cert.GatesBwdIdeal.nD Cert.GatesBwdIdeal.τ).loc Cert.GatesBwdIdeal.main_arg1)
      ∧ r.2.mem ((c.tc : Thread Cert.GatesBwdIdeal.nD Cert.GatesBwdIdeal.τ).loc Cert.GatesBwdIdeal.main_arg2) = m ((c.tc : Thread Cert.GatesBwdIdeal.nD Cert.GatesBwdIdeal.τ).loc Cert.GatesBwdIdeal.main_arg2)
      ∧ r.2.mem ((c.tc : Thread Cert.GatesBwdIdeal.nD Cert.GatesBwdIdeal.τ).loc Cert.GatesBwdIdeal.main_arg3) = m ((c.tc : Thread Cert.GatesBwdIdeal.nD Cert.GatesBwdIdeal.τ).loc Cert.GatesBwdIdeal.main_arg3))
      ∧ r.2.sem = fun _ => 0)

def quiescent_GatesBwdRefIdeal [hGatesBwdRefIdeal : Cert.GatesBwdRefIdeal.Facts] : Prop :=
  ∀ (m : (ℓ : Loc Cert.GatesBwdRefIdeal.nD Cert.GatesBwdRefIdeal.τ Cert.GatesBwdRefIdeal.sig) → Buf (Elt Ideal) ℓ) (g : Dev Cert.GatesBwdRefIdeal.nD → PrngReg), Pre_GatesBwdRefIdeal m →
    θ_run (Cert.GatesBwdRefIdeal.defs (F := Ideal)) (onTc (τ := Cert.GatesBwdRefIdeal.τ) (Cert.GatesBwdRefIdeal.main (F := Ideal))) ⟨m, fun _ => 0, g⟩ (fun r => (∀ c : Dev Cert.GatesBwdRefIdeal.nD,
      r.2.mem ((c.tc : Thread Cert.GatesBwdRefIdeal.nD Cert.GatesBwdRefIdeal.τ).loc Cert.GatesBwdRefIdeal.main_arg0) = m ((c.tc : Thread Cert.GatesBwdRefIdeal.nD Cert.GatesBwdRefIdeal.τ).loc Cert.GatesBwdRefIdeal.main_arg0)
      ∧ r.2.mem ((c.tc : Thread Cert.GatesBwdRefIdeal.nD Cert.GatesBwdRefIdeal.τ).loc Cert.GatesBwdRefIdeal.main_arg1) = m ((c.tc : Thread Cert.GatesBwdRefIdeal.nD Cert.GatesBwdRefIdeal.τ).loc Cert.GatesBwdRefIdeal.main_arg1)
      ∧ r.2.mem ((c.tc : Thread Cert.GatesBwdRefIdeal.nD Cert.GatesBwdRefIdeal.τ).loc Cert.GatesBwdRefIdeal.main_arg2) = m ((c.tc : Thread Cert.GatesBwdRefIdeal.nD Cert.GatesBwdRefIdeal.τ).loc Cert.GatesBwdRefIdeal.main_arg2)
      ∧ r.2.mem ((c.tc : Thread Cert.GatesBwdRefIdeal.nD Cert.GatesBwdRefIdeal.τ).loc Cert.GatesBwdRefIdeal.main_arg3) = m ((c.tc : Thread Cert.GatesBwdRefIdeal.nD Cert.GatesBwdRefIdeal.τ).loc Cert.GatesBwdRefIdeal.main_arg3))
      ∧ r.2.sem = fun _ => 0)

def quiescent_LastNormBwd [hLastNormBwd : Cert.LastNormBwd.Facts] : Prop :=
  ∀ (m : (ℓ : Loc Cert.LastNormBwd.nD Cert.LastNormBwd.τ Cert.LastNormBwd.sig) → Buf (Elt Bits) ℓ) (g : Dev Cert.LastNormBwd.nD → PrngReg), Pre_LastNormBwd m →
    θ_run (Cert.LastNormBwd.defs (F := Bits)) (onTc (τ := Cert.LastNormBwd.τ) (Cert.LastNormBwd.main (F := Bits))) ⟨m, fun _ => 0, g⟩ (fun r => (∀ c : Dev Cert.LastNormBwd.nD,
      r.2.mem ((c.tc : Thread Cert.LastNormBwd.nD Cert.LastNormBwd.τ).loc Cert.LastNormBwd.main_arg0) = m ((c.tc : Thread Cert.LastNormBwd.nD Cert.LastNormBwd.τ).loc Cert.LastNormBwd.main_arg0)
      ∧ r.2.mem ((c.tc : Thread Cert.LastNormBwd.nD Cert.LastNormBwd.τ).loc Cert.LastNormBwd.main_arg1) = m ((c.tc : Thread Cert.LastNormBwd.nD Cert.LastNormBwd.τ).loc Cert.LastNormBwd.main_arg1)
      ∧ r.2.mem ((c.tc : Thread Cert.LastNormBwd.nD Cert.LastNormBwd.τ).loc Cert.LastNormBwd.main_arg2) = m ((c.tc : Thread Cert.LastNormBwd.nD Cert.LastNormBwd.τ).loc Cert.LastNormBwd.main_arg2))
      ∧ r.2.sem = fun _ => 0)

def quiescent_LastNormBwdIdeal [hLastNormBwdIdeal : Cert.LastNormBwdIdeal.Facts] : Prop :=
  ∀ (m : (ℓ : Loc Cert.LastNormBwdIdeal.nD Cert.LastNormBwdIdeal.τ Cert.LastNormBwdIdeal.sig) → Buf (Elt Ideal) ℓ) (g : Dev Cert.LastNormBwdIdeal.nD → PrngReg), Pre_LastNormBwdIdeal m →
    θ_run (Cert.LastNormBwdIdeal.defs (F := Ideal)) (onTc (τ := Cert.LastNormBwdIdeal.τ) (Cert.LastNormBwdIdeal.main (F := Ideal))) ⟨m, fun _ => 0, g⟩ (fun r => (∀ c : Dev Cert.LastNormBwdIdeal.nD,
      r.2.mem ((c.tc : Thread Cert.LastNormBwdIdeal.nD Cert.LastNormBwdIdeal.τ).loc Cert.LastNormBwdIdeal.main_arg0) = m ((c.tc : Thread Cert.LastNormBwdIdeal.nD Cert.LastNormBwdIdeal.τ).loc Cert.LastNormBwdIdeal.main_arg0)
      ∧ r.2.mem ((c.tc : Thread Cert.LastNormBwdIdeal.nD Cert.LastNormBwdIdeal.τ).loc Cert.LastNormBwdIdeal.main_arg1) = m ((c.tc : Thread Cert.LastNormBwdIdeal.nD Cert.LastNormBwdIdeal.τ).loc Cert.LastNormBwdIdeal.main_arg1)
      ∧ r.2.mem ((c.tc : Thread Cert.LastNormBwdIdeal.nD Cert.LastNormBwdIdeal.τ).loc Cert.LastNormBwdIdeal.main_arg2) = m ((c.tc : Thread Cert.LastNormBwdIdeal.nD Cert.LastNormBwdIdeal.τ).loc Cert.LastNormBwdIdeal.main_arg2))
      ∧ r.2.sem = fun _ => 0)

def quiescent_LastNormBwdRefIdeal [hLastNormBwdRefIdeal : Cert.LastNormBwdRefIdeal.Facts] : Prop :=
  ∀ (m : (ℓ : Loc Cert.LastNormBwdRefIdeal.nD Cert.LastNormBwdRefIdeal.τ Cert.LastNormBwdRefIdeal.sig) → Buf (Elt Ideal) ℓ) (g : Dev Cert.LastNormBwdRefIdeal.nD → PrngReg), Pre_LastNormBwdRefIdeal m →
    θ_run (Cert.LastNormBwdRefIdeal.defs (F := Ideal)) (onTc (τ := Cert.LastNormBwdRefIdeal.τ) (Cert.LastNormBwdRefIdeal.main (F := Ideal))) ⟨m, fun _ => 0, g⟩ (fun r => (∀ c : Dev Cert.LastNormBwdRefIdeal.nD,
      r.2.mem ((c.tc : Thread Cert.LastNormBwdRefIdeal.nD Cert.LastNormBwdRefIdeal.τ).loc Cert.LastNormBwdRefIdeal.main_arg0) = m ((c.tc : Thread Cert.LastNormBwdRefIdeal.nD Cert.LastNormBwdRefIdeal.τ).loc Cert.LastNormBwdRefIdeal.main_arg0)
      ∧ r.2.mem ((c.tc : Thread Cert.LastNormBwdRefIdeal.nD Cert.LastNormBwdRefIdeal.τ).loc Cert.LastNormBwdRefIdeal.main_arg1) = m ((c.tc : Thread Cert.LastNormBwdRefIdeal.nD Cert.LastNormBwdRefIdeal.τ).loc Cert.LastNormBwdRefIdeal.main_arg1)
      ∧ r.2.mem ((c.tc : Thread Cert.LastNormBwdRefIdeal.nD Cert.LastNormBwdRefIdeal.τ).loc Cert.LastNormBwdRefIdeal.main_arg2) = m ((c.tc : Thread Cert.LastNormBwdRefIdeal.nD Cert.LastNormBwdRefIdeal.τ).loc Cert.LastNormBwdRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_NormBwdChain [hNormBwdChain : Cert.NormBwdChain.Facts] : Prop :=
  ∀ (m : (ℓ : Loc Cert.NormBwdChain.nD Cert.NormBwdChain.τ Cert.NormBwdChain.sig) → Buf (Elt Bits) ℓ) (g : Dev Cert.NormBwdChain.nD → PrngReg), Pre_NormBwdChain m →
    θ_run (Cert.NormBwdChain.defs (F := Bits)) (onTc (τ := Cert.NormBwdChain.τ) (Cert.NormBwdChain.main (F := Bits))) ⟨m, fun _ => 0, g⟩ (fun r => (∀ c : Dev Cert.NormBwdChain.nD,
      r.2.mem ((c.tc : Thread Cert.NormBwdChain.nD Cert.NormBwdChain.τ).loc Cert.NormBwdChain.main_arg0) = m ((c.tc : Thread Cert.NormBwdChain.nD Cert.NormBwdChain.τ).loc Cert.NormBwdChain.main_arg0)
      ∧ r.2.mem ((c.tc : Thread Cert.NormBwdChain.nD Cert.NormBwdChain.τ).loc Cert.NormBwdChain.main_arg1) = m ((c.tc : Thread Cert.NormBwdChain.nD Cert.NormBwdChain.τ).loc Cert.NormBwdChain.main_arg1)
      ∧ r.2.mem ((c.tc : Thread Cert.NormBwdChain.nD Cert.NormBwdChain.τ).loc Cert.NormBwdChain.main_arg2) = m ((c.tc : Thread Cert.NormBwdChain.nD Cert.NormBwdChain.τ).loc Cert.NormBwdChain.main_arg2)
      ∧ r.2.mem ((c.tc : Thread Cert.NormBwdChain.nD Cert.NormBwdChain.τ).loc Cert.NormBwdChain.main_arg3) = m ((c.tc : Thread Cert.NormBwdChain.nD Cert.NormBwdChain.τ).loc Cert.NormBwdChain.main_arg3)
      ∧ r.2.mem ((c.tc : Thread Cert.NormBwdChain.nD Cert.NormBwdChain.τ).loc Cert.NormBwdChain.main_arg4) = m ((c.tc : Thread Cert.NormBwdChain.nD Cert.NormBwdChain.τ).loc Cert.NormBwdChain.main_arg4)
      ∧ r.2.mem ((c.tc : Thread Cert.NormBwdChain.nD Cert.NormBwdChain.τ).loc Cert.NormBwdChain.main_arg5) = m ((c.tc : Thread Cert.NormBwdChain.nD Cert.NormBwdChain.τ).loc Cert.NormBwdChain.main_arg5))
      ∧ r.2.sem = fun _ => 0)

def quiescent_NormBwdChainIdeal [hNormBwdChainIdeal : Cert.NormBwdChainIdeal.Facts] : Prop :=
  ∀ (m : (ℓ : Loc Cert.NormBwdChainIdeal.nD Cert.NormBwdChainIdeal.τ Cert.NormBwdChainIdeal.sig) → Buf (Elt Ideal) ℓ) (g : Dev Cert.NormBwdChainIdeal.nD → PrngReg), Pre_NormBwdChainIdeal m →
    θ_run (Cert.NormBwdChainIdeal.defs (F := Ideal)) (onTc (τ := Cert.NormBwdChainIdeal.τ) (Cert.NormBwdChainIdeal.main (F := Ideal))) ⟨m, fun _ => 0, g⟩ (fun r => (∀ c : Dev Cert.NormBwdChainIdeal.nD,
      r.2.mem ((c.tc : Thread Cert.NormBwdChainIdeal.nD Cert.NormBwdChainIdeal.τ).loc Cert.NormBwdChainIdeal.main_arg0) = m ((c.tc : Thread Cert.NormBwdChainIdeal.nD Cert.NormBwdChainIdeal.τ).loc Cert.NormBwdChainIdeal.main_arg0)
      ∧ r.2.mem ((c.tc : Thread Cert.NormBwdChainIdeal.nD Cert.NormBwdChainIdeal.τ).loc Cert.NormBwdChainIdeal.main_arg1) = m ((c.tc : Thread Cert.NormBwdChainIdeal.nD Cert.NormBwdChainIdeal.τ).loc Cert.NormBwdChainIdeal.main_arg1)
      ∧ r.2.mem ((c.tc : Thread Cert.NormBwdChainIdeal.nD Cert.NormBwdChainIdeal.τ).loc Cert.NormBwdChainIdeal.main_arg2) = m ((c.tc : Thread Cert.NormBwdChainIdeal.nD Cert.NormBwdChainIdeal.τ).loc Cert.NormBwdChainIdeal.main_arg2)
      ∧ r.2.mem ((c.tc : Thread Cert.NormBwdChainIdeal.nD Cert.NormBwdChainIdeal.τ).loc Cert.NormBwdChainIdeal.main_arg3) = m ((c.tc : Thread Cert.NormBwdChainIdeal.nD Cert.NormBwdChainIdeal.τ).loc Cert.NormBwdChainIdeal.main_arg3)
      ∧ r.2.mem ((c.tc : Thread Cert.NormBwdChainIdeal.nD Cert.NormBwdChainIdeal.τ).loc Cert.NormBwdChainIdeal.main_arg4) = m ((c.tc : Thread Cert.NormBwdChainIdeal.nD Cert.NormBwdChainIdeal.τ).loc Cert.NormBwdChainIdeal.main_arg4)
      ∧ r.2.mem ((c.tc : Thread Cert.NormBwdChainIdeal.nD Cert.NormBwdChainIdeal.τ).loc Cert.NormBwdChainIdeal.main_arg5) = m ((c.tc : Thread Cert.NormBwdChainIdeal.nD Cert.NormBwdChainIdeal.τ).loc Cert.NormBwdChainIdeal.main_arg5))
      ∧ r.2.sem = fun _ => 0)

def quiescent_NormBwdChainRefIdeal [hNormBwdChainRefIdeal : Cert.NormBwdChainRefIdeal.Facts] : Prop :=
  ∀ (m : (ℓ : Loc Cert.NormBwdChainRefIdeal.nD Cert.NormBwdChainRefIdeal.τ Cert.NormBwdChainRefIdeal.sig) → Buf (Elt Ideal) ℓ) (g : Dev Cert.NormBwdChainRefIdeal.nD → PrngReg), Pre_NormBwdChainRefIdeal m →
    θ_run (Cert.NormBwdChainRefIdeal.defs (F := Ideal)) (onTc (τ := Cert.NormBwdChainRefIdeal.τ) (Cert.NormBwdChainRefIdeal.main (F := Ideal))) ⟨m, fun _ => 0, g⟩ (fun r => (∀ c : Dev Cert.NormBwdChainRefIdeal.nD,
      r.2.mem ((c.tc : Thread Cert.NormBwdChainRefIdeal.nD Cert.NormBwdChainRefIdeal.τ).loc Cert.NormBwdChainRefIdeal.main_arg0) = m ((c.tc : Thread Cert.NormBwdChainRefIdeal.nD Cert.NormBwdChainRefIdeal.τ).loc Cert.NormBwdChainRefIdeal.main_arg0)
      ∧ r.2.mem ((c.tc : Thread Cert.NormBwdChainRefIdeal.nD Cert.NormBwdChainRefIdeal.τ).loc Cert.NormBwdChainRefIdeal.main_arg1) = m ((c.tc : Thread Cert.NormBwdChainRefIdeal.nD Cert.NormBwdChainRefIdeal.τ).loc Cert.NormBwdChainRefIdeal.main_arg1)
      ∧ r.2.mem ((c.tc : Thread Cert.NormBwdChainRefIdeal.nD Cert.NormBwdChainRefIdeal.τ).loc Cert.NormBwdChainRefIdeal.main_arg2) = m ((c.tc : Thread Cert.NormBwdChainRefIdeal.nD Cert.NormBwdChainRefIdeal.τ).loc Cert.NormBwdChainRefIdeal.main_arg2)
      ∧ r.2.mem ((c.tc : Thread Cert.NormBwdChainRefIdeal.nD Cert.NormBwdChainRefIdeal.τ).loc Cert.NormBwdChainRefIdeal.main_arg3) = m ((c.tc : Thread Cert.NormBwdChainRefIdeal.nD Cert.NormBwdChainRefIdeal.τ).loc Cert.NormBwdChainRefIdeal.main_arg3)
      ∧ r.2.mem ((c.tc : Thread Cert.NormBwdChainRefIdeal.nD Cert.NormBwdChainRefIdeal.τ).loc Cert.NormBwdChainRefIdeal.main_arg4) = m ((c.tc : Thread Cert.NormBwdChainRefIdeal.nD Cert.NormBwdChainRefIdeal.τ).loc Cert.NormBwdChainRefIdeal.main_arg4)
      ∧ r.2.mem ((c.tc : Thread Cert.NormBwdChainRefIdeal.nD Cert.NormBwdChainRefIdeal.τ).loc Cert.NormBwdChainRefIdeal.main_arg5) = m ((c.tc : Thread Cert.NormBwdChainRefIdeal.nD Cert.NormBwdChainRefIdeal.τ).loc Cert.NormBwdChainRefIdeal.main_arg5))
      ∧ r.2.sem = fun _ => 0)

def quiescent_NormBwdHalf [hNormBwdHalf : Cert.NormBwdHalf.Facts] : Prop :=
  ∀ (m : (ℓ : Loc Cert.NormBwdHalf.nD Cert.NormBwdHalf.τ Cert.NormBwdHalf.sig) → Buf (Elt Bits) ℓ) (g : Dev Cert.NormBwdHalf.nD → PrngReg), Pre_NormBwdHalf m →
    θ_run (Cert.NormBwdHalf.defs (F := Bits)) (onTc (τ := Cert.NormBwdHalf.τ) (Cert.NormBwdHalf.main (F := Bits))) ⟨m, fun _ => 0, g⟩ (fun r => (∀ c : Dev Cert.NormBwdHalf.nD,
      r.2.mem ((c.tc : Thread Cert.NormBwdHalf.nD Cert.NormBwdHalf.τ).loc Cert.NormBwdHalf.main_arg0) = m ((c.tc : Thread Cert.NormBwdHalf.nD Cert.NormBwdHalf.τ).loc Cert.NormBwdHalf.main_arg0)
      ∧ r.2.mem ((c.tc : Thread Cert.NormBwdHalf.nD Cert.NormBwdHalf.τ).loc Cert.NormBwdHalf.main_arg1) = m ((c.tc : Thread Cert.NormBwdHalf.nD Cert.NormBwdHalf.τ).loc Cert.NormBwdHalf.main_arg1)
      ∧ r.2.mem ((c.tc : Thread Cert.NormBwdHalf.nD Cert.NormBwdHalf.τ).loc Cert.NormBwdHalf.main_arg2) = m ((c.tc : Thread Cert.NormBwdHalf.nD Cert.NormBwdHalf.τ).loc Cert.NormBwdHalf.main_arg2)
      ∧ r.2.mem ((c.tc : Thread Cert.NormBwdHalf.nD Cert.NormBwdHalf.τ).loc Cert.NormBwdHalf.main_arg3) = m ((c.tc : Thread Cert.NormBwdHalf.nD Cert.NormBwdHalf.τ).loc Cert.NormBwdHalf.main_arg3)
      ∧ r.2.mem ((c.tc : Thread Cert.NormBwdHalf.nD Cert.NormBwdHalf.τ).loc Cert.NormBwdHalf.main_arg4) = m ((c.tc : Thread Cert.NormBwdHalf.nD Cert.NormBwdHalf.τ).loc Cert.NormBwdHalf.main_arg4)
      ∧ r.2.mem ((c.tc : Thread Cert.NormBwdHalf.nD Cert.NormBwdHalf.τ).loc Cert.NormBwdHalf.main_arg5) = m ((c.tc : Thread Cert.NormBwdHalf.nD Cert.NormBwdHalf.τ).loc Cert.NormBwdHalf.main_arg5))
      ∧ r.2.sem = fun _ => 0)

def quiescent_NormBwdHalfIdeal [hNormBwdHalfIdeal : Cert.NormBwdHalfIdeal.Facts] : Prop :=
  ∀ (m : (ℓ : Loc Cert.NormBwdHalfIdeal.nD Cert.NormBwdHalfIdeal.τ Cert.NormBwdHalfIdeal.sig) → Buf (Elt Ideal) ℓ) (g : Dev Cert.NormBwdHalfIdeal.nD → PrngReg), Pre_NormBwdHalfIdeal m →
    θ_run (Cert.NormBwdHalfIdeal.defs (F := Ideal)) (onTc (τ := Cert.NormBwdHalfIdeal.τ) (Cert.NormBwdHalfIdeal.main (F := Ideal))) ⟨m, fun _ => 0, g⟩ (fun r => (∀ c : Dev Cert.NormBwdHalfIdeal.nD,
      r.2.mem ((c.tc : Thread Cert.NormBwdHalfIdeal.nD Cert.NormBwdHalfIdeal.τ).loc Cert.NormBwdHalfIdeal.main_arg0) = m ((c.tc : Thread Cert.NormBwdHalfIdeal.nD Cert.NormBwdHalfIdeal.τ).loc Cert.NormBwdHalfIdeal.main_arg0)
      ∧ r.2.mem ((c.tc : Thread Cert.NormBwdHalfIdeal.nD Cert.NormBwdHalfIdeal.τ).loc Cert.NormBwdHalfIdeal.main_arg1) = m ((c.tc : Thread Cert.NormBwdHalfIdeal.nD Cert.NormBwdHalfIdeal.τ).loc Cert.NormBwdHalfIdeal.main_arg1)
      ∧ r.2.mem ((c.tc : Thread Cert.NormBwdHalfIdeal.nD Cert.NormBwdHalfIdeal.τ).loc Cert.NormBwdHalfIdeal.main_arg2) = m ((c.tc : Thread Cert.NormBwdHalfIdeal.nD Cert.NormBwdHalfIdeal.τ).loc Cert.NormBwdHalfIdeal.main_arg2)
      ∧ r.2.mem ((c.tc : Thread Cert.NormBwdHalfIdeal.nD Cert.NormBwdHalfIdeal.τ).loc Cert.NormBwdHalfIdeal.main_arg3) = m ((c.tc : Thread Cert.NormBwdHalfIdeal.nD Cert.NormBwdHalfIdeal.τ).loc Cert.NormBwdHalfIdeal.main_arg3)
      ∧ r.2.mem ((c.tc : Thread Cert.NormBwdHalfIdeal.nD Cert.NormBwdHalfIdeal.τ).loc Cert.NormBwdHalfIdeal.main_arg4) = m ((c.tc : Thread Cert.NormBwdHalfIdeal.nD Cert.NormBwdHalfIdeal.τ).loc Cert.NormBwdHalfIdeal.main_arg4)
      ∧ r.2.mem ((c.tc : Thread Cert.NormBwdHalfIdeal.nD Cert.NormBwdHalfIdeal.τ).loc Cert.NormBwdHalfIdeal.main_arg5) = m ((c.tc : Thread Cert.NormBwdHalfIdeal.nD Cert.NormBwdHalfIdeal.τ).loc Cert.NormBwdHalfIdeal.main_arg5))
      ∧ r.2.sem = fun _ => 0)

def quiescent_NormBwdHalfRefIdeal [hNormBwdHalfRefIdeal : Cert.NormBwdHalfRefIdeal.Facts] : Prop :=
  ∀ (m : (ℓ : Loc Cert.NormBwdHalfRefIdeal.nD Cert.NormBwdHalfRefIdeal.τ Cert.NormBwdHalfRefIdeal.sig) → Buf (Elt Ideal) ℓ) (g : Dev Cert.NormBwdHalfRefIdeal.nD → PrngReg), Pre_NormBwdHalfRefIdeal m →
    θ_run (Cert.NormBwdHalfRefIdeal.defs (F := Ideal)) (onTc (τ := Cert.NormBwdHalfRefIdeal.τ) (Cert.NormBwdHalfRefIdeal.main (F := Ideal))) ⟨m, fun _ => 0, g⟩ (fun r => (∀ c : Dev Cert.NormBwdHalfRefIdeal.nD,
      r.2.mem ((c.tc : Thread Cert.NormBwdHalfRefIdeal.nD Cert.NormBwdHalfRefIdeal.τ).loc Cert.NormBwdHalfRefIdeal.main_arg0) = m ((c.tc : Thread Cert.NormBwdHalfRefIdeal.nD Cert.NormBwdHalfRefIdeal.τ).loc Cert.NormBwdHalfRefIdeal.main_arg0)
      ∧ r.2.mem ((c.tc : Thread Cert.NormBwdHalfRefIdeal.nD Cert.NormBwdHalfRefIdeal.τ).loc Cert.NormBwdHalfRefIdeal.main_arg1) = m ((c.tc : Thread Cert.NormBwdHalfRefIdeal.nD Cert.NormBwdHalfRefIdeal.τ).loc Cert.NormBwdHalfRefIdeal.main_arg1)
      ∧ r.2.mem ((c.tc : Thread Cert.NormBwdHalfRefIdeal.nD Cert.NormBwdHalfRefIdeal.τ).loc Cert.NormBwdHalfRefIdeal.main_arg2) = m ((c.tc : Thread Cert.NormBwdHalfRefIdeal.nD Cert.NormBwdHalfRefIdeal.τ).loc Cert.NormBwdHalfRefIdeal.main_arg2)
      ∧ r.2.mem ((c.tc : Thread Cert.NormBwdHalfRefIdeal.nD Cert.NormBwdHalfRefIdeal.τ).loc Cert.NormBwdHalfRefIdeal.main_arg3) = m ((c.tc : Thread Cert.NormBwdHalfRefIdeal.nD Cert.NormBwdHalfRefIdeal.τ).loc Cert.NormBwdHalfRefIdeal.main_arg3)
      ∧ r.2.mem ((c.tc : Thread Cert.NormBwdHalfRefIdeal.nD Cert.NormBwdHalfRefIdeal.τ).loc Cert.NormBwdHalfRefIdeal.main_arg4) = m ((c.tc : Thread Cert.NormBwdHalfRefIdeal.nD Cert.NormBwdHalfRefIdeal.τ).loc Cert.NormBwdHalfRefIdeal.main_arg4)
      ∧ r.2.mem ((c.tc : Thread Cert.NormBwdHalfRefIdeal.nD Cert.NormBwdHalfRefIdeal.τ).loc Cert.NormBwdHalfRefIdeal.main_arg5) = m ((c.tc : Thread Cert.NormBwdHalfRefIdeal.nD Cert.NormBwdHalfRefIdeal.τ).loc Cert.NormBwdHalfRefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_ResNorm [hResNorm : Cert.ResNorm.Facts] : Prop :=
  ∀ (m : (ℓ : Loc Cert.ResNorm.nD Cert.ResNorm.τ Cert.ResNorm.sig) → Buf (Elt Bits) ℓ) (g : Dev Cert.ResNorm.nD → PrngReg), Pre_ResNorm m →
    θ_run (Cert.ResNorm.defs (F := Bits)) (onTc (τ := Cert.ResNorm.τ) (Cert.ResNorm.main (F := Bits))) ⟨m, fun _ => 0, g⟩ (fun r => (∀ c : Dev Cert.ResNorm.nD,
      r.2.mem ((c.tc : Thread Cert.ResNorm.nD Cert.ResNorm.τ).loc Cert.ResNorm.main_arg0) = m ((c.tc : Thread Cert.ResNorm.nD Cert.ResNorm.τ).loc Cert.ResNorm.main_arg0)
      ∧ r.2.mem ((c.tc : Thread Cert.ResNorm.nD Cert.ResNorm.τ).loc Cert.ResNorm.main_arg1) = m ((c.tc : Thread Cert.ResNorm.nD Cert.ResNorm.τ).loc Cert.ResNorm.main_arg1)
      ∧ r.2.mem ((c.tc : Thread Cert.ResNorm.nD Cert.ResNorm.τ).loc Cert.ResNorm.main_arg2) = m ((c.tc : Thread Cert.ResNorm.nD Cert.ResNorm.τ).loc Cert.ResNorm.main_arg2)
      ∧ r.2.mem ((c.tc : Thread Cert.ResNorm.nD Cert.ResNorm.τ).loc Cert.ResNorm.main_arg3) = m ((c.tc : Thread Cert.ResNorm.nD Cert.ResNorm.τ).loc Cert.ResNorm.main_arg3))
      ∧ r.2.sem = fun _ => 0)

def quiescent_ResNormIdeal [hResNormIdeal : Cert.ResNormIdeal.Facts] : Prop :=
  ∀ (m : (ℓ : Loc Cert.ResNormIdeal.nD Cert.ResNormIdeal.τ Cert.ResNormIdeal.sig) → Buf (Elt Ideal) ℓ) (g : Dev Cert.ResNormIdeal.nD → PrngReg), Pre_ResNormIdeal m →
    θ_run (Cert.ResNormIdeal.defs (F := Ideal)) (onTc (τ := Cert.ResNormIdeal.τ) (Cert.ResNormIdeal.main (F := Ideal))) ⟨m, fun _ => 0, g⟩ (fun r => (∀ c : Dev Cert.ResNormIdeal.nD,
      r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
      ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
      ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2)
      ∧ r.2.mem ((c.tc : Thread Cert.ResNormIdeal.nD Cert.ResNormIdeal.τ).loc Cert.ResNormIdeal.main_arg3) = m ((c.tc : Thread Cert.ResNormIdeal.nD Cert.ResNormIdeal.τ).loc Cert.ResNormIdeal.main_arg3))
      ∧ r.2.sem = fun _ => 0)

def quiescent_ResNormRefIdeal [hResNormRefIdeal : Cert.ResNormRefIdeal.Facts] : Prop :=
  ∀ (m : (ℓ : Loc Cert.ResNormRefIdeal.nD Cert.ResNormRefIdeal.τ Cert.ResNormRefIdeal.sig) → Buf (Elt Ideal) ℓ) (g : Dev Cert.ResNormRefIdeal.nD → PrngReg), Pre_ResNormRefIdeal m →
    θ_run (Cert.ResNormRefIdeal.defs (F := Ideal)) (onTc (τ := Cert.ResNormRefIdeal.τ) (Cert.ResNormRefIdeal.main (F := Ideal))) ⟨m, fun _ => 0, g⟩ (fun r => (∀ c : Dev Cert.ResNormRefIdeal.nD,
      r.2.mem ((c.tc : Thread Cert.ResNormRefIdeal.nD Cert.ResNormRefIdeal.τ).loc Cert.ResNormRefIdeal.main_arg0) = m ((c.tc : Thread Cert.ResNormRefIdeal.nD Cert.ResNormRefIdeal.τ).loc Cert.ResNormRefIdeal.main_arg0)
      ∧ r.2.mem ((c.tc : Thread Cert.ResNormRefIdeal.nD Cert.ResNormRefIdeal.τ).loc Cert.ResNormRefIdeal.main_arg1) = m ((c.tc : Thread Cert.ResNormRefIdeal.nD Cert.ResNormRefIdeal.τ).loc Cert.ResNormRefIdeal.main_arg1)
      ∧ r.2.mem ((c.tc : Thread Cert.ResNormRefIdeal.nD Cert.ResNormRefIdeal.τ).loc Cert.ResNormRefIdeal.main_arg2) = m ((c.tc : Thread Cert.ResNormRefIdeal.nD Cert.ResNormRefIdeal.τ).loc Cert.ResNormRefIdeal.main_arg2)
      ∧ r.2.mem ((c.tc : Thread Cert.ResNormRefIdeal.nD Cert.ResNormRefIdeal.τ).loc Cert.ResNormRefIdeal.main_arg3) = m ((c.tc : Thread Cert.ResNormRefIdeal.nD Cert.ResNormRefIdeal.τ).loc Cert.ResNormRefIdeal.main_arg3))
      ∧ r.2.sem = fun _ => 0)

def quiescent_ResNormMix [hResNormMix : Cert.ResNormMix.Facts] : Prop :=
  ∀ (m : (ℓ : Loc Cert.ResNormMix.nD Cert.ResNormMix.τ Cert.ResNormMix.sig) → Buf (Elt Bits) ℓ) (g : Dev Cert.ResNormMix.nD → PrngReg), Pre_ResNormMix m →
    θ_run (Cert.ResNormMix.defs (F := Bits)) (onTc (τ := Cert.ResNormMix.τ) (Cert.ResNormMix.main (F := Bits))) ⟨m, fun _ => 0, g⟩ (fun r => (∀ c : Dev Cert.ResNormMix.nD,
      r.2.mem ((c.tc : Thread Cert.ResNormMix.nD Cert.ResNormMix.τ).loc Cert.ResNormMix.main_arg0) = m ((c.tc : Thread Cert.ResNormMix.nD Cert.ResNormMix.τ).loc Cert.ResNormMix.main_arg0)
      ∧ r.2.mem ((c.tc : Thread Cert.ResNormMix.nD Cert.ResNormMix.τ).loc Cert.ResNormMix.main_arg1) = m ((c.tc : Thread Cert.ResNormMix.nD Cert.ResNormMix.τ).loc Cert.ResNormMix.main_arg1)
      ∧ r.2.mem ((c.tc : Thread Cert.ResNormMix.nD Cert.ResNormMix.τ).loc Cert.ResNormMix.main_arg2) = m ((c.tc : Thread Cert.ResNormMix.nD Cert.ResNormMix.τ).loc Cert.ResNormMix.main_arg2)
      ∧ r.2.mem ((c.tc : Thread Cert.ResNormMix.nD Cert.ResNormMix.τ).loc Cert.ResNormMix.main_arg3) = m ((c.tc : Thread Cert.ResNormMix.nD Cert.ResNormMix.τ).loc Cert.ResNormMix.main_arg3))
      ∧ r.2.sem = fun _ => 0)

def quiescent_ResNormMixIdeal [hResNormMixIdeal : Cert.ResNormMixIdeal.Facts] : Prop :=
  ∀ (m : (ℓ : Loc Cert.ResNormMixIdeal.nD Cert.ResNormMixIdeal.τ Cert.ResNormMixIdeal.sig) → Buf (Elt Ideal) ℓ) (g : Dev Cert.ResNormMixIdeal.nD → PrngReg), Pre_ResNormMixIdeal m →
    θ_run (Cert.ResNormMixIdeal.defs (F := Ideal)) (onTc (τ := Cert.ResNormMixIdeal.τ) (Cert.ResNormMixIdeal.main (F := Ideal))) ⟨m, fun _ => 0, g⟩ (fun r => (∀ c : Dev Cert.ResNormMixIdeal.nD,
      r.2.mem ((c.tc : Thread Cert.ResNormMixIdeal.nD Cert.ResNormMixIdeal.τ).loc Cert.ResNormMixIdeal.main_arg0) = m ((c.tc : Thread Cert.ResNormMixIdeal.nD Cert.ResNormMixIdeal.τ).loc Cert.ResNormMixIdeal.main_arg0)
      ∧ r.2.mem ((c.tc : Thread Cert.ResNormMixIdeal.nD Cert.ResNormMixIdeal.τ).loc Cert.ResNormMixIdeal.main_arg1) = m ((c.tc : Thread Cert.ResNormMixIdeal.nD Cert.ResNormMixIdeal.τ).loc Cert.ResNormMixIdeal.main_arg1)
      ∧ r.2.mem ((c.tc : Thread Cert.ResNormMixIdeal.nD Cert.ResNormMixIdeal.τ).loc Cert.ResNormMixIdeal.main_arg2) = m ((c.tc : Thread Cert.ResNormMixIdeal.nD Cert.ResNormMixIdeal.τ).loc Cert.ResNormMixIdeal.main_arg2)
      ∧ r.2.mem ((c.tc : Thread Cert.ResNormMixIdeal.nD Cert.ResNormMixIdeal.τ).loc Cert.ResNormMixIdeal.main_arg3) = m ((c.tc : Thread Cert.ResNormMixIdeal.nD Cert.ResNormMixIdeal.τ).loc Cert.ResNormMixIdeal.main_arg3))
      ∧ r.2.sem = fun _ => 0)

def quiescent_ResNormMixRefIdeal [hResNormMixRefIdeal : Cert.ResNormMixRefIdeal.Facts] : Prop :=
  ∀ (m : (ℓ : Loc Cert.ResNormMixRefIdeal.nD Cert.ResNormMixRefIdeal.τ Cert.ResNormMixRefIdeal.sig) → Buf (Elt Ideal) ℓ) (g : Dev Cert.ResNormMixRefIdeal.nD → PrngReg), Pre_ResNormMixRefIdeal m →
    θ_run (Cert.ResNormMixRefIdeal.defs (F := Ideal)) (onTc (τ := Cert.ResNormMixRefIdeal.τ) (Cert.ResNormMixRefIdeal.main (F := Ideal))) ⟨m, fun _ => 0, g⟩ (fun r => (∀ c : Dev Cert.ResNormMixRefIdeal.nD,
      r.2.mem ((c.tc : Thread Cert.ResNormMixRefIdeal.nD Cert.ResNormMixRefIdeal.τ).loc Cert.ResNormMixRefIdeal.main_arg0) = m ((c.tc : Thread Cert.ResNormMixRefIdeal.nD Cert.ResNormMixRefIdeal.τ).loc Cert.ResNormMixRefIdeal.main_arg0)
      ∧ r.2.mem ((c.tc : Thread Cert.ResNormMixRefIdeal.nD Cert.ResNormMixRefIdeal.τ).loc Cert.ResNormMixRefIdeal.main_arg1) = m ((c.tc : Thread Cert.ResNormMixRefIdeal.nD Cert.ResNormMixRefIdeal.τ).loc Cert.ResNormMixRefIdeal.main_arg1)
      ∧ r.2.mem ((c.tc : Thread Cert.ResNormMixRefIdeal.nD Cert.ResNormMixRefIdeal.τ).loc Cert.ResNormMixRefIdeal.main_arg2) = m ((c.tc : Thread Cert.ResNormMixRefIdeal.nD Cert.ResNormMixRefIdeal.τ).loc Cert.ResNormMixRefIdeal.main_arg2)
      ∧ r.2.mem ((c.tc : Thread Cert.ResNormMixRefIdeal.nD Cert.ResNormMixRefIdeal.τ).loc Cert.ResNormMixRefIdeal.main_arg3) = m ((c.tc : Thread Cert.ResNormMixRefIdeal.nD Cert.ResNormMixRefIdeal.τ).loc Cert.ResNormMixRefIdeal.main_arg3))
      ∧ r.2.sem = fun _ => 0)

def quiescent_ResNormLast [hResNormLast : Cert.ResNormLast.Facts] : Prop :=
  ∀ (m : (ℓ : Loc Cert.ResNormLast.nD Cert.ResNormLast.τ Cert.ResNormLast.sig) → Buf (Elt Bits) ℓ) (g : Dev Cert.ResNormLast.nD → PrngReg), Pre_ResNormLast m →
    θ_run (Cert.ResNormLast.defs (F := Bits)) (onTc (τ := Cert.ResNormLast.τ) (Cert.ResNormLast.main (F := Bits))) ⟨m, fun _ => 0, g⟩ (fun r => (∀ c : Dev Cert.ResNormLast.nD,
      r.2.mem ((c.tc : Thread Cert.ResNormLast.nD Cert.ResNormLast.τ).loc Cert.ResNormLast.main_arg0) = m ((c.tc : Thread Cert.ResNormLast.nD Cert.ResNormLast.τ).loc Cert.ResNormLast.main_arg0)
      ∧ r.2.mem ((c.tc : Thread Cert.ResNormLast.nD Cert.ResNormLast.τ).loc Cert.ResNormLast.main_arg1) = m ((c.tc : Thread Cert.ResNormLast.nD Cert.ResNormLast.τ).loc Cert.ResNormLast.main_arg1)
      ∧ r.2.mem ((c.tc : Thread Cert.ResNormLast.nD Cert.ResNormLast.τ).loc Cert.ResNormLast.main_arg2) = m ((c.tc : Thread Cert.ResNormLast.nD Cert.ResNormLast.τ).loc Cert.ResNormLast.main_arg2))
      ∧ r.2.sem = fun _ => 0)

def quiescent_ResNormLastIdeal [hResNormLastIdeal : Cert.ResNormLastIdeal.Facts] : Prop :=
  ∀ (m : (ℓ : Loc Cert.ResNormLastIdeal.nD Cert.ResNormLastIdeal.τ Cert.ResNormLastIdeal.sig) → Buf (Elt Ideal) ℓ) (g : Dev Cert.ResNormLastIdeal.nD → PrngReg), Pre_ResNormLastIdeal m →
    θ_run (Cert.ResNormLastIdeal.defs (F := Ideal)) (onTc (τ := Cert.ResNormLastIdeal.τ) (Cert.ResNormLastIdeal.main (F := Ideal))) ⟨m, fun _ => 0, g⟩ (fun r => (∀ c : Dev Cert.ResNormLastIdeal.nD,
      r.2.mem ((c.tc : Thread Cert.ResNormLastIdeal.nD Cert.ResNormLastIdeal.τ).loc Cert.ResNormLastIdeal.main_arg0) = m ((c.tc : Thread Cert.ResNormLastIdeal.nD Cert.ResNormLastIdeal.τ).loc Cert.ResNormLastIdeal.main_arg0)
      ∧ r.2.mem ((c.tc : Thread Cert.ResNormLastIdeal.nD Cert.ResNormLastIdeal.τ).loc Cert.ResNormLastIdeal.main_arg1) = m ((c.tc : Thread Cert.ResNormLastIdeal.nD Cert.ResNormLastIdeal.τ).loc Cert.ResNormLastIdeal.main_arg1)
      ∧ r.2.mem ((c.tc : Thread Cert.ResNormLastIdeal.nD Cert.ResNormLastIdeal.τ).loc Cert.ResNormLastIdeal.main_arg2) = m ((c.tc : Thread Cert.ResNormLastIdeal.nD Cert.ResNormLastIdeal.τ).loc Cert.ResNormLastIdeal.main_arg2))
      ∧ r.2.sem = fun _ => 0)

def quiescent_ResNormLastRefIdeal [hResNormLastRefIdeal : Cert.ResNormLastRefIdeal.Facts] : Prop :=
  ∀ (m : (ℓ : Loc Cert.ResNormLastRefIdeal.nD Cert.ResNormLastRefIdeal.τ Cert.ResNormLastRefIdeal.sig) → Buf (Elt Ideal) ℓ) (g : Dev Cert.ResNormLastRefIdeal.nD → PrngReg), Pre_ResNormLastRefIdeal m →
    θ_run (Cert.ResNormLastRefIdeal.defs (F := Ideal)) (onTc (τ := Cert.ResNormLastRefIdeal.τ) (Cert.ResNormLastRefIdeal.main (F := Ideal))) ⟨m, fun _ => 0, g⟩ (fun r => (∀ c : Dev Cert.ResNormLastRefIdeal.nD,
      r.2.mem ((c.tc : Thread Cert.ResNormLastRefIdeal.nD Cert.ResNormLastRefIdeal.τ).loc Cert.ResNormLastRefIdeal.main_arg0) = m ((c.tc : Thread Cert.ResNormLastRefIdeal.nD Cert.ResNormLastRefIdeal.τ).loc Cert.ResNormLastRefIdeal.main_arg0)
      ∧ r.2.mem ((c.tc : Thread Cert.ResNormLastRefIdeal.nD Cert.ResNormLastRefIdeal.τ).loc Cert.ResNormLastRefIdeal.main_arg1) = m ((c.tc : Thread Cert.ResNormLastRefIdeal.nD Cert.ResNormLastRefIdeal.τ).loc Cert.ResNormLastRefIdeal.main_arg1)
      ∧ r.2.mem ((c.tc : Thread Cert.ResNormLastRefIdeal.nD Cert.ResNormLastRefIdeal.τ).loc Cert.ResNormLastRefIdeal.main_arg2) = m ((c.tc : Thread Cert.ResNormLastRefIdeal.nD Cert.ResNormLastRefIdeal.τ).loc Cert.ResNormLastRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5)
      ∧ r.2.mem ((c.tc : Thread Cert.AdamUp.nD Cert.AdamUp.τ).loc Cert.AdamUp.main_arg6) = m ((c.tc : Thread Cert.AdamUp.nD Cert.AdamUp.τ).loc Cert.AdamUp.main_arg6)
      ∧ r.2.mem ((c.tc : Thread Cert.AdamUp.nD Cert.AdamUp.τ).loc Cert.AdamUp.main_arg7) = m ((c.tc : Thread Cert.AdamUp.nD Cert.AdamUp.τ).loc Cert.AdamUp.main_arg7)
      ∧ r.2.mem ((c.tc : Thread Cert.AdamUp.nD Cert.AdamUp.τ).loc Cert.AdamUp.main_arg8) = m ((c.tc : Thread Cert.AdamUp.nD Cert.AdamUp.τ).loc Cert.AdamUp.main_arg8))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
      ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6)
      ∧ r.2.mem ((c.tc : Thread Cert.AdamUpIdeal.nD Cert.AdamUpIdeal.τ).loc Cert.AdamUpIdeal.main_arg7) = m ((c.tc : Thread Cert.AdamUpIdeal.nD Cert.AdamUpIdeal.τ).loc Cert.AdamUpIdeal.main_arg7)
      ∧ r.2.mem ((c.tc : Thread Cert.AdamUpIdeal.nD Cert.AdamUpIdeal.τ).loc Cert.AdamUpIdeal.main_arg8) = m ((c.tc : Thread Cert.AdamUpIdeal.nD Cert.AdamUpIdeal.τ).loc Cert.AdamUpIdeal.main_arg8))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5)
      ∧ r.2.mem ((c.tc : Thread Cert.AdamUpRefIdeal.nD Cert.AdamUpRefIdeal.τ).loc Cert.AdamUpRefIdeal.main_arg6) = m ((c.tc : Thread Cert.AdamUpRefIdeal.nD Cert.AdamUpRefIdeal.τ).loc Cert.AdamUpRefIdeal.main_arg6)
      ∧ r.2.mem ((c.tc : Thread Cert.AdamUpRefIdeal.nD Cert.AdamUpRefIdeal.τ).loc Cert.AdamUpRefIdeal.main_arg7) = m ((c.tc : Thread Cert.AdamUpRefIdeal.nD Cert.AdamUpRefIdeal.τ).loc Cert.AdamUpRefIdeal.main_arg7)
      ∧ r.2.mem ((c.tc : Thread Cert.AdamUpRefIdeal.nD Cert.AdamUpRefIdeal.τ).loc Cert.AdamUpRefIdeal.main_arg8) = m ((c.tc : Thread Cert.AdamUpRefIdeal.nD Cert.AdamUpRefIdeal.τ).loc Cert.AdamUpRefIdeal.main_arg8))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdIdeal_pre_finite_columns [hPoolFwdIdeal : Cert.PoolFwdIdeal.Facts] [hPre_finite_columns : Cert.Pre_finite_columns.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_finite_columns m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_PoolFwdRefIdeal_pre_finite_columns [hPoolFwdRefIdeal : Cert.PoolFwdRefIdeal.Facts] [hPre_finite_columns : Cert.Pre_finite_columns.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_finite_columns m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3)
      ∧ r.2.mem ((c.tc : Thread Cert.PoolBwd.nD Cert.PoolBwd.τ).loc Cert.PoolBwd.main_arg4) = m ((c.tc : Thread Cert.PoolBwd.nD Cert.PoolBwd.τ).loc Cert.PoolBwd.main_arg4))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ r.2.sem = fun _ => 0)

def quiescent_PoolBwdIdeal_pre_finite_pool_gradient [hPoolBwdIdeal : Cert.PoolBwdIdeal.Facts] [hPre_finite_pool_gradient : Cert.Pre_finite_pool_gradient.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_finite_pool_gradient m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3)
      ∧ r.2.mem ((c.tc : Thread Cert.PoolBwdRefIdeal.nD Cert.PoolBwdRefIdeal.τ).loc Cert.PoolBwdRefIdeal.main_arg4) = m ((c.tc : Thread Cert.PoolBwdRefIdeal.nD Cert.PoolBwdRefIdeal.τ).loc Cert.PoolBwdRefIdeal.main_arg4))
      ∧ r.2.sem = fun _ => 0)

def quiescent_PoolBwdRefIdeal_pre_finite_pool_gradient [hPoolBwdRefIdeal : Cert.PoolBwdRefIdeal.Facts] [hPre_finite_pool_gradient : Cert.Pre_finite_pool_gradient.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal_finite_pool_gradient m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3)
      ∧ r.2.mem ((c.tc : Thread Cert.PoolBwdRefIdeal.nD Cert.PoolBwdRefIdeal.τ).loc Cert.PoolBwdRefIdeal.main_arg4) = m ((c.tc : Thread Cert.PoolBwdRefIdeal.nD Cert.PoolBwdRefIdeal.τ).loc Cert.PoolBwdRefIdeal.main_arg4))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3))
      ∧ r.2.sem = fun _ => 0)

def preserves_Kernel_KernelIdeal : Prop :=
  IdealRules.named_const.Statement Cert.KernelIdeal.κ "gelu_c" .f32 0x3D372713#32 ((8943 / 200000 : ℝ) : EReal)
  ∧ IdealRules.named_const.Statement Cert.KernelIdeal.κ "gelu_3c" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_v143) = v3 c
          ∧ r.2.mem ((c.tc : Thread Cert.ReferenceIdeal.nD Cert.ReferenceIdeal.τ).loc Cert.ReferenceIdeal.main_v144) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v5) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v4) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v6) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v4) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v6) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v5) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_BranchDx_BranchDxIdeal : Prop :=
  True

def algebraic_BranchDxIdeal_BranchDxRefIdeal [hBranchDxIdeal : Cert.BranchDxIdeal.Facts] [hBranchDxRefIdeal : Cert.BranchDxRefIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxRefIdeal.nD Cert.BranchDxRefIdeal.τ Cert.BranchDxRefIdeal.sig) → Buf (Elt Ideal) ℓ) (g' : Dev Cert.BranchDxRefIdeal.nD → PrngReg), Pre_BranchDxIdeal m →
    (∀ c : Dev Cert.BranchDxIdeal.nD,
      m' ((c.tc : Thread Cert.BranchDxRefIdeal.nD Cert.BranchDxRefIdeal.τ).loc Cert.BranchDxRefIdeal.main_arg0) = m ((c.tc : Thread Cert.BranchDxIdeal.nD Cert.BranchDxIdeal.τ).loc Cert.BranchDxIdeal.main_arg0)
      ∧ m' ((c.tc : Thread Cert.BranchDxRefIdeal.nD Cert.BranchDxRefIdeal.τ).loc Cert.BranchDxRefIdeal.main_arg1) = m ((c.tc : Thread Cert.BranchDxIdeal.nD Cert.BranchDxIdeal.τ).loc Cert.BranchDxIdeal.main_arg1)) →
    ∃ (v0 : (c : Dev Cert.BranchDxIdeal.nD) → Buf (Elt Ideal) ((c.tc : Thread Cert.BranchDxIdeal.nD Cert.BranchDxIdeal.τ).loc Cert.BranchDxIdeal.main_v0)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v0) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ θ_run (Cert.BranchDxRefIdeal.defs (F := Ideal)) (onTc (τ := Cert.BranchDxRefIdeal.τ) (Cert.BranchDxRefIdeal.main (F := Ideal))) ⟨m', fun _ => 0, g'⟩ (fun r => ∀ c : Dev Cert.BranchDxRefIdeal.nD,
          r.2.mem ((c.tc : Thread Cert.BranchDxRefIdeal.nD Cert.BranchDxRefIdeal.τ).loc Cert.BranchDxRefIdeal.main_v5) = v0 c
          ∧ r.2.mem ((c.tc : Thread Cert.BranchDxRefIdeal.nD Cert.BranchDxRefIdeal.τ).loc Cert.BranchDxRefIdeal.main_arg0) = m' ((c.tc : Thread Cert.BranchDxRefIdeal.nD Cert.BranchDxRefIdeal.τ).loc Cert.BranchDxRefIdeal.main_arg0)
          ∧ r.2.mem ((c.tc : Thread Cert.BranchDxRefIdeal.nD Cert.BranchDxRefIdeal.τ).loc Cert.BranchDxRefIdeal.main_arg1) = m' ((c.tc : Thread Cert.BranchDxRefIdeal.nD Cert.BranchDxRefIdeal.τ).loc Cert.BranchDxRefIdeal.main_arg1))

def preserves_BranchDw_BranchDwIdeal : Prop :=
  True

def algebraic_BranchDwIdeal_BranchDwRefIdeal [hBranchDwIdeal : Cert.BranchDwIdeal.Facts] [hBranchDwRefIdeal : Cert.BranchDwRefIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwRefIdeal.nD Cert.BranchDwRefIdeal.τ Cert.BranchDwRefIdeal.sig) → Buf (Elt Ideal) ℓ) (g' : Dev Cert.BranchDwRefIdeal.nD → PrngReg), Pre_BranchDwIdeal m →
    (∀ c : Dev Cert.BranchDwIdeal.nD,
      m' ((c.tc : Thread Cert.BranchDwRefIdeal.nD Cert.BranchDwRefIdeal.τ).loc Cert.BranchDwRefIdeal.main_arg0) = m ((c.tc : Thread Cert.BranchDwIdeal.nD Cert.BranchDwIdeal.τ).loc Cert.BranchDwIdeal.main_arg0)
      ∧ m' ((c.tc : Thread Cert.BranchDwRefIdeal.nD Cert.BranchDwRefIdeal.τ).loc Cert.BranchDwRefIdeal.main_arg1) = m ((c.tc : Thread Cert.BranchDwIdeal.nD Cert.BranchDwIdeal.τ).loc Cert.BranchDwIdeal.main_arg1)) →
    ∃ (v0 : (c : Dev Cert.BranchDwIdeal.nD) → Buf (Elt Ideal) ((c.tc : Thread Cert.BranchDwIdeal.nD Cert.BranchDwIdeal.τ).loc Cert.BranchDwIdeal.main_v0)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v0) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ θ_run (Cert.BranchDwRefIdeal.defs (F := Ideal)) (onTc (τ := Cert.BranchDwRefIdeal.τ) (Cert.BranchDwRefIdeal.main (F := Ideal))) ⟨m', fun _ => 0, g'⟩ (fun r => ∀ c : Dev Cert.BranchDwRefIdeal.nD,
          r.2.mem ((c.tc : Thread Cert.BranchDwRefIdeal.nD Cert.BranchDwRefIdeal.τ).loc Cert.BranchDwRefIdeal.main_v6) = v0 c
          ∧ r.2.mem ((c.tc : Thread Cert.BranchDwRefIdeal.nD Cert.BranchDwRefIdeal.τ).loc Cert.BranchDwRefIdeal.main_arg0) = m' ((c.tc : Thread Cert.BranchDwRefIdeal.nD Cert.BranchDwRefIdeal.τ).loc Cert.BranchDwRefIdeal.main_arg0)
          ∧ r.2.mem ((c.tc : Thread Cert.BranchDwRefIdeal.nD Cert.BranchDwRefIdeal.τ).loc Cert.BranchDwRefIdeal.main_arg1) = m' ((c.tc : Thread Cert.BranchDwRefIdeal.nD Cert.BranchDwRefIdeal.τ).loc Cert.BranchDwRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_InValues_InValuesIdeal : Prop :=
  True

def algebraic_InValuesIdeal_InValuesRefIdeal [hInValuesIdeal : Cert.InValuesIdeal.Facts] [hInValuesRefIdeal : Cert.InValuesRefIdeal.Facts] : Prop :=
  ∀ (m : (ℓ : Loc Cert.InValuesIdeal.nD Cert.InValuesIdeal.τ Cert.InValuesIdeal.sig) → Buf (Elt Ideal) ℓ) (g : Dev Cert.InValuesIdeal.nD → PrngReg)
    (m' : (ℓ : Loc Cert.InValuesRefIdeal.nD Cert.InValuesRefIdeal.τ Cert.InValuesRefIdeal.sig) → Buf (Elt Ideal) ℓ) (g' : Dev Cert.InValuesRefIdeal.nD → PrngReg), Pre_InValuesIdeal m →
    (∀ c : Dev Cert.InValuesIdeal.nD,
      m' ((c.tc : Thread Cert.InValuesRefIdeal.nD Cert.InValuesRefIdeal.τ).loc Cert.InValuesRefIdeal.main_arg0) = m ((c.tc : Thread Cert.InValuesIdeal.nD Cert.InValuesIdeal.τ).loc Cert.InValuesIdeal.main_arg0)
      ∧ m' ((c.tc : Thread Cert.InValuesRefIdeal.nD Cert.InValuesRefIdeal.τ).loc Cert.InValuesRefIdeal.main_arg1) = m ((c.tc : Thread Cert.InValuesIdeal.nD Cert.InValuesIdeal.τ).loc Cert.InValuesIdeal.main_arg1)) →
    ∃ (v0 : (c : Dev Cert.InValuesIdeal.nD) → Buf (Elt Ideal) ((c.tc : Thread Cert.InValuesIdeal.nD Cert.InValuesIdeal.τ).loc Cert.InValuesIdeal.main_v0)),
      θ_run (Cert.InValuesIdeal.defs (F := Ideal)) (onTc (τ := Cert.InValuesIdeal.τ) (Cert.InValuesIdeal.main (F := Ideal))) ⟨m, fun _ => 0, g⟩ (fun r => ∀ c : Dev Cert.InValuesIdeal.nD,
          r.2.mem ((c.tc : Thread Cert.InValuesIdeal.nD Cert.InValuesIdeal.τ).loc Cert.InValuesIdeal.main_v0) = v0 c
          ∧ r.2.mem ((c.tc : Thread Cert.InValuesIdeal.nD Cert.InValuesIdeal.τ).loc Cert.InValuesIdeal.main_arg0) = m ((c.tc : Thread Cert.InValuesIdeal.nD Cert.InValuesIdeal.τ).loc Cert.InValuesIdeal.main_arg0)
          ∧ r.2.mem ((c.tc : Thread Cert.InValuesIdeal.nD Cert.InValuesIdeal.τ).loc Cert.InValuesIdeal.main_arg1) = m ((c.tc : Thread Cert.InValuesIdeal.nD Cert.InValuesIdeal.τ).loc Cert.InValuesIdeal.main_arg1))
      ∧ θ_run (Cert.InValuesRefIdeal.defs (F := Ideal)) (onTc (τ := Cert.InValuesRefIdeal.τ) (Cert.InValuesRefIdeal.main (F := Ideal))) ⟨m', fun _ => 0, g'⟩ (fun r => ∀ c : Dev Cert.InValuesRefIdeal.nD,
          r.2.mem ((c.tc : Thread Cert.InValuesRefIdeal.nD Cert.InValuesRefIdeal.τ).loc Cert.InValuesRefIdeal.main_v3) = v0 c
          ∧ r.2.mem ((c.tc : Thread Cert.InValuesRefIdeal.nD Cert.InValuesRefIdeal.τ).loc Cert.InValuesRefIdeal.main_arg0) = m' ((c.tc : Thread Cert.InValuesRefIdeal.nD Cert.InValuesRefIdeal.τ).loc Cert.InValuesRefIdeal.main_arg0)
          ∧ r.2.mem ((c.tc : Thread Cert.InValuesRefIdeal.nD Cert.InValuesRefIdeal.τ).loc Cert.InValuesRefIdeal.main_arg1) = m' ((c.tc : Thread Cert.InValuesRefIdeal.nD Cert.InValuesRefIdeal.τ).loc Cert.InValuesRefIdeal.main_arg1))

def preserves_InGates_InGatesIdeal : Prop :=
  True

def algebraic_InGatesIdeal_InGatesRefIdeal [hInGatesIdeal : Cert.InGatesIdeal.Facts] [hInGatesRefIdeal : Cert.InGatesRefIdeal.Facts] : Prop :=
  ∀ (m : (ℓ : Loc Cert.InGatesIdeal.nD Cert.InGatesIdeal.τ Cert.InGatesIdeal.sig) → Buf (Elt Ideal) ℓ) (g : Dev Cert.InGatesIdeal.nD → PrngReg)
    (m' : (ℓ : Loc Cert.InGatesRefIdeal.nD Cert.InGatesRefIdeal.τ Cert.InGatesRefIdeal.sig) → Buf (Elt Ideal) ℓ) (g' : Dev Cert.InGatesRefIdeal.nD → PrngReg), Pre_InGatesIdeal m →
    (∀ c : Dev Cert.InGatesIdeal.nD,
      m' ((c.tc : Thread Cert.InGatesRefIdeal.nD Cert.InGatesRefIdeal.τ).loc Cert.InGatesRefIdeal.main_arg0) = m ((c.tc : Thread Cert.InGatesIdeal.nD Cert.InGatesIdeal.τ).loc Cert.InGatesIdeal.main_arg0)
      ∧ m' ((c.tc : Thread Cert.InGatesRefIdeal.nD Cert.InGatesRefIdeal.τ).loc Cert.InGatesRefIdeal.main_arg1) = m ((c.tc : Thread Cert.InGatesIdeal.nD Cert.InGatesIdeal.τ).loc Cert.InGatesIdeal.main_arg1)) →
    ∃ (v0 : (c : Dev Cert.InGatesIdeal.nD) → Buf (Elt Ideal) ((c.tc : Thread Cert.InGatesIdeal.nD Cert.InGatesIdeal.τ).loc Cert.InGatesIdeal.main_v0)),
      θ_run (Cert.InGatesIdeal.defs (F := Ideal)) (onTc (τ := Cert.InGatesIdeal.τ) (Cert.InGatesIdeal.main (F := Ideal))) ⟨m, fun _ => 0, g⟩ (fun r => ∀ c : Dev Cert.InGatesIdeal.nD,
          r.2.mem ((c.tc : Thread Cert.InGatesIdeal.nD Cert.InGatesIdeal.τ).loc Cert.InGatesIdeal.main_v0) = v0 c
          ∧ r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
          ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1))
      ∧ θ_run (Cert.InGatesRefIdeal.defs (F := Ideal)) (onTc (τ := Cert.InGatesRefIdeal.τ) (Cert.InGatesRefIdeal.main (F := Ideal))) ⟨m', fun _ => 0, g'⟩ (fun r => ∀ c : Dev Cert.InGatesRefIdeal.nD,
          r.2.mem ((c.tc : Thread Cert.InGatesRefIdeal.nD Cert.InGatesRefIdeal.τ).loc Cert.InGatesRefIdeal.main_v4) = v0 c
          ∧ r.2.mem ((c.tc : Thread Cert.InGatesRefIdeal.nD Cert.InGatesRefIdeal.τ).loc Cert.InGatesRefIdeal.main_arg0) = m' ((c.tc : Thread Cert.InGatesRefIdeal.nD Cert.InGatesRefIdeal.τ).loc Cert.InGatesRefIdeal.main_arg0)
          ∧ r.2.mem ((c.tc : Thread Cert.InGatesRefIdeal.nD Cert.InGatesRefIdeal.τ).loc Cert.InGatesRefIdeal.main_arg1) = m' ((c.tc : Thread Cert.InGatesRefIdeal.nD Cert.InGatesRefIdeal.τ).loc Cert.InGatesRefIdeal.main_arg1))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v3) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_v6) = v1 c
          ∧ r.2.mem ((c.tc : Thread Cert.UpRefIdeal.nD Cert.UpRefIdeal.τ).loc Cert.UpRefIdeal.main_v9) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_ActBwd_ActBwdIdeal : Prop :=
  True

def algebraic_ActBwdIdeal_ActBwdRefIdeal_pre_finite_gradient [hActBwdIdeal : Cert.ActBwdIdeal.Facts] [hActBwdRefIdeal : Cert.ActBwdRefIdeal.Facts] [hPre_finite_gradient : Cert.Pre_finite_gradient.Facts] : Prop :=
  ∀ (m : (ℓ : Loc Cert.ActBwdIdeal.nD Cert.ActBwdIdeal.τ Cert.ActBwdIdeal.sig) → Buf (Elt Ideal) ℓ) (g : Dev Cert.ActBwdIdeal.nD → PrngReg)
    (m' : (ℓ : Loc Cert.ActBwdRefIdeal.nD Cert.ActBwdRefIdeal.τ Cert.ActBwdRefIdeal.sig) → Buf (Elt Ideal) ℓ) (g' : Dev Cert.ActBwdRefIdeal.nD → PrngReg), Pre_ActBwdIdeal_finite_gradient m →
    (∀ c : Dev Cert.ActBwdIdeal.nD,
      m' ((c.tc : Thread Cert.ActBwdRefIdeal.nD Cert.ActBwdRefIdeal.τ).loc Cert.ActBwdRefIdeal.main_arg0) = m ((c.tc : Thread Cert.ActBwdIdeal.nD Cert.ActBwdIdeal.τ).loc Cert.ActBwdIdeal.main_arg0)
      ∧ m' ((c.tc : Thread Cert.ActBwdRefIdeal.nD Cert.ActBwdRefIdeal.τ).loc Cert.ActBwdRefIdeal.main_arg1) = m ((c.tc : Thread Cert.ActBwdIdeal.nD Cert.ActBwdIdeal.τ).loc Cert.ActBwdIdeal.main_arg1)
      ∧ m' ((c.tc : Thread Cert.ActBwdRefIdeal.nD Cert.ActBwdRefIdeal.τ).loc Cert.ActBwdRefIdeal.main_arg2) = m ((c.tc : Thread Cert.ActBwdIdeal.nD Cert.ActBwdIdeal.τ).loc Cert.ActBwdIdeal.main_arg2)) →
    ∃ (v0 : (c : Dev Cert.ActBwdIdeal.nD) → Buf (Elt Ideal) ((c.tc : Thread Cert.ActBwdIdeal.nD Cert.ActBwdIdeal.τ).loc Cert.ActBwdIdeal.main_v0)),
      θ_run (Cert.ActBwdIdeal.defs (F := Ideal)) (onTc (τ := Cert.ActBwdIdeal.τ) (Cert.ActBwdIdeal.main (F := Ideal))) ⟨m, fun _ => 0, g⟩ (fun r => ∀ c : Dev Cert.ActBwdIdeal.nD,
          r.2.mem ((c.tc : Thread Cert.ActBwdIdeal.nD Cert.ActBwdIdeal.τ).loc Cert.ActBwdIdeal.main_v0) = v0 c
          ∧ r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
          ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
          ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2))
      ∧ θ_run (Cert.ActBwdRefIdeal.defs (F := Ideal)) (onTc (τ := Cert.ActBwdRefIdeal.τ) (Cert.ActBwdRefIdeal.main (F := Ideal))) ⟨m', fun _ => 0, g'⟩ (fun r => ∀ c : Dev Cert.ActBwdRefIdeal.nD,
          r.2.mem ((c.tc : Thread Cert.ActBwdRefIdeal.nD Cert.ActBwdRefIdeal.τ).loc Cert.ActBwdRefIdeal.main_v9) = v0 c
          ∧ r.2.mem ((c.tc : Thread Cert.ActBwdRefIdeal.nD Cert.ActBwdRefIdeal.τ).loc Cert.ActBwdRefIdeal.main_arg0) = m' ((c.tc : Thread Cert.ActBwdRefIdeal.nD Cert.ActBwdRefIdeal.τ).loc Cert.ActBwdRefIdeal.main_arg0)
          ∧ r.2.mem ((c.tc : Thread Cert.ActBwdRefIdeal.nD Cert.ActBwdRefIdeal.τ).loc Cert.ActBwdRefIdeal.main_arg1) = m' ((c.tc : Thread Cert.ActBwdRefIdeal.nD Cert.ActBwdRefIdeal.τ).loc Cert.ActBwdRefIdeal.main_arg1)
          ∧ r.2.mem ((c.tc : Thread Cert.ActBwdRefIdeal.nD Cert.ActBwdRefIdeal.τ).loc Cert.ActBwdRefIdeal.main_arg2) = m' ((c.tc : Thread Cert.ActBwdRefIdeal.nD Cert.ActBwdRefIdeal.τ).loc Cert.ActBwdRefIdeal.main_arg2))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v0)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v20) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2))

def preserves_GatesBwd_GatesBwdIdeal : Prop :=
  True

def algebraic_GatesBwdIdeal_GatesBwdRefIdeal [hGatesBwdIdeal : Cert.GatesBwdIdeal.Facts] [hGatesBwdRefIdeal : Cert.GatesBwdRefIdeal.Facts] : Prop :=
  ∀ (m : (ℓ : Loc Cert.GatesBwdIdeal.nD Cert.GatesBwdIdeal.τ Cert.GatesBwdIdeal.sig) → Buf (Elt Ideal) ℓ) (g : Dev Cert.GatesBwdIdeal.nD → PrngReg)
    (m' : (ℓ : Loc Cert.GatesBwdRefIdeal.nD Cert.GatesBwdRefIdeal.τ Cert.GatesBwdRefIdeal.sig) → Buf (Elt Ideal) ℓ) (g' : Dev Cert.GatesBwdRefIdeal.nD → PrngReg), Pre_GatesBwdIdeal m →
    (∀ c : Dev Cert.GatesBwdIdeal.nD,
      m' ((c.tc : Thread Cert.GatesBwdRefIdeal.nD Cert.GatesBwdRefIdeal.τ).loc Cert.GatesBwdRefIdeal.main_arg0) = m ((c.tc : Thread Cert.GatesBwdIdeal.nD Cert.GatesBwdIdeal.τ).loc Cert.GatesBwdIdeal.main_arg0)
      ∧ m' ((c.tc : Thread Cert.GatesBwdRefIdeal.nD Cert.GatesBwdRefIdeal.τ).loc Cert.GatesBwdRefIdeal.main_arg1) = m ((c.tc : Thread Cert.GatesBwdIdeal.nD Cert.GatesBwdIdeal.τ).loc Cert.GatesBwdIdeal.main_arg1)
      ∧ m' ((c.tc : Thread Cert.GatesBwdRefIdeal.nD Cert.GatesBwdRefIdeal.τ).loc Cert.GatesBwdRefIdeal.main_arg2) = m ((c.tc : Thread Cert.GatesBwdIdeal.nD Cert.GatesBwdIdeal.τ).loc Cert.GatesBwdIdeal.main_arg2)
      ∧ m' ((c.tc : Thread Cert.GatesBwdRefIdeal.nD Cert.GatesBwdRefIdeal.τ).loc Cert.GatesBwdRefIdeal.main_arg3) = m ((c.tc : Thread Cert.GatesBwdIdeal.nD Cert.GatesBwdIdeal.τ).loc Cert.GatesBwdIdeal.main_arg3)) →
    ∃ (v0 : (c : Dev Cert.GatesBwdIdeal.nD) → Buf (Elt Ideal) ((c.tc : Thread Cert.GatesBwdIdeal.nD Cert.GatesBwdIdeal.τ).loc Cert.GatesBwdIdeal.main_v0_0)) (v1 : (c : Dev Cert.GatesBwdIdeal.nD) → Buf (Elt Ideal) ((c.tc : Thread Cert.GatesBwdIdeal.nD Cert.GatesBwdIdeal.τ).loc Cert.GatesBwdIdeal.main_v0_1)) (v2 : (c : Dev Cert.GatesBwdIdeal.nD) → Buf (Elt Ideal) ((c.tc : Thread Cert.GatesBwdIdeal.nD Cert.GatesBwdIdeal.τ).loc Cert.GatesBwdIdeal.main_v0_2)) (v3 : (c : Dev Cert.GatesBwdIdeal.nD) → Buf (Elt Ideal) ((c.tc : Thread Cert.GatesBwdIdeal.nD Cert.GatesBwdIdeal.τ).loc Cert.GatesBwdIdeal.main_v0_3)),
      θ_run (Cert.GatesBwdIdeal.defs (F := Ideal)) (onTc (τ := Cert.GatesBwdIdeal.τ) (Cert.GatesBwdIdeal.main (F := Ideal))) ⟨m, fun _ => 0, g⟩ (fun r => ∀ c : Dev Cert.GatesBwdIdeal.nD,
          r.2.mem ((c.tc : Thread Cert.GatesBwdIdeal.nD Cert.GatesBwdIdeal.τ).loc Cert.GatesBwdIdeal.main_v0_0) = v0 c
          ∧ r.2.mem ((c.tc : Thread Cert.GatesBwdIdeal.nD Cert.GatesBwdIdeal.τ).loc Cert.GatesBwdIdeal.main_v0_1) = v1 c
          ∧ r.2.mem ((c.tc : Thread Cert.GatesBwdIdeal.nD Cert.GatesBwdIdeal.τ).loc Cert.GatesBwdIdeal.main_v0_2) = v2 c
          ∧ r.2.mem ((c.tc : Thread Cert.GatesBwdIdeal.nD Cert.GatesBwdIdeal.τ).loc Cert.GatesBwdIdeal.main_v0_3) = v3 c
          ∧ r.2.mem ((c.tc : Thread Cert.GatesBwdIdeal.nD Cert.GatesBwdIdeal.τ).loc Cert.GatesBwdIdeal.main_arg0) = m ((c.tc : Thread Cert.GatesBwdIdeal.nD Cert.GatesBwdIdeal.τ).loc Cert.GatesBwdIdeal.main_arg0)
          ∧ r.2.mem ((c.tc : Thread Cert.GatesBwdIdeal.nD Cert.GatesBwdIdeal.τ).loc Cert.GatesBwdIdeal.main_arg1) = m ((c.tc : Thread Cert.GatesBwdIdeal.nD Cert.GatesBwdIdeal.τ).loc Cert.GatesBwdIdeal.main_arg1)
          ∧ r.2.mem ((c.tc : Thread Cert.GatesBwdIdeal.nD Cert.GatesBwdIdeal.τ).loc Cert.GatesBwdIdeal.main_arg2) = m ((c.tc : Thread Cert.GatesBwdIdeal.nD Cert.GatesBwdIdeal.τ).loc Cert.GatesBwdIdeal.main_arg2)
          ∧ r.2.mem ((c.tc : Thread Cert.GatesBwdIdeal.nD Cert.GatesBwdIdeal.τ).loc Cert.GatesBwdIdeal.main_arg3) = m ((c.tc : Thread Cert.GatesBwdIdeal.nD Cert.GatesBwdIdeal.τ).loc Cert.GatesBwdIdeal.main_arg3))
      ∧ θ_run (Cert.GatesBwdRefIdeal.defs (F := Ideal)) (onTc (τ := Cert.GatesBwdRefIdeal.τ) (Cert.GatesBwdRefIdeal.main (F := Ideal))) ⟨m', fun _ => 0, g'⟩ (fun r => ∀ c : Dev Cert.GatesBwdRefIdeal.nD,
          r.2.mem ((c.tc : Thread Cert.GatesBwdRefIdeal.nD Cert.GatesBwdRefIdeal.τ).loc Cert.GatesBwdRefIdeal.main_v36) = v0 c
          ∧ r.2.mem ((c.tc : Thread Cert.GatesBwdRefIdeal.nD Cert.GatesBwdRefIdeal.τ).loc Cert.GatesBwdRefIdeal.main_v37) = v1 c
          ∧ r.2.mem ((c.tc : Thread Cert.GatesBwdRefIdeal.nD Cert.GatesBwdRefIdeal.τ).loc Cert.GatesBwdRefIdeal.main_v38) = v2 c
          ∧ r.2.mem ((c.tc : Thread Cert.GatesBwdRefIdeal.nD Cert.GatesBwdRefIdeal.τ).loc Cert.GatesBwdRefIdeal.main_v39) = v3 c
          ∧ r.2.mem ((c.tc : Thread Cert.GatesBwdRefIdeal.nD Cert.GatesBwdRefIdeal.τ).loc Cert.GatesBwdRefIdeal.main_arg0) = m' ((c.tc : Thread Cert.GatesBwdRefIdeal.nD Cert.GatesBwdRefIdeal.τ).loc Cert.GatesBwdRefIdeal.main_arg0)
          ∧ r.2.mem ((c.tc : Thread Cert.GatesBwdRefIdeal.nD Cert.GatesBwdRefIdeal.τ).loc Cert.GatesBwdRefIdeal.main_arg1) = m' ((c.tc : Thread Cert.GatesBwdRefIdeal.nD Cert.GatesBwdRefIdeal.τ).loc Cert.GatesBwdRefIdeal.main_arg1)
          ∧ r.2.mem ((c.tc : Thread Cert.GatesBwdRefIdeal.nD Cert.GatesBwdRefIdeal.τ).loc Cert.GatesBwdRefIdeal.main_arg2) = m' ((c.tc : Thread Cert.GatesBwdRefIdeal.nD Cert.GatesBwdRefIdeal.τ).loc Cert.GatesBwdRefIdeal.main_arg2)
          ∧ r.2.mem ((c.tc : Thread Cert.GatesBwdRefIdeal.nD Cert.GatesBwdRefIdeal.τ).loc Cert.GatesBwdRefIdeal.main_arg3) = m' ((c.tc : Thread Cert.GatesBwdRefIdeal.nD Cert.GatesBwdRefIdeal.τ).loc Cert.GatesBwdRefIdeal.main_arg3))

def preserves_LastNormBwd_LastNormBwdIdeal : Prop :=
  True

def algebraic_LastNormBwdIdeal_LastNormBwdRefIdeal [hLastNormBwdIdeal : Cert.LastNormBwdIdeal.Facts] [hLastNormBwdRefIdeal : Cert.LastNormBwdRefIdeal.Facts] : Prop :=
  ∀ (m : (ℓ : Loc Cert.LastNormBwdIdeal.nD Cert.LastNormBwdIdeal.τ Cert.LastNormBwdIdeal.sig) → Buf (Elt Ideal) ℓ) (g : Dev Cert.LastNormBwdIdeal.nD → PrngReg)
    (m' : (ℓ : Loc Cert.LastNormBwdRefIdeal.nD Cert.LastNormBwdRefIdeal.τ Cert.LastNormBwdRefIdeal.sig) → Buf (Elt Ideal) ℓ) (g' : Dev Cert.LastNormBwdRefIdeal.nD → PrngReg), Pre_LastNormBwdIdeal m →
    (∀ c : Dev Cert.LastNormBwdIdeal.nD,
      m' ((c.tc : Thread Cert.LastNormBwdRefIdeal.nD Cert.LastNormBwdRefIdeal.τ).loc Cert.LastNormBwdRefIdeal.main_arg0) = m ((c.tc : Thread Cert.LastNormBwdIdeal.nD Cert.LastNormBwdIdeal.τ).loc Cert.LastNormBwdIdeal.main_arg0)
      ∧ m' ((c.tc : Thread Cert.LastNormBwdRefIdeal.nD Cert.LastNormBwdRefIdeal.τ).loc Cert.LastNormBwdRefIdeal.main_arg1) = m ((c.tc : Thread Cert.LastNormBwdIdeal.nD Cert.LastNormBwdIdeal.τ).loc Cert.LastNormBwdIdeal.main_arg1)
      ∧ m' ((c.tc : Thread Cert.LastNormBwdRefIdeal.nD Cert.LastNormBwdRefIdeal.τ).loc Cert.LastNormBwdRefIdeal.main_arg2) = m ((c.tc : Thread Cert.LastNormBwdIdeal.nD Cert.LastNormBwdIdeal.τ).loc Cert.LastNormBwdIdeal.main_arg2)) →
    ∃ (v0 : (c : Dev Cert.LastNormBwdIdeal.nD) → Buf (Elt Ideal) ((c.tc : Thread Cert.LastNormBwdIdeal.nD Cert.LastNormBwdIdeal.τ).loc Cert.LastNormBwdIdeal.main_v1_0)) (v1 : (c : Dev Cert.LastNormBwdIdeal.nD) → Buf (Elt Ideal) ((c.tc : Thread Cert.LastNormBwdIdeal.nD Cert.LastNormBwdIdeal.τ).loc Cert.LastNormBwdIdeal.main_v1_1)),
      θ_run (Cert.LastNormBwdIdeal.defs (F := Ideal)) (onTc (τ := Cert.LastNormBwdIdeal.τ) (Cert.LastNormBwdIdeal.main (F := Ideal))) ⟨m, fun _ => 0, g⟩ (fun r => ∀ c : Dev Cert.LastNormBwdIdeal.nD,
          r.2.mem ((c.tc : Thread Cert.LastNormBwdIdeal.nD Cert.LastNormBwdIdeal.τ).loc Cert.LastNormBwdIdeal.main_v1_0) = v0 c
          ∧ r.2.mem ((c.tc : Thread Cert.LastNormBwdIdeal.nD Cert.LastNormBwdIdeal.τ).loc Cert.LastNormBwdIdeal.main_v1_1) = v1 c
          ∧ r.2.mem ((c.tc : Thread Cert.LastNormBwdIdeal.nD Cert.LastNormBwdIdeal.τ).loc Cert.LastNormBwdIdeal.main_arg0) = m ((c.tc : Thread Cert.LastNormBwdIdeal.nD Cert.LastNormBwdIdeal.τ).loc Cert.LastNormBwdIdeal.main_arg0)
          ∧ r.2.mem ((c.tc : Thread Cert.LastNormBwdIdeal.nD Cert.LastNormBwdIdeal.τ).loc Cert.LastNormBwdIdeal.main_arg1) = m ((c.tc : Thread Cert.LastNormBwdIdeal.nD Cert.LastNormBwdIdeal.τ).loc Cert.LastNormBwdIdeal.main_arg1)
          ∧ r.2.mem ((c.tc : Thread Cert.LastNormBwdIdeal.nD Cert.LastNormBwdIdeal.τ).loc Cert.LastNormBwdIdeal.main_arg2) = m ((c.tc : Thread Cert.LastNormBwdIdeal.nD Cert.LastNormBwdIdeal.τ).loc Cert.LastNormBwdIdeal.main_arg2))
      ∧ θ_run (Cert.LastNormBwdRefIdeal.defs (F := Ideal)) (onTc (τ := Cert.LastNormBwdRefIdeal.τ) (Cert.LastNormBwdRefIdeal.main (F := Ideal))) ⟨m', fun _ => 0, g'⟩ (fun r => ∀ c : Dev Cert.LastNormBwdRefIdeal.nD,
          r.2.mem ((c.tc : Thread Cert.LastNormBwdRefIdeal.nD Cert.LastNormBwdRefIdeal.τ).loc Cert.LastNormBwdRefIdeal.main_v40) = v0 c
          ∧ r.2.mem ((c.tc : Thread Cert.LastNormBwdRefIdeal.nD Cert.LastNormBwdRefIdeal.τ).loc Cert.LastNormBwdRefIdeal.main_v41) = v1 c
          ∧ r.2.mem ((c.tc : Thread Cert.LastNormBwdRefIdeal.nD Cert.LastNormBwdRefIdeal.τ).loc Cert.LastNormBwdRefIdeal.main_arg0) = m' ((c.tc : Thread Cert.LastNormBwdRefIdeal.nD Cert.LastNormBwdRefIdeal.τ).loc Cert.LastNormBwdRefIdeal.main_arg0)
          ∧ r.2.mem ((c.tc : Thread Cert.LastNormBwdRefIdeal.nD Cert.LastNormBwdRefIdeal.τ).loc Cert.LastNormBwdRefIdeal.main_arg1) = m' ((c.tc : Thread Cert.LastNormBwdRefIdeal.nD Cert.LastNormBwdRefIdeal.τ).loc Cert.LastNormBwdRefIdeal.main_arg1)
          ∧ r.2.mem ((c.tc : Thread Cert.LastNormBwdRefIdeal.nD Cert.LastNormBwdRefIdeal.τ).loc Cert.LastNormBwdRefIdeal.main_arg2) = m' ((c.tc : Thread Cert.LastNormBwdRefIdeal.nD Cert.LastNormBwdRefIdeal.τ).loc Cert.LastNormBwdRefIdeal.main_arg2))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v36) = v0 c
          ∧ r.2.mem ((c.tc : Thread Cert.NormBwdRefIdeal.nD Cert.NormBwdRefIdeal.τ).loc Cert.NormBwdRefIdeal.main_v37) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_NormBwdChain_NormBwdChainIdeal : Prop :=
  True

def algebraic_NormBwdChainIdeal_NormBwdChainRefIdeal [hNormBwdChainIdeal : Cert.NormBwdChainIdeal.Facts] [hNormBwdChainRefIdeal : Cert.NormBwdChainRefIdeal.Facts] : Prop :=
  ∀ (m : (ℓ : Loc Cert.NormBwdChainIdeal.nD Cert.NormBwdChainIdeal.τ Cert.NormBwdChainIdeal.sig) → Buf (Elt Ideal) ℓ) (g : Dev Cert.NormBwdChainIdeal.nD → PrngReg)
    (m' : (ℓ : Loc Cert.NormBwdChainRefIdeal.nD Cert.NormBwdChainRefIdeal.τ Cert.NormBwdChainRefIdeal.sig) → Buf (Elt Ideal) ℓ) (g' : Dev Cert.NormBwdChainRefIdeal.nD → PrngReg), Pre_NormBwdChainIdeal m →
    (∀ c : Dev Cert.NormBwdChainIdeal.nD,
      m' ((c.tc : Thread Cert.NormBwdChainRefIdeal.nD Cert.NormBwdChainRefIdeal.τ).loc Cert.NormBwdChainRefIdeal.main_arg0) = m ((c.tc : Thread Cert.NormBwdChainIdeal.nD Cert.NormBwdChainIdeal.τ).loc Cert.NormBwdChainIdeal.main_arg0)
      ∧ m' ((c.tc : Thread Cert.NormBwdChainRefIdeal.nD Cert.NormBwdChainRefIdeal.τ).loc Cert.NormBwdChainRefIdeal.main_arg1) = m ((c.tc : Thread Cert.NormBwdChainIdeal.nD Cert.NormBwdChainIdeal.τ).loc Cert.NormBwdChainIdeal.main_arg1)
      ∧ m' ((c.tc : Thread Cert.NormBwdChainRefIdeal.nD Cert.NormBwdChainRefIdeal.τ).loc Cert.NormBwdChainRefIdeal.main_arg2) = m ((c.tc : Thread Cert.NormBwdChainIdeal.nD Cert.NormBwdChainIdeal.τ).loc Cert.NormBwdChainIdeal.main_arg2)
      ∧ m' ((c.tc : Thread Cert.NormBwdChainRefIdeal.nD Cert.NormBwdChainRefIdeal.τ).loc Cert.NormBwdChainRefIdeal.main_arg3) = m ((c.tc : Thread Cert.NormBwdChainIdeal.nD Cert.NormBwdChainIdeal.τ).loc Cert.NormBwdChainIdeal.main_arg3)
      ∧ m' ((c.tc : Thread Cert.NormBwdChainRefIdeal.nD Cert.NormBwdChainRefIdeal.τ).loc Cert.NormBwdChainRefIdeal.main_arg4) = m ((c.tc : Thread Cert.NormBwdChainIdeal.nD Cert.NormBwdChainIdeal.τ).loc Cert.NormBwdChainIdeal.main_arg4)
      ∧ m' ((c.tc : Thread Cert.NormBwdChainRefIdeal.nD Cert.NormBwdChainRefIdeal.τ).loc Cert.NormBwdChainRefIdeal.main_arg5) = m ((c.tc : Thread Cert.NormBwdChainIdeal.nD Cert.NormBwdChainIdeal.τ).loc Cert.NormBwdChainIdeal.main_arg5)) →
    ∃ (v0 : (c : Dev Cert.NormBwdChainIdeal.nD) → Buf (Elt Ideal) ((c.tc : Thread Cert.NormBwdChainIdeal.nD Cert.NormBwdChainIdeal.τ).loc Cert.NormBwdChainIdeal.main_v2_0)) (v1 : (c : Dev Cert.NormBwdChainIdeal.nD) → Buf (Elt Ideal) ((c.tc : Thread Cert.NormBwdChainIdeal.nD Cert.NormBwdChainIdeal.τ).loc Cert.NormBwdChainIdeal.main_v2_1)) (v2 : (c : Dev Cert.NormBwdChainIdeal.nD) → Buf (Elt Ideal) ((c.tc : Thread Cert.NormBwdChainIdeal.nD Cert.NormBwdChainIdeal.τ).loc Cert.NormBwdChainIdeal.main_v2_2)) (v3 : (c : Dev Cert.NormBwdChainIdeal.nD) → Buf (Elt Ideal) ((c.tc : Thread Cert.NormBwdChainIdeal.nD Cert.NormBwdChainIdeal.τ).loc Cert.NormBwdChainIdeal.main_v2_3)),
      θ_run (Cert.NormBwdChainIdeal.defs (F := Ideal)) (onTc (τ := Cert.NormBwdChainIdeal.τ) (Cert.NormBwdChainIdeal.main (F := Ideal))) ⟨m, fun _ => 0, g⟩ (fun r => ∀ c : Dev Cert.NormBwdChainIdeal.nD,
          r.2.mem ((c.tc : Thread Cert.NormBwdChainIdeal.nD Cert.NormBwdChainIdeal.τ).loc Cert.NormBwdChainIdeal.main_v2_0) = v0 c
          ∧ r.2.mem ((c.tc : Thread Cert.NormBwdChainIdeal.nD Cert.NormBwdChainIdeal.τ).loc Cert.NormBwdChainIdeal.main_v2_1) = v1 c
          ∧ r.2.mem ((c.tc : Thread Cert.NormBwdChainIdeal.nD Cert.NormBwdChainIdeal.τ).loc Cert.NormBwdChainIdeal.main_v2_2) = v2 c
          ∧ r.2.mem ((c.tc : Thread Cert.NormBwdChainIdeal.nD Cert.NormBwdChainIdeal.τ).loc Cert.NormBwdChainIdeal.main_v2_3) = v3 c
          ∧ r.2.mem ((c.tc : Thread Cert.NormBwdChainIdeal.nD Cert.NormBwdChainIdeal.τ).loc Cert.NormBwdChainIdeal.main_arg0) = m ((c.tc : Thread Cert.NormBwdChainIdeal.nD Cert.NormBwdChainIdeal.τ).loc Cert.NormBwdChainIdeal.main_arg0)
          ∧ r.2.mem ((c.tc : Thread Cert.NormBwdChainIdeal.nD Cert.NormBwdChainIdeal.τ).loc Cert.NormBwdChainIdeal.main_arg1) = m ((c.tc : Thread Cert.NormBwdChainIdeal.nD Cert.NormBwdChainIdeal.τ).loc Cert.NormBwdChainIdeal.main_arg1)
          ∧ r.2.mem ((c.tc : Thread Cert.NormBwdChainIdeal.nD Cert.NormBwdChainIdeal.τ).loc Cert.NormBwdChainIdeal.main_arg2) = m ((c.tc : Thread Cert.NormBwdChainIdeal.nD Cert.NormBwdChainIdeal.τ).loc Cert.NormBwdChainIdeal.main_arg2)
          ∧ r.2.mem ((c.tc : Thread Cert.NormBwdChainIdeal.nD Cert.NormBwdChainIdeal.τ).loc Cert.NormBwdChainIdeal.main_arg3) = m ((c.tc : Thread Cert.NormBwdChainIdeal.nD Cert.NormBwdChainIdeal.τ).loc Cert.NormBwdChainIdeal.main_arg3)
          ∧ r.2.mem ((c.tc : Thread Cert.NormBwdChainIdeal.nD Cert.NormBwdChainIdeal.τ).loc Cert.NormBwdChainIdeal.main_arg4) = m ((c.tc : Thread Cert.NormBwdChainIdeal.nD Cert.NormBwdChainIdeal.τ).loc Cert.NormBwdChainIdeal.main_arg4)
          ∧ r.2.mem ((c.tc : Thread Cert.NormBwdChainIdeal.nD Cert.NormBwdChainIdeal.τ).loc Cert.NormBwdChainIdeal.main_arg5) = m ((c.tc : Thread Cert.NormBwdChainIdeal.nD Cert.NormBwdChainIdeal.τ).loc Cert.NormBwdChainIdeal.main_arg5))
      ∧ θ_run (Cert.NormBwdChainRefIdeal.defs (F := Ideal)) (onTc (τ := Cert.NormBwdChainRefIdeal.τ) (Cert.NormBwdChainRefIdeal.main (F := Ideal))) ⟨m', fun _ => 0, g'⟩ (fun r => ∀ c : Dev Cert.NormBwdChainRefIdeal.nD,
          r.2.mem ((c.tc : Thread Cert.NormBwdChainRefIdeal.nD Cert.NormBwdChainRefIdeal.τ).loc Cert.NormBwdChainRefIdeal.main_v36) = v0 c
          ∧ r.2.mem ((c.tc : Thread Cert.NormBwdChainRefIdeal.nD Cert.NormBwdChainRefIdeal.τ).loc Cert.NormBwdChainRefIdeal.main_v37) = v1 c
          ∧ r.2.mem ((c.tc : Thread Cert.NormBwdChainRefIdeal.nD Cert.NormBwdChainRefIdeal.τ).loc Cert.NormBwdChainRefIdeal.main_v74) = v2 c
          ∧ r.2.mem ((c.tc : Thread Cert.NormBwdChainRefIdeal.nD Cert.NormBwdChainRefIdeal.τ).loc Cert.NormBwdChainRefIdeal.main_v75) = v3 c
          ∧ r.2.mem ((c.tc : Thread Cert.NormBwdChainRefIdeal.nD Cert.NormBwdChainRefIdeal.τ).loc Cert.NormBwdChainRefIdeal.main_arg0) = m' ((c.tc : Thread Cert.NormBwdChainRefIdeal.nD Cert.NormBwdChainRefIdeal.τ).loc Cert.NormBwdChainRefIdeal.main_arg0)
          ∧ r.2.mem ((c.tc : Thread Cert.NormBwdChainRefIdeal.nD Cert.NormBwdChainRefIdeal.τ).loc Cert.NormBwdChainRefIdeal.main_arg1) = m' ((c.tc : Thread Cert.NormBwdChainRefIdeal.nD Cert.NormBwdChainRefIdeal.τ).loc Cert.NormBwdChainRefIdeal.main_arg1)
          ∧ r.2.mem ((c.tc : Thread Cert.NormBwdChainRefIdeal.nD Cert.NormBwdChainRefIdeal.τ).loc Cert.NormBwdChainRefIdeal.main_arg2) = m' ((c.tc : Thread Cert.NormBwdChainRefIdeal.nD Cert.NormBwdChainRefIdeal.τ).loc Cert.NormBwdChainRefIdeal.main_arg2)
          ∧ r.2.mem ((c.tc : Thread Cert.NormBwdChainRefIdeal.nD Cert.NormBwdChainRefIdeal.τ).loc Cert.NormBwdChainRefIdeal.main_arg3) = m' ((c.tc : Thread Cert.NormBwdChainRefIdeal.nD Cert.NormBwdChainRefIdeal.τ).loc Cert.NormBwdChainRefIdeal.main_arg3)
          ∧ r.2.mem ((c.tc : Thread Cert.NormBwdChainRefIdeal.nD Cert.NormBwdChainRefIdeal.τ).loc Cert.NormBwdChainRefIdeal.main_arg4) = m' ((c.tc : Thread Cert.NormBwdChainRefIdeal.nD Cert.NormBwdChainRefIdeal.τ).loc Cert.NormBwdChainRefIdeal.main_arg4)
          ∧ r.2.mem ((c.tc : Thread Cert.NormBwdChainRefIdeal.nD Cert.NormBwdChainRefIdeal.τ).loc Cert.NormBwdChainRefIdeal.main_arg5) = m' ((c.tc : Thread Cert.NormBwdChainRefIdeal.nD Cert.NormBwdChainRefIdeal.τ).loc Cert.NormBwdChainRefIdeal.main_arg5))

def preserves_NormBwdHalf_NormBwdHalfIdeal : Prop :=
  True

def algebraic_NormBwdHalfIdeal_NormBwdHalfRefIdeal [hNormBwdHalfIdeal : Cert.NormBwdHalfIdeal.Facts] [hNormBwdHalfRefIdeal : Cert.NormBwdHalfRefIdeal.Facts] : Prop :=
  ∀ (m : (ℓ : Loc Cert.NormBwdHalfIdeal.nD Cert.NormBwdHalfIdeal.τ Cert.NormBwdHalfIdeal.sig) → Buf (Elt Ideal) ℓ) (g : Dev Cert.NormBwdHalfIdeal.nD → PrngReg)
    (m' : (ℓ : Loc Cert.NormBwdHalfRefIdeal.nD Cert.NormBwdHalfRefIdeal.τ Cert.NormBwdHalfRefIdeal.sig) → Buf (Elt Ideal) ℓ) (g' : Dev Cert.NormBwdHalfRefIdeal.nD → PrngReg), Pre_NormBwdHalfIdeal m →
    (∀ c : Dev Cert.NormBwdHalfIdeal.nD,
      m' ((c.tc : Thread Cert.NormBwdHalfRefIdeal.nD Cert.NormBwdHalfRefIdeal.τ).loc Cert.NormBwdHalfRefIdeal.main_arg0) = m ((c.tc : Thread Cert.NormBwdHalfIdeal.nD Cert.NormBwdHalfIdeal.τ).loc Cert.NormBwdHalfIdeal.main_arg0)
      ∧ m' ((c.tc : Thread Cert.NormBwdHalfRefIdeal.nD Cert.NormBwdHalfRefIdeal.τ).loc Cert.NormBwdHalfRefIdeal.main_arg1) = m ((c.tc : Thread Cert.NormBwdHalfIdeal.nD Cert.NormBwdHalfIdeal.τ).loc Cert.NormBwdHalfIdeal.main_arg1)
      ∧ m' ((c.tc : Thread Cert.NormBwdHalfRefIdeal.nD Cert.NormBwdHalfRefIdeal.τ).loc Cert.NormBwdHalfRefIdeal.main_arg2) = m ((c.tc : Thread Cert.NormBwdHalfIdeal.nD Cert.NormBwdHalfIdeal.τ).loc Cert.NormBwdHalfIdeal.main_arg2)
      ∧ m' ((c.tc : Thread Cert.NormBwdHalfRefIdeal.nD Cert.NormBwdHalfRefIdeal.τ).loc Cert.NormBwdHalfRefIdeal.main_arg3) = m ((c.tc : Thread Cert.NormBwdHalfIdeal.nD Cert.NormBwdHalfIdeal.τ).loc Cert.NormBwdHalfIdeal.main_arg3)
      ∧ m' ((c.tc : Thread Cert.NormBwdHalfRefIdeal.nD Cert.NormBwdHalfRefIdeal.τ).loc Cert.NormBwdHalfRefIdeal.main_arg4) = m ((c.tc : Thread Cert.NormBwdHalfIdeal.nD Cert.NormBwdHalfIdeal.τ).loc Cert.NormBwdHalfIdeal.main_arg4)
      ∧ m' ((c.tc : Thread Cert.NormBwdHalfRefIdeal.nD Cert.NormBwdHalfRefIdeal.τ).loc Cert.NormBwdHalfRefIdeal.main_arg5) = m ((c.tc : Thread Cert.NormBwdHalfIdeal.nD Cert.NormBwdHalfIdeal.τ).loc Cert.NormBwdHalfIdeal.main_arg5)) →
    ∃ (v0 : (c : Dev Cert.NormBwdHalfIdeal.nD) → Buf (Elt Ideal) ((c.tc : Thread Cert.NormBwdHalfIdeal.nD Cert.NormBwdHalfIdeal.τ).loc Cert.NormBwdHalfIdeal.main_v2_0)) (v1 : (c : Dev Cert.NormBwdHalfIdeal.nD) → Buf (Elt Ideal) ((c.tc : Thread Cert.NormBwdHalfIdeal.nD Cert.NormBwdHalfIdeal.τ).loc Cert.NormBwdHalfIdeal.main_v2_1)) (v2 : (c : Dev Cert.NormBwdHalfIdeal.nD) → Buf (Elt Ideal) ((c.tc : Thread Cert.NormBwdHalfIdeal.nD Cert.NormBwdHalfIdeal.τ).loc Cert.NormBwdHalfIdeal.main_v2_2)) (v3 : (c : Dev Cert.NormBwdHalfIdeal.nD) → Buf (Elt Ideal) ((c.tc : Thread Cert.NormBwdHalfIdeal.nD Cert.NormBwdHalfIdeal.τ).loc Cert.NormBwdHalfIdeal.main_v2_3)),
      θ_run (Cert.NormBwdHalfIdeal.defs (F := Ideal)) (onTc (τ := Cert.NormBwdHalfIdeal.τ) (Cert.NormBwdHalfIdeal.main (F := Ideal))) ⟨m, fun _ => 0, g⟩ (fun r => ∀ c : Dev Cert.NormBwdHalfIdeal.nD,
          r.2.mem ((c.tc : Thread Cert.NormBwdHalfIdeal.nD Cert.NormBwdHalfIdeal.τ).loc Cert.NormBwdHalfIdeal.main_v2_0) = v0 c
          ∧ r.2.mem ((c.tc : Thread Cert.NormBwdHalfIdeal.nD Cert.NormBwdHalfIdeal.τ).loc Cert.NormBwdHalfIdeal.main_v2_1) = v1 c
          ∧ r.2.mem ((c.tc : Thread Cert.NormBwdHalfIdeal.nD Cert.NormBwdHalfIdeal.τ).loc Cert.NormBwdHalfIdeal.main_v2_2) = v2 c
          ∧ r.2.mem ((c.tc : Thread Cert.NormBwdHalfIdeal.nD Cert.NormBwdHalfIdeal.τ).loc Cert.NormBwdHalfIdeal.main_v2_3) = v3 c
          ∧ r.2.mem ((c.tc : Thread Cert.NormBwdHalfIdeal.nD Cert.NormBwdHalfIdeal.τ).loc Cert.NormBwdHalfIdeal.main_arg0) = m ((c.tc : Thread Cert.NormBwdHalfIdeal.nD Cert.NormBwdHalfIdeal.τ).loc Cert.NormBwdHalfIdeal.main_arg0)
          ∧ r.2.mem ((c.tc : Thread Cert.NormBwdHalfIdeal.nD Cert.NormBwdHalfIdeal.τ).loc Cert.NormBwdHalfIdeal.main_arg1) = m ((c.tc : Thread Cert.NormBwdHalfIdeal.nD Cert.NormBwdHalfIdeal.τ).loc Cert.NormBwdHalfIdeal.main_arg1)
          ∧ r.2.mem ((c.tc : Thread Cert.NormBwdHalfIdeal.nD Cert.NormBwdHalfIdeal.τ).loc Cert.NormBwdHalfIdeal.main_arg2) = m ((c.tc : Thread Cert.NormBwdHalfIdeal.nD Cert.NormBwdHalfIdeal.τ).loc Cert.NormBwdHalfIdeal.main_arg2)
          ∧ r.2.mem ((c.tc : Thread Cert.NormBwdHalfIdeal.nD Cert.NormBwdHalfIdeal.τ).loc Cert.NormBwdHalfIdeal.main_arg3) = m ((c.tc : Thread Cert.NormBwdHalfIdeal.nD Cert.NormBwdHalfIdeal.τ).loc Cert.NormBwdHalfIdeal.main_arg3)
          ∧ r.2.mem ((c.tc : Thread Cert.NormBwdHalfIdeal.nD Cert.NormBwdHalfIdeal.τ).loc Cert.NormBwdHalfIdeal.main_arg4) = m ((c.tc : Thread Cert.NormBwdHalfIdeal.nD Cert.NormBwdHalfIdeal.τ).loc Cert.NormBwdHalfIdeal.main_arg4)
          ∧ r.2.mem ((c.tc : Thread Cert.NormBwdHalfIdeal.nD Cert.NormBwdHalfIdeal.τ).loc Cert.NormBwdHalfIdeal.main_arg5) = m ((c.tc : Thread Cert.NormBwdHalfIdeal.nD Cert.NormBwdHalfIdeal.τ).loc Cert.NormBwdHalfIdeal.main_arg5))
      ∧ θ_run (Cert.NormBwdHalfRefIdeal.defs (F := Ideal)) (onTc (τ := Cert.NormBwdHalfRefIdeal.τ) (Cert.NormBwdHalfRefIdeal.main (F := Ideal))) ⟨m', fun _ => 0, g'⟩ (fun r => ∀ c : Dev Cert.NormBwdHalfRefIdeal.nD,
          r.2.mem ((c.tc : Thread Cert.NormBwdHalfRefIdeal.nD Cert.NormBwdHalfRefIdeal.τ).loc Cert.NormBwdHalfRefIdeal.main_v36) = v0 c
          ∧ r.2.mem ((c.tc : Thread Cert.NormBwdHalfRefIdeal.nD Cert.NormBwdHalfRefIdeal.τ).loc Cert.NormBwdHalfRefIdeal.main_v37) = v1 c
          ∧ r.2.mem ((c.tc : Thread Cert.NormBwdHalfRefIdeal.nD Cert.NormBwdHalfRefIdeal.τ).loc Cert.NormBwdHalfRefIdeal.main_v78) = v2 c
          ∧ r.2.mem ((c.tc : Thread Cert.NormBwdHalfRefIdeal.nD Cert.NormBwdHalfRefIdeal.τ).loc Cert.NormBwdHalfRefIdeal.main_v79) = v3 c
          ∧ r.2.mem ((c.tc : Thread Cert.NormBwdHalfRefIdeal.nD Cert.NormBwdHalfRefIdeal.τ).loc Cert.NormBwdHalfRefIdeal.main_arg0) = m' ((c.tc : Thread Cert.NormBwdHalfRefIdeal.nD Cert.NormBwdHalfRefIdeal.τ).loc Cert.NormBwdHalfRefIdeal.main_arg0)
          ∧ r.2.mem ((c.tc : Thread Cert.NormBwdHalfRefIdeal.nD Cert.NormBwdHalfRefIdeal.τ).loc Cert.NormBwdHalfRefIdeal.main_arg1) = m' ((c.tc : Thread Cert.NormBwdHalfRefIdeal.nD Cert.NormBwdHalfRefIdeal.τ).loc Cert.NormBwdHalfRefIdeal.main_arg1)
          ∧ r.2.mem ((c.tc : Thread Cert.NormBwdHalfRefIdeal.nD Cert.NormBwdHalfRefIdeal.τ).loc Cert.NormBwdHalfRefIdeal.main_arg2) = m' ((c.tc : Thread Cert.NormBwdHalfRefIdeal.nD Cert.NormBwdHalfRefIdeal.τ).loc Cert.NormBwdHalfRefIdeal.main_arg2)
          ∧ r.2.mem ((c.tc : Thread Cert.NormBwdHalfRefIdeal.nD Cert.NormBwdHalfRefIdeal.τ).loc Cert.NormBwdHalfRefIdeal.main_arg3) = m' ((c.tc : Thread Cert.NormBwdHalfRefIdeal.nD Cert.NormBwdHalfRefIdeal.τ).loc Cert.NormBwdHalfRefIdeal.main_arg3)
          ∧ r.2.mem ((c.tc : Thread Cert.NormBwdHalfRefIdeal.nD Cert.NormBwdHalfRefIdeal.τ).loc Cert.NormBwdHalfRefIdeal.main_arg4) = m' ((c.tc : Thread Cert.NormBwdHalfRefIdeal.nD Cert.NormBwdHalfRefIdeal.τ).loc Cert.NormBwdHalfRefIdeal.main_arg4)
          ∧ r.2.mem ((c.tc : Thread Cert.NormBwdHalfRefIdeal.nD Cert.NormBwdHalfRefIdeal.τ).loc Cert.NormBwdHalfRefIdeal.main_arg5) = m' ((c.tc : Thread Cert.NormBwdHalfRefIdeal.nD Cert.NormBwdHalfRefIdeal.τ).loc Cert.NormBwdHalfRefIdeal.main_arg5))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_ResNorm_ResNormIdeal : Prop :=
  True

def algebraic_ResNormIdeal_ResNormRefIdeal [hResNormIdeal : Cert.ResNormIdeal.Facts] [hResNormRefIdeal : Cert.ResNormRefIdeal.Facts] : Prop :=
  ∀ (m : (ℓ : Loc Cert.ResNormIdeal.nD Cert.ResNormIdeal.τ Cert.ResNormIdeal.sig) → Buf (Elt Ideal) ℓ) (g : Dev Cert.ResNormIdeal.nD → PrngReg)
    (m' : (ℓ : Loc Cert.ResNormRefIdeal.nD Cert.ResNormRefIdeal.τ Cert.ResNormRefIdeal.sig) → Buf (Elt Ideal) ℓ) (g' : Dev Cert.ResNormRefIdeal.nD → PrngReg), Pre_ResNormIdeal m →
    (∀ c : Dev Cert.ResNormIdeal.nD,
      m' ((c.tc : Thread Cert.ResNormRefIdeal.nD Cert.ResNormRefIdeal.τ).loc Cert.ResNormRefIdeal.main_arg0) = m ((c.tc : Thread Cert.ResNormIdeal.nD Cert.ResNormIdeal.τ).loc Cert.ResNormIdeal.main_arg0)
      ∧ m' ((c.tc : Thread Cert.ResNormRefIdeal.nD Cert.ResNormRefIdeal.τ).loc Cert.ResNormRefIdeal.main_arg1) = m ((c.tc : Thread Cert.ResNormIdeal.nD Cert.ResNormIdeal.τ).loc Cert.ResNormIdeal.main_arg1)
      ∧ m' ((c.tc : Thread Cert.ResNormRefIdeal.nD Cert.ResNormRefIdeal.τ).loc Cert.ResNormRefIdeal.main_arg2) = m ((c.tc : Thread Cert.ResNormIdeal.nD Cert.ResNormIdeal.τ).loc Cert.ResNormIdeal.main_arg2)
      ∧ m' ((c.tc : Thread Cert.ResNormRefIdeal.nD Cert.ResNormRefIdeal.τ).loc Cert.ResNormRefIdeal.main_arg3) = m ((c.tc : Thread Cert.ResNormIdeal.nD Cert.ResNormIdeal.τ).loc Cert.ResNormIdeal.main_arg3)) →
    ∃ (v0 : (c : Dev Cert.ResNormIdeal.nD) → Buf (Elt Ideal) ((c.tc : Thread Cert.ResNormIdeal.nD Cert.ResNormIdeal.τ).loc Cert.ResNormIdeal.main_v2_0)) (v1 : (c : Dev Cert.ResNormIdeal.nD) → Buf (Elt Ideal) ((c.tc : Thread Cert.ResNormIdeal.nD Cert.ResNormIdeal.τ).loc Cert.ResNormIdeal.main_v2_1)),
      θ_run (Cert.ResNormIdeal.defs (F := Ideal)) (onTc (τ := Cert.ResNormIdeal.τ) (Cert.ResNormIdeal.main (F := Ideal))) ⟨m, fun _ => 0, g⟩ (fun r => ∀ c : Dev Cert.ResNormIdeal.nD,
          r.2.mem ((c.tc : Thread Cert.ResNormIdeal.nD Cert.ResNormIdeal.τ).loc Cert.ResNormIdeal.main_v2_0) = v0 c
          ∧ r.2.mem ((c.tc : Thread Cert.ResNormIdeal.nD Cert.ResNormIdeal.τ).loc Cert.ResNormIdeal.main_v2_1) = v1 c
          ∧ r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
          ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
          ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2)
          ∧ r.2.mem ((c.tc : Thread Cert.ResNormIdeal.nD Cert.ResNormIdeal.τ).loc Cert.ResNormIdeal.main_arg3) = m ((c.tc : Thread Cert.ResNormIdeal.nD Cert.ResNormIdeal.τ).loc Cert.ResNormIdeal.main_arg3))
      ∧ θ_run (Cert.ResNormRefIdeal.defs (F := Ideal)) (onTc (τ := Cert.ResNormRefIdeal.τ) (Cert.ResNormRefIdeal.main (F := Ideal))) ⟨m', fun _ => 0, g'⟩ (fun r => ∀ c : Dev Cert.ResNormRefIdeal.nD,
          r.2.mem ((c.tc : Thread Cert.ResNormRefIdeal.nD Cert.ResNormRefIdeal.τ).loc Cert.ResNormRefIdeal.main_v15) = v0 c
          ∧ r.2.mem ((c.tc : Thread Cert.ResNormRefIdeal.nD Cert.ResNormRefIdeal.τ).loc Cert.ResNormRefIdeal.main_v29) = v1 c
          ∧ r.2.mem ((c.tc : Thread Cert.ResNormRefIdeal.nD Cert.ResNormRefIdeal.τ).loc Cert.ResNormRefIdeal.main_arg0) = m' ((c.tc : Thread Cert.ResNormRefIdeal.nD Cert.ResNormRefIdeal.τ).loc Cert.ResNormRefIdeal.main_arg0)
          ∧ r.2.mem ((c.tc : Thread Cert.ResNormRefIdeal.nD Cert.ResNormRefIdeal.τ).loc Cert.ResNormRefIdeal.main_arg1) = m' ((c.tc : Thread Cert.ResNormRefIdeal.nD Cert.ResNormRefIdeal.τ).loc Cert.ResNormRefIdeal.main_arg1)
          ∧ r.2.mem ((c.tc : Thread Cert.ResNormRefIdeal.nD Cert.ResNormRefIdeal.τ).loc Cert.ResNormRefIdeal.main_arg2) = m' ((c.tc : Thread Cert.ResNormRefIdeal.nD Cert.ResNormRefIdeal.τ).loc Cert.ResNormRefIdeal.main_arg2)
          ∧ r.2.mem ((c.tc : Thread Cert.ResNormRefIdeal.nD Cert.ResNormRefIdeal.τ).loc Cert.ResNormRefIdeal.main_arg3) = m' ((c.tc : Thread Cert.ResNormRefIdeal.nD Cert.ResNormRefIdeal.τ).loc Cert.ResNormRefIdeal.main_arg3))

def preserves_ResNormMix_ResNormMixIdeal : Prop :=
  True

def algebraic_ResNormMixIdeal_ResNormMixRefIdeal [hResNormMixIdeal : Cert.ResNormMixIdeal.Facts] [hResNormMixRefIdeal : Cert.ResNormMixRefIdeal.Facts] : Prop :=
  ∀ (m : (ℓ : Loc Cert.ResNormMixIdeal.nD Cert.ResNormMixIdeal.τ Cert.ResNormMixIdeal.sig) → Buf (Elt Ideal) ℓ) (g : Dev Cert.ResNormMixIdeal.nD → PrngReg)
    (m' : (ℓ : Loc Cert.ResNormMixRefIdeal.nD Cert.ResNormMixRefIdeal.τ Cert.ResNormMixRefIdeal.sig) → Buf (Elt Ideal) ℓ) (g' : Dev Cert.ResNormMixRefIdeal.nD → PrngReg), Pre_ResNormMixIdeal m →
    (∀ c : Dev Cert.ResNormMixIdeal.nD,
      m' ((c.tc : Thread Cert.ResNormMixRefIdeal.nD Cert.ResNormMixRefIdeal.τ).loc Cert.ResNormMixRefIdeal.main_arg0) = m ((c.tc : Thread Cert.ResNormMixIdeal.nD Cert.ResNormMixIdeal.τ).loc Cert.ResNormMixIdeal.main_arg0)
      ∧ m' ((c.tc : Thread Cert.ResNormMixRefIdeal.nD Cert.ResNormMixRefIdeal.τ).loc Cert.ResNormMixRefIdeal.main_arg1) = m ((c.tc : Thread Cert.ResNormMixIdeal.nD Cert.ResNormMixIdeal.τ).loc Cert.ResNormMixIdeal.main_arg1)
      ∧ m' ((c.tc : Thread Cert.ResNormMixRefIdeal.nD Cert.ResNormMixRefIdeal.τ).loc Cert.ResNormMixRefIdeal.main_arg2) = m ((c.tc : Thread Cert.ResNormMixIdeal.nD Cert.ResNormMixIdeal.τ).loc Cert.ResNormMixIdeal.main_arg2)
      ∧ m' ((c.tc : Thread Cert.ResNormMixRefIdeal.nD Cert.ResNormMixRefIdeal.τ).loc Cert.ResNormMixRefIdeal.main_arg3) = m ((c.tc : Thread Cert.ResNormMixIdeal.nD Cert.ResNormMixIdeal.τ).loc Cert.ResNormMixIdeal.main_arg3)) →
    ∃ (v0 : (c : Dev Cert.ResNormMixIdeal.nD) → Buf (Elt Ideal) ((c.tc : Thread Cert.ResNormMixIdeal.nD Cert.ResNormMixIdeal.τ).loc Cert.ResNormMixIdeal.main_v2_0)) (v1 : (c : Dev Cert.ResNormMixIdeal.nD) → Buf (Elt Ideal) ((c.tc : Thread Cert.ResNormMixIdeal.nD Cert.ResNormMixIdeal.τ).loc Cert.ResNormMixIdeal.main_v2_1)),
      θ_run (Cert.ResNormMixIdeal.defs (F := Ideal)) (onTc (τ := Cert.ResNormMixIdeal.τ) (Cert.ResNormMixIdeal.main (F := Ideal))) ⟨m, fun _ => 0, g⟩ (fun r => ∀ c : Dev Cert.ResNormMixIdeal.nD,
          r.2.mem ((c.tc : Thread Cert.ResNormMixIdeal.nD Cert.ResNormMixIdeal.τ).loc Cert.ResNormMixIdeal.main_v2_0) = v0 c
          ∧ r.2.mem ((c.tc : Thread Cert.ResNormMixIdeal.nD Cert.ResNormMixIdeal.τ).loc Cert.ResNormMixIdeal.main_v2_1) = v1 c
          ∧ r.2.mem ((c.tc : Thread Cert.ResNormMixIdeal.nD Cert.ResNormMixIdeal.τ).loc Cert.ResNormMixIdeal.main_arg0) = m ((c.tc : Thread Cert.ResNormMixIdeal.nD Cert.ResNormMixIdeal.τ).loc Cert.ResNormMixIdeal.main_arg0)
          ∧ r.2.mem ((c.tc : Thread Cert.ResNormMixIdeal.nD Cert.ResNormMixIdeal.τ).loc Cert.ResNormMixIdeal.main_arg1) = m ((c.tc : Thread Cert.ResNormMixIdeal.nD Cert.ResNormMixIdeal.τ).loc Cert.ResNormMixIdeal.main_arg1)
          ∧ r.2.mem ((c.tc : Thread Cert.ResNormMixIdeal.nD Cert.ResNormMixIdeal.τ).loc Cert.ResNormMixIdeal.main_arg2) = m ((c.tc : Thread Cert.ResNormMixIdeal.nD Cert.ResNormMixIdeal.τ).loc Cert.ResNormMixIdeal.main_arg2)
          ∧ r.2.mem ((c.tc : Thread Cert.ResNormMixIdeal.nD Cert.ResNormMixIdeal.τ).loc Cert.ResNormMixIdeal.main_arg3) = m ((c.tc : Thread Cert.ResNormMixIdeal.nD Cert.ResNormMixIdeal.τ).loc Cert.ResNormMixIdeal.main_arg3))
      ∧ θ_run (Cert.ResNormMixRefIdeal.defs (F := Ideal)) (onTc (τ := Cert.ResNormMixRefIdeal.τ) (Cert.ResNormMixRefIdeal.main (F := Ideal))) ⟨m', fun _ => 0, g'⟩ (fun r => ∀ c : Dev Cert.ResNormMixRefIdeal.nD,
          r.2.mem ((c.tc : Thread Cert.ResNormMixRefIdeal.nD Cert.ResNormMixRefIdeal.τ).loc Cert.ResNormMixRefIdeal.main_v13) = v0 c
          ∧ r.2.mem ((c.tc : Thread Cert.ResNormMixRefIdeal.nD Cert.ResNormMixRefIdeal.τ).loc Cert.ResNormMixRefIdeal.main_v27) = v1 c
          ∧ r.2.mem ((c.tc : Thread Cert.ResNormMixRefIdeal.nD Cert.ResNormMixRefIdeal.τ).loc Cert.ResNormMixRefIdeal.main_arg0) = m' ((c.tc : Thread Cert.ResNormMixRefIdeal.nD Cert.ResNormMixRefIdeal.τ).loc Cert.ResNormMixRefIdeal.main_arg0)
          ∧ r.2.mem ((c.tc : Thread Cert.ResNormMixRefIdeal.nD Cert.ResNormMixRefIdeal.τ).loc Cert.ResNormMixRefIdeal.main_arg1) = m' ((c.tc : Thread Cert.ResNormMixRefIdeal.nD Cert.ResNormMixRefIdeal.τ).loc Cert.ResNormMixRefIdeal.main_arg1)
          ∧ r.2.mem ((c.tc : Thread Cert.ResNormMixRefIdeal.nD Cert.ResNormMixRefIdeal.τ).loc Cert.ResNormMixRefIdeal.main_arg2) = m' ((c.tc : Thread Cert.ResNormMixRefIdeal.nD Cert.ResNormMixRefIdeal.τ).loc Cert.ResNormMixRefIdeal.main_arg2)
          ∧ r.2.mem ((c.tc : Thread Cert.ResNormMixRefIdeal.nD Cert.ResNormMixRefIdeal.τ).loc Cert.ResNormMixRefIdeal.main_arg3) = m' ((c.tc : Thread Cert.ResNormMixRefIdeal.nD Cert.ResNormMixRefIdeal.τ).loc Cert.ResNormMixRefIdeal.main_arg3))

def preserves_ResNormLast_ResNormLastIdeal : Prop :=
  True

def algebraic_ResNormLastIdeal_ResNormLastRefIdeal [hResNormLastIdeal : Cert.ResNormLastIdeal.Facts] [hResNormLastRefIdeal : Cert.ResNormLastRefIdeal.Facts] : Prop :=
  ∀ (m : (ℓ : Loc Cert.ResNormLastIdeal.nD Cert.ResNormLastIdeal.τ Cert.ResNormLastIdeal.sig) → Buf (Elt Ideal) ℓ) (g : Dev Cert.ResNormLastIdeal.nD → PrngReg)
    (m' : (ℓ : Loc Cert.ResNormLastRefIdeal.nD Cert.ResNormLastRefIdeal.τ Cert.ResNormLastRefIdeal.sig) → Buf (Elt Ideal) ℓ) (g' : Dev Cert.ResNormLastRefIdeal.nD → PrngReg), Pre_ResNormLastIdeal m →
    (∀ c : Dev Cert.ResNormLastIdeal.nD,
      m' ((c.tc : Thread Cert.ResNormLastRefIdeal.nD Cert.ResNormLastRefIdeal.τ).loc Cert.ResNormLastRefIdeal.main_arg0) = m ((c.tc : Thread Cert.ResNormLastIdeal.nD Cert.ResNormLastIdeal.τ).loc Cert.ResNormLastIdeal.main_arg0)
      ∧ m' ((c.tc : Thread Cert.ResNormLastRefIdeal.nD Cert.ResNormLastRefIdeal.τ).loc Cert.ResNormLastRefIdeal.main_arg1) = m ((c.tc : Thread Cert.ResNormLastIdeal.nD Cert.ResNormLastIdeal.τ).loc Cert.ResNormLastIdeal.main_arg1)
      ∧ m' ((c.tc : Thread Cert.ResNormLastRefIdeal.nD Cert.ResNormLastRefIdeal.τ).loc Cert.ResNormLastRefIdeal.main_arg2) = m ((c.tc : Thread Cert.ResNormLastIdeal.nD Cert.ResNormLastIdeal.τ).loc Cert.ResNormLastIdeal.main_arg2)) →
    ∃ (v0 : (c : Dev Cert.ResNormLastIdeal.nD) → Buf (Elt Ideal) ((c.tc : Thread Cert.ResNormLastIdeal.nD Cert.ResNormLastIdeal.τ).loc Cert.ResNormLastIdeal.main_v1)),
      θ_run (Cert.ResNormLastIdeal.defs (F := Ideal)) (onTc (τ := Cert.ResNormLastIdeal.τ) (Cert.ResNormLastIdeal.main (F := Ideal))) ⟨m, fun _ => 0, g⟩ (fun r => ∀ c : Dev Cert.ResNormLastIdeal.nD,
          r.2.mem ((c.tc : Thread Cert.ResNormLastIdeal.nD Cert.ResNormLastIdeal.τ).loc Cert.ResNormLastIdeal.main_v1) = v0 c
          ∧ r.2.mem ((c.tc : Thread Cert.ResNormLastIdeal.nD Cert.ResNormLastIdeal.τ).loc Cert.ResNormLastIdeal.main_arg0) = m ((c.tc : Thread Cert.ResNormLastIdeal.nD Cert.ResNormLastIdeal.τ).loc Cert.ResNormLastIdeal.main_arg0)
          ∧ r.2.mem ((c.tc : Thread Cert.ResNormLastIdeal.nD Cert.ResNormLastIdeal.τ).loc Cert.ResNormLastIdeal.main_arg1) = m ((c.tc : Thread Cert.ResNormLastIdeal.nD Cert.ResNormLastIdeal.τ).loc Cert.ResNormLastIdeal.main_arg1)
          ∧ r.2.mem ((c.tc : Thread Cert.ResNormLastIdeal.nD Cert.ResNormLastIdeal.τ).loc Cert.ResNormLastIdeal.main_arg2) = m ((c.tc : Thread Cert.ResNormLastIdeal.nD Cert.ResNormLastIdeal.τ).loc Cert.ResNormLastIdeal.main_arg2))
      ∧ θ_run (Cert.ResNormLastRefIdeal.defs (F := Ideal)) (onTc (τ := Cert.ResNormLastRefIdeal.τ) (Cert.ResNormLastRefIdeal.main (F := Ideal))) ⟨m', fun _ => 0, g'⟩ (fun r => ∀ c : Dev Cert.ResNormLastRefIdeal.nD,
          r.2.mem ((c.tc : Thread Cert.ResNormLastRefIdeal.nD Cert.ResNormLastRefIdeal.τ).loc Cert.ResNormLastRefIdeal.main_v15) = v0 c
          ∧ r.2.mem ((c.tc : Thread Cert.ResNormLastRefIdeal.nD Cert.ResNormLastRefIdeal.τ).loc Cert.ResNormLastRefIdeal.main_arg0) = m' ((c.tc : Thread Cert.ResNormLastRefIdeal.nD Cert.ResNormLastRefIdeal.τ).loc Cert.ResNormLastRefIdeal.main_arg0)
          ∧ r.2.mem ((c.tc : Thread Cert.ResNormLastRefIdeal.nD Cert.ResNormLastRefIdeal.τ).loc Cert.ResNormLastRefIdeal.main_arg1) = m' ((c.tc : Thread Cert.ResNormLastRefIdeal.nD Cert.ResNormLastRefIdeal.τ).loc Cert.ResNormLastRefIdeal.main_arg1)
          ∧ r.2.mem ((c.tc : Thread Cert.ResNormLastRefIdeal.nD Cert.ResNormLastRefIdeal.τ).loc Cert.ResNormLastRefIdeal.main_arg2) = m' ((c.tc : Thread Cert.ResNormLastRefIdeal.nD Cert.ResNormLastRefIdeal.τ).loc Cert.ResNormLastRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v16) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)
      ∧ m' ((c.tc : Thread Cert.AdamUpRefIdeal.nD Cert.AdamUpRefIdeal.τ).loc Cert.AdamUpRefIdeal.main_arg5) = m ((c.tc : Thread Cert.AdamUpIdeal.nD Cert.AdamUpIdeal.τ).loc Cert.AdamUpIdeal.main_arg5)
      ∧ m' ((c.tc : Thread Cert.AdamUpRefIdeal.nD Cert.AdamUpRefIdeal.τ).loc Cert.AdamUpRefIdeal.main_arg6) = m ((c.tc : Thread Cert.AdamUpIdeal.nD Cert.AdamUpIdeal.τ).loc Cert.AdamUpIdeal.main_arg6)
      ∧ m' ((c.tc : Thread Cert.AdamUpRefIdeal.nD Cert.AdamUpRefIdeal.τ).loc Cert.AdamUpRefIdeal.main_arg7) = m ((c.tc : Thread Cert.AdamUpIdeal.nD Cert.AdamUpIdeal.τ).loc Cert.AdamUpIdeal.main_arg7)
      ∧ m' ((c.tc : Thread Cert.AdamUpRefIdeal.nD Cert.AdamUpRefIdeal.τ).loc Cert.AdamUpRefIdeal.main_arg8) = m ((c.tc : Thread Cert.AdamUpIdeal.nD Cert.AdamUpIdeal.τ).loc Cert.AdamUpIdeal.main_arg8)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
          ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6)
          ∧ r.2.mem ((c.tc : Thread Cert.AdamUpIdeal.nD Cert.AdamUpIdeal.τ).loc Cert.AdamUpIdeal.main_arg7) = m ((c.tc : Thread Cert.AdamUpIdeal.nD Cert.AdamUpIdeal.τ).loc Cert.AdamUpIdeal.main_arg7)
          ∧ r.2.mem ((c.tc : Thread Cert.AdamUpIdeal.nD Cert.AdamUpIdeal.τ).loc Cert.AdamUpIdeal.main_arg8) = m ((c.tc : Thread Cert.AdamUpIdeal.nD Cert.AdamUpIdeal.τ).loc Cert.AdamUpIdeal.main_arg8))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v35) = v0 c
          ∧ r.2.mem ((c.tc : Thread Cert.AdamUpRefIdeal.nD Cert.AdamUpRefIdeal.τ).loc Cert.AdamUpRefIdeal.main_v38) = v1 c
          ∧ r.2.mem ((c.tc : Thread Cert.AdamUpRefIdeal.nD Cert.AdamUpRefIdeal.τ).loc Cert.AdamUpRefIdeal.main_v41) = v2 c
          ∧ r.2.mem ((c.tc : Thread Cert.AdamUpRefIdeal.nD Cert.AdamUpRefIdeal.τ).loc Cert.AdamUpRefIdeal.main_v44) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4)
          ∧ r.2.mem ((c.tc : Thread Cert.AdamUpRefIdeal.nD Cert.AdamUpRefIdeal.τ).loc Cert.AdamUpRefIdeal.main_arg5) = m' ((c.tc : Thread Cert.AdamUpRefIdeal.nD Cert.AdamUpRefIdeal.τ).loc Cert.AdamUpRefIdeal.main_arg5)
          ∧ r.2.mem ((c.tc : Thread Cert.AdamUpRefIdeal.nD Cert.AdamUpRefIdeal.τ).loc Cert.AdamUpRefIdeal.main_arg6) = m' ((c.tc : Thread Cert.AdamUpRefIdeal.nD Cert.AdamUpRefIdeal.τ).loc Cert.AdamUpRefIdeal.main_arg6)
          ∧ r.2.mem ((c.tc : Thread Cert.AdamUpRefIdeal.nD Cert.AdamUpRefIdeal.τ).loc Cert.AdamUpRefIdeal.main_arg7) = m' ((c.tc : Thread Cert.AdamUpRefIdeal.nD Cert.AdamUpRefIdeal.τ).loc Cert.AdamUpRefIdeal.main_arg7)
          ∧ r.2.mem ((c.tc : Thread Cert.AdamUpRefIdeal.nD Cert.AdamUpRefIdeal.τ).loc Cert.AdamUpRefIdeal.main_arg8) = m' ((c.tc : Thread Cert.AdamUpRefIdeal.nD Cert.AdamUpRefIdeal.τ).loc Cert.AdamUpRefIdeal.main_arg8))

def preserves_PoolFwd_PoolFwdIdeal : Prop :=
  True

def algebraic_PoolFwdIdeal_PoolFwdRefIdeal_pre_finite_columns [hPoolFwdIdeal : Cert.PoolFwdIdeal.Facts] [hPoolFwdRefIdeal : Cert.PoolFwdRefIdeal.Facts] [hPre_finite_columns : Cert.Pre_finite_columns.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_finite_columns m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)) →
    ∃ (v0 : (c : Dev Cert.PoolFwdIdeal.nD) → Buf (Elt Ideal) ((c.tc : Thread Cert.PoolFwdIdeal.nD Cert.PoolFwdIdeal.τ).loc Cert.PoolFwdIdeal.main_v1_0)) (v1 : (c : Dev Cert.PoolFwdIdeal.nD) → Buf (Elt Ideal) ((c.tc : Thread Cert.PoolFwdIdeal.nD Cert.PoolFwdIdeal.τ).loc Cert.PoolFwdIdeal.main_v1_1)) (v2 : (c : Dev Cert.PoolFwdIdeal.nD) → Buf (Elt Ideal) ((c.tc : Thread Cert.PoolFwdIdeal.nD Cert.PoolFwdIdeal.τ).loc Cert.PoolFwdIdeal.main_v1_2)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v1_0) = v0 c
          ∧ r.2.mem ((c.tc : Thread Cert.PoolFwdIdeal.nD Cert.PoolFwdIdeal.τ).loc Cert.PoolFwdIdeal.main_v1_1) = v1 c
          ∧ r.2.mem ((c.tc : Thread Cert.PoolFwdIdeal.nD Cert.PoolFwdIdeal.τ).loc Cert.PoolFwdIdeal.main_v1_2) = v2 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v61) = v0 c
          ∧ r.2.mem ((c.tc : Thread Cert.PoolFwdRefIdeal.nD Cert.PoolFwdRefIdeal.τ).loc Cert.PoolFwdRefIdeal.main_v62) = v1 c
          ∧ r.2.mem ((c.tc : Thread Cert.PoolFwdRefIdeal.nD Cert.PoolFwdRefIdeal.τ).loc Cert.PoolFwdRefIdeal.main_v66) = v2 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2))

def preserves_PoolBwd_PoolBwdIdeal : Prop :=
  True

def algebraic_PoolBwdIdeal_PoolBwdRefIdeal_pre_finite_pool_gradient [hPoolBwdIdeal : Cert.PoolBwdIdeal.Facts] [hPoolBwdRefIdeal : Cert.PoolBwdRefIdeal.Facts] [hPre_finite_pool_gradient : Cert.Pre_finite_pool_gradient.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal_finite_pool_gradient m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)
      ∧ m' ((c.tc : Thread Cert.PoolBwdRefIdeal.nD Cert.PoolBwdRefIdeal.τ).loc Cert.PoolBwdRefIdeal.main_arg3) = m ((c.tc : Thread Cert.PoolBwdIdeal.nD Cert.PoolBwdIdeal.τ).loc Cert.PoolBwdIdeal.main_arg3)
      ∧ m' ((c.tc : Thread Cert.PoolBwdRefIdeal.nD Cert.PoolBwdRefIdeal.τ).loc Cert.PoolBwdRefIdeal.main_arg4) = m ((c.tc : Thread Cert.PoolBwdIdeal.nD Cert.PoolBwdIdeal.τ).loc Cert.PoolBwdIdeal.main_arg4)) →
    ∃ (v0 : (c : Dev Cert.PoolBwdIdeal.nD) → Buf (Elt Ideal) ((c.tc : Thread Cert.PoolBwdIdeal.nD Cert.PoolBwdIdeal.τ).loc Cert.PoolBwdIdeal.main_v1_0)) (v1 : (c : Dev Cert.PoolBwdIdeal.nD) → Buf (Elt Ideal) ((c.tc : Thread Cert.PoolBwdIdeal.nD Cert.PoolBwdIdeal.τ).loc Cert.PoolBwdIdeal.main_v1_1)) (v2 : (c : Dev Cert.PoolBwdIdeal.nD) → Buf (Elt Ideal) ((c.tc : Thread Cert.PoolBwdIdeal.nD Cert.PoolBwdIdeal.τ).loc Cert.PoolBwdIdeal.main_v1_2)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v1_0) = v0 c
          ∧ r.2.mem ((c.tc : Thread Cert.PoolBwdIdeal.nD Cert.PoolBwdIdeal.τ).loc Cert.PoolBwdIdeal.main_v1_1) = v1 c
          ∧ r.2.mem ((c.tc : Thread Cert.PoolBwdIdeal.nD Cert.PoolBwdIdeal.τ).loc Cert.PoolBwdIdeal.main_v1_2) = v2 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
          ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v129) = v0 c
          ∧ r.2.mem ((c.tc : Thread Cert.PoolBwdRefIdeal.nD Cert.PoolBwdRefIdeal.τ).loc Cert.PoolBwdRefIdeal.main_v21) = v1 c
          ∧ r.2.mem ((c.tc : Thread Cert.PoolBwdRefIdeal.nD Cert.PoolBwdRefIdeal.τ).loc Cert.PoolBwdRefIdeal.main_v130) = v2 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2)
          ∧ r.2.mem ((c.tc : Thread Cert.PoolBwdRefIdeal.nD Cert.PoolBwdRefIdeal.τ).loc Cert.PoolBwdRefIdeal.main_arg3) = m' ((c.tc : Thread Cert.PoolBwdRefIdeal.nD Cert.PoolBwdRefIdeal.τ).loc Cert.PoolBwdRefIdeal.main_arg3)
          ∧ r.2.mem ((c.tc : Thread Cert.PoolBwdRefIdeal.nD Cert.PoolBwdRefIdeal.τ).loc Cert.PoolBwdRefIdeal.main_arg4) = m' ((c.tc : Thread Cert.PoolBwdRefIdeal.nD Cert.PoolBwdRefIdeal.τ).loc Cert.PoolBwdRefIdeal.main_arg4))

def preserves_SguFwd_SguFwdIdeal : Prop :=
  True

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)) →
    ∃ (v0 : (c : Dev Cert.SguFwdIdeal.nD) → Buf (Elt Ideal) ((c.tc : Thread Cert.SguFwdIdeal.nD Cert.SguFwdIdeal.τ).loc Cert.SguFwdIdeal.main_v2)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v2) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v55) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hBranchDx : Cert.BranchDx.Facts) (hBranchDxIdeal : Cert.BranchDxIdeal.Facts) (hBranchDxRefIdeal : Cert.BranchDxRefIdeal.Facts) (hBranchDw : Cert.BranchDw.Facts) (hBranchDwIdeal : Cert.BranchDwIdeal.Facts) (hBranchDwRefIdeal : Cert.BranchDwRefIdeal.Facts) (hDown : Cert.Down.Facts) (hDownIdeal : Cert.DownIdeal.Facts) (hDownRefIdeal : Cert.DownRefIdeal.Facts) (hInValues : Cert.InValues.Facts) (hInValuesIdeal : Cert.InValuesIdeal.Facts) (hInValuesRefIdeal : Cert.InValuesRefIdeal.Facts) (hInGates : Cert.InGates.Facts) (hInGatesIdeal : Cert.InGatesIdeal.Facts) (hInGatesRefIdeal : Cert.InGatesRefIdeal.Facts) (hBranch : Cert.Branch.Facts) (hBranchIdeal : Cert.BranchIdeal.Facts) (hBranchRefIdeal : Cert.BranchRefIdeal.Facts) (hOut : Cert.Out.Facts) (hOutIdeal : Cert.OutIdeal.Facts) (hOutRefIdeal : Cert.OutRefIdeal.Facts) (hUp : Cert.Up.Facts) (hUpIdeal : Cert.UpIdeal.Facts) (hUpRefIdeal : Cert.UpRefIdeal.Facts) (hActBwd : Cert.ActBwd.Facts) (hActBwdIdeal : Cert.ActBwdIdeal.Facts) (hActBwdRefIdeal : Cert.ActBwdRefIdeal.Facts) (hGates : Cert.Gates.Facts) (hGatesIdeal : Cert.GatesIdeal.Facts) (hGatesRefIdeal : Cert.GatesRefIdeal.Facts) (hGatesBwd : Cert.GatesBwd.Facts) (hGatesBwdIdeal : Cert.GatesBwdIdeal.Facts) (hGatesBwdRefIdeal : Cert.GatesBwdRefIdeal.Facts) (hLastNormBwd : Cert.LastNormBwd.Facts) (hLastNormBwdIdeal : Cert.LastNormBwdIdeal.Facts) (hLastNormBwdRefIdeal : Cert.LastNormBwdRefIdeal.Facts) (hNormBwd : Cert.NormBwd.Facts) (hNormBwdIdeal : Cert.NormBwdIdeal.Facts) (hNormBwdRefIdeal : Cert.NormBwdRefIdeal.Facts) (hNormBwdChain : Cert.NormBwdChain.Facts) (hNormBwdChainIdeal : Cert.NormBwdChainIdeal.Facts) (hNormBwdChainRefIdeal : Cert.NormBwdChainRefIdeal.Facts) (hNormBwdHalf : Cert.NormBwdHalf.Facts) (hNormBwdHalfIdeal : Cert.NormBwdHalfIdeal.Facts) (hNormBwdHalfRefIdeal : Cert.NormBwdHalfRefIdeal.Facts) (hNorm : Cert.Norm.Facts) (hNormIdeal : Cert.NormIdeal.Facts) (hNormRefIdeal : Cert.NormRefIdeal.Facts) (hResNorm : Cert.ResNorm.Facts) (hResNormIdeal : Cert.ResNormIdeal.Facts) (hResNormRefIdeal : Cert.ResNormRefIdeal.Facts) (hResNormMix : Cert.ResNormMix.Facts) (hResNormMixIdeal : Cert.ResNormMixIdeal.Facts) (hResNormMixRefIdeal : Cert.ResNormMixRefIdeal.Facts) (hResNormLast : Cert.ResNormLast.Facts) (hResNormLastIdeal : Cert.ResNormLastIdeal.Facts) (hResNormLastRefIdeal : Cert.ResNormLastRefIdeal.Facts) (hLoss : Cert.Loss.Facts) (hLossIdeal : Cert.LossIdeal.Facts) (hLossRefIdeal : Cert.LossRefIdeal.Facts) (hAdam : Cert.Adam.Facts) (hAdamIdeal : Cert.AdamIdeal.Facts) (hAdamRefIdeal : Cert.AdamRefIdeal.Facts) (hAdamUp : Cert.AdamUp.Facts) (hAdamUpIdeal : Cert.AdamUpIdeal.Facts) (hAdamUpRefIdeal : Cert.AdamUpRefIdeal.Facts) (hPoolFwd : Cert.PoolFwd.Facts) (hPoolFwdIdeal : Cert.PoolFwdIdeal.Facts) (hPoolFwdRefIdeal : Cert.PoolFwdRefIdeal.Facts) (hPoolBwd : Cert.PoolBwd.Facts) (hPoolBwdIdeal : Cert.PoolBwdIdeal.Facts) (hPoolBwdRefIdeal : Cert.PoolBwdRefIdeal.Facts) (hSguFwd : Cert.SguFwd.Facts) (hSguFwdIdeal : Cert.SguFwdIdeal.Facts) (hSguFwdRefIdeal : Cert.SguFwdRefIdeal.Facts) (hPre_finite : Cert.Pre_finite.Facts) (hPre_finite_gradient : Cert.Pre_finite_gradient.Facts) (hPre_finite_columns : Cert.Pre_finite_columns.Facts) (hPre_finite_pool_gradient : Cert.Pre_finite_pool_gradient.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_BranchDx (hBranchDx := hBranchDx)
    ∧ quiescent_BranchDxIdeal (hBranchDxIdeal := hBranchDxIdeal)
    ∧ quiescent_BranchDxRefIdeal (hBranchDxRefIdeal := hBranchDxRefIdeal)
    ∧ quiescent_BranchDw (hBranchDw := hBranchDw)
    ∧ quiescent_BranchDwIdeal (hBranchDwIdeal := hBranchDwIdeal)
    ∧ quiescent_BranchDwRefIdeal (hBranchDwRefIdeal := hBranchDwRefIdeal)
    ∧ quiescent_Down (hDown := hDown)
    ∧ quiescent_DownIdeal (hDownIdeal := hDownIdeal)
    ∧ quiescent_DownRefIdeal (hDownRefIdeal := hDownRefIdeal)
    ∧ quiescent_InValues (hInValues := hInValues)
    ∧ quiescent_InValuesIdeal (hInValuesIdeal := hInValuesIdeal)
    ∧ quiescent_InValuesRefIdeal (hInValuesRefIdeal := hInValuesRefIdeal)
    ∧ quiescent_InGates (hInGates := hInGates)
    ∧ quiescent_InGatesIdeal (hInGatesIdeal := hInGatesIdeal)
    ∧ quiescent_InGatesRefIdeal (hInGatesRefIdeal := hInGatesRefIdeal)
    ∧ quiescent_Branch (hBranch := hBranch)
    ∧ quiescent_BranchIdeal (hBranchIdeal := hBranchIdeal)
    ∧ quiescent_BranchRefIdeal (hBranchRefIdeal := hBranchRefIdeal)
    ∧ quiescent_Out (hOut := hOut)
    ∧ quiescent_OutIdeal (hOutIdeal := hOutIdeal)
    ∧ quiescent_OutRefIdeal (hOutRefIdeal := hOutRefIdeal)
    ∧ quiescent_Up (hUp := hUp)
    ∧ quiescent_UpIdeal (hUpIdeal := hUpIdeal)
    ∧ quiescent_UpRefIdeal (hUpRefIdeal := hUpRefIdeal)
    ∧ quiescent_ActBwd (hActBwd := hActBwd)
    ∧ quiescent_ActBwdIdeal (hActBwdIdeal := hActBwdIdeal)
    ∧ quiescent_ActBwdIdeal_pre_finite_gradient (hActBwdIdeal := hActBwdIdeal) (hPre_finite_gradient := hPre_finite_gradient)
    ∧ quiescent_ActBwdRefIdeal (hActBwdRefIdeal := hActBwdRefIdeal)
    ∧ quiescent_ActBwdRefIdeal_pre_finite_gradient (hActBwdRefIdeal := hActBwdRefIdeal) (hPre_finite_gradient := hPre_finite_gradient)
    ∧ quiescent_Gates (hGates := hGates)
    ∧ quiescent_GatesIdeal (hGatesIdeal := hGatesIdeal)
    ∧ quiescent_GatesRefIdeal (hGatesRefIdeal := hGatesRefIdeal)
    ∧ quiescent_GatesBwd (hGatesBwd := hGatesBwd)
    ∧ quiescent_GatesBwdIdeal (hGatesBwdIdeal := hGatesBwdIdeal)
    ∧ quiescent_GatesBwdRefIdeal (hGatesBwdRefIdeal := hGatesBwdRefIdeal)
    ∧ quiescent_LastNormBwd (hLastNormBwd := hLastNormBwd)
    ∧ quiescent_LastNormBwdIdeal (hLastNormBwdIdeal := hLastNormBwdIdeal)
    ∧ quiescent_LastNormBwdRefIdeal (hLastNormBwdRefIdeal := hLastNormBwdRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_NormBwdChain (hNormBwdChain := hNormBwdChain)
    ∧ quiescent_NormBwdChainIdeal (hNormBwdChainIdeal := hNormBwdChainIdeal)
    ∧ quiescent_NormBwdChainRefIdeal (hNormBwdChainRefIdeal := hNormBwdChainRefIdeal)
    ∧ quiescent_NormBwdHalf (hNormBwdHalf := hNormBwdHalf)
    ∧ quiescent_NormBwdHalfIdeal (hNormBwdHalfIdeal := hNormBwdHalfIdeal)
    ∧ quiescent_NormBwdHalfRefIdeal (hNormBwdHalfRefIdeal := hNormBwdHalfRefIdeal)
    ∧ quiescent_Norm (hNorm := hNorm)
    ∧ quiescent_NormIdeal (hNormIdeal := hNormIdeal)
    ∧ quiescent_NormRefIdeal (hNormRefIdeal := hNormRefIdeal)
    ∧ quiescent_ResNorm (hResNorm := hResNorm)
    ∧ quiescent_ResNormIdeal (hResNormIdeal := hResNormIdeal)
    ∧ quiescent_ResNormRefIdeal (hResNormRefIdeal := hResNormRefIdeal)
    ∧ quiescent_ResNormMix (hResNormMix := hResNormMix)
    ∧ quiescent_ResNormMixIdeal (hResNormMixIdeal := hResNormMixIdeal)
    ∧ quiescent_ResNormMixRefIdeal (hResNormMixRefIdeal := hResNormMixRefIdeal)
    ∧ quiescent_ResNormLast (hResNormLast := hResNormLast)
    ∧ quiescent_ResNormLastIdeal (hResNormLastIdeal := hResNormLastIdeal)
    ∧ quiescent_ResNormLastRefIdeal (hResNormLastRefIdeal := hResNormLastRefIdeal)
    ∧ quiescent_Loss (hLoss := hLoss)
    ∧ quiescent_LossIdeal (hLossIdeal := hLossIdeal)
    ∧ quiescent_LossRefIdeal (hLossRefIdeal := hLossRefIdeal)
    ∧ quiescent_Adam (hAdam := hAdam)
    ∧ quiescent_AdamIdeal (hAdamIdeal := hAdamIdeal)
    ∧ quiescent_AdamRefIdeal (hAdamRefIdeal := hAdamRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_PoolFwd (hPoolFwd := hPoolFwd)
    ∧ quiescent_PoolFwdIdeal (hPoolFwdIdeal := hPoolFwdIdeal)
    ∧ quiescent_PoolFwdIdeal_pre_finite_columns (hPoolFwdIdeal := hPoolFwdIdeal) (hPre_finite_columns := hPre_finite_columns)
    ∧ quiescent_PoolFwdRefIdeal (hPoolFwdRefIdeal := hPoolFwdRefIdeal)
    ∧ quiescent_PoolFwdRefIdeal_pre_finite_columns (hPoolFwdRefIdeal := hPoolFwdRefIdeal) (hPre_finite_columns := hPre_finite_columns)
    ∧ quiescent_PoolBwd (hPoolBwd := hPoolBwd)
    ∧ quiescent_PoolBwdIdeal (hPoolBwdIdeal := hPoolBwdIdeal)
    ∧ quiescent_PoolBwdIdeal_pre_finite_pool_gradient (hPoolBwdIdeal := hPoolBwdIdeal) (hPre_finite_pool_gradient := hPre_finite_pool_gradient)
    ∧ quiescent_PoolBwdRefIdeal (hPoolBwdRefIdeal := hPoolBwdRefIdeal)
    ∧ quiescent_PoolBwdRefIdeal_pre_finite_pool_gradient (hPoolBwdRefIdeal := hPoolBwdRefIdeal) (hPre_finite_pool_gradient := hPre_finite_pool_gradient)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_BranchDx_BranchDxIdeal
    ∧ algebraic_BranchDxIdeal_BranchDxRefIdeal (hBranchDxIdeal := hBranchDxIdeal) (hBranchDxRefIdeal := hBranchDxRefIdeal)
    ∧ preserves_BranchDw_BranchDwIdeal
    ∧ algebraic_BranchDwIdeal_BranchDwRefIdeal (hBranchDwIdeal := hBranchDwIdeal) (hBranchDwRefIdeal := hBranchDwRefIdeal)
    ∧ preserves_Down_DownIdeal
    ∧ algebraic_DownIdeal_DownRefIdeal (hDownIdeal := hDownIdeal) (hDownRefIdeal := hDownRefIdeal)
    ∧ preserves_InValues_InValuesIdeal
    ∧ algebraic_InValuesIdeal_InValuesRefIdeal (hInValuesIdeal := hInValuesIdeal) (hInValuesRefIdeal := hInValuesRefIdeal)
    ∧ preserves_InGates_InGatesIdeal
    ∧ algebraic_InGatesIdeal_InGatesRefIdeal (hInGatesIdeal := hInGatesIdeal) (hInGatesRefIdeal := hInGatesRefIdeal)
    ∧ preserves_Branch_BranchIdeal
    ∧ algebraic_BranchIdeal_BranchRefIdeal (hBranchIdeal := hBranchIdeal) (hBranchRefIdeal := hBranchRefIdeal)
    ∧ preserves_Out_OutIdeal
    ∧ algebraic_OutIdeal_OutRefIdeal (hOutIdeal := hOutIdeal) (hOutRefIdeal := hOutRefIdeal)
    ∧ preserves_Up_UpIdeal
    ∧ algebraic_UpIdeal_UpRefIdeal (hUpIdeal := hUpIdeal) (hUpRefIdeal := hUpRefIdeal)
    ∧ preserves_ActBwd_ActBwdIdeal
    ∧ algebraic_ActBwdIdeal_ActBwdRefIdeal_pre_finite_gradient (hActBwdIdeal := hActBwdIdeal) (hActBwdRefIdeal := hActBwdRefIdeal) (hPre_finite_gradient := hPre_finite_gradient)
    ∧ preserves_Gates_GatesIdeal
    ∧ algebraic_GatesIdeal_GatesRefIdeal (hGatesIdeal := hGatesIdeal) (hGatesRefIdeal := hGatesRefIdeal)
    ∧ preserves_GatesBwd_GatesBwdIdeal
    ∧ algebraic_GatesBwdIdeal_GatesBwdRefIdeal (hGatesBwdIdeal := hGatesBwdIdeal) (hGatesBwdRefIdeal := hGatesBwdRefIdeal)
    ∧ preserves_LastNormBwd_LastNormBwdIdeal
    ∧ algebraic_LastNormBwdIdeal_LastNormBwdRefIdeal (hLastNormBwdIdeal := hLastNormBwdIdeal) (hLastNormBwdRefIdeal := hLastNormBwdRefIdeal)
    ∧ preserves_NormBwd_NormBwdIdeal
    ∧ algebraic_NormBwdIdeal_NormBwdRefIdeal (hNormBwdIdeal := hNormBwdIdeal) (hNormBwdRefIdeal := hNormBwdRefIdeal)
    ∧ preserves_NormBwdChain_NormBwdChainIdeal
    ∧ algebraic_NormBwdChainIdeal_NormBwdChainRefIdeal (hNormBwdChainIdeal := hNormBwdChainIdeal) (hNormBwdChainRefIdeal := hNormBwdChainRefIdeal)
    ∧ preserves_NormBwdHalf_NormBwdHalfIdeal
    ∧ algebraic_NormBwdHalfIdeal_NormBwdHalfRefIdeal (hNormBwdHalfIdeal := hNormBwdHalfIdeal) (hNormBwdHalfRefIdeal := hNormBwdHalfRefIdeal)
    ∧ preserves_Norm_NormIdeal
    ∧ algebraic_NormIdeal_NormRefIdeal (hNormIdeal := hNormIdeal) (hNormRefIdeal := hNormRefIdeal)
    ∧ preserves_ResNorm_ResNormIdeal
    ∧ algebraic_ResNormIdeal_ResNormRefIdeal (hResNormIdeal := hResNormIdeal) (hResNormRefIdeal := hResNormRefIdeal)
    ∧ preserves_ResNormMix_ResNormMixIdeal
    ∧ algebraic_ResNormMixIdeal_ResNormMixRefIdeal (hResNormMixIdeal := hResNormMixIdeal) (hResNormMixRefIdeal := hResNormMixRefIdeal)
    ∧ preserves_ResNormLast_ResNormLastIdeal
    ∧ algebraic_ResNormLastIdeal_ResNormLastRefIdeal (hResNormLastIdeal := hResNormLastIdeal) (hResNormLastRefIdeal := hResNormLastRefIdeal)
    ∧ preserves_Loss_LossIdeal
    ∧ algebraic_LossIdeal_LossRefIdeal (hLossIdeal := hLossIdeal) (hLossRefIdeal := hLossRefIdeal)
    ∧ preserves_Adam_AdamIdeal
    ∧ algebraic_AdamIdeal_AdamRefIdeal (hAdamIdeal := hAdamIdeal) (hAdamRefIdeal := hAdamRefIdeal)
    ∧ preserves_AdamUp_AdamUpIdeal
    ∧ algebraic_AdamUpIdeal_AdamUpRefIdeal (hAdamUpIdeal := hAdamUpIdeal) (hAdamUpRefIdeal := hAdamUpRefIdeal)
    ∧ preserves_PoolFwd_PoolFwdIdeal
    ∧ algebraic_PoolFwdIdeal_PoolFwdRefIdeal_pre_finite_columns (hPoolFwdIdeal := hPoolFwdIdeal) (hPoolFwdRefIdeal := hPoolFwdRefIdeal) (hPre_finite_columns := hPre_finite_columns)
    ∧ preserves_PoolBwd_PoolBwdIdeal
    ∧ algebraic_PoolBwdIdeal_PoolBwdRefIdeal_pre_finite_pool_gradient (hPoolBwdIdeal := hPoolBwdIdeal) (hPoolBwdRefIdeal := hPoolBwdRefIdeal) (hPre_finite_pool_gradient := hPre_finite_pool_gradient)
    ∧ preserves_SguFwd_SguFwdIdeal
    ∧ algebraic_SguFwdIdeal_SguFwdRefIdeal (hSguFwdIdeal := hSguFwdIdeal) (hSguFwdRefIdeal := hSguFwdRefIdeal)
-- ==== Pre_finite.lean ====
abbrev S4096x3072 : Shape := ⟨2, ![4096, 3072]⟩
abbrev S4096x1024 : Shape := ⟨2, ![4096, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩

class Facts : Prop where
  bcast_S_S4096x3072 : S_.BroadcastsInDim S4096x3072 (![] : Fin 0 → Fin S4096x3072.rank)
  bitsLt_bf16_f32 : FTy.bits .bf16 < FTy.bits .f32
  bcast_S_S4096x1024 : S_.BroadcastsInDim S4096x1024 (![] : Fin 0 → Fin S4096x1024.rank)
  bcast_S_S1024 : S_.BroadcastsInDim S1024 (![] : Fin 0 → Fin S1024.rank)
  bcast_S_S8x128x128 : S_.BroadcastsInDim S8x128x128 (![] : Fin 0 → Fin S8x128x128.rank)
  bcast_S_S8x128 : S_.BroadcastsInDim S8x128 (![] : Fin 0 → Fin S8x128.rank)

variable [Facts]

def fn {F : FTy → Type} [FloatOps F] (main_arg0 : FVec F S4096x3072 .f32) (main_arg1 : FVec F S4096x1024 .bf16) (main_arg2 : FVec F S1024 .f32) (main_arg3 : FVec F S8x128x128 .f32) (main_arg4 : FVec F S8x128 .f32) : IVec S4096x3072 1 × IVec S4096x1024 1 × IVec S1024 1 × IVec S8x128x128 1 × IVec S8x128 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_v3 : FVec F S4096x1024 .f32 := (extf .f32 · bitsLt_bf16_f32) main_arg1
  let main_v4 : FVec F S4096x1024 .f32 := Host.absf main_v3
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_v7 : FVec F S1024 .f32 := Host.absf main_arg2
  let main_cst_1 : FVec F S_ .f32 := constant S_ .f32 0x7F800000#32
  let main_v8 : FVec F S1024 .f32 := broadcastInDim S1024 ![] bcast_S_S1024 main_cst_1
  let main_v9 : IVec S1024 1 := cmpf .olt main_v7 main_v8
  let main_v10 : FVec F S8x128x128 .f32 := Host.absf main_arg3
  let main_cst_2 : FVec F S_ .f32 := constant S_ .f32 0x7F800000#32
  let main_v11 : FVec F S8x128x128 .f32 := broadcastInDim S8x128x128 ![] bcast_S_S8x128x128 main_cst_2
  let main_v12 : IVec S8x128x128 1 := cmpf .olt main_v10 main_v11
  let main_v13 : FVec F S8x128 .f32 := Host.absf main_arg4
  let main_cst_3 : FVec F S_ .f32 := constant S_ .f32 0x7F800000#32
  let main_v14 : FVec F S8x128 .f32 := broadcastInDim S8x128 ![] bcast_S_S8x128 main_cst_3
  let main_v15 : IVec S8x128 1 := cmpf .olt main_v13 main_v14
  (main_v2, main_v6, main_v9, main_v12, main_v15)
-- ==== Pre_finite_columns.lean ====
abbrev S4096x3072 : Shape := ⟨2, ![4096, 3072]⟩
abbrev S4x256x256 : Shape := ⟨3, ![4, 256, 256]⟩
abbrev S1024 : Shape := ⟨1, ![1024]⟩
abbrev S4096x1024 : Shape := ⟨2, ![4096, 1024]⟩
abbrev S_ : Shape := ⟨0, ![]⟩

class Facts : Prop where
  slices_S4096x3072_S4096x1024_0_0 : S4096x3072.Slices ![0, 0] S4096x1024
  bcast_S_S4096x1024 : S_.BroadcastsInDim S4096x1024 (![] : Fin 0 → Fin S4096x1024.rank)

variable [Facts]

def fn {F : FTy → Type} [FloatOps F] (main_arg0 : FVec F S4096x3072 .f32) (main_arg1 : FVec F S4x256x256 .bf16) (main_arg2 : FVec F S1024 .f32) : IVec S4096x1024 1 :=
  let main_v0 : FVec F S4096x1024 .f32 := (extractStridedSlice S4096x1024 ![0, 0] · slices_S4096x3072_S4096x1024_0_0) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  main_v3
-- ==== Pre_finite_gradient.lean ====
abbrev S4096x5632 : Shape := ⟨2, ![4096, 5632]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)

variable [Facts]

def fn {F : FTy → Type} [FloatOps F] (main_arg0 : FVec F S4096x5632 .bf16) (main_arg1 : FVec F S4096x5632 .bf16) (main_arg2 : FVec F S4096x5632 .bf16) : IVec S4096x5632 1 × IVec S4096x5632 1 :=
  let main_v0 : FVec F S4096x5632 .f32 := (extf .f32 · bitsLt_bf16_f32) main_arg1
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_v4 : FVec F S4096x5632 .f32 := (extf .f32 · bitsLt_bf16_f32) main_arg2
  let main_v5 : FVec F S4096x5632 .f32 := Host.absf main_v4
  let main_cst_0 : FVec F S_ .f32 := constant S_ .f32 0x7F800000#32
  let main_v6 : FVec F S4096x5632 .f32 := broadcastInDim S4096x5632 ![] bcast_S_S4096x5632 main_cst_0
  let main_v7 : IVec S4096x5632 1 := cmpf .olt main_v5 main_v6
  (main_v3, main_v7)
-- ==== Pre_finite_pool_gradient.lean ====
abbrev S4096x1024 : Shape := ⟨2, ![4096, 1024]⟩
abbrev S4x256x256 : Shape := ⟨3, ![4, 256, 256]⟩
abbrev S1024 : Shape := ⟨1, ![1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S4x256x256 : S_.BroadcastsInDim S4x256x256 (![] : Fin 0 → Fin S4x256x256.rank)
  bcast_S_S1024 : S_.BroadcastsInDim S1024 (![] : Fin 0 → Fin S1024.rank)

variable [Facts]

def fn {F : FTy → Type} [FloatOps F] (main_arg0 : FVec F S4096x1024 .bf16) (main_arg1 : FVec F S4096x1024 .bf16) (main_arg2 : FVec F S4096x1024 .bf16) (main_arg3 : FVec F S4x256x256 .bf16) (main_arg4 : FVec F S1024 .f32) : IVec S4096x1024 1 × IVec S4x256x256 1 × IVec S1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4x256x256 .f32 := (extf .f32 · bitsLt_bf16_f32) main_arg3
  let main_v5 : FVec F S4x256x256 .f32 := Host.absf main_v4
  let main_cst_0 : FVec F S_ .f32 := constant S_ .f32 0x7F800000#32
  let main_v6 : FVec F S4x256x256 .f32 := broadcastInDim S4x256x256 ![] bcast_S_S4x256x256 main_cst_0
  let main_v7 : IVec S4x256x256 1 := cmpf .olt main_v5 main_v6
  let main_v8 : FVec F S1024 .f32 := Host.absf main_arg4
  let main_cst_1 : FVec F S_ .f32 := constant S_ .f32 0x7F800000#32
  let main_v9 : FVec F S1024 .f32 := broadcastInDim S1024 ![] bcast_S_S1024 main_cst_1
  let main_v10 : IVec S1024 1 := cmpf .olt main_v8 main_v9
  (main_v3, main_v7, main_v10)
-- ==== Kernel.lean ====
abbrev S4096x3072 : Shape := ⟨2, ![4096, 3072]⟩
abbrev S4096x1024 : Shape := ⟨2, ![4096, 1024]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S128x8 : Shape := ⟨2, ![128, 8]⟩
abbrev S256x1024 : Shape := ⟨2, ![256, 1024]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩
abbrev S128 : Shape := ⟨1, ![128]⟩

abbrev nBuf : Space → Nat
  | .hbm => 12
  | .vmem => 18
  | .smem => 0
  | _ => 0

abbrev bufTy : (tb : Table) → Fin (tcTables nBuf tb) → BufTy
  | .hbm, ⟨0, _⟩ => ⟨S4096x3072, .f32⟩
  | .hbm, ⟨1, _⟩ => ⟨S4096x1024, .bf16⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S128x8, .f32⟩
  | .hbm, ⟨7, _⟩ => ⟨S4096x1024, .bf16⟩
  | .hbm, ⟨8, _⟩ => ⟨S4096x1024, .bf16⟩
  | .hbm, ⟨9, _⟩ => ⟨S8x128x128, .f32⟩
  | .hbm, ⟨10, _⟩ => ⟨S128x8, .f32⟩
  | .hbm, ⟨11, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S1x1024, .f32⟩
  | .local _ .vmem, ⟨7, _⟩ => ⟨S8x128x128, .f32⟩
  | .local _ .vmem, ⟨8, _⟩ => ⟨S128x8, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S8x128x128, .f32⟩
  | .local _ .vmem, ⟨14, _⟩ => ⟨S128x8, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== ReferenceIdeal.lean ====
abbrev S4096x3072 : Shape := ⟨2, ![4096, 3072]⟩
abbrev S4096x1024 : Shape := ⟨2, ![4096, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S32x128x8x128 : Shape := ⟨4, ![32, 128, 8, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩

abbrev nBuf : Space → Nat
  | .hbm => 194
  | .vmem => 0
  | .smem => 0
  | _ => 0

abbrev hbmTy0_0 (i : Nat) : BufTy := match i % 128 with
  | 0 => ⟨S4096x3072, .f32⟩
  | 1 => ⟨S4096x1024, .bf16⟩
  | 2 => ⟨S1024, .f32⟩
  | 3 => ⟨S8x128x128, .f32⟩
  | 4 => ⟨S8x128, .f32⟩
  | 5 => ⟨S4096x1024, .f32⟩
  | 6 => ⟨S4096x1024, .f32⟩
  | 7 => ⟨S4096x1024, .f32⟩
  | 8 => ⟨S4096x1024, .f32⟩
  | 9 => ⟨S4096x1024, .f32⟩
  | 10 => ⟨S_, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S4096x1024, .f32⟩
  | 20 => ⟨S_, .f32⟩
  | 21 => ⟨S4096x1024, .f32⟩
  | 22 => ⟨S4096x1024, .f32⟩
  | 23 => ⟨S4096x1024, .f32⟩
  | 24 => ⟨S_, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S4096x1024, .f32⟩
  | 31 => ⟨S_, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S_, .f32⟩
  | 42 => ⟨S4096x1024, .f32⟩
  | 43 => ⟨S4096x1024, .f32⟩
  | 44 => ⟨S_, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S4096x1024, .f32⟩
  | 55 => ⟨S_, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S4096x1024, .f32⟩
  | 62 => ⟨S_, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S4096x1024, .f32⟩
  | 69 => ⟨S4096x1024, .f32⟩
  | 70 => ⟨S_, .f32⟩
  | 71 => ⟨S4096, .f32⟩
  | 72 => ⟨S4096x1, .f32⟩
  | 73 => ⟨S_, .f32⟩
  | 74 => ⟨S4096x1, .f32⟩
  | 75 => ⟨S4096x1, .f32⟩
  | 76 => ⟨S_, .f32⟩
  | 77 => ⟨S4096x1, .f32⟩
  | 78 => ⟨S4096x1, .f32⟩
  | 79 => ⟨S4096x1, .f32⟩
  | 80 => ⟨S4096x1, .f32⟩
  | 81 => ⟨S_, .f32⟩
  | 82 => ⟨S4096x1, .f32⟩
  | 83 => ⟨S4096x1, .f32⟩
  | 84 => ⟨S4096x1024, .f32⟩
  | 85 => ⟨S4096x1024, .f32⟩
  | 86 => ⟨S1x1024, .f32⟩
  | 87 => ⟨S4096x1024, .f32⟩
  | 88 => ⟨S4096x1024, .f32⟩
  | 89 => ⟨S32x128x8x128, .f32⟩
  | 90 => ⟨S_, .f32⟩
  | 91 => ⟨S128x128, .f32⟩
  | 92 => ⟨S128x128, .i32⟩
  | 93 => ⟨S_, .i32⟩
  | 94 => ⟨S128x128, .i32⟩
  | 95 => ⟨S128x128, .i32⟩
  | 96 => ⟨S128x128, .i32⟩
  | 97 => ⟨S128x128, .i1⟩
  | 98 => ⟨S_, .f32⟩
  | 99 => ⟨S128x128, .f32⟩
  | 100 => ⟨S128x128, .f32⟩
  | 101 => ⟨S1x128x128, .f32⟩
  | 102 => ⟨S8x128x128, .f32⟩
  | 103 => ⟨S8x128x128, .f32⟩
  | 104 => ⟨S8x32x128x128, .f32⟩
  | 105 => ⟨S32x128x8x128, .f32⟩
  | 106 => ⟨S128x8, .f32⟩
  | 107 => ⟨S1x128x8x1, .f32⟩
  | 108 => ⟨S32x128x8x128, .f32⟩
  | 109 => ⟨S32x128x8x128, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S32x128x8x128, .f32⟩
  | 116 => ⟨S_, .f32⟩
  | 117 => ⟨S128x8, .f32⟩
  | 118 => ⟨S1x128x8x1, .f32⟩
  | 119 => ⟨S_, .f32⟩
  | 120 => ⟨S128x8, .f32⟩
  | 121 => ⟨S8x128, .f32⟩
  | 122 => ⟨S8x32x128x128, .f32⟩
  | 123 => ⟨S8x128x128, .f32⟩
  | 124 => ⟨S8x32x128x128, .f32⟩
  | 125 => ⟨S32x128x8x128, .f32⟩
  | 126 => ⟨S8x128x128, .f32⟩
  | 127 => ⟨S8x128x128, .f32⟩
  | _ => ⟨S4096x3072, .f32⟩

abbrev hbmTy0_1 (i : Nat) : BufTy := match i % 128 with
  | 0 => ⟨S4096x1024, .f32⟩
  | 1 => ⟨S4096x1024, .f32⟩
  | 2 => ⟨S_, .f32⟩
  | 3 => ⟨S1024, .f32⟩
  | 4 => ⟨S1x1024, .f32⟩
  | 5 => ⟨S4096x1024, .f32⟩
  | 6 => ⟨S4096x1024, .f32⟩
  | 7 => ⟨S_, .f32⟩
  | 8 => ⟨S1024, .f32⟩
  | 9 => ⟨S4096x1024, .f32⟩
  | 10 => ⟨S_, .f32⟩
  | 11 => ⟨S4096, .f32⟩
  | 12 => ⟨S4096x1, .f32⟩
  | 13 => ⟨S4096x1024, .f32⟩
  | 14 => ⟨S4096x1024, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096, .f32⟩
  | 21 => ⟨S4096x1024, .f32⟩
  | 22 => ⟨S4096x1024, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S_, .f32⟩
  | 29 => ⟨S4096x1024, .f32⟩
  | 30 => ⟨S4096x1024, .f32⟩
  | 31 => ⟨S4096x1024, .f32⟩
  | 32 => ⟨S_, .f32⟩
  | 33 => ⟨S4096x1024, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S4096x1024, .f32⟩
  | 50 => ⟨S_, .f32⟩
  | 51 => ⟨S4096x1024, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S_, .f32⟩
  | 58 => ⟨S4096x1024, .f32⟩
  | 59 => ⟨S4096x1024, .f32⟩
  | 60 => ⟨S4096x1024, .f32⟩
  | 61 => ⟨S4096x1024, .f32⟩
  | 62 => ⟨S4096x1024, .bf16⟩
  | 63 => ⟨S4096x1024, .bf16⟩
  | 64 => ⟨S128x8, .f32⟩
  | 65 => ⟨S1x1024, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_cst_16 : Ref sig .tc := ⟨.hbm, 73, rfl⟩
abbrev main_v51 : Ref sig .tc := ⟨.hbm, 74, rfl⟩
abbrev main_v52 : Ref sig .tc := ⟨.hbm, 75, rfl⟩
abbrev main_cst_17 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_18 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_19 : Ref sig .tc := ⟨.hbm, 90, rfl⟩
abbrev main_v65 : Ref sig .tc := ⟨.hbm, 91, rfl⟩
abbrev main_call0_v0 : Ref sig .tc := ⟨.hbm, 92, rfl⟩
abbrev main_call0_c : Ref sig .tc := ⟨.hbm, 93, rfl⟩
abbrev main_call0_v1 : Ref sig .tc := ⟨.hbm, 94, rfl⟩
abbrev main_call0_v2 : Ref sig .tc := ⟨.hbm, 95, rfl⟩
abbrev main_call0_v3 : Ref sig .tc := ⟨.hbm, 96, rfl⟩
abbrev main_call0_v4 : Ref sig .tc := ⟨.hbm, 97, rfl⟩
abbrev main_call0_cst : Ref sig .tc := ⟨.hbm, 98, rfl⟩
abbrev main_call0_v5 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_20 : Ref sig .tc := ⟨.hbm, 116, rfl⟩
abbrev main_v82 : Ref sig .tc := ⟨.hbm, 117, rfl⟩
abbrev main_v83 : Ref sig .tc := ⟨.hbm, 118, rfl⟩
abbrev main_cst_21 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_22 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_23 : Ref sig .tc := ⟨.hbm, 135, rfl⟩
abbrev main_v98 : Ref sig .tc := ⟨.hbm, 136, rfl⟩
abbrev main_v99 : Ref sig .tc := ⟨.hbm, 137, rfl⟩
abbrev main_cst_24 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_25 : Ref sig .tc := ⟨.hbm, 144, rfl⟩
abbrev main_v105 : Ref sig .tc := ⟨.hbm, 145, rfl⟩
abbrev main_v106 : Ref sig .tc := ⟨.hbm, 146, rfl⟩
abbrev main_cst_26 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_27 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_28 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_29 : Ref sig .tc := ⟨.hbm, 164, rfl⟩
abbrev main_v121 : Ref sig .tc := ⟨.hbm, 165, rfl⟩
abbrev main_v122 : Ref sig .tc := ⟨.hbm, 166, rfl⟩
abbrev main_cst_30 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_31 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_32 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_cst_33 : Ref sig .tc := ⟨.hbm, 182, rfl⟩
abbrev main_v135 : Ref sig .tc := ⟨.hbm, 183, rfl⟩
abbrev main_v136 : Ref sig .tc := ⟨.hbm, 184, rfl⟩
abbrev main_cst_34 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩

abbrev nD : Nat := 1
abbrev τ : Topo := Topo.v7x

variable {F : FTy → Type} [FloatOps F]
-- ==== DownDx.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S_, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S4096x5632, .f32⟩
  | .hbm, ⟨8, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S4096x5632 : Shape := ⟨2, ![4096, 5632]⟩
abbrev S4096x2048 : Shape := ⟨2, ![4096, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDx.lean ====
abbrev S4096x11264 : Shape := ⟨2, ![4096, 11264]⟩
abbrev S2048x11264 : Shape := ⟨2, ![2048, 11264]⟩
abbrev S4096x2048 : Shape := ⟨2, ![4096, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S4096x11264 : Shape := ⟨2, ![4096, 11264]⟩
abbrev S2048x11264 : Shape := ⟨2, ![2048, 11264]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .bf16⟩
  | .hbm, ⟨2, _⟩ => ⟨S_, .f32⟩
  | .hbm, ⟨3, _⟩ => ⟨S4096x2048, .f32⟩
  | .hbm, ⟨4, _⟩ => ⟨S2048x11264, .f32⟩
  | .hbm, ⟨5, _⟩ => ⟨S4096x11264, .f32⟩
  | .hbm, ⟨6, _⟩ => ⟨S4096x11264, .f32⟩
  | .hbm, ⟨7, _⟩ => ⟨S4096x2048, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw.lean ====
abbrev S4096x2048 : Shape := ⟨2, ![4096, 2048]⟩
abbrev S4096x11264 : Shape := ⟨2, ![4096, 11264]⟩
abbrev S2048x11264 : Shape := ⟨2, ![2048, 11264]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S2048x11264, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x2048 : Shape := ⟨2, ![4096, 2048]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S_, .f32⟩
  | .hbm, ⟨3, _⟩ => ⟨S2048x11264, .f32⟩
  | .hbm, ⟨4, _⟩ => ⟨S4096x2048, .f32⟩
  | .hbm, ⟨5, _⟩ => ⟨S4096x11264, .f32⟩
  | .hbm, ⟨6, _⟩ => ⟨S4096x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDx.lean ====
abbrev S4096x7168 : Shape := ⟨2, ![4096, 7168]⟩
abbrev S2048x7168 : Shape := ⟨2, ![2048, 7168]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x7168, .bf16⟩
  | .hbm, ⟨1, _⟩ => ⟨S2048x7168, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 7], ![false, false, false]⟩

def k0_cond2 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S4096x7168 : Shape := ⟨2, ![4096, 7168]⟩
abbrev S2048x7168 : Shape := ⟨2, ![2048, 7168]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x7168, .bf16⟩
  | .hbm, ⟨1, _⟩ => ⟨S2048x7168, .bf16⟩
  | .hbm, ⟨2, _⟩ => ⟨S_, .f32⟩
  | .hbm, ⟨3, _⟩ => ⟨S4096x2048, .f32⟩
  | .hbm, ⟨4, _⟩ => ⟨S2048x7168, .f32⟩
  | .hbm, ⟨5, _⟩ => ⟨S4096x7168, .f32⟩
  | .hbm, ⟨6, _⟩ => ⟨S4096x7168, .f32⟩
  | .hbm, ⟨7, _⟩ => ⟨S4096x2048, .f32⟩
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDw.lean ====
abbrev S4096x2048 : Shape := ⟨2, ![4096, 2048]⟩
abbrev S4096x7168 : Shape := ⟨2, ![4096, 7168]⟩
abbrev S2048x7168 : Shape := ⟨2, ![2048, 7168]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x7168, .bf16⟩
  | .hbm, ⟨2, _⟩ => ⟨S2048x7168, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4096x2048 : Shape := ⟨2, ![4096, 2048]⟩
abbrev S4096x7168 : Shape := ⟨2, ![4096, 7168]⟩
abbrev S_ : Shape := ⟨0, ![]⟩
abbrev S2048x7168 : Shape := ⟨2, ![2048, 7168]⟩
abbrev S7168x2048 : Shape := ⟨2, ![7168, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x7168, .bf16⟩
  | .hbm, ⟨2, _⟩ => ⟨S_, .f32⟩
  | .hbm, ⟨3, _⟩ => ⟨S2048x7168, .f32⟩
  | .hbm, ⟨4, _⟩ => ⟨S4096x2048, .f32⟩
  | .hbm, ⟨5, _⟩ => ⟨S4096x7168, .f32⟩
  | .hbm, ⟨6, _⟩ => ⟨S4096x7168, .f32⟩
  | .hbm, ⟨7, _⟩ => ⟨S7168x2048, .f32⟩
  | .hbm, ⟨8, _⟩ => ⟨S2048x7168, .f32⟩
  | .hbm, ⟨9, _⟩ => ⟨S2048x7168, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BranchDx.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxRefIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S4096x1024, .f32⟩
  | .hbm, ⟨8, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchDw.lean ====
abbrev S4096x1024 : Shape := ⟨2, ![4096, 1024]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDwRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x5632, .f32⟩
  | .hbm, ⟨3, _⟩ => ⟨S5632x2048, .f32⟩
  | .hbm, ⟨4, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InValues.lean ====
abbrev S4096x2048 : Shape := ⟨2, ![4096, 2048]⟩
abbrev S2048x7168 : Shape := ⟨2, ![2048, 7168]⟩
abbrev S4096x3072 : Shape := ⟨2, ![4096, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x7168, .bf16⟩
  | .hbm, ⟨2, _⟩ => ⟨S4096x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InValuesRefIdeal.lean ====
abbrev S4096x2048 : Shape := ⟨2, ![4096, 2048]⟩
abbrev S2048x7168 : Shape := ⟨2, ![2048, 7168]⟩
abbrev S4096x7168 : Shape := ⟨2, ![4096, 7168]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x7168, .bf16⟩
  | .hbm, ⟨2, _⟩ => ⟨S4096x2048, .f32⟩
  | .hbm, ⟨3, _⟩ => ⟨S2048x7168, .f32⟩
  | .hbm, ⟨4, _⟩ => ⟨S4096x7168, .f32⟩
  | .hbm, ⟨5, _⟩ => ⟨S4096x3072, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InGates.lean ====
abbrev S4096x2048 : Shape := ⟨2, ![4096, 2048]⟩
abbrev S2048x7168 : Shape := ⟨2, ![2048, 7168]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x7168, .bf16⟩
  | .hbm, ⟨2, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg1 c3_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGatesRefIdeal.lean ====
abbrev S4096x2048 : Shape := ⟨2, ![4096, 2048]⟩
abbrev S2048x7168 : Shape := ⟨2, ![2048, 7168]⟩
abbrev S4096x7168 : Shape := ⟨2, ![4096, 7168]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x7168, .bf16⟩
  | .hbm, ⟨2, _⟩ => ⟨S4096x2048, .f32⟩
  | .hbm, ⟨3, _⟩ => ⟨S2048x7168, .f32⟩
  | .hbm, ⟨4, _⟩ => ⟨S4096x7168, .f32⟩
  | .hbm, ⟨5, _⟩ => ⟨S4096x4096, .f32⟩
  | .hbm, ⟨6, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Branch.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | .hbm, ⟨5, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Up.lean ====
abbrev S4096x2048 : Shape := ⟨2, ![4096, 2048]⟩
abbrev S2048x11264 : Shape := ⟨2, ![2048, 11264]⟩
abbrev S4096x5632 : Shape := ⟨2, ![4096, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x5632, .bf16⟩
  | .hbm, ⟨3, _⟩ => ⟨S4096x5632, .bf16⟩
  | .hbm, ⟨4, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 11, 1], ![false, false, false]⟩

def k0_cond2 (i : grid0.Coords) : BitVec 1 :=
  let arg2 : BitVec 32 := BitVec.ofNat 32 (i 2).val
  let c0_i32_15 : BitVec 32 := 0#32
  let v18 : BitVec 1 := Scalar.cmpi .eq arg2 c0_i32_15
  let v19 : BitVec 32 := Scalar.extui v18
  let c0_i32_16 : BitVec 32 := 0#32
  let v20 : BitVec 1 := Scalar.cmpi .ne v19 c0_i32_16
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg1 c11_i32
  let c0_i32 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== UpRefIdeal.lean ====
abbrev S4096x2048 : Shape := ⟨2, ![4096, 2048]⟩
abbrev S2048x11264 : Shape := ⟨2, ![2048, 11264]⟩
abbrev S4096x11264 : Shape := ⟨2, ![4096, 11264]⟩
abbrev S4096x5632 : Shape := ⟨2, ![4096, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | .hbm, ⟨5, _⟩ => ⟨S4096x5632, .f32⟩
  | .hbm, ⟨6, _⟩ => ⟨S4096x5632, .f32⟩
  | .hbm, ⟨7, _⟩ => ⟨S4096x5632, .bf16⟩
  | .hbm, ⟨8, _⟩ => ⟨S4096x5632, .bf16⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== ActBwd.lean ====
abbrev S4096x5632 : Shape := ⟨2, ![4096, 5632]⟩
abbrev S4096x11264 : Shape := ⟨2, ![4096, 11264]⟩
abbrev S256x5632 : Shape := ⟨2, ![256, 5632]⟩
abbrev S256x11264 : Shape := ⟨2, ![256, 11264]⟩
abbrev S256x512 : Shape := ⟨2, ![256, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4096x5632, .bf16⟩
  | .hbm, ⟨3, _⟩ => ⟨S4096x11264, .bf16⟩
  | .local _ .vmem, ⟨0, _⟩ => ⟨S256x5632, .bf16⟩
  | .local _ .vmem, ⟨1, _⟩ => ⟨S256x5632, .bf16⟩
  | .local _ .vmem, ⟨2, _⟩ => ⟨S256x5632, .bf16⟩
  | .local _ .vmem, ⟨3, _⟩ => ⟨S256x5632, .bf16⟩
  | .local _ .vmem, ⟨4, _⟩ => ⟨S256x5632, .bf16⟩
  | .local _ .vmem, ⟨5, _⟩ => ⟨S256x5632, .bf16⟩
  | .local _ .vmem, ⟨6, _⟩ => ⟨S256x11264, .bf16⟩
  | .local _ .vmem, ⟨7, _⟩ => ⟨S256x11264, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x11264 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ActBwdRefIdeal.lean ====
abbrev S4096x5632 : Shape := ⟨2, ![4096, 5632]⟩
abbrev S_ : Shape := ⟨0, ![]⟩
abbrev S4096x11264 : Shape := ⟨2, ![4096, 11264]⟩

abbrev nBuf : Space → Nat
  | .hbm => 28
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4096x5632, .bf16⟩
  | .hbm, ⟨3, _⟩ => ⟨S4096x5632, .f32⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S_, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x11264, .f32⟩
  | .hbm, ⟨27, _⟩ => ⟨S4096x11264, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== Gates.lean ====
abbrev S4096x4096 : Shape := ⟨2, ![4096, 4096]⟩
abbrev S4096x2048 : Shape := ⟨2, ![4096, 2048]⟩
abbrev S512x512 : Shape := ⟨2, ![512, 512]⟩

abbrev nBuf : Space → Nat
  | .hbm => 4
  | .vmem => 10
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .hbm, ⟨3, _⟩ => ⟨S4096x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GatesRefIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== GatesBwd.lean ====
abbrev S4096x4096 : Shape := ⟨2, ![4096, 4096]⟩
abbrev S4096x2048 : Shape := ⟨2, ![4096, 2048]⟩
abbrev S512x512 : Shape := ⟨2, ![512, 512]⟩

abbrev nBuf : Space → Nat
  | .hbm => 8
  | .vmem => 18
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GatesBwdRefIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x4096, .f32⟩
  | .hbm, ⟨44, _⟩ => ⟨S4096x2048, .f32⟩
  | .hbm, ⟨45, _⟩ => ⟨S4096x2048, .f32⟩
  | .hbm, ⟨46, _⟩ => ⟨S4096x2048, .bf16⟩
  | .hbm, ⟨47, _⟩ => ⟨S4096x2048, .bf16⟩
  | .hbm, ⟨48, _⟩ => ⟨S4096x2048, .bf16⟩
  | .hbm, ⟨49, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== LastNormBwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LastNormBwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S2048, .f32⟩
  | .hbm, ⟨37, _⟩ => ⟨S4096x2048, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x2048, .f32⟩
  | .hbm, ⟨42, _⟩ => ⟨S4096x2048, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .bf16⟩
  | .hbm, ⟨55, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== NormBwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== NormBwdChain.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S4096x2048, .f32⟩
  | .hbm, ⟨9, _⟩ => ⟨S1x2048, .f32⟩
  | .hbm, ⟨10, _⟩ => ⟨S4096x2048, .bf16⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormBwdChainRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 100
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S1x2048, .f32⟩
  | .hbm, ⟨53, _⟩ => ⟨S4096x2048, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S4096x2048, .f32⟩
  | .hbm, ⟨69, _⟩ => ⟨S4096x2048, .f32⟩
  | .hbm, ⟨70, _⟩ => ⟨S1x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S_, .f32⟩
  | .hbm, ⟨75, _⟩ => ⟨S2048, .f32⟩
  | .hbm, ⟨76, _⟩ => ⟨S1x2048, .f32⟩
  | .hbm, ⟨77, _⟩ => ⟨S4096x2048, .f32⟩
  | .hbm, ⟨78, _⟩ => ⟨S4096x2048, .f32⟩
  | .hbm, ⟨79, _⟩ => ⟨S_, .f32⟩
  | .hbm, ⟨80, _⟩ => ⟨S2048, .f32⟩
  | .hbm, ⟨81, _⟩ => ⟨S4096x2048, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x2048, .f32⟩
  | .hbm, ⟨86, _⟩ => ⟨S4096x2048, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x2048, .f32⟩
  | .hbm, ⟨94, _⟩ => ⟨S4096x2048, .f32⟩
  | .hbm, ⟨95, _⟩ => ⟨S4096x2048, .f32⟩
  | .hbm, ⟨96, _⟩ => ⟨S4096x2048, .f32⟩
  | .hbm, ⟨97, _⟩ => ⟨S4096x2048, .f32⟩
  | .hbm, ⟨98, _⟩ => ⟨S4096x2048, .bf16⟩
  | .hbm, ⟨99, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_15 : Ref sig .tc := ⟨.hbm, 88, rfl⟩
abbrev main_v66 : Ref sig .tc := ⟨.hbm, 89, rfl⟩
abbrev main_v67 : Ref sig .tc := ⟨.hbm, 90, rfl⟩
abbrev main_cst_16 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== NormBwdHalf.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S4096x2048, .f32⟩
  | .hbm, ⟨9, _⟩ => ⟨S1x2048, .f32⟩
  | .hbm, ⟨10, _⟩ => ⟨S4096x2048, .bf16⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormBwdHalfRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 106
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S1x2048, .f32⟩
  | .hbm, ⟨53, _⟩ => ⟨S4096x2048, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S4096x2048, .f32⟩
  | .hbm, ⟨69, _⟩ => ⟨S4096x2048, .f32⟩
  | .hbm, ⟨70, _⟩ => ⟨S1x2048, .f32⟩
  | .hbm, ⟨71, _⟩ => ⟨S4096x2048, .f32⟩
  | .hbm, ⟨72, _⟩ => ⟨S4096x2048, .f32⟩
  | .hbm, ⟨73, _⟩ => ⟨S_, .f32⟩
  | .hbm, ⟨74, _⟩ => ⟨S4096x2048, .f32⟩
  | .hbm, ⟨75, _⟩ => ⟨S4096x2048, .f32⟩
  | .hbm, ⟨76, _⟩ => ⟨S_, .f32⟩
  | .hbm, ⟨77, _⟩ => ⟨S4096x2048, .f32⟩
  | .hbm, ⟨78, _⟩ => ⟨S4096x2048, .f32⟩
  | .hbm, ⟨79, _⟩ => ⟨S4096x2048, .f32⟩
  | .hbm, ⟨80, _⟩ => ⟨S_, .f32⟩
  | .hbm, ⟨81, _⟩ => ⟨S2048, .f32⟩
  | .hbm, ⟨82, _⟩ => ⟨S1x2048, .f32⟩
  | .hbm, ⟨83, _⟩ => ⟨S4096x2048, .f32⟩
  | .hbm, ⟨84, _⟩ => ⟨S4096x2048, .f32⟩
  | .hbm, ⟨85, _⟩ => ⟨S_, .f32⟩
  | .hbm, ⟨86, _⟩ => ⟨S2048, .f32⟩
  | .hbm, ⟨87, _⟩ => ⟨S4096x2048, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S4096x2048, .f32⟩
  | .hbm, ⟨92, _⟩ => ⟨S4096x2048, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x2048, .f32⟩
  | .hbm, ⟨100, _⟩ => ⟨S4096x2048, .f32⟩
  | .hbm, ⟨101, _⟩ => ⟨S4096x2048, .f32⟩
  | .hbm, ⟨102, _⟩ => ⟨S4096x2048, .f32⟩
  | .hbm, ⟨103, _⟩ => ⟨S4096x2048, .f32⟩
  | .hbm, ⟨104, _⟩ => ⟨S4096x2048, .bf16⟩
  | .hbm, ⟨105, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_15 : Ref sig .tc := ⟨.hbm, 85, rfl⟩
abbrev main_v63 : Ref sig .tc := ⟨.hbm, 86, rfl⟩
abbrev main_v64 : Ref sig .tc := ⟨.hbm, 87, rfl⟩
abbrev main_cst_16 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_17 : Ref sig .tc := ⟨.hbm, 94, rfl⟩
abbrev main_v70 : Ref sig .tc := ⟨.hbm, 95, rfl⟩
abbrev main_v71 : Ref sig .tc := ⟨.hbm, 96, rfl⟩
abbrev main_cst_18 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]
-- ==== Norm.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ResNorm.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResNormRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x2048, .f32⟩
  | .hbm, ⟨36, _⟩ => ⟨S4096x2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== ResNormMix.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResNormMixRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x2048, .f32⟩
  | .hbm, ⟨33, _⟩ => ⟨S4096x2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== ResNormLast.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S1x2048, .f32⟩
  | .hbm, ⟨4, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResNormLastRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Loss.lean ====
abbrev S4096x2048 : Shape := ⟨2, ![4096, 2048]⟩
abbrev S8x128 : Shape := ⟨2, ![8, 128]⟩
abbrev S256x2048 : Shape := ⟨2, ![256, 2048]⟩
abbrev S1x256x2048 : Shape := ⟨3, ![1, 256, 2048]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S4096x2048 : Shape := ⟨2, ![4096, 2048]⟩
abbrev S_ : Shape := ⟨0, ![]⟩
abbrev S4096 : Shape := ⟨1, ![4096]⟩
abbrev S8x128 : Shape := ⟨2, ![8, 128]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S_, .f32⟩
  | .hbm, ⟨27, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_7 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== Adam.lean ====
abbrev S4576x128 : Shape := ⟨2, ![4576, 128]⟩
abbrev S32x128 : Shape := ⟨2, ![32, 128]⟩

abbrev nBuf : Space → Nat
  | .hbm => 7
  | .vmem => 14
  | .smem => 0
  | _ => 0

abbrev bufTy : (tb : Table) → Fin (tcTables nBuf tb) → BufTy
  | .hbm, ⟨0, _⟩ => ⟨S4576x128, .f32⟩
  | .hbm, ⟨1, _⟩ => ⟨S4576x128, .f32⟩
  | .hbm, ⟨2, _⟩ => ⟨S4576x128, .f32⟩
  | .hbm, ⟨3, _⟩ => ⟨S4576x128, .f32⟩
  | .hbm, ⟨4, _⟩ => ⟨S4576x128, .f32⟩
  | .hbm, ⟨5, _⟩ => ⟨S4576x128, .f32⟩
  | .hbm, ⟨6, _⟩ => ⟨S4576x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | _, _ => ⟨S4576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![143], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S4576x128 : Shape := ⟨2, ![4576, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4576x128, .f32⟩
  | .hbm, ⟨1, _⟩ => ⟨S4576x128, .f32⟩
  | .hbm, ⟨2, _⟩ => ⟨S4576x128, .f32⟩
  | .hbm, ⟨3, _⟩ => ⟨S4576x128, .f32⟩
  | .hbm, ⟨4, _⟩ => ⟨S_, .f32⟩
  | .hbm, ⟨5, _⟩ => ⟨S4576x128, .f32⟩
  | .hbm, ⟨6, _⟩ => ⟨S4576x128, .f32⟩
  | .hbm, ⟨7, _⟩ => ⟨S_, .f32⟩
  | .hbm, ⟨8, _⟩ => ⟨S4576x128, .f32⟩
  | .hbm, ⟨9, _⟩ => ⟨S4576x128, .f32⟩
  | .hbm, ⟨10, _⟩ => ⟨S4576x128, .f32⟩
  | .hbm, ⟨11, _⟩ => ⟨S_, .f32⟩
  | .hbm, ⟨12, _⟩ => ⟨S4576x128, .f32⟩
  | .hbm, ⟨13, _⟩ => ⟨S4576x128, .f32⟩
  | .hbm, ⟨14, _⟩ => ⟨S4576x128, .f32⟩
  | .hbm, ⟨15, _⟩ => ⟨S_, .f32⟩
  | .hbm, ⟨16, _⟩ => ⟨S4576x128, .f32⟩
  | .hbm, ⟨17, _⟩ => ⟨S4576x128, .f32⟩
  | .hbm, ⟨18, _⟩ => ⟨S4576x128, .f32⟩
  | .hbm, ⟨19, _⟩ => ⟨S_, .f32⟩
  | .hbm, ⟨20, _⟩ => ⟨S4576x128, .f32⟩
  | .hbm, ⟨21, _⟩ => ⟨S4576x128, .f32⟩
  | .hbm, ⟨22, _⟩ => ⟨S_, .f32⟩
  | .hbm, ⟨23, _⟩ => ⟨S4576x128, .f32⟩
  | .hbm, ⟨24, _⟩ => ⟨S4576x128, .f32⟩
  | .hbm, ⟨25, _⟩ => ⟨S4576x128, .f32⟩
  | .hbm, ⟨26, _⟩ => ⟨S_, .f32⟩
  | .hbm, ⟨27, _⟩ => ⟨S4576x128, .f32⟩
  | .hbm, ⟨28, _⟩ => ⟨S4576x128, .f32⟩
  | .hbm, ⟨29, _⟩ => ⟨S4576x128, .f32⟩
  | .hbm, ⟨30, _⟩ => ⟨S_, .f32⟩
  | .hbm, ⟨31, _⟩ => ⟨S4576x128, .f32⟩
  | .hbm, ⟨32, _⟩ => ⟨S4576x128, .f32⟩
  | .hbm, ⟨33, _⟩ => ⟨S4576x128, .f32⟩
  | .hbm, ⟨34, _⟩ => ⟨S_, .f32⟩
  | .hbm, ⟨35, _⟩ => ⟨S4576x128, .f32⟩
  | .hbm, ⟨36, _⟩ => ⟨S4576x128, .f32⟩
  | _, _ => ⟨S4576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S2048x2816 : Shape := ⟨2, ![2048, 2816]⟩
abbrev S4x2048x2816 : Shape := ⟨3, ![4, 2048, 2816]⟩
abbrev S256x1408 : Shape := ⟨2, ![256, 1408]⟩
abbrev S1x256x1408 : Shape := ⟨3, ![1, 256, 1408]⟩

abbrev nBuf : Space → Nat
  | .hbm => 13
  | .vmem => 18
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S4x2048x2816, .f32⟩
  | .hbm, ⟨3, _⟩ => ⟨S4x2048x2816, .f32⟩
  | .hbm, ⟨4, _⟩ => ⟨S4x2048x2816, .f32⟩
  | .hbm, ⟨5, _⟩ => ⟨S4x2048x2816, .f32⟩
  | .hbm, ⟨6, _⟩ => ⟨S4x2048x2816, .f32⟩
  | .hbm, ⟨7, _⟩ => ⟨S4x2048x2816, .f32⟩
  | .hbm, ⟨8, _⟩ => ⟨S4x2048x2816, .f32⟩
  | .hbm, ⟨9, _⟩ => ⟨S4x2048x2816, .f32⟩
  | .hbm, ⟨10, _⟩ => ⟨S4x2048x2816, .f32⟩
  | .hbm, ⟨11, _⟩ => ⟨S4x2048x2816, .f32⟩
  | .hbm, ⟨12, _⟩ => ⟨S4x2048x2816, .f32⟩
  | .local _ .vmem, ⟨0, _⟩ => ⟨S256x1408, .bf16⟩
  | .local _ .vmem, ⟨1, _⟩ => ⟨S256x1408, .bf16⟩
  | .local _ .vmem, ⟨2, _⟩ => ⟨S256x1408, .bf16⟩
  | .local _ .vmem, ⟨3, _⟩ => ⟨S256x1408, .bf16⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpRefIdeal.lean ====
abbrev S2048x2816 : Shape := ⟨2, ![2048, 2816]⟩
abbrev S4x2048x2816 : Shape := ⟨3, ![4, 2048, 2816]⟩
abbrev S1x2048x2816 : Shape := ⟨3, ![1, 2048, 2816]⟩
abbrev S_ : Shape := ⟨0, ![]⟩
abbrev S3x2048x2816 : Shape := ⟨3, ![3, 2048, 2816]⟩

abbrev nBuf : Space → Nat
  | .hbm => 63
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S4x2048x2816, .f32⟩
  | .hbm, ⟨3, _⟩ => ⟨S4x2048x2816, .f32⟩
  | .hbm, ⟨4, _⟩ => ⟨S4x2048x2816, .f32⟩
  | .hbm, ⟨5, _⟩ => ⟨S4x2048x2816, .f32⟩
  | .hbm, ⟨6, _⟩ => ⟨S4x2048x2816, .f32⟩
  | .hbm, ⟨7, _⟩ => ⟨S4x2048x2816, .f32⟩
  | .hbm, ⟨8, _⟩ => ⟨S4x2048x2816, .f32⟩
  | .hbm, ⟨9, _⟩ => ⟨S2048x2816, .f32⟩
  | .hbm, ⟨10, _⟩ => ⟨S2048x2816, .f32⟩
  | .hbm, ⟨11, _⟩ => ⟨S2048x2816, .f32⟩
  | .hbm, ⟨12, _⟩ => ⟨S1x2048x2816, .f32⟩
  | .hbm, ⟨13, _⟩ => ⟨S2048x2816, .f32⟩
  | .hbm, ⟨14, _⟩ => ⟨S1x2048x2816, .f32⟩
  | .hbm, ⟨15, _⟩ => ⟨S2048x2816, .f32⟩
  | .hbm, ⟨16, _⟩ => ⟨S1x2048x2816, .f32⟩
  | .hbm, ⟨17, _⟩ => ⟨S2048x2816, .f32⟩
  | .hbm, ⟨18, _⟩ => ⟨S_, .f32⟩
  | .hbm, ⟨19, _⟩ => ⟨S2048x2816, .f32⟩
  | .hbm, ⟨20, _⟩ => ⟨S2048x2816, .f32⟩
  | .hbm, ⟨21, _⟩ => ⟨S_, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S_, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S_, .f32⟩
  | .hbm, ⟨34, _⟩ => ⟨S2048x2816, .f32⟩
  | .hbm, ⟨35, _⟩ => ⟨S2048x2816, .f32⟩
  | .hbm, ⟨36, _⟩ => ⟨S_, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S_, .f32⟩
  | .hbm, ⟨41, _⟩ => ⟨S2048x2816, .f32⟩
  | .hbm, ⟨42, _⟩ => ⟨S2048x2816, .f32⟩
  | .hbm, ⟨43, _⟩ => ⟨S2048x2816, .f32⟩
  | .hbm, ⟨44, _⟩ => ⟨S_, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S_, .f32⟩
  | .hbm, ⟨49, _⟩ => ⟨S2048x2816, .f32⟩
  | .hbm, ⟨50, _⟩ => ⟨S2048x2816, .f32⟩
  | .hbm, ⟨51, _⟩ => ⟨S1x2048x2816, .f32⟩
  | .hbm, ⟨52, _⟩ => ⟨S3x2048x2816, .f32⟩
  | .hbm, ⟨53, _⟩ => ⟨S4x2048x2816, .f32⟩
  | .hbm, ⟨54, _⟩ => ⟨S1x2048x2816, .f32⟩
  | .hbm, ⟨55, _⟩ => ⟨S3x2048x2816, .f32⟩
  | .hbm, ⟨56, _⟩ => ⟨S4x2048x2816, .f32⟩
  | .hbm, ⟨57, _⟩ => ⟨S1x2048x2816, .f32⟩
  | .hbm, ⟨58, _⟩ => ⟨S3x2048x2816, .f32⟩
  | .hbm, ⟨59, _⟩ => ⟨S4x2048x2816, .f32⟩
  | .hbm, ⟨60, _⟩ => ⟨S1x2048x2816, .f32⟩
  | .hbm, ⟨61, _⟩ => ⟨S3x2048x2816, .f32⟩
  | .hbm, ⟨62, _⟩ => ⟨S4x2048x2816, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== PoolFwd.lean ====
abbrev S4096x3072 : Shape := ⟨2, ![4096, 3072]⟩
abbrev S4x256x256 : Shape := ⟨3, ![4, 256, 256]⟩
abbrev S1024 : Shape := ⟨1, ![1024]⟩
abbrev S1x1024 : Shape := ⟨2, ![1, 1024]⟩
abbrev S4096x1024 : Shape := ⟨2, ![4096, 1024]⟩
abbrev S256x1024 : Shape := ⟨2, ![256, 1024]⟩
abbrev S16x1024 : Shape := ⟨2, ![16, 1024]⟩
abbrev S272x1024 : Shape := ⟨2, ![272, 1024]⟩
abbrev S256x1 : Shape := ⟨2, ![256, 1]⟩
abbrev S256x256 : Shape := ⟨2, ![256, 256]⟩
abbrev S1x256x256 : Shape := ⟨3, ![1, 256, 256]⟩
abbrev S1x256 : Shape := ⟨2, ![1, 256]⟩

abbrev nBuf : Space → Nat
  | .hbm => 7
  | .vmem => 12
  | .smem => 0
  | _ => 0

abbrev bufTy : (tb : Table) → Fin (tcTables nBuf tb) → BufTy
  | .hbm, ⟨0, _⟩ => ⟨S4096x3072, .f32⟩
  | .hbm, ⟨1, _⟩ => ⟨S4x256x256, .bf16⟩
  | .hbm, ⟨2, _⟩ => ⟨S1024, .f32⟩
  | .hbm, ⟨3, _⟩ => ⟨S1x1024, .f32⟩
  | .hbm, ⟨4, _⟩ => ⟨S4096x1024, .bf16⟩
  | .hbm, ⟨5, _⟩ => ⟨S4096x1024, .bf16⟩
  | .hbm, ⟨6, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S4x256x256, .bf16⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PoolFwdRefIdeal.lean ====
abbrev S4096x3072 : Shape := ⟨2, ![4096, 3072]⟩
abbrev S4x256x256 : Shape := ⟨3, ![4, 256, 256]⟩
abbrev S1024 : Shape := ⟨1, ![1024]⟩
abbrev S4096x1024 : Shape := ⟨2, ![4096, 1024]⟩
abbrev S_ : Shape := ⟨0, ![]⟩
abbrev S16x1024 : Shape := ⟨2, ![16, 1024]⟩
abbrev S4112x1024 : Shape := ⟨2, ![4112, 1024]⟩
abbrev S4096 : Shape := ⟨1, ![4096]⟩
abbrev S4096x256 : Shape := ⟨2, ![4096, 256]⟩
abbrev S4096x1 : Shape := ⟨2, ![4096, 1]⟩
abbrev S4096x1x256 : Shape := ⟨3, ![4096, 1, 256]⟩
abbrev S4096x4x256 : Shape := ⟨3, ![4096, 4, 256]⟩
abbrev S4x256x4096 : Shape := ⟨3, ![4, 256, 4096]⟩
abbrev S1x1024 : Shape := ⟨2, ![1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4x256x256, .bf16⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S_, .f32⟩
  | .hbm, ⟨6, _⟩ => ⟨S4096x1024, .f32⟩
  | .hbm, ⟨7, _⟩ => ⟨S_, .f32⟩
  | .hbm, ⟨8, _⟩ => ⟨S16x1024, .f32⟩
  | .hbm, ⟨9, _⟩ => ⟨S4112x1024, .f32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096x256, .f32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .f32⟩
  | .hbm, ⟨31, _⟩ => ⟨S4096x1, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S4096x256, .f32⟩
  | .hbm, ⟨36, _⟩ => ⟨S4096x256, .f32⟩
  | .hbm, ⟨37, _⟩ => ⟨S4096x256, .f32⟩
  | .hbm, ⟨38, _⟩ => ⟨S4096x256, .f32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .f32⟩
  | .hbm, ⟨43, _⟩ => ⟨S4096x1, .f32⟩
  | .hbm, ⟨44, _⟩ => ⟨S4096x256, .f32⟩
  | .hbm, ⟨45, _⟩ => ⟨S4096x256, .f32⟩
  | .hbm, ⟨46, _⟩ => ⟨S4096x256, .f32⟩
  | .hbm, ⟨47, _⟩ => ⟨S4096x256, .f32⟩
  | .hbm, ⟨48, _⟩ => ⟨S4096x256, .f32⟩
  | .hbm, ⟨49, _⟩ => ⟨S4096x256, .f32⟩
  | .hbm, ⟨50, _⟩ => ⟨S4096x256, .f32⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096, .f32⟩
  | .hbm, ⟨55, _⟩ => ⟨S4096x1, .f32⟩
  | .hbm, ⟨56, _⟩ => ⟨S4096x256, .f32⟩
  | .hbm, ⟨57, _⟩ => ⟨S4096x256, .f32⟩
  | .hbm, ⟨58, _⟩ => ⟨S4096x256, .f32⟩
  | .hbm, ⟨59, _⟩ => ⟨S4096x256, .f32⟩
  | .hbm, ⟨60, _⟩ => ⟨S4096x256, .f32⟩
  | .hbm, ⟨61, _⟩ => ⟨S4096x256, .f32⟩
  | .hbm, ⟨62, _⟩ => ⟨S4096x1x256, .f32⟩
  | .hbm, ⟨63, _⟩ => ⟨S4096x1x256, .f32⟩
  | .hbm, ⟨64, _⟩ => ⟨S4096x1x256, .f32⟩
  | .hbm, ⟨65, _⟩ => ⟨S4096x1x256, .f32⟩
  | .hbm, ⟨66, _⟩ => ⟨S4096x4x256, .f32⟩
  | .hbm, ⟨67, _⟩ => ⟨S4x256x256, .f32⟩
  | .hbm, ⟨68, _⟩ => ⟨S4x256x4096, .f32⟩
  | .hbm, ⟨69, _⟩ => ⟨S4096x4x256, .f32⟩
  | .hbm, ⟨70, _⟩ => ⟨S4096x1024, .f32⟩
  | .hbm, ⟨71, _⟩ => ⟨S4096x1024, .f32⟩
  | .hbm, ⟨72, _⟩ => ⟨S4096x1024, .bf16⟩
  | .hbm, ⟨73, _⟩ => ⟨S4096x1024, .bf16⟩
  | .hbm, ⟨74, _⟩ => ⟨S1x1024, .f32⟩
  | .hbm, ⟨75, _⟩ => ⟨S4096x1024, .f32⟩
  | .hbm, ⟨76, _⟩ => ⟨S4096x1024, .f32⟩
  | .hbm, ⟨77, _⟩ => ⟨S4096x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩

abbrev nD : Nat := 1
abbrev τ : Topo := Topo.v7x

variable {F : FTy → Type} [FloatOps F]
-- ==== PoolBwd.lean ====
abbrev S4096x1024 : Shape := ⟨2, ![4096, 1024]⟩
abbrev S4x256x256 : Shape := ⟨3, ![4, 256, 256]⟩
abbrev S1024 : Shape := ⟨1, ![1024]⟩
abbrev S1x1024 : Shape := ⟨2, ![1, 1024]⟩
abbrev S256x1024 : Shape := ⟨2, ![256, 1024]⟩
abbrev S16x1024 : Shape := ⟨2, ![16, 1024]⟩
abbrev S272x1024 : Shape := ⟨2, ![272, 1024]⟩
abbrev S272x1 : Shape := ⟨2, ![272, 1]⟩
abbrev S272x256 : Shape := ⟨2, ![272, 256]⟩
abbrev S1x256x256 : Shape := ⟨3, ![1, 256, 256]⟩
abbrev S256x256 : Shape := ⟨2, ![256, 256]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4x256x256, .bf16⟩
  | .hbm, ⟨4, _⟩ => ⟨S1024, .f32⟩
  | .hbm, ⟨5, _⟩ => ⟨S1x1024, .f32⟩
  | .hbm, ⟨6, _⟩ => ⟨S4096x1024, .bf16⟩
  | .hbm, ⟨7, _⟩ => ⟨S4x256x256, .f32⟩
  | .hbm, ⟨8, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S4x256x256, .bf16⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S4x256x256, .f32⟩
  | .local _ .vmem, ⟨13, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PoolBwdRefIdeal.lean ====
abbrev S4096x1024 : Shape := ⟨2, ![4096, 1024]⟩
abbrev S4x256x256 : Shape := ⟨3, ![4, 256, 256]⟩
abbrev S1024 : Shape := ⟨1, ![1024]⟩
abbrev S1x1024 : Shape := ⟨2, ![1, 1024]⟩
abbrev S_ : Shape := ⟨0, ![]⟩
abbrev S4096x4x256 : Shape := ⟨3, ![4096, 4, 256]⟩
abbrev S4x256x4096 : Shape := ⟨3, ![4, 256, 4096]⟩
abbrev S4x4096x256 : Shape := ⟨3, ![4, 4096, 256]⟩
abbrev S16x1024 : Shape := ⟨2, ![16, 1024]⟩
abbrev S4112x1024 : Shape := ⟨2, ![4112, 1024]⟩
abbrev S4096 : Shape := ⟨1, ![4096]⟩
abbrev S4096x256 : Shape := ⟨2, ![4096, 256]⟩
abbrev S4096x1 : Shape := ⟨2, ![4096, 1]⟩
abbrev S4096x1x256 : Shape := ⟨3, ![4096, 1, 256]⟩

abbrev nBuf : Space → Nat
  | .hbm => 162
  | .vmem => 0
  | .smem => 0
  | _ => 0

abbrev hbmTy0_0 (i : Nat) : BufTy := match i % 128 with
  | 0 => ⟨S4096x1024, .bf16⟩
  | 1 => ⟨S4096x1024, .bf16⟩
  | 2 => ⟨S4096x1024, .bf16⟩
  | 3 => ⟨S4x256x256, .bf16⟩
  | 4 => ⟨S1024, .f32⟩
  | 5 => ⟨S4096x1024, .f32⟩
  | 6 => ⟨S1x1024, .f32⟩
  | 7 => ⟨S4096x1024, .f32⟩
  | 8 => ⟨S4096x1024, .f32⟩
  | 9 => ⟨S4096x1024, .f32⟩
  | 10 => ⟨S4096x1024, .f32⟩
  | 11 => ⟨S_, .f32⟩
  | 12 => ⟨S1024, .f32⟩
  | 13 => ⟨S1x1024, .f32⟩
  | 14 => ⟨S4096x1024, .f32⟩
  | 15 => ⟨S4096x1024, .f32⟩
  | 16 => ⟨S_, .f32⟩
  | 17 => ⟨S1024, .f32⟩
  | 18 => ⟨S4096x1024, .f32⟩
  | 19 => ⟨S4096x4x256, .f32⟩
  | 20 => ⟨S4x256x256, .f32⟩
  | 21 => ⟨S4x256x4096, .f32⟩
  | 22 => ⟨S4096x4x256, .f32⟩
  | 23 => ⟨S4096x4x256, .f32⟩
  | 24 => ⟨S4x256x4096, .f32⟩
  | 25 => ⟨S4x4096x256, .f32⟩
  | 26 => ⟨S4096x4x256, .f32⟩
  | 27 => ⟨S4x256x256, .f32⟩
  | 28 => ⟨S4x256x256, .f32⟩
  | 29 => ⟨S_, .f32⟩
  | 30 => ⟨S4096x1024, .f32⟩
  | 31 => ⟨S_, .f32⟩
  | 32 => ⟨S_, .f32⟩
  | 33 => ⟨S4096x1024, .f32⟩
  | 34 => ⟨S_, .f32⟩
  | 35 => ⟨S16x1024, .f32⟩
  | 36 => ⟨S4112x1024, .f32⟩
  | 37 => ⟨S_, .f32⟩
  | 38 => ⟨S16x1024, .f32⟩
  | 39 => ⟨S4096, .i32⟩
  | 40 => ⟨S_, .i32⟩
  | 41 => ⟨S4096, .i32⟩
  | 42 => ⟨S4096, .i32⟩
  | 43 => ⟨S4096x256, .f32⟩
  | 44 => ⟨S_, .i32⟩
  | 45 => ⟨S4096, .i32⟩
  | 46 => ⟨S4096, .i32⟩
  | 47 => ⟨S4096, .f32⟩
  | 48 => ⟨S4096x1, .f32⟩
  | 49 => ⟨S4096x256, .f32⟩
  | 50 => ⟨S4096x256, .f32⟩
  | 51 => ⟨S4096x256, .f32⟩
  | 52 => ⟨S4096x256, .f32⟩
  | 53 => ⟨S4096x256, .f32⟩
  | 54 => ⟨S4096x256, .f32⟩
  | 55 => ⟨S4096x256, .f32⟩
  | 56 => ⟨S_, .i32⟩
  | 57 => ⟨S4096, .i32⟩
  | 58 => ⟨S4096, .i32⟩
  | 59 => ⟨S4096, .f32⟩
  | 60 => ⟨S4096x1, .f32⟩
  | 61 => ⟨S4096x256, .f32⟩
  | 62 => ⟨S4096x256, .f32⟩
  | 63 => ⟨S4096x256, .f32⟩
  | 64 => ⟨S4096x256, .f32⟩
  | 65 => ⟨S4096x256, .f32⟩
  | 66 => ⟨S4096x256, .f32⟩
  | 67 => ⟨S4096x256, .f32⟩
  | 68 => ⟨S_, .i32⟩
  | 69 => ⟨S4096, .i32⟩
  | 70 => ⟨S4096, .i32⟩
  | 71 => ⟨S4096, .f32⟩
  | 72 => ⟨S4096x1, .f32⟩
  | 73 => ⟨S4096x256, .f32⟩
  | 74 => ⟨S4096x256, .f32⟩
  | 75 => ⟨S4096x256, .f32⟩
  | 76 => ⟨S4096x256, .f32⟩
  | 77 => ⟨S4096x256, .f32⟩
  | 78 => ⟨S4096x256, .f32⟩
  | 79 => ⟨S4096x256, .f32⟩
  | 80 => ⟨S_, .i32⟩
  | 81 => ⟨S4096, .i32⟩
  | 82 => ⟨S4096, .i32⟩
  | 83 => ⟨S4096, .f32⟩
  | 84 => ⟨S4096x1, .f32⟩
  | 85 => ⟨S4096x256, .f32⟩
  | 86 => ⟨S4096x256, .f32⟩
  | 87 => ⟨S4096x256, .f32⟩
  | 88 => ⟨S4096x256, .f32⟩
  | 89 => ⟨S4096x256, .f32⟩
  | 90 => ⟨S4096x256, .f32⟩
  | 91 => ⟨S4096x1x256, .f32⟩
  | 92 => ⟨S4096x1x256, .f32⟩
  | 93 => ⟨S4096x1x256, .f32⟩
  | 94 => ⟨S4096x1x256, .f32⟩
  | 95 => ⟨S4096x4x256, .f32⟩
  | 96 => ⟨S4096x1x256, .f32⟩
  | 97 => ⟨S4096x256, .f32⟩
  | 98 => ⟨S4096x1x256, .f32⟩
  | 99 => ⟨S4096x256, .f32⟩
  | 100 => ⟨S4096x1x256, .f32⟩
  | 101 => ⟨S4096x256, .f32⟩
  | 102 => ⟨S4096x1x256, .f32⟩
  | 103 => ⟨S4096x256, .f32⟩
  | 104 => ⟨S4096x256, .f32⟩
  | 105 => ⟨S_, .f32⟩
  | 106 => ⟨S4096x1024, .f32⟩
  | 107 => ⟨S4096x256, .f32⟩
  | 108 => ⟨S4096x256, .f32⟩
  | 109 => ⟨S4096x256, .f32⟩
  | 110 => ⟨S_, .f32⟩
  | 111 => ⟨S4096x1024, .f32⟩
  | 112 => ⟨S_, .f32⟩
  | 113 => ⟨S4112x1024, .f32⟩
  | 114 => ⟨S4096x256, .f32⟩
  | 115 => ⟨S_, .f32⟩
  | 116 => ⟨S4096x1024, .f32⟩
  | 117 => ⟨S4096x1024, .f32⟩
  | 118 => ⟨S4096x256, .f32⟩
  | 119 => ⟨S4096x256, .f32⟩
  | 120 => ⟨S4096x256, .f32⟩
  | 121 => ⟨S_, .f32⟩
  | 122 => ⟨S4096x1024, .f32⟩
  | 123 => ⟨S4096x1024, .f32⟩
  | 124 => ⟨S_, .f32⟩
  | 125 => ⟨S4112x1024, .f32⟩
  | 126 => ⟨S4112x1024, .f32⟩
  | 127 => ⟨S4096x256, .f32⟩
  | _ => ⟨S4096x1024, .bf16⟩

abbrev hbmTy0_1 (i : Nat) : BufTy := match i % 128 with
  | 0 => ⟨S_, .f32⟩
  | 1 => ⟨S4096x1024, .f32⟩
  | 2 => ⟨S4096x1024, .f32⟩
  | 3 => ⟨S4096x256, .f32⟩
  | 4 => ⟨S4096x256, .f32⟩
  | 5 => ⟨S4096x256, .f32⟩
  | 6 => ⟨S_, .f32⟩
  | 7 => ⟨S4096x1024, .f32⟩
  | 8 => ⟨S4096x1024, .f32⟩
  | 9 => ⟨S_, .f32⟩
  | 10 => ⟨S4112x1024, .f32⟩
  | 11 => ⟨S4112x1024, .f32⟩
  | 12 => ⟨S4096x256, .f32⟩
  | 13 => ⟨S_, .f32⟩
  | 14 => ⟨S4096x1024, .f32⟩
  | 15 => ⟨S4096x1024, .f32⟩
  | 16 => ⟨S4096x256, .f32⟩
  | 17 => ⟨S4096x256, .f32⟩
  | 18 => ⟨S4096x256, .f32⟩
  | 19 => ⟨S_, .f32⟩
  | 20 => ⟨S4096x1024, .f32⟩
  | 21 => ⟨S4096x1024, .f32⟩
  | 22 => ⟨S_, .f32⟩
  | 23 => ⟨S4112x1024, .f32⟩
  | 24 => ⟨S4112x1024, .f32⟩
  | 25 => ⟨S16x1024, .f32⟩
  | 26 => ⟨S4096x1024, .f32⟩
  | 27 => ⟨S4096x1024, .f32⟩
  | 28 => ⟨S_, .f32⟩
  | 29 => ⟨S_, .f32⟩
  | 30 => ⟨S4096x1024, .f32⟩
  | 31 => ⟨S4096x1024, .f32⟩
  | 32 => ⟨S4096x1024, .bf16⟩
  | 33 => ⟨S1x1024, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_call0_call0_cst : Ref sig .tc := ⟨.hbm, 31, rfl⟩
abbrev main_call0_call0_v0 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_c : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_c_7 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_cst_8 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_cst_9 : Ref sig .tc := ⟨.hbm, 110, rfl⟩
abbrev main_v92 : Ref sig .tc := ⟨.hbm, 111, rfl⟩
abbrev main_cst_10 : Ref sig .tc := ⟨.hbm, 112, rfl⟩
abbrev main_v93 : Ref sig .tc := ⟨.hbm, 113, rfl⟩
abbrev main_v94 : Ref sig .tc := ⟨.hbm, 114, rfl⟩
abbrev main_cst_11 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_cst_12 : Ref sig .tc := ⟨.hbm, 121, rfl⟩
abbrev main_v100 : Ref sig .tc := ⟨.hbm, 122, rfl⟩
abbrev main_v101 : Ref sig .tc := ⟨.hbm, 123, rfl⟩
abbrev main_cst_13 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_cst_14 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_cst_15 : Ref sig .tc := ⟨.hbm, 134, rfl⟩
abbrev main_v110 : Ref sig .tc := ⟨.hbm, 135, rfl⟩
abbrev main_v111 : Ref sig .tc := ⟨.hbm, 136, rfl⟩
abbrev main_cst_16 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_cst_17 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_cst_18 : Ref sig .tc := ⟨.hbm, 147, rfl⟩
abbrev main_v120 : Ref sig .tc := ⟨.hbm, 148, rfl⟩
abbrev main_v121 : Ref sig .tc := ⟨.hbm, 149, rfl⟩
abbrev main_cst_19 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_call1_call0_cst : Ref sig .tc := ⟨.hbm, 156, rfl⟩
abbrev main_call1_call0_v0 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩

abbrev nD : Nat := 1
abbrev τ : Topo := Topo.v7x

variable {F : FTy → Type} [FloatOps F]
-- ==== SguFwd.lean ====
abbrev S4096x3072 : Shape := ⟨2, ![4096, 3072]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S128x8 : Shape := ⟨2, ![128, 8]⟩
abbrev S4096x1024 : Shape := ⟨2, ![4096, 1024]⟩
abbrev S256x1024 : Shape := ⟨2, ![256, 1024]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x3072, .f32⟩
  | .hbm, ⟨1, _⟩ => ⟨S1024, .f32⟩
  | .hbm, ⟨2, _⟩ => ⟨S8x128x128, .f32⟩
  | .hbm, ⟨3, _⟩ => ⟨S8x128, .f32⟩
  | .hbm, ⟨4, _⟩ => ⟨S1x1024, .f32⟩
  | .hbm, ⟨5, _⟩ => ⟨S128x8, .f32⟩
  | .hbm, ⟨6, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S8x128x128, .f32⟩
  | .local _ .vmem, ⟨6, _⟩ => ⟨S128x8, .f32⟩
  | .local _ .vmem, ⟨7, _⟩ => ⟨S256x1024, .bf16⟩
  | .local _ .vmem, ⟨8, _⟩ => ⟨S256x1024, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SguFwdRefIdeal.lean ====
abbrev S4096x3072 : Shape := ⟨2, ![4096, 3072]⟩
abbrev S1024 : Shape := ⟨1, ![1024]⟩
abbrev S8x128x128 : Shape := ⟨3, ![8, 128, 128]⟩
abbrev S8x128 : Shape := ⟨2, ![8, 128]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S32x128x8x128 : Shape := ⟨4, ![32, 128, 8, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩

abbrev nBuf : Space → Nat
  | .hbm => 80
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S1024, .f32⟩
  | .hbm, ⟨2, _⟩ => ⟨S8x128x128, .f32⟩
  | .hbm, ⟨3, _⟩ => ⟨S8x128, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S32x128x8x128, .f32⟩
  | .hbm, ⟨57, _⟩ => ⟨S_, .f32⟩
  | .hbm, ⟨58, _⟩ => ⟨S128x128, .f32⟩
  | .hbm, ⟨59, _⟩ => ⟨S128x128, .i32⟩
  | .hbm, ⟨60, _⟩ => ⟨S_, .i32⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S_, .f32⟩
  | .hbm, ⟨66, _⟩ => ⟨S128x128, .f32⟩
  | .hbm, ⟨67, _⟩ => ⟨S128x128, .f32⟩
  | .hbm, ⟨68, _⟩ => ⟨S1x128x128, .f32⟩
  | .hbm, ⟨69, _⟩ => ⟨S8x128x128, .f32⟩
  | .hbm, ⟨70, _⟩ => ⟨S8x128x128, .f32⟩
  | .hbm, ⟨71, _⟩ => ⟨S8x32x128x128, .f32⟩
  | .hbm, ⟨72, _⟩ => ⟨S32x128x8x128, .f32⟩
  | .hbm, ⟨73, _⟩ => ⟨S128x8, .f32⟩
  | .hbm, ⟨74, _⟩ => ⟨S1x128x8x1, .f32⟩
  | .hbm, ⟨75, _⟩ => ⟨S32x128x8x128, .f32⟩
  | .hbm, ⟨76, _⟩ => ⟨S32x128x8x128, .f32⟩
  | .hbm, ⟨77, _⟩ => ⟨S4096x1024, .f32⟩
  | .hbm, ⟨78, _⟩ => ⟨S4096x1024, .f32⟩
  | .hbm, ⟨79, _⟩ => ⟨S4096x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_call0_v0 : Ref sig .tc := ⟨.hbm, 59, rfl⟩
abbrev main_call0_c : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_cst : Ref sig .tc := ⟨.hbm, 65, rfl⟩
abbrev main_call0_v5 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]
-- ==== Proof.Product.Sum.lean ====
module
public import Idealize.ShloMosaic.Lib.Pipeline.ValueKit
@[expose] public section
noncomputable section
open Idealize.ShloMosaic

/-!
# The products of a layer, over the extended reals

`prod` is `x @ w`; `rows` is `ct @ wᵀ`, the gradient of `x @ w` by `x`; `cols` is `xᵀ @ ct`, its gradient by `w`.
-/
namespace Product

/-- Two places of a matrix are one when their coordinates are. -/
theorem place {M N : ℕ} {p q : (⟨2, ![M, N]⟩ : Shape).Idx} (h0 : p 0 = q 0) (h1 : p 1 = q 1) : p = q :=
  funext fun a => match a with
    | ⟨0, _⟩ => h0
    | ⟨1, _⟩ => h1

/-- `x @ w` at one index. -/
def prod {M N K : ℕ} (x : (⟨2, ![M, K]⟩ : Shape).Idx → EReal) (w : (⟨2, ![K, N]⟩ : Shape).Idx → EReal)
    (i : Fin M) (j : Fin N) : EReal := ∑ k : Fin K, x (ix2 i k) * w (ix2 k j)

/-- `ct @ wᵀ` at one index. -/
def rows {M N K : ℕ} (ct : (⟨2, ![M, K]⟩ : Shape).Idx → EReal) (w : (⟨2, ![N, K]⟩ : Shape).Idx → EReal)
    (i : Fin M) (j : Fin N) : EReal := ∑ k : Fin K, ct (ix2 i k) * w (ix2 j k)

/-- `xᵀ @ ct` at one index. -/
def cols {M N K : ℕ} (x : (⟨2, ![K, M]⟩ : Shape).Idx → EReal) (ct : (⟨2, ![K, N]⟩ : Shape).Idx → EReal)
    (i : Fin M) (j : Fin N) : EReal := ∑ k : Fin K, x (ix2 k i) * ct (ix2 k j)

end Product
end
-- ==== Proof.Product.DownDx.lean ====
module
public import proofs.«01_k».proof.Defs
public import proofs.«01_k».proof.Proof.Gen.DownDxIdeal.Value
public import proofs.«01_k».proof.Proof.Gen.DownDxRefIdeal.Run
public import proofs.«01_k».proof.Proof.Gen.DownDxRefIdeal.Read
public import proofs.«01_k».proof.Proof.Product.Sum
public import Idealize.ShloMosaic.Lib.Pipeline.ReadBack
@[expose] public section
set_option maxRecDepth 16384
noncomputable section
open Idealize.ShloMosaic Idealize.ShloMosaic.TcCoe Idealize.SL.Sem

/-! # The gradient of the FFN's down projection by its input: `df @ w_downᵀ` -/
namespace Cert.DownDxIdeal.Value
open Cert.DownDxIdeal Cert.DownDxIdeal.Gen

variable (m : (ℓ : Loc nD τ sig) → Buf (Elt Ideal) ℓ)

/-- Which blocks a grid point works on. -/
theorem idx : ∀ t : Fin cfg0.N, win0_0.index t = ![t.val / 4, 0] ∧ win0_1.index t = ![t.val % 4, 0] ∧
    win0_2.index t = ![t.val / 4, t.val % 4] := (by decide +kernel : ∀ t : Fin grid0.N, _)

theorem zero (j : S1024x1408.Idx) : k0_pay1 (F := Ideal) j = 0 := by pointwise [k0_pay1]

theorem add (acc : Vec Ideal S1024x1408 .f32) (ct : Vec Ideal S1024x2048 .bf16) (w : Vec Ideal S1408x2048 .bf16)
    (j : S1024x1408.Idx) : k0_pay2 acc ct w j = acc j + Product.rows ct w (j 0) (j 1) := by
  pointwise [k0_pay2, Product.rows]

/-- The array the call leaves. -/
theorem array (c : Dev nD) : (dats m 0 c).arrAt 2 (cfgs 0).N = fun i : S4096x5632.Idx => Product.rows
    (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  unfold outsAt0
  frame_out
  pointwise [k0_pay3, add, zero]
  unfold Product.rows
  blk_point [iblk, V, idx t]

end Cert.DownDxIdeal.Value

namespace Cert.DownDxRefIdeal.Value
open Cert.DownDxRefIdeal Cert.DownDxRefIdeal.Read

theorem entry (ct : Vec Ideal S4096x2048 .bf16) (w : Vec Ideal S5632x2048 .bf16) (i : S4096x5632.Idx) :
    val_main_v5 ct w i = Product.rows ct w (i 0) (i 1) := by
  rw [val_main_v5_apply, val_main_v4_apply]
  exact Finset.sum_congr rfl fun k _ => congrArg₂ (· * ·) (congrArg ct (Product.place rfl rfl)) (congrArg w (Product.place rfl rfl))

/-- The reference runs and leaves its arguments as they were. -/
theorem frame : Cert.quiescent_DownDxRefIdeal := fun m ρ _ => (θ_run defs _ _).mono
  (fun r h => ⟨fun c => (h c).2, sem_eq_zero_of_no_sems (by decide) r.2⟩) (run m ρ)

end Cert.DownDxRefIdeal.Value

/-- The two programs end with the same gradient. -/
theorem Cert.DownDxIdeal.Value.equal : Cert.algebraic_DownDxIdeal_DownDxRefIdeal := by
  intro m ρ m' ρ' _ hargs
  refine ⟨fun c => (Cert.DownDxIdeal.Gen.dats m 0 c).arrAt 2 (Cert.DownDxIdeal.cfgs 0).N, Cert.DownDxIdeal.Value.run_blocks m ρ,
    (θ_run _ _ _).mono (fun r h c => ?_) (Cert.DownDxRefIdeal.Value.run m' ρ')⟩
  obtain ⟨r0, ra⟩ := h c
  obtain ⟨a0, a1⟩ := hargs c
  refine ⟨r0.trans ((Cert.DownDxRefIdeal.Read.val_main_v5_eq _ _).trans (Eq.trans ?_ (Cert.DownDxIdeal.Value.array m c).symm)), ra⟩
  funext i
  rw [← a0, ← a1]
  exact Cert.DownDxRefIdeal.Value.entry _ _ i
end
-- ==== Proof.Product.DownDw.lean ====
module
public import proofs.«01_k».proof.Defs
public import proofs.«01_k».proof.Proof.Gen.DownDwIdeal.Value
public import proofs.«01_k».proof.Proof.Gen.DownDwRefIdeal.Run
public import proofs.«01_k».proof.Proof.Gen.DownDwRefIdeal.Read
public import proofs.«01_k».proof.Proof.Product.Sum
public import Idealize.ShloMosaic.Lib.Pipeline.ReadBack
@[expose] public section
set_option maxRecDepth 16384
noncomputable section
open Idealize.ShloMosaic Idealize.ShloMosaic.TcCoe Idealize.SL.Sem

/-! # The gradient of the FFN's down projection by its weight: `aᵀ @ df` -/
namespace Cert.DownDwIdeal.Value
open Cert.DownDwIdeal Cert.DownDwIdeal.Gen

variable (m : (ℓ : Loc nD τ sig) → Buf (Elt Ideal) ℓ)

/-- Which blocks a grid point works on. -/
theorem idx : ∀ t : Fin cfg0.N, win0_0.index t = ![t.val % 2, t.val / 4] ∧ win0_1.index t = ![t.val % 2, t.val / 2 % 2] ∧
    win0_2.index t = ![t.val / 4, t.val / 2 % 2] := (by decide +kernel : ∀ t : Fin grid0.N, _)

theorem zero (j : S1408x1024.Idx) : k0_pay1 (F := Ideal) j = 0 := by pointwise [k0_pay1]

theorem add (acc : Vec Ideal S1408x1024 .f32) (x : Vec Ideal S2048x1408 .bf16) (ct : Vec Ideal S2048x1024 .bf16)
    (j : S1408x1024.Idx) : k0_pay2 acc x ct j = acc j + Product.cols x ct (j 0) (j 1) := by
  pointwise [k0_pay2, Product.cols]

/-- The block written back is the accumulator, in bf16. -/
theorem stored (c : Dev nD) (t : Fin cfg0.N) (ht : t.val % 2 = 1) (j : S1408x1024.Idx) :
    (outsAt0 m c t.val t.isLt).1 j = (outsAt0 m c t.val t.isLt).2 j := by
  rw [outsAt0_B m c t (by omega) ht]
  dsimp only
  frame_out
  pointwise [k0_pay3]

/-- What the accumulator holds at the last point of a block's run. -/
theorem acc (c : Dev nD) (t : Fin cfg0.N) (ht : t.val % 2 = 1) (j : S1408x1024.Idx) :
    (outsAt0 m c t.val t.isLt).2 j = ∑ s : Fin 2, Product.cols (iblk m c 0 ⟨2 * (t.val / 2) + s.val, Pipeline.run_point_lt_of_flush t ht s⟩)
      (iblk m c 1 ⟨2 * (t.val / 2) + s.val, Pipeline.run_point_lt_of_flush t ht s⟩) (j 0) (j 1) := by
  rw [Pipeline.eq_sum_fin_of_reset_step_apply_of_flush (fun n h => (outsAt0 m c n h).2) 2 (fun _ => 0)
    (fun t j => Product.cols (iblk m c 0 t) (iblk m c 1 t) (j 0) (j 1))
    (fun t h j => by rw [outsAt0_A m c t h (by omega)]; dsimp only; frame_out; rw [add, zero])
    (fun t h j => by rw [outsAt0_B m c t h (by omega)]; dsimp only; frame_out; simp only [read_unread_whole]; rw [add]) t ht j, zero_add]

/-- The array the call leaves. -/
theorem array (c : Dev nD) : (dats m 0 c).arrAt 2 (cfgs 0).N = fun i : S5632x2048.Idx => Product.cols
    (m ((c : Thread nD τ).loc main_arg0)) (m ((c : Thread nD τ).loc main_arg1)) (i 0) (i 1) := by
  refine (dats m 0 c).arrAt_eq_of_covers 2 _ (by decide +kernel) fun t hf y => ?_
  have ht := (flush0_2 t).mp hf
  blk_simp
  rw [after0_2, stored m c t ht, acc m c t ht]
  unfold Product.cols
  refine Fin.sum_mul_add_congr fun s k hl => ?_
  blk_point [iblk, V, idx t, idx ⟨_, Pipeline.run_point_lt_of_flush t ht s⟩]

end Cert.DownDwIdeal.Value

namespace Cert.DownDwRefIdeal.Value
open Cert.DownDwRefIdeal Cert.DownDwRefIdeal.Read

theorem entry (x : Vec Ideal S4096x5632 .bf16) (ct : Vec Ideal S4096x2048 .bf16) (i : S5632x2048.Idx) :
    val_main_v6 x ct i = Product.cols x ct (i 0) (i 1) := by
  rw [val_main_v6_apply, val_main_v5_apply, val_main_v4_apply]
  exact Finset.sum_congr rfl fun k _ => (mul_comm _ _).trans (congrArg₂ (· * ·) (congrArg x (Product.place rfl rfl)) (congrArg ct (Product.place rfl rfl)))

/-- The reference runs and leaves its arguments as they were. -/
theorem frame : Cert.quiescent_DownDwRefIdeal := fun m ρ _ => (θ_run defs _ _).mono
  (fun r h => ⟨fun c => (h c).2, sem_eq_zero_of_no_sems (by decide) r.2⟩) (run m ρ)

end Cert.DownDwRefIdeal.Value

/-- The two programs end with the same gradient. -/
theorem Cert.DownDwIdeal.Value.equal : Cert.algebraic_DownDwIdeal_DownDwRefIdeal := by
  intro m ρ m' ρ' _ hargs
  refine ⟨fun c => (Cert.DownDwIdeal.Gen.dats m 0 c).arrAt 2 (Cert.DownDwIdeal.cfgs 0).N, Cert.DownDwIdeal.Value.run_blocks m ρ,
    (θ_run _ _ _).mono (fun r h c => ?_) (Cert.DownDwRefIdeal.Value.run m' ρ')⟩
  obtain ⟨r0, ra⟩ := h c
  obtain ⟨a0, a1⟩ := hargs c
  refine ⟨r0.trans ((Cert.DownDwRefIdeal.Read.val_main_v6_eq _ _).trans (Eq.trans ?_ (Cert.DownDwIdeal.Value.array m c).symm)), ra⟩
  funext i
  rw [← a0, ← a1]
  exact Cert.DownDwRefIdeal.Value.entry _ _ i
end
-- ==== Proof.Product.UpDx.lean ====
module
public import proofs.«01_k».proof.Defs
public import proofs.«01_k».proof.Proof.Gen.UpDxIdeal.Value
public import proofs.«01_k».proof.Proof.Gen.UpDxRefIdeal.Run
public import proofs.«01_k».proof.Proof.Gen.UpDxRefIdeal.Read
public import proofs.«01_k».proof.Proof.Product.Sum
public import Idealize.ShloMosaic.Lib.Pipeline.ReadBack
@[expose] public section
set_option maxRecDepth 16384
noncomputable section
open Idealize.ShloMosaic Idealize.ShloMosaic.TcCoe Idealize.SL.Sem

/-! # The gradient of the FFN's up projection by its input: `dgu @ w_gate_upᵀ` -/
namespace Cert.UpDxIdeal.Value
open Cert.UpDxIdeal Cert.UpDxIdeal.Gen

variable (m : (ℓ : Loc nD τ sig) → Buf (Elt Ideal) ℓ)

/-- Which blocks a grid point works on. -/
theorem idx : ∀ t : Fin cfg0.N, win0_0.index t = ![t.val / 8, t.val % 4] ∧ win0_1.index t = ![t.val / 4 % 2, t.val % 4] ∧
    win0_2.index t = ![t.val / 8, t.val / 4 % 2] := (by decide +kernel : ∀ t : Fin grid0.N, _)

theorem zero (j : S1024x1024.Idx) : k0_pay1 (F := Ideal) j = 0 := by pointwise [k0_pay1]

theorem add (acc : Vec Ideal S1024x1024 .f32) (ct : Vec Ideal S1024x2816 .bf16) (w : Vec Ideal S1024x2816 .bf16)
    (j : S1024x1024.Idx) : k0_pay2 acc ct w j = acc j + Product.rows ct w (j 0) (j 1) := by
  pointwise [k0_pay2, Product.rows]

/-- The block written back is the accumulator. -/
theorem stored (c : Dev nD) (t : Fin cfg0.N) (ht : t.val % 4 = 3) (j : S1024x1024.Idx) :
    (outsAt0 m c t.val t.isLt).1 j = (outsAt0 m c t.val t.isLt).2 j := by
  rw [outsAt0_C m c t (by omega) ht]
  dsimp only
  frame_out

/-- What the accumulator holds at the last point of a block's run. -/
theorem acc (c : Dev nD) (t : Fin cfg0.N) (ht : t.val % 4 = 3) (j : S1024x1024.Idx) :
    (outsAt0 m c t.val t.isLt).2 j = ∑ s : Fin 4, Product.rows (iblk m c 0 ⟨4 * (t.val / 4) + s.val, Pipeline.run_point_lt_of_flush t ht s⟩)
      (iblk m c 1 ⟨4 * (t.val / 4) + s.val, Pipeline.run_point_lt_of_flush t ht s⟩) (j 0) (j 1) := by
  rw [Pipeline.eq_sum_fin_of_reset_step_apply_of_flush (fun n h => (outsAt0 m c n h).2) 4 (fun _ => 0)
    (fun t j => Product.rows (iblk m c 0 t) (iblk m c 1 t) (j 0) (j 1))
    (fun t h j => by rw [outsAt0_A m c t h (by omega)]; dsimp only; frame_out; rw [add, zero])
    (fun t h j => by
      by_cases hl : t.val % 4 = 3
      · rw [outsAt0_C m c t h hl]; dsimp only; frame_out; simp only [read_unread_whole]; rw [add]
      · rw [outsAt0_B m c t h hl]; dsimp only; frame_out; simp only [read_unread_whole]; rw [add]) t ht j, zero_add]

/-- The array the call leaves. -/
theorem array (c : Dev nD) : (dats m 0 c).arrAt 2 (cfgs 0).N = fun i : S4096x2048.Idx => Product.rows
    (m ((c : Thread nD τ).loc main_arg0)) (m ((c : Thread nD τ).loc main_arg1)) (i 0) (i 1) := by
  refine (dats m 0 c).arrAt_eq_of_covers 2 _ (by decide +kernel) fun t hf y => ?_
  have ht := (flush0_2 t).mp hf
  blk_simp
  rw [after0_2, stored m c t ht, acc m c t ht]
  unfold Product.rows
  refine Fin.sum_mul_add_congr fun s k hl => ?_
  blk_point [iblk, V, idx t, idx ⟨_, Pipeline.run_point_lt_of_flush t ht s⟩]

end Cert.UpDxIdeal.Value

namespace Cert.UpDxRefIdeal.Value
open Cert.UpDxRefIdeal Cert.UpDxRefIdeal.Read

theorem entry (ct : Vec Ideal S4096x11264 .bf16) (w : Vec Ideal S2048x11264 .bf16) (i : S4096x2048.Idx) :
    val_main_v4 ct w i = Product.rows ct w (i 0) (i 1) := by
  rw [val_main_v4_apply]
  exact Finset.sum_congr rfl fun k _ => congrArg₂ (· * ·) (congrArg ct (Product.place rfl rfl)) (congrArg w (Product.place rfl rfl))

/-- The reference runs and leaves its arguments as they were. -/
theorem frame : Cert.quiescent_UpDxRefIdeal := fun m ρ _ => (θ_run defs _ _).mono
  (fun r h => ⟨fun c => (h c).2, sem_eq_zero_of_no_sems (by decide) r.2⟩) (run m ρ)

end Cert.UpDxRefIdeal.Value

/-- The two programs end with the same gradient. -/
theorem Cert.UpDxIdeal.Value.equal : Cert.algebraic_UpDxIdeal_UpDxRefIdeal := by
  intro m ρ m' ρ' _ hargs
  refine ⟨fun c => (Cert.UpDxIdeal.Gen.dats m 0 c).arrAt 2 (Cert.UpDxIdeal.cfgs 0).N, Cert.UpDxIdeal.Value.run_blocks m ρ,
    (θ_run _ _ _).mono (fun r h c => ?_) (Cert.UpDxRefIdeal.Value.run m' ρ')⟩
  obtain ⟨r0, ra⟩ := h c
  obtain ⟨a0, a1⟩ := hargs c
  refine ⟨r0.trans ((Cert.UpDxRefIdeal.Read.val_main_v4_eq _ _).trans (Eq.trans ?_ (Cert.UpDxIdeal.Value.array m c).symm)), ra⟩
  funext i
  rw [← a0, ← a1]
  exact Cert.UpDxRefIdeal.Value.entry _ _ i
end
-- ==== Proof.Product.UpDw.lean ====
module
public import proofs.«01_k».proof.Defs
public import proofs.«01_k».proof.Proof.Gen.UpDwIdeal.Value
public import proofs.«01_k».proof.Proof.Gen.UpDwRefIdeal.Run
public import proofs.«01_k».proof.Proof.Gen.UpDwRefIdeal.Read
public import proofs.«01_k».proof.Proof.Product.Sum
public import Idealize.ShloMosaic.Lib.Pipeline.ReadBack
@[expose] public section
set_option maxRecDepth 16384
noncomputable section
open Idealize.ShloMosaic Idealize.ShloMosaic.TcCoe Idealize.SL.Sem

/-! # The gradient of the FFN's up projection by its weight: `hᵀ @ dgu` -/
namespace Cert.UpDwIdeal.Value
open Cert.UpDwIdeal Cert.UpDwIdeal.Gen

variable (m : (ℓ : Loc nD τ sig) → Buf (Elt Ideal) ℓ)

/-- Which blocks a grid point works on. -/
theorem idx : ∀ t : Fin cfg0.N, win0_0.index t = ![t.val % 2, t.val / 22] ∧ win0_1.index t = ![t.val % 2, t.val / 2 % 11] ∧
    win0_2.index t = ![t.val / 22, t.val / 2 % 11] := (by decide +kernel : ∀ t : Fin grid0.N, _)

theorem zero (j : S1024x1024.Idx) : k0_pay1 (F := Ideal) j = 0 := by pointwise [k0_pay1]

theorem add (acc : Vec Ideal S1024x1024 .f32) (x : Vec Ideal S2048x1024 .bf16) (ct : Vec Ideal S2048x1024 .bf16)
    (j : S1024x1024.Idx) : k0_pay2 acc x ct j = acc j + Product.cols x ct (j 0) (j 1) := by
  pointwise [k0_pay2, Product.cols]

/-- The block written back is the accumulator, in bf16. -/
theorem stored (c : Dev nD) (t : Fin cfg0.N) (ht : t.val % 2 = 1) (j : S1024x1024.Idx) :
    (outsAt0 m c t.val t.isLt).1 j = (outsAt0 m c t.val t.isLt).2 j := by
  rw [outsAt0_B m c t (by omega) ht]
  dsimp only
  frame_out
  pointwise [k0_pay3]

/-- What the accumulator holds at the last point of a block's run. -/
theorem acc (c : Dev nD) (t : Fin cfg0.N) (ht : t.val % 2 = 1) (j : S1024x1024.Idx) :
    (outsAt0 m c t.val t.isLt).2 j = ∑ s : Fin 2, Product.cols (iblk m c 0 ⟨2 * (t.val / 2) + s.val, Pipeline.run_point_lt_of_flush t ht s⟩)
      (iblk m c 1 ⟨2 * (t.val / 2) + s.val, Pipeline.run_point_lt_of_flush t ht s⟩) (j 0) (j 1) := by
  rw [Pipeline.eq_sum_fin_of_reset_step_apply_of_flush (fun n h => (outsAt0 m c n h).2) 2 (fun _ => 0)
    (fun t j => Product.cols (iblk m c 0 t) (iblk m c 1 t) (j 0) (j 1))
    (fun t h j => by rw [outsAt0_A m c t h (by omega)]; dsimp only; frame_out; rw [add, zero])
    (fun t h j => by rw [outsAt0_B m c t h (by omega)]; dsimp only; frame_out; simp only [read_unread_whole]; rw [add]) t ht j, zero_add]

/-- The array the call leaves. -/
theorem array (c : Dev nD) : (dats m 0 c).arrAt 2 (cfgs 0).N = fun i : S2048x11264.Idx => Product.cols
    (m ((c : Thread nD τ).loc main_arg0)) (m ((c : Thread nD τ).loc main_arg1)) (i 0) (i 1) := by
  refine (dats m 0 c).arrAt_eq_of_covers 2 _ (by decide +kernel) fun t hf y => ?_
  have ht := (flush0_2 t).mp hf
  blk_simp
  rw [after0_2, stored m c t ht, acc m c t ht]
  unfold Product.cols
  refine Fin.sum_mul_add_congr fun s k hl => ?_
  blk_point [iblk, V, idx t, idx ⟨_, Pipeline.run_point_lt_of_flush t ht s⟩]

end Cert.UpDwIdeal.Value

namespace Cert.UpDwRefIdeal.Value
open Cert.UpDwRefIdeal Cert.UpDwRefIdeal.Read

theorem entry (x : Vec Ideal S4096x2048 .bf16) (ct : Vec Ideal S4096x11264 .bf16) (i : S2048x11264.Idx) :
    val_main_v6 x ct i = Product.cols x ct (i 0) (i 1) := by
  rw [val_main_v6_apply, val_main_v5_apply, val_main_v4_apply]
  exact Finset.sum_congr rfl fun k _ => (mul_comm _ _).trans (congrArg₂ (· * ·) (congrArg x (Product.place rfl rfl)) (congrArg ct (Product.place rfl rfl)))

/-- The reference runs and leaves its arguments as they were. -/
theorem frame : Cert.quiescent_UpDwRefIdeal := fun m ρ _ => (θ_run defs _ _).mono
  (fun r h => ⟨fun c => (h c).2, sem_eq_zero_of_no_sems (by decide) r.2⟩) (run m ρ)

end Cert.UpDwRefIdeal.Value

/-- The two programs end with the same gradient. -/
theorem Cert.UpDwIdeal.Value.equal : Cert.algebraic_UpDwIdeal_UpDwRefIdeal := by
  intro m ρ m' ρ' _ hargs
  refine ⟨fun c => (Cert.UpDwIdeal.Gen.dats m 0 c).arrAt 2 (Cert.UpDwIdeal.cfgs 0).N, Cert.UpDwIdeal.Value.run_blocks m ρ,
    (θ_run _ _ _).mono (fun r h c => ?_) (Cert.UpDwRefIdeal.Value.run m' ρ')⟩
  obtain ⟨r0, ra⟩ := h c
  obtain ⟨a0, a1⟩ := hargs c
  refine ⟨r0.trans ((Cert.UpDwRefIdeal.Read.val_main_v6_eq _ _).trans (Eq.trans ?_ (Cert.UpDwIdeal.Value.array m c).symm)), ra⟩
  funext i
  rw [← a0, ← a1]
  exact Cert.UpDwRefIdeal.Value.entry _ _ i
end
-- ==== Proof.Product.InDx.lean ====
module
public import proofs.«01_k».proof.Defs
public import proofs.«01_k».proof.Proof.Gen.InDxIdeal.Value
public import proofs.«01_k».proof.Proof.Gen.InDxRefIdeal.Run
public import proofs.«01_k».proof.Proof.Gen.InDxRefIdeal.Read
public import proofs.«01_k».proof.Proof.Product.Sum
public import Idealize.ShloMosaic.Lib.Pipeline.ReadBack
@[expose] public section
set_option maxRecDepth 16384
noncomputable section
open Idealize.ShloMosaic Idealize.ShloMosaic.TcCoe Idealize.SL.Sem

/-! # The gradient of the mixer's input projection by its input: `dp @ w_inᵀ` -/
namespace Cert.InDxIdeal.Value
open Cert.InDxIdeal Cert.InDxIdeal.Gen

variable (m : (ℓ : Loc nD τ sig) → Buf (Elt Ideal) ℓ)

/-- Which blocks a grid point works on. -/
theorem idx : ∀ t : Fin cfg0.N, win0_0.index t = ![t.val / 14, t.val % 7] ∧ win0_1.index t = ![t.val / 7 % 2, t.val % 7] ∧
    win0_2.index t = ![t.val / 14, t.val / 7 % 2] := (by decide +kernel : ∀ t : Fin grid0.N, _)

theorem zero (j : S1024x1024.Idx) : k0_pay1 (F := Ideal) j = 0 := by pointwise [k0_pay1]

theorem add (acc : Vec Ideal S1024x1024 .f32) (ct : Vec Ideal S1024x1024 .bf16) (w : Vec Ideal S1024x1024 .bf16)
    (j : S1024x1024.Idx) : k0_pay2 acc ct w j = acc j + Product.rows ct w (j 0) (j 1) := by
  pointwise [k0_pay2, Product.rows]

/-- The block written back is the accumulator. -/
theorem stored (c : Dev nD) (t : Fin cfg0.N) (ht : t.val % 7 = 6) (j : S1024x1024.Idx) :
    (outsAt0 m c t.val t.isLt).1 j = (outsAt0 m c t.val t.isLt).2 j := by
  rw [outsAt0_C m c t (by omega) ht]
  dsimp only
  frame_out

/-- What the accumulator holds at the last point of a block's run. -/
theorem acc (c : Dev nD) (t : Fin cfg0.N) (ht : t.val % 7 = 6) (j : S1024x1024.Idx) :
    (outsAt0 m c t.val t.isLt).2 j = ∑ s : Fin 7, Product.rows (iblk m c 0 ⟨7 * (t.val / 7) + s.val, Pipeline.run_point_lt_of_flush t ht s⟩)
      (iblk m c 1 ⟨7 * (t.val / 7) + s.val, Pipeline.run_point_lt_of_flush t ht s⟩) (j 0) (j 1) := by
  rw [Pipeline.eq_sum_fin_of_reset_step_apply_of_flush (fun n h => (outsAt0 m c n h).2) 7 (fun _ => 0)
    (fun t j => Product.rows (iblk m c 0 t) (iblk m c 1 t) (j 0) (j 1))
    (fun t h j => by rw [outsAt0_A m c t h (by omega)]; dsimp only; frame_out; rw [add, zero])
    (fun t h j => by
      by_cases hl : t.val % 7 = 6
      · rw [outsAt0_C m c t h hl]; dsimp only; frame_out; simp only [read_unread_whole]; rw [add]
      · rw [outsAt0_B m c t h hl]; dsimp only; frame_out; simp only [read_unread_whole]; rw [add]) t ht j, zero_add]

/-- The array the call leaves. -/
theorem array (c : Dev nD) : (dats m 0 c).arrAt 2 (cfgs 0).N = fun i : S4096x2048.Idx => Product.rows
    (m ((c : Thread nD τ).loc main_arg0)) (m ((c : Thread nD τ).loc main_arg1)) (i 0) (i 1) := by
  refine (dats m 0 c).arrAt_eq_of_covers 2 _ (by decide +kernel) fun t hf y => ?_
  have ht := (flush0_2 t).mp hf
  blk_simp
  rw [after0_2, stored m c t ht, acc m c t ht]
  unfold Product.rows
  refine Fin.sum_mul_add_congr fun s k hl => ?_
  blk_point [iblk, V, idx t, idx ⟨_, Pipeline.run_point_lt_of_flush t ht s⟩]

end Cert.InDxIdeal.Value

namespace Cert.InDxRefIdeal.Value
open Cert.InDxRefIdeal Cert.InDxRefIdeal.Read

theorem entry (ct : Vec Ideal S4096x7168 .bf16) (w : Vec Ideal S2048x7168 .bf16) (i : S4096x2048.Idx) :
    val_main_v4 ct w i = Product.rows ct w (i 0) (i 1) := by
  rw [val_main_v4_apply]
  exact Finset.sum_congr rfl fun k _ => congrArg₂ (· * ·) (congrArg ct (Product.place rfl rfl)) (congrArg w (Product.place rfl rfl))

/-- The reference runs and leaves its arguments as they were. -/
theorem frame : Cert.quiescent_InDxRefIdeal := fun m ρ _ => (θ_run defs _ _).mono
  (fun r h => ⟨fun c => (h c).2, sem_eq_zero_of_no_sems (by decide) r.2⟩) (run m ρ)

end Cert.InDxRefIdeal.Value

/-- The two programs end with the same gradient. -/
theorem Cert.InDxIdeal.Value.equal : Cert.algebraic_InDxIdeal_InDxRefIdeal := by
  intro m ρ m' ρ' _ hargs
  refine ⟨fun c => (Cert.InDxIdeal.Gen.dats m 0 c).arrAt 2 (Cert.InDxIdeal.cfgs 0).N, Cert.InDxIdeal.Value.run_blocks m ρ,
    (θ_run _ _ _).mono (fun r h c => ?_) (Cert.InDxRefIdeal.Value.run m' ρ')⟩
  obtain ⟨r0, ra⟩ := h c
  obtain ⟨a0, a1⟩ := hargs c
  refine ⟨r0.trans ((Cert.InDxRefIdeal.Read.val_main_v4_eq _ _).trans (Eq.trans ?_ (Cert.InDxIdeal.Value.array m c).symm)), ra⟩
  funext i
  rw [← a0, ← a1]
  exact Cert.InDxRefIdeal.Value.entry _ _ i
end
-- ==== Proof.Product.InDw.lean ====
module
public import proofs.«01_k».proof.Defs
public import proofs.«01_k».proof.Proof.Gen.InDwIdeal.Value
public import proofs.«01_k».proof.Proof.Gen.InDwRefIdeal.Run
public import proofs.«01_k».proof.Proof.Gen.InDwRefIdeal.Read
public import proofs.«01_k».proof.Proof.Product.Sum
public import Idealize.ShloMosaic.Lib.Pipeline.ReadBack
@[expose] public section
set_option maxRecDepth 16384
noncomputable section
open Idealize.ShloMosaic Idealize.ShloMosaic.TcCoe Idealize.SL.Sem

/-! # The gradient of the mixer's input projection by its weight: `hᵀ @ dp` -/
namespace Cert.InDwIdeal.Value
open Cert.InDwIdeal Cert.InDwIdeal.Gen

variable (m : (ℓ : Loc nD τ sig) → Buf (Elt Ideal) ℓ)

/-- Which blocks a grid point works on. -/
theorem idx : ∀ t : Fin cfg0.N, win0_0.index t = ![t.val % 2, t.val / 14] ∧ win0_1.index t = ![t.val % 2, t.val / 2 % 7] ∧
    win0_2.index t = ![t.val / 14, t.val / 2 % 7] := (by decide +kernel : ∀ t : Fin grid0.N, _)

theorem zero (j : S1024x1024.Idx) : k0_pay1 (F := Ideal) j = 0 := by pointwise [k0_pay1]

theorem add (acc : Vec Ideal S1024x1024 .f32) (x : Vec Ideal S2048x1024 .bf16) (ct : Vec Ideal S2048x1024 .bf16)
    (j : S1024x1024.Idx) : k0_pay2 acc x ct j = acc j + Product.cols x ct (j 0) (j 1) := by
  pointwise [k0_pay2, Product.cols]

/-- The block written back is the accumulator, in bf16. -/
theorem stored (c : Dev nD) (t : Fin cfg0.N) (ht : t.val % 2 = 1) (j : S1024x1024.Idx) :
    (outsAt0 m c t.val t.isLt).1 j = (outsAt0 m c t.val t.isLt).2 j := by
  rw [outsAt0_B m c t (by omega) ht]
  dsimp only
  frame_out
  pointwise [k0_pay3]

/-- What the accumulator holds at the last point of a block's run. -/
theorem acc (c : Dev nD) (t : Fin cfg0.N) (ht : t.val % 2 = 1) (j : S1024x1024.Idx) :
    (outsAt0 m c t.val t.isLt).2 j = ∑ s : Fin 2, Product.cols (iblk m c 0 ⟨2 * (t.val / 2) + s.val, Pipeline.run_point_lt_of_flush t ht s⟩)
      (iblk m c 1 ⟨2 * (t.val / 2) + s.val, Pipeline.run_point_lt_of_flush t ht s⟩) (j 0) (j 1) := by
  rw [Pipeline.eq_sum_fin_of_reset_step_apply_of_flush (fun n h => (outsAt0 m c n h).2) 2 (fun _ => 0)
    (fun t j => Product.cols (iblk m c 0 t) (iblk m c 1 t) (j 0) (j 1))
    (fun t h j => by rw [outsAt0_A m c t h (by omega)]; dsimp only; frame_out; rw [add, zero])
    (fun t h j => by rw [outsAt0_B m c t h (by omega)]; dsimp only; frame_out; simp only [read_unread_whole]; rw [add]) t ht j, zero_add]

/-- The array the call leaves. -/
theorem array (c : Dev nD) : (dats m 0 c).arrAt 2 (cfgs 0).N = fun i : S2048x7168.Idx => Product.cols
    (m ((c : Thread nD τ).loc main_arg0)) (m ((c : Thread nD τ).loc main_arg1)) (i 0) (i 1) := by
  refine (dats m 0 c).arrAt_eq_of_covers 2 _ (by decide +kernel) fun t hf y => ?_
  have ht := (flush0_2 t).mp hf
  blk_simp
  rw [after0_2, stored m c t ht, acc m c t ht]
  unfold Product.cols
  refine Fin.sum_mul_add_congr fun s k hl => ?_
  blk_point [iblk, V, idx t, idx ⟨_, Pipeline.run_point_lt_of_flush t ht s⟩]

end Cert.InDwIdeal.Value

namespace Cert.InDwRefIdeal.Value
open Cert.InDwRefIdeal Cert.InDwRefIdeal.Read

theorem entry (x : Vec Ideal S4096x2048 .bf16) (ct : Vec Ideal S4096x7168 .bf16) (i : S2048x7168.Idx) :
    val_main_v6 x ct i = Product.cols x ct (i 0) (i 1) := by
  rw [val_main_v6_apply, val_main_v5_apply, val_main_v4_apply]
  exact Finset.sum_congr rfl fun k _ => (mul_comm _ _).trans (congrArg₂ (· * ·) (congrArg x (Product.place rfl rfl)) (congrArg ct (Product.place rfl rfl)))

/-- The reference runs and leaves its arguments as they were. -/
theorem frame : Cert.quiescent_InDwRefIdeal := fun m ρ _ => (θ_run defs _ _).mono
  (fun r h => ⟨fun c => (h c).2, sem_eq_zero_of_no_sems (by decide) r.2⟩) (run m ρ)

end Cert.InDwRefIdeal.Value

/-- The two programs end with the same gradient. -/
theorem Cert.InDwIdeal.Value.equal : Cert.algebraic_InDwIdeal_InDwRefIdeal := by
  intro m ρ m' ρ' _ hargs
  refine ⟨fun c => (Cert.InDwIdeal.Gen.dats m 0 c).arrAt 2 (Cert.InDwIdeal.cfgs 0).N, Cert.InDwIdeal.Value.run_blocks m ρ,
    (θ_run _ _ _).mono (fun r h c => ?_) (Cert.InDwRefIdeal.Value.run m' ρ')⟩
  obtain ⟨r0, ra⟩ := h c
  obtain ⟨a0, a1⟩ := hargs c
  refine ⟨r0.trans ((Cert.InDwRefIdeal.Read.val_main_v6_eq _ _).trans (Eq.trans ?_ (Cert.InDwIdeal.Value.array m c).symm)), ra⟩
  funext i
  rw [← a0, ← a1]
  exact Cert.InDwRefIdeal.Value.entry _ _ i
end
-- ==== Proof.Product.OutDx.lean ====
module
public import proofs.«01_k».proof.Defs
public import proofs.«01_k».proof.Proof.Gen.OutDxIdeal.Value
public import proofs.«01_k».proof.Proof.Gen.OutDxRefIdeal.Run
public import proofs.«01_k».proof.Proof.Gen.OutDxRefIdeal.Read
public import proofs.«01_k».proof.Proof.Product.Sum
public import Idealize.ShloMosaic.Lib.Pipeline.ReadBack
@[expose] public section
set_option maxRecDepth 16384
noncomputable section
open Idealize.ShloMosaic Idealize.ShloMosaic.TcCoe Idealize.SL.Sem

/-! # The gradient of the mixer's output projection by its input: `dm @ w_outᵀ` -/
namespace Cert.OutDxIdeal.Value
open Cert.OutDxIdeal Cert.OutDxIdeal.Gen

variable (m : (ℓ : Loc nD τ sig) → Buf (Elt Ideal) ℓ)

/-- Which blocks a grid point works on. -/
theorem idx : ∀ t : Fin cfg0.N, win0_0.index t = ![t.val / 2, 0] ∧ win0_1.index t = ![t.val % 2, 0] ∧
    win0_2.index t = ![t.val / 2, t.val % 2] := (by decide +kernel : ∀ t : Fin grid0.N, _)

theorem zero (j : S1024x1024.Idx) : k0_pay1 (F := Ideal) j = 0 := by pointwise [k0_pay1]

theorem add (acc : Vec Ideal S1024x1024 .f32) (ct : Vec Ideal S1024x2048 .bf16) (w : Vec Ideal S1024x2048 .bf16)
    (j : S1024x1024.Idx) : k0_pay2 acc ct w j = acc j + Product.rows ct w (j 0) (j 1) := by
  pointwise [k0_pay2, Product.rows]

/-- The array the call leaves. -/
theorem array (c : Dev nD) : (dats m 0 c).arrAt 2 (cfgs 0).N = fun i : S4096x2048.Idx => Product.rows
    (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  unfold outsAt0
  frame_out
  pointwise [k0_pay3, add, zero]
  unfold Product.rows
  blk_point [iblk, V, idx t]

end Cert.OutDxIdeal.Value

namespace Cert.OutDxRefIdeal.Value
open Cert.OutDxRefIdeal Cert.OutDxRefIdeal.Read

theorem entry (ct : Vec Ideal S4096x2048 .bf16) (w : Vec Ideal S2048x2048 .bf16) (i : S4096x2048.Idx) :
    val_main_v5 ct w i = Product.rows ct w (i 0) (i 1) := by
  rw [val_main_v5_apply, val_main_v4_apply]
  exact Finset.sum_congr rfl fun k _ => congrArg₂ (· * ·) (congrArg ct (Product.place rfl rfl)) (congrArg w (Product.place rfl rfl))

/-- The reference runs and leaves its arguments as they were. -/
theorem frame : Cert.quiescent_OutDxRefIdeal := fun m ρ _ => (θ_run defs _ _).mono
  (fun r h => ⟨fun c => (h c).2, sem_eq_zero_of_no_sems (by decide) r.2⟩) (run m ρ)

end Cert.OutDxRefIdeal.Value

/-- The two programs end with the same gradient. -/
theorem Cert.OutDxIdeal.Value.equal : Cert.algebraic_OutDxIdeal_OutDxRefIdeal := by
  intro m ρ m' ρ' _ hargs
  refine ⟨fun c => (Cert.OutDxIdeal.Gen.dats m 0 c).arrAt 2 (Cert.OutDxIdeal.cfgs 0).N, Cert.OutDxIdeal.Value.run_blocks m ρ,
    (θ_run _ _ _).mono (fun r h c => ?_) (Cert.OutDxRefIdeal.Value.run m' ρ')⟩
  obtain ⟨r0, ra⟩ := h c
  obtain ⟨a0, a1⟩ := hargs c
  refine ⟨r0.trans ((Cert.OutDxRefIdeal.Read.val_main_v5_eq _ _).trans (Eq.trans ?_ (Cert.OutDxIdeal.Value.array m c).symm)), ra⟩
  funext i
  rw [← a0, ← a1]
  exact Cert.OutDxRefIdeal.Value.entry _ _ i
end
-- ==== Proof.Product.OutDw.lean ====
module
public import proofs.«01_k».proof.Defs
public import proofs.«01_k».proof.Proof.Gen.OutDwIdeal.Value
public import proofs.«01_k».proof.Proof.Gen.OutDwRefIdeal.Run
public import proofs.«01_k».proof.Proof.Gen.OutDwRefIdeal.Read
public import proofs.«01_k».proof.Proof.Product.Sum
public import Idealize.ShloMosaic.Lib.Pipeline.ReadBack
@[expose] public section
set_option maxRecDepth 16384
noncomputable section
open Idealize.ShloMosaic Idealize.ShloMosaic.TcCoe Idealize.SL.Sem

/-! # The gradient of the mixer's output projection by its weight: `yᵀ @ dm` -/
namespace Cert.OutDwIdeal.Value
open Cert.OutDwIdeal Cert.OutDwIdeal.Gen

variable (m : (ℓ : Loc nD τ sig) → Buf (Elt Ideal) ℓ)

/-- Which blocks a grid point works on. -/
theorem idx : ∀ t : Fin cfg0.N, win0_0.index t = ![t.val % 2, t.val / 4] ∧ win0_1.index t = ![t.val % 2, t.val / 2 % 2] ∧
    win0_2.index t = ![t.val / 4, t.val / 2 % 2] := (by decide +kernel : ∀ t : Fin grid0.N, _)

theorem zero (j : S1024x1024.Idx) : k0_pay1 (F := Ideal) j = 0 := by pointwise [k0_pay1]

theorem add (acc : Vec Ideal S1024x1024 .f32) (x : Vec Ideal S2048x1024 .bf16) (ct : Vec Ideal S2048x1024 .bf16)
    (j : S1024x1024.Idx) : k0_pay2 acc x ct j = acc j + Product.cols x ct (j 0) (j 1) := by
  pointwise [k0_pay2, Product.cols]

/-- The block written back is the accumulator, in bf16. -/
theorem stored (c : Dev nD) (t : Fin cfg0.N) (ht : t.val % 2 = 1) (j : S1024x1024.Idx) :
    (outsAt0 m c t.val t.isLt).1 j = (outsAt0 m c t.val t.isLt).2 j := by
  rw [outsAt0_B m c t (by omega) ht]
  dsimp only
  frame_out
  pointwise [k0_pay3]

/-- What the accumulator holds at the last point of a block's run. -/
theorem acc (c : Dev nD) (t : Fin cfg0.N) (ht : t.val % 2 = 1) (j : S1024x1024.Idx) :
    (outsAt0 m c t.val t.isLt).2 j = ∑ s : Fin 2, Product.cols (iblk m c 0 ⟨2 * (t.val / 2) + s.val, Pipeline.run_point_lt_of_flush t ht s⟩)
      (iblk m c 1 ⟨2 * (t.val / 2) + s.val, Pipeline.run_point_lt_of_flush t ht s⟩) (j 0) (j 1) := by
  rw [Pipeline.eq_sum_fin_of_reset_step_apply_of_flush (fun n h => (outsAt0 m c n h).2) 2 (fun _ => 0)
    (fun t j => Product.cols (iblk m c 0 t) (iblk m c 1 t) (j 0) (j 1))
    (fun t h j => by rw [outsAt0_A m c t h (by omega)]; dsimp only; frame_out; rw [add, zero])
    (fun t h j => by rw [outsAt0_B m c t h (by omega)]; dsimp only; frame_out; simp only [read_unread_whole]; rw [add]) t ht j, zero_add]

/-- The array the call leaves. -/
theorem array (c : Dev nD) : (dats m 0 c).arrAt 2 (cfgs 0).N = fun i : S2048x2048.Idx => Product.cols
    (m ((c : Thread nD τ).loc main_arg0)) (m ((c : Thread nD τ).loc main_arg1)) (i 0) (i 1) := by
  refine (dats m 0 c).arrAt_eq_of_covers 2 _ (by decide +kernel) fun t hf y => ?_
  have ht := (flush0_2 t).mp hf
  blk_simp
  rw [after0_2, stored m c t ht, acc m c t ht]
  unfold Product.cols
  refine Fin.sum_mul_add_congr fun s k hl => ?_
  blk_point [iblk, V, idx t, idx ⟨_, Pipeline.run_point_lt_of_flush t ht s⟩]

end Cert.OutDwIdeal.Value

namespace Cert.OutDwRefIdeal.Value
open Cert.OutDwRefIdeal Cert.OutDwRefIdeal.Read

theorem entry (x : Vec Ideal S4096x2048 .bf16) (ct : Vec Ideal S4096x2048 .bf16) (i : S2048x2048.Idx) :
    val_main_v6 x ct i = Product.cols x ct (i 0) (i 1) := by
  rw [val_main_v6_apply, val_main_v5_apply, val_main_v4_apply]
  exact Finset.sum_congr rfl fun k _ => (mul_comm _ _).trans (congrArg₂ (· * ·) (congrArg x (Product.place rfl rfl)) (congrArg ct (Product.place rfl rfl)))

/-- The reference runs and leaves its arguments as they were. -/
theorem frame : Cert.quiescent_OutDwRefIdeal := fun m ρ _ => (θ_run defs _ _).mono
  (fun r h => ⟨fun c => (h c).2, sem_eq_zero_of_no_sems (by decide) r.2⟩) (run m ρ)

end Cert.OutDwRefIdeal.Value

/-- The two programs end with the same gradient. -/
theorem Cert.OutDwIdeal.Value.equal : Cert.algebraic_OutDwIdeal_OutDwRefIdeal := by
  intro m ρ m' ρ' _ hargs
  refine ⟨fun c => (Cert.OutDwIdeal.Gen.dats m 0 c).arrAt 2 (Cert.OutDwIdeal.cfgs 0).N, Cert.OutDwIdeal.Value.run_blocks m ρ,
    (θ_run _ _ _).mono (fun r h c => ?_) (Cert.OutDwRefIdeal.Value.run m' ρ')⟩
  obtain ⟨r0, ra⟩ := h c
  obtain ⟨a0, a1⟩ := hargs c
  refine ⟨r0.trans ((Cert.OutDwRefIdeal.Read.val_main_v6_eq _ _).trans (Eq.trans ?_ (Cert.OutDwIdeal.Value.array m c).symm)), ra⟩
  funext i
  rw [← a0, ← a1]
  exact Cert.OutDwRefIdeal.Value.entry _ _ i
end
-- ==== Proof.Product.BranchDx.lean ====
module
public import proofs.«01_k».proof.Defs
public import proofs.«01_k».proof.Proof.Gen.BranchDxIdeal.Value
public import proofs.«01_k».proof.Proof.Gen.BranchDxRefIdeal.Run
public import proofs.«01_k».proof.Proof.Gen.BranchDxRefIdeal.Read
public import proofs.«01_k».proof.Proof.Product.Sum
public import Idealize.ShloMosaic.Lib.Pipeline.ReadBack
@[expose] public section
set_option maxRecDepth 16384
noncomputable section
open Idealize.ShloMosaic Idealize.ShloMosaic.TcCoe Idealize.SL.Sem

/-! # The gradient of a mixer branch's output projection by its input: `dy @ wᵀ` -/
namespace Cert.BranchDxIdeal.Value
open Cert.BranchDxIdeal Cert.BranchDxIdeal.Gen

variable (m : (ℓ : Loc nD τ sig) → Buf (Elt Ideal) ℓ)

/-- Which blocks a grid point works on. -/
theorem idx : ∀ t : Fin cfg0.N, win0_0.index t = ![t.val, 0] ∧ win0_1.index t = ![0, 0] ∧
    win0_2.index t = ![t.val, 0] := (by decide +kernel : ∀ t : Fin grid0.N, _)

theorem zero (j : S1024x1024.Idx) : k0_pay1 (F := Ideal) j = 0 := by pointwise [k0_pay1]

theorem add (acc : Vec Ideal S1024x1024 .f32) (ct : Vec Ideal S1024x2048 .bf16) (w : Vec Ideal S1024x2048 .bf16)
    (j : S1024x1024.Idx) : k0_pay2 acc ct w j = acc j + Product.rows ct w (j 0) (j 1) := by
  pointwise [k0_pay2, Product.rows]

/-- The array the call leaves. -/
theorem array (c : Dev nD) : (dats m 0 c).arrAt 2 (cfgs 0).N = fun i : S4096x1024.Idx => Product.rows
    (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  unfold outsAt0
  frame_out
  pointwise [k0_pay3, add, zero]
  unfold Product.rows
  blk_point [iblk, V, idx t]

end Cert.BranchDxIdeal.Value

namespace Cert.BranchDxRefIdeal.Value
open Cert.BranchDxRefIdeal Cert.BranchDxRefIdeal.Read

theorem entry (ct : Vec Ideal S4096x2048 .bf16) (w : Vec Ideal S1024x2048 .bf16) (i : S4096x1024.Idx) :
    val_main_v5 ct w i = Product.rows ct w (i 0) (i 1) := by
  rw [val_main_v5_apply, val_main_v4_apply]
  exact Finset.sum_congr rfl fun k _ => congrArg₂ (· * ·) (congrArg ct (Product.place rfl rfl)) (congrArg w (Product.place rfl rfl))

/-- The reference runs and leaves its arguments as they were. -/
theorem frame : Cert.quiescent_BranchDxRefIdeal := fun m ρ _ => (θ_run defs _ _).mono
  (fun r h => ⟨fun c => (h c).2, sem_eq_zero_of_no_sems (by decide) r.2⟩) (run m ρ)

end Cert.BranchDxRefIdeal.Value

/-- The two programs end with the same gradient. -/
theorem Cert.BranchDxIdeal.Value.equal : Cert.algebraic_BranchDxIdeal_BranchDxRefIdeal := by
  intro m ρ m' ρ' _ hargs
  refine ⟨fun c => (Cert.BranchDxIdeal.Gen.dats m 0 c).arrAt 2 (Cert.BranchDxIdeal.cfgs 0).N, Cert.BranchDxIdeal.Value.run_blocks m ρ,
    (θ_run _ _ _).mono (fun r h c => ?_) (Cert.BranchDxRefIdeal.Value.run m' ρ')⟩
  obtain ⟨r0, ra⟩ := h c
  obtain ⟨a0, a1⟩ := hargs c
  refine ⟨r0.trans ((Cert.BranchDxRefIdeal.Read.val_main_v5_eq _ _).trans (Eq.trans ?_ (Cert.BranchDxIdeal.Value.array m c).symm)), ra⟩
  funext i
  rw [← a0, ← a1]
  exact Cert.BranchDxRefIdeal.Value.entry _ _ i
end
-- ==== Proof.Product.BranchDw.lean ====
module
public import proofs.«01_k».proof.Defs
public import proofs.«01_k».proof.Proof.Gen.BranchDwIdeal.Value
public import proofs.«01_k».proof.Proof.Gen.BranchDwRefIdeal.Run
public import proofs.«01_k».proof.Proof.Gen.BranchDwRefIdeal.Read
public import proofs.«01_k».proof.Proof.Product.Sum
public import Idealize.ShloMosaic.Lib.Pipeline.ReadBack
@[expose] public section
set_option maxRecDepth 16384
noncomputable section
open Idealize.ShloMosaic Idealize.ShloMosaic.TcCoe Idealize.SL.Sem

/-! # The gradient of a mixer branch's output projection by its weight: `xᵀ @ dy` -/
namespace Cert.BranchDwIdeal.Value
open Cert.BranchDwIdeal Cert.BranchDwIdeal.Gen

variable (m : (ℓ : Loc nD τ sig) → Buf (Elt Ideal) ℓ)

/-- Which blocks a grid point works on. -/
theorem idx : ∀ t : Fin cfg0.N, win0_0.index t = ![t.val % 2, 0] ∧ win0_1.index t = ![t.val % 2, t.val / 2] ∧
    win0_2.index t = ![0, t.val / 2] := (by decide +kernel : ∀ t : Fin grid0.N, _)

theorem zero (j : S1024x1024.Idx) : k0_pay1 (F := Ideal) j = 0 := by pointwise [k0_pay1]

theorem add (acc : Vec Ideal S1024x1024 .f32) (x : Vec Ideal S2048x1024 .bf16) (ct : Vec Ideal S2048x1024 .bf16)
    (j : S1024x1024.Idx) : k0_pay2 acc x ct j = acc j + Product.cols x ct (j 0) (j 1) := by
  pointwise [k0_pay2, Product.cols]

/-- The block written back is the accumulator, in bf16. -/
theorem stored (c : Dev nD) (t : Fin cfg0.N) (ht : t.val % 2 = 1) (j : S1024x1024.Idx) :
    (outsAt0 m c t.val t.isLt).1 j = (outsAt0 m c t.val t.isLt).2 j := by
  rw [outsAt0_B m c t (by omega) ht]
  dsimp only
  frame_out
  pointwise [k0_pay3]

/-- What the accumulator holds at the last point of a block's run. -/
theorem acc (c : Dev nD) (t : Fin cfg0.N) (ht : t.val % 2 = 1) (j : S1024x1024.Idx) :
    (outsAt0 m c t.val t.isLt).2 j = ∑ s : Fin 2, Product.cols (iblk m c 0 ⟨2 * (t.val / 2) + s.val, Pipeline.run_point_lt_of_flush t ht s⟩)
      (iblk m c 1 ⟨2 * (t.val / 2) + s.val, Pipeline.run_point_lt_of_flush t ht s⟩) (j 0) (j 1) := by
  rw [Pipeline.eq_sum_fin_of_reset_step_apply_of_flush (fun n h => (outsAt0 m c n h).2) 2 (fun _ => 0)
    (fun t j => Product.cols (iblk m c 0 t) (iblk m c 1 t) (j 0) (j 1))
    (fun t h j => by rw [outsAt0_A m c t h (by omega)]; dsimp only; frame_out; rw [add, zero])
    (fun t h j => by rw [outsAt0_B m c t h (by omega)]; dsimp only; frame_out; simp only [read_unread_whole]; rw [add]) t ht j, zero_add]

/-- The array the call leaves. -/
theorem array (c : Dev nD) : (dats m 0 c).arrAt 2 (cfgs 0).N = fun i : S1024x2048.Idx => Product.cols
    (m ((c : Thread nD τ).loc main_arg0)) (m ((c : Thread nD τ).loc main_arg1)) (i 0) (i 1) := by
  refine (dats m 0 c).arrAt_eq_of_covers 2 _ (by decide +kernel) fun t hf y => ?_
  have ht := (flush0_2 t).mp hf
  blk_simp
  rw [after0_2, stored m c t ht, acc m c t ht]
  unfold Product.cols
  refine Fin.sum_mul_add_congr fun s k hl => ?_
  blk_point [iblk, V, idx t, idx ⟨_, Pipeline.run_point_lt_of_flush t ht s⟩]

end Cert.BranchDwIdeal.Value

namespace Cert.BranchDwRefIdeal.Value
open Cert.BranchDwRefIdeal Cert.BranchDwRefIdeal.Read

theorem entry (x : Vec Ideal S4096x1024 .bf16) (ct : Vec Ideal S4096x2048 .bf16) (i : S1024x2048.Idx) :
    val_main_v6 x ct i = Product.cols x ct (i 0) (i 1) := by
  rw [val_main_v6_apply, val_main_v5_apply, val_main_v4_apply]
  exact Finset.sum_congr rfl fun k _ => (mul_comm _ _).trans (congrArg₂ (· * ·) (congrArg x (Product.place rfl rfl)) (congrArg ct (Product.place rfl rfl)))

/-- The reference runs and leaves its arguments as they were. -/
theorem frame : Cert.quiescent_BranchDwRefIdeal := fun m ρ _ => (θ_run defs _ _).mono
  (fun r h => ⟨fun c => (h c).2, sem_eq_zero_of_no_sems (by decide) r.2⟩) (run m ρ)

end Cert.BranchDwRefIdeal.Value

/-- The two programs end with the same gradient. -/
theorem Cert.BranchDwIdeal.Value.equal : Cert.algebraic_BranchDwIdeal_BranchDwRefIdeal := by
  intro m ρ m' ρ' _ hargs
  refine ⟨fun c => (Cert.BranchDwIdeal.Gen.dats m 0 c).arrAt 2 (Cert.BranchDwIdeal.cfgs 0).N, Cert.BranchDwIdeal.Value.run_blocks m ρ,
    (θ_run _ _ _).mono (fun r h c => ?_) (Cert.BranchDwRefIdeal.Value.run m' ρ')⟩
  obtain ⟨r0, ra⟩ := h c
  obtain ⟨a0, a1⟩ := hargs c
  refine ⟨r0.trans ((Cert.BranchDwRefIdeal.Read.val_main_v6_eq _ _).trans (Eq.trans ?_ (Cert.BranchDwIdeal.Value.array m c).symm)), ra⟩
  funext i
  rw [← a0, ← a1]
  exact Cert.BranchDwRefIdeal.Value.entry _ _ i
end
-- ==== Proof.Product.Down.lean ====
module
public import proofs.«01_k».proof.Defs
public import proofs.«01_k».proof.Proof.Gen.DownIdeal.Value
public import proofs.«01_k».proof.Proof.Gen.DownRefIdeal.Run
public import proofs.«01_k».proof.Proof.Gen.DownRefIdeal.Read
public import proofs.«01_k».proof.Proof.Product.Sum
public import Idealize.ShloMosaic.Lib.Pipeline.ReadBack
@[expose] public section
set_option maxRecDepth 16384
noncomputable section
open Idealize.ShloMosaic Idealize.ShloMosaic.TcCoe Idealize.SL.Sem

/-! # The FFN's down projection: `a @ w_down` -/
namespace Cert.DownIdeal.Value
open Cert.DownIdeal Cert.DownIdeal.Gen

variable (m : (ℓ : Loc nD τ sig) → Buf (Elt Ideal) ℓ)

/-- Which blocks a grid point works on. -/
theorem idx : ∀ t : Fin cfg0.N, win0_0.index t = ![t.val / 4, t.val % 2] ∧ win0_1.index t = ![t.val % 2, t.val / 2 % 2] ∧
    win0_2.index t = ![t.val / 4, t.val / 2 % 2] := (by decide +kernel : ∀ t : Fin grid0.N, _)

theorem zero (j : S1024x1024.Idx) : k0_pay1 (F := Ideal) j = 0 := by pointwise [k0_pay1]

theorem add (acc : Vec Ideal S1024x1024 .f32) (x : Vec Ideal S1024x2816 .bf16) (w : Vec Ideal S2816x1024 .bf16)
    (j : S1024x1024.Idx) : k0_pay2 acc x w j = acc j + Product.prod x w (j 0) (j 1) := by
  pointwise [k0_pay2, Product.prod]

/-- The block written back is the accumulator. -/
theorem stored (c : Dev nD) (t : Fin cfg0.N) (ht : t.val % 2 = 1) (j : S1024x1024.Idx) :
    (outsAt0 m c t.val t.isLt).1 j = (outsAt0 m c t.val t.isLt).2 j := by
  rw [outsAt0_B m c t (by omega) ht]
  dsimp only
  frame_out

/-- What the accumulator holds at the last point of a block's run. -/
theorem acc (c : Dev nD) (t : Fin cfg0.N) (ht : t.val % 2 = 1) (j : S1024x1024.Idx) :
    (outsAt0 m c t.val t.isLt).2 j = ∑ s : Fin 2, Product.prod (iblk m c 0 ⟨2 * (t.val / 2) + s.val, Pipeline.run_point_lt_of_flush t ht s⟩)
      (iblk m c 1 ⟨2 * (t.val / 2) + s.val, Pipeline.run_point_lt_of_flush t ht s⟩) (j 0) (j 1) := by
  rw [Pipeline.eq_sum_fin_of_reset_step_apply_of_flush (fun n h => (outsAt0 m c n h).2) 2 (fun _ => 0)
    (fun t j => Product.prod (iblk m c 0 t) (iblk m c 1 t) (j 0) (j 1))
    (fun t h j => by rw [outsAt0_A m c t h (by omega)]; dsimp only; frame_out; rw [add, zero])
    (fun t h j => by rw [outsAt0_B m c t h (by omega)]; dsimp only; frame_out; simp only [read_unread_whole]; rw [add]) t ht j, zero_add]

/-- The array the call leaves. -/
theorem array (c : Dev nD) : (dats m 0 c).arrAt 2 (cfgs 0).N = fun i : S4096x2048.Idx => Product.prod
    (m ((c : Thread nD τ).loc main_arg0)) (m ((c : Thread nD τ).loc main_arg1)) (i 0) (i 1) := by
  refine (dats m 0 c).arrAt_eq_of_covers 2 _ (by decide +kernel) fun t hf y => ?_
  have ht := (flush0_2 t).mp hf
  blk_simp
  rw [after0_2, stored m c t ht, acc m c t ht]
  unfold Product.prod
  refine Fin.sum_mul_add_congr fun s k hl => ?_
  blk_point [iblk, V, idx t, idx ⟨_, Pipeline.run_point_lt_of_flush t ht s⟩]

end Cert.DownIdeal.Value

namespace Cert.DownRefIdeal.Value
open Cert.DownRefIdeal Cert.DownRefIdeal.Read

theorem entry (x : Vec Ideal S4096x5632 .bf16) (w : Vec Ideal S5632x2048 .bf16) (i : S4096x2048.Idx) :
    val_main_v2 x w i = Product.prod x w (i 0) (i 1) := by
  rw [val_main_v2_apply]
  exact Finset.sum_congr rfl fun k _ => congrArg₂ (· * ·) (congrArg x (Product.place rfl rfl)) (congrArg w (Product.place rfl rfl))

/-- The reference runs and leaves its arguments as they were. -/
theorem frame : Cert.quiescent_DownRefIdeal := fun m ρ _ => (θ_run defs _ _).mono
  (fun r h => ⟨fun c => (h c).2, sem_eq_zero_of_no_sems (by decide) r.2⟩) (run m ρ)

end Cert.DownRefIdeal.Value

/-- The two programs end with the same product. -/
theorem Cert.DownIdeal.Value.equal : Cert.algebraic_DownIdeal_DownRefIdeal := by
  intro m ρ m' ρ' _ hargs
  refine ⟨fun c => (Cert.DownIdeal.Gen.dats m 0 c).arrAt 2 (Cert.DownIdeal.cfgs 0).N, Cert.DownIdeal.Value.run_blocks m ρ,
    (θ_run _ _ _).mono (fun r h c => ?_) (Cert.DownRefIdeal.Value.run m' ρ')⟩
  obtain ⟨r0, ra⟩ := h c
  obtain ⟨a0, a1⟩ := hargs c
  refine ⟨r0.trans ((Cert.DownRefIdeal.Read.val_main_v2_eq _ _).trans (Eq.trans ?_ (Cert.DownIdeal.Value.array m c).symm)), ra⟩
  funext i
  rw [← a0, ← a1]
  exact Cert.DownRefIdeal.Value.entry _ _ i
end
-- ==== Proof.Product.InValues.lean ====
module
public import proofs.«01_k».proof.Defs
public import proofs.«01_k».proof.Proof.Gen.InValuesIdeal.Value
public import proofs.«01_k».proof.Proof.Gen.InValuesRefIdeal.Run
public import proofs.«01_k».proof.Proof.Gen.InValuesRefIdeal.Read
public import proofs.«01_k».proof.Proof.Product.Sum
public import Idealize.ShloMosaic.Lib.Pipeline.ReadBack
@[expose] public section
set_option maxRecDepth 16384
noncomputable section
open Idealize.ShloMosaic Idealize.ShloMosaic.TcCoe Idealize.SL.Sem

/-! # The mixer's input projection, the branches' columns: `(h @ w_in)[:, :3072]` -/
namespace Cert.InValuesIdeal.Value
open Cert.InValuesIdeal Cert.InValuesIdeal.Gen

variable (m : (ℓ : Loc nD τ sig) → Buf (Elt Ideal) ℓ)

/-- Which blocks a grid point works on. -/
theorem idx : ∀ t : Fin cfg0.N, win0_0.index t = ![t.val / 3, 0] ∧ win0_1.index t = ![0, t.val % 3] ∧
    win0_2.index t = ![t.val / 3, t.val % 3] := (by decide +kernel : ∀ t : Fin grid0.N, _)

theorem zero (j : S1024x1024.Idx) : k0_pay1 (F := Ideal) j = 0 := by pointwise [k0_pay1]

theorem add (acc : Vec Ideal S1024x1024 .f32) (x : Vec Ideal S1024x2048 .bf16) (w : Vec Ideal S2048x1024 .bf16)
    (j : S1024x1024.Idx) : k0_pay2 acc x w j = acc j + Product.prod x w (j 0) (j 1) := by
  pointwise [k0_pay2, Product.prod]

/-- The column of the weight an output column comes from. -/
def col (i : S4096x3072.Idx) : Fin 7168 := ⟨(i 1).val, by have := (i 1).isLt; change (i 1).val < 3072 at this; omega⟩

/-- The array the call leaves. -/
theorem array (c : Dev nD) : (dats m 0 c).arrAt 2 (cfgs 0).N = fun i : S4096x3072.Idx => Product.prod
    (m ((c : Thread nD τ).loc main_arg0)) (m ((c : Thread nD τ).loc main_arg1)) (i 0) (col i) := by
  refine (dats m 0 c).arrAt_eq_of_covers 2 _ (by decide +kernel) fun t hf y => ?_
  blk_simp
  rw [after0_2]
  unfold outsAt0
  frame_out
  rw [add, zero, zero_add]
  unfold Product.prod col
  blk_point [iblk, V, idx t]

end Cert.InValuesIdeal.Value

namespace Cert.InValuesRefIdeal.Value
open Cert.InValuesRefIdeal Cert.InValuesRefIdeal.Read

theorem entry (x : Vec Ideal S4096x2048 .bf16) (w : Vec Ideal S2048x7168 .bf16) (i : S4096x3072.Idx) :
    val_main_v3 x w i = Product.prod x w (i 0) (Cert.InValuesIdeal.Value.col i) := by
  rw [val_main_v3_apply, val_main_v2_apply]
  exact Finset.sum_congr rfl fun k _ => congrArg₂ (· * ·) (congrArg x (Product.place rfl rfl)) (congrArg w (Product.place rfl rfl))

/-- The reference runs and leaves its arguments as they were. -/
theorem frame : Cert.quiescent_InValuesRefIdeal := fun m ρ _ => (θ_run defs _ _).mono
  (fun r h => ⟨fun c => (h c).2, sem_eq_zero_of_no_sems (by decide) r.2⟩) (run m ρ)

end Cert.InValuesRefIdeal.Value

/-- The two programs end with the same product. -/
theorem Cert.InValuesIdeal.Value.equal : Cert.algebraic_InValuesIdeal_InValuesRefIdeal := by
  intro m ρ m' ρ' _ hargs
  refine ⟨fun c => (Cert.InValuesIdeal.Gen.dats m 0 c).arrAt 2 (Cert.InValuesIdeal.cfgs 0).N, Cert.InValuesIdeal.Value.run_blocks m ρ,
    (θ_run _ _ _).mono (fun r h c => ?_) (Cert.InValuesRefIdeal.Value.run m' ρ')⟩
  obtain ⟨r0, ra⟩ := h c
  obtain ⟨a0, a1⟩ := hargs c
  refine ⟨r0.trans ((Cert.InValuesRefIdeal.Read.val_main_v3_eq _ _).trans (Eq.trans ?_ (Cert.InValuesIdeal.Value.array m c).symm)), ra⟩
  funext i
  rw [← a0, ← a1]
  exact Cert.InValuesRefIdeal.Value.entry _ _ i
end
-- ==== Proof.Product.InGates.lean ====
module
public import proofs.«01_k».proof.Defs
public import proofs.«01_k».proof.Proof.Gen.InGatesIdeal.Value
public import proofs.«01_k».proof.Proof.Gen.InGatesRefIdeal.Run
public import proofs.«01_k».proof.Proof.Gen.InGatesRefIdeal.Read
public import proofs.«01_k».proof.Proof.Product.Sum
public import Idealize.ShloMosaic.Lib.Pipeline.ReadBack
@[expose] public section
set_option maxRecDepth 16384
noncomputable section
open Idealize.ShloMosaic Idealize.ShloMosaic.TcCoe Idealize.SL.Sem

/-! # The mixer's input projection, the gates' columns: `(h @ w_in)[:, 3072:]` -/
namespace Cert.InGatesIdeal.Value
open Cert.InGatesIdeal Cert.InGatesIdeal.Gen

variable (m : (ℓ : Loc nD τ sig) → Buf (Elt Ideal) ℓ)

/-- Which blocks a grid point works on. -/
theorem idx : ∀ t : Fin cfg0.N, win0_0.index t = ![t.val / 4, 0] ∧ win0_1.index t = ![0, t.val % 4 + 3] ∧
    win0_2.index t = ![t.val / 4, t.val % 4] := (by decide +kernel : ∀ t : Fin grid0.N, _)

theorem zero (j : S1024x1024.Idx) : k0_pay1 (F := Ideal) j = 0 := by pointwise [k0_pay1]

theorem add (acc : Vec Ideal S1024x1024 .f32) (x : Vec Ideal S1024x2048 .bf16) (w : Vec Ideal S2048x1024 .bf16)
    (j : S1024x1024.Idx) : k0_pay2 acc x w j = acc j + Product.prod x w (j 0) (j 1) := by
  pointwise [k0_pay2, Product.prod]

/-- The column of the weight an output column comes from. -/
def col (i : S4096x4096.Idx) : Fin 7168 := ⟨3072 + (i 1).val, by have := (i 1).isLt; change (i 1).val < 4096 at this; omega⟩

/-- The array the call leaves. -/
theorem array (c : Dev nD) : (dats m 0 c).arrAt 2 (cfgs 0).N = fun i : S4096x4096.Idx => Product.prod
    (m ((c : Thread nD τ).loc main_arg0)) (m ((c : Thread nD τ).loc main_arg1)) (i 0) (col i) := by
  refine (dats m 0 c).arrAt_eq_of_covers 2 _ (by decide +kernel) fun t hf y => ?_
  blk_simp
  rw [after0_2]
  unfold outsAt0
  frame_out
  pointwise [k0_pay3, add, zero]
  unfold Product.prod col
  blk_point [iblk, V, idx t]

end Cert.InGatesIdeal.Value

namespace Cert.InGatesRefIdeal.Value
open Cert.InGatesRefIdeal Cert.InGatesRefIdeal.Read

theorem entry (x : Vec Ideal S4096x2048 .bf16) (w : Vec Ideal S2048x7168 .bf16) (i : S4096x4096.Idx) :
    val_main_v4 x w i = Product.prod x w (i 0) (Cert.InGatesIdeal.Value.col i) := by
  rw [val_main_v4_apply, val_main_v3_apply, val_main_v2_apply]
  exact Finset.sum_congr rfl fun k _ => congrArg₂ (· * ·) (congrArg x (Product.place rfl rfl)) (congrArg w (Product.place rfl rfl))

/-- The reference runs and leaves its arguments as they were. -/
theorem frame : Cert.quiescent_InGatesRefIdeal := fun m ρ _ => (θ_run defs _ _).mono
  (fun r h => ⟨fun c => (h c).2, sem_eq_zero_of_no_sems (by decide) r.2⟩) (run m ρ)

end Cert.InGatesRefIdeal.Value

/-- The two programs end with the same product. -/
theorem Cert.InGatesIdeal.Value.equal : Cert.algebraic_InGatesIdeal_InGatesRefIdeal := by
  intro m ρ m' ρ' _ hargs
  refine ⟨fun c => (Cert.InGatesIdeal.Gen.dats m 0 c).arrAt 2 (Cert.InGatesIdeal.cfgs 0).N, Cert.InGatesIdeal.Value.run_blocks m ρ,
    (θ_run _ _ _).mono (fun r h c => ?_) (Cert.InGatesRefIdeal.Value.run m' ρ')⟩
  obtain ⟨r0, ra⟩ := h c
  obtain ⟨a0, a1⟩ := hargs c
  refine ⟨r0.trans ((Cert.InGatesRefIdeal.Read.val_main_v4_eq _ _).trans (Eq.trans ?_ (Cert.InGatesIdeal.Value.array m c).symm)), ra⟩
  funext i
  rw [← a0, ← a1]
  exact Cert.InGatesRefIdeal.Value.entry _ _ i
end
-- ==== Proof.Product.Branch.lean ====
module
public import proofs.«01_k».proof.Defs
public import proofs.«01_k».proof.Proof.Gen.BranchIdeal.Value
public import proofs.«01_k».proof.Proof.Gen.BranchRefIdeal.Run
public import proofs.«01_k».proof.Proof.Gen.BranchRefIdeal.Read
public import proofs.«01_k».proof.Proof.Product.Sum
public import Idealize.ShloMosaic.Lib.Pipeline.ReadBack
@[expose] public section
set_option maxRecDepth 16384
noncomputable section
open Idealize.ShloMosaic Idealize.ShloMosaic.TcCoe Idealize.SL.Sem

/-! # A mixer branch's output projection: `y @ w` -/
namespace Cert.BranchIdeal.Value
open Cert.BranchIdeal Cert.BranchIdeal.Gen

variable (m : (ℓ : Loc nD τ sig) → Buf (Elt Ideal) ℓ)

/-- Which blocks a grid point works on. -/
theorem idx : ∀ t : Fin cfg0.N, win0_0.index t = ![t.val / 2, 0] ∧ win0_1.index t = ![0, t.val % 2] ∧
    win0_2.index t = ![t.val / 2, t.val % 2] := (by decide +kernel : ∀ t : Fin grid0.N, _)

theorem zero (j : S1024x1024.Idx) : k0_pay1 (F := Ideal) j = 0 := by pointwise [k0_pay1]

theorem add (acc : Vec Ideal S1024x1024 .f32) (x : Vec Ideal S1024x1024 .bf16) (w : Vec Ideal S1024x1024 .bf16)
    (j : S1024x1024.Idx) : k0_pay2 acc x w j = acc j + Product.prod x w (j 0) (j 1) := by
  pointwise [k0_pay2, Product.prod]

/-- The array the call leaves. -/
theorem array (c : Dev nD) : (dats m 0 c).arrAt 2 (cfgs 0).N = fun i : S4096x2048.Idx => Product.prod
    (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  unfold outsAt0
  frame_out
  pointwise [k0_pay3, add, zero]
  unfold Product.prod
  blk_point [iblk, V, idx t]

end Cert.BranchIdeal.Value

namespace Cert.BranchRefIdeal.Value
open Cert.BranchRefIdeal Cert.BranchRefIdeal.Read

theorem entry (x : Vec Ideal S4096x1024 .bf16) (w : Vec Ideal S1024x2048 .bf16) (i : S4096x2048.Idx) :
    val_main_v3 x w i = Product.prod x w (i 0) (i 1) := by
  rw [val_main_v3_apply, val_main_v2_apply]
  exact Finset.sum_congr rfl fun k _ => congrArg₂ (· * ·) (congrArg x (Product.place rfl rfl)) (congrArg w (Product.place rfl rfl))

/-- The reference runs and leaves its arguments as they were. -/
theorem frame : Cert.quiescent_BranchRefIdeal := fun m ρ _ => (θ_run defs _ _).mono
  (fun r h => ⟨fun c => (h c).2, sem_eq_zero_of_no_sems (by decide) r.2⟩) (run m ρ)

end Cert.BranchRefIdeal.Value

/-- The two programs end with the same product. -/
theorem Cert.BranchIdeal.Value.equal : Cert.algebraic_BranchIdeal_BranchRefIdeal := by
  intro m ρ m' ρ' _ hargs
  refine ⟨fun c => (Cert.BranchIdeal.Gen.dats m 0 c).arrAt 2 (Cert.BranchIdeal.cfgs 0).N, Cert.BranchIdeal.Value.run_blocks m ρ,
    (θ_run _ _ _).mono (fun r h c => ?_) (Cert.BranchRefIdeal.Value.run m' ρ')⟩
  obtain ⟨r0, ra⟩ := h c
  obtain ⟨a0, a1⟩ := hargs c
  refine ⟨r0.trans ((Cert.BranchRefIdeal.Read.val_main_v3_eq _ _).trans (Eq.trans ?_ (Cert.BranchIdeal.Value.array m c).symm)), ra⟩
  funext i
  rw [← a0, ← a1]
  exact Cert.BranchRefIdeal.Value.entry _ _ i
end
-- ==== Proof.Product.Out.lean ====
module
public import proofs.«01_k».proof.Defs
public import proofs.«01_k».proof.Proof.Gen.OutIdeal.Value
public import proofs.«01_k».proof.Proof.Gen.OutRefIdeal.Run
public import proofs.«01_k».proof.Proof.Gen.OutRefIdeal.Read
public import proofs.«01_k».proof.Proof.Product.Sum
public import Idealize.ShloMosaic.Lib.Pipeline.ReadBack
@[expose] public section
set_option maxRecDepth 16384
noncomputable section
open Idealize.ShloMosaic Idealize.ShloMosaic.TcCoe Idealize.SL.Sem

/-! # The mixer's output projection: `m @ w_out` -/
namespace Cert.OutIdeal.Value
open Cert.OutIdeal Cert.OutIdeal.Gen

variable (m : (ℓ : Loc nD τ sig) → Buf (Elt Ideal) ℓ)

/-- Which blocks a grid point works on. -/
theorem idx : ∀ t : Fin cfg0.N, win0_0.index t = ![t.val / 2, 0] ∧ win0_1.index t = ![0, t.val % 2] ∧
    win0_2.index t = ![t.val / 2, t.val % 2] := (by decide +kernel : ∀ t : Fin grid0.N, _)

theorem zero (j : S1024x1024.Idx) : k0_pay1 (F := Ideal) j = 0 := by pointwise [k0_pay1]

theorem add (acc : Vec Ideal S1024x1024 .f32) (x : Vec Ideal S1024x2048 .bf16) (w : Vec Ideal S2048x1024 .bf16)
    (j : S1024x1024.Idx) : k0_pay2 acc x w j = acc j + Product.prod x w (j 0) (j 1) := by
  pointwise [k0_pay2, Product.prod]

/-- The array the call leaves. -/
theorem array (c : Dev nD) : (dats m 0 c).arrAt 2 (cfgs 0).N = fun i : S4096x2048.Idx => Product.prod
    (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  unfold outsAt0
  frame_out
  rw [add, zero, zero_add]
  unfold Product.prod
  blk_point [iblk, V, idx t]

end Cert.OutIdeal.Value

namespace Cert.OutRefIdeal.Value
open Cert.OutRefIdeal Cert.OutRefIdeal.Read

theorem entry (x : Vec Ideal S4096x2048 .bf16) (w : Vec Ideal S2048x2048 .bf16) (i : S4096x2048.Idx) :
    val_main_v2 x w i = Product.prod x w (i 0) (i 1) := by
  rw [val_main_v2_apply]
  exact Finset.sum_congr rfl fun k _ => congrArg₂ (· * ·) (congrArg x (Product.place rfl rfl)) (congrArg w (Product.place rfl rfl))

/-- The reference runs and leaves its arguments as they were. -/
theorem frame : Cert.quiescent_OutRefIdeal := fun m ρ _ => (θ_run defs _ _).mono
  (fun r h => ⟨fun c => (h c).2, sem_eq_zero_of_no_sems (by decide) r.2⟩) (run m ρ)

end Cert.OutRefIdeal.Value

/-- The two programs end with the same product. -/
theorem Cert.OutIdeal.Value.equal : Cert.algebraic_OutIdeal_OutRefIdeal := by
  intro m ρ m' ρ' _ hargs
  refine ⟨fun c => (Cert.OutIdeal.Gen.dats m 0 c).arrAt 2 (Cert.OutIdeal.cfgs 0).N, Cert.OutIdeal.Value.run_blocks m ρ,
    (θ_run _ _ _).mono (fun r h c => ?_) (Cert.OutRefIdeal.Value.run m' ρ')⟩
  obtain ⟨r0, ra⟩ := h c
  obtain ⟨a0, a1⟩ := hargs c
  refine ⟨r0.trans ((Cert.OutRefIdeal.Read.val_main_v2_eq _ _).trans (Eq.trans ?_ (Cert.OutIdeal.Value.array m c).symm)), ra⟩
  funext i
  rw [← a0, ← a1]
  exact Cert.OutRefIdeal.Value.entry _ _ i
end
-- ==== Proof.Pointwise.Sigmoid.lean ====
module
public import Idealize.ShloMosaic.Lib.Pipeline.ValueKit
@[expose] public section
noncomputable section
open Idealize.ShloMosaic

/-! # The logistic function, over the extended reals -/
namespace Pointwise

/-- `1 / (1 + e⁻ˣ)`, as both programs compute it. -/
def sigmoid (x : EReal) : EReal := Ideal.div 1 (1 + Ideal.exp (-x))

/-- `silu(gate) * up`. -/
def swiglu (g u : EReal) : EReal := g * sigmoid g * u

/-- The derivative of `swiglu` by `u`, times a cotangent `d`. -/
def dUp (d g : EReal) : EReal := d * (g * sigmoid g)

/-- The derivative of `swiglu` by `g`, times a cotangent `d`. -/
def dGate (d u g : EReal) : EReal := d * u * (sigmoid g * (1 + g * (1 - sigmoid g)))

/-- The derivative of `sigmoid g * y` by `y`, times a cotangent `d`. -/
def branchGrad (d g : EReal) : EReal := d * sigmoid g

/-- The derivative of `sigmoid g * y` by `g`, times a cotangent `d`. -/
def gateGrad (d y g : EReal) : EReal := d * y * (sigmoid g * (1 - sigmoid g))

/-- The places of the two gates of one element of the mixer's output: one array holds both, side by side. -/
def gateA (i : (⟨2, ![4096, 2048]⟩ : Shape).Idx) : (⟨2, ![4096, 4096]⟩ : Shape).Idx :=
  ix2 (i 0) ⟨(i 1).val, by have := (i 1).isLt; change (i 1).val < 2048 at this; omega⟩
def gateB (i : (⟨2, ![4096, 2048]⟩ : Shape).Idx) : (⟨2, ![4096, 4096]⟩ : Shape).Idx :=
  ix2 (i 0) ⟨2048 + (i 1).val, by have := (i 1).isLt; change (i 1).val < 2048 at this; omega⟩

end Pointwise
end
-- ==== Proof.Product.Up.lean ====
module
public import proofs.«01_k».proof.Defs
public import proofs.«01_k».proof.Proof.Gen.UpIdeal.Value
public import proofs.«01_k».proof.Proof.Gen.UpRefIdeal.Run
public import proofs.«01_k».proof.Proof.Gen.UpRefIdeal.Read
public import proofs.«01_k».proof.Proof.Product.Sum
public import proofs.«01_k».proof.Proof.Pointwise.Sigmoid
public import Idealize.ShloMosaic.Lib.Pipeline.ReadBack
@[expose] public section
set_option maxRecDepth 16384
noncomputable section
open Idealize.ShloMosaic Idealize.ShloMosaic.TcCoe Idealize.SL.Sem

/-!
# The FFN's up projection and its activation

`gate` and `up` are the two halves of `h @ w_up`; the third result is `silu(gate) * up`.
-/
namespace Cert.UpIdeal.Value
open Cert.UpIdeal Cert.UpIdeal.Gen

variable (m : (ℓ : Loc nD τ sig) → Buf (Elt Ideal) ℓ)

/-- Which blocks a grid point works on: the weight's second block lies half the weight further right. -/
theorem idx : ∀ t : Fin cfg0.N, win0_0.index t = ![t.val / 11, 0] ∧ win0_1.index t = ![0, t.val % 11] ∧
    win0_2.index t = ![0, t.val % 11 + 11] ∧ win0_3.index t = ![t.val / 11, t.val % 11] ∧
    win0_4.index t = ![t.val / 11, t.val % 11] ∧ win0_5.index t = ![t.val / 11, t.val % 11] :=
  (by decide +kernel : ∀ t : Fin grid0.N, _)

theorem zero_gate (j : S1024x512.Idx) : k0_pay1 (F := Ideal) j = 0 := by pointwise [k0_pay1]
theorem zero_up (j : S1024x512.Idx) : k0_pay2 (F := Ideal) j = 0 := by pointwise [k0_pay2]

theorem add_gate (acc : Vec Ideal S1024x512 .f32) (h : Vec Ideal S1024x2048 .bf16) (w : Vec Ideal S2048x512 .bf16)
    (j : S1024x512.Idx) : k0_pay3 h acc w j = acc j + Product.prod h w (j 0) (j 1) := by
  pointwise [k0_pay3, Product.prod]
theorem add_up (acc : Vec Ideal S1024x512 .f32) (h : Vec Ideal S1024x2048 .bf16) (w : Vec Ideal S2048x512 .bf16)
    (j : S1024x512.Idx) : k0_pay4 h acc w j = acc j + Product.prod h w (j 0) (j 1) := by
  pointwise [k0_pay4, Product.prod]

/-- The column of the weight a gate comes from. -/
def gateCol (i : S4096x5632.Idx) : Fin 11264 :=
  ⟨(i 1).val, by have := (i 1).isLt; change (i 1).val < 5632 at this; omega⟩
/-- The column of the weight an `up` comes from. -/
def upCol (i : S4096x5632.Idx) : Fin 11264 :=
  ⟨5632 + (i 1).val, by have := (i 1).isLt; change (i 1).val < 5632 at this; omega⟩

/-- The gates the call leaves. -/
theorem array_gate (c : Dev nD) : (dats m 0 c).arrAt 3 (cfgs 0).N = fun i : S4096x5632.Idx => Product.prod
    (m ((c : Thread nD τ).loc main_arg0)) (m ((c : Thread nD τ).loc main_arg1)) (i 0) (gateCol i) := by
  refine (dats m 0 c).arrAt_eq_of_covers 3 _ (by decide +kernel) fun t hf y => ?_
  blk_simp
  rw [after0_3]
  unfold outsAt0
  dsimp only
  frame_out
  pointwise [k0_pay5, add_gate, zero_gate]
  unfold Product.prod gateCol
  blk_point [iblk, V, idx t]

theorem array_up (c : Dev nD) : (dats m 0 c).arrAt 4 (cfgs 0).N = fun i : S4096x5632.Idx => Product.prod
    (m ((c : Thread nD τ).loc main_arg0)) (m ((c : Thread nD τ).loc main_arg1)) (i 0) (upCol i) := by
  refine (dats m 0 c).arrAt_eq_of_covers 4 _ (by decide +kernel) fun t hf y => ?_
  blk_simp
  rw [after0_4]
  unfold outsAt0
  dsimp only
  frame_out
  pointwise [k0_pay6, add_up, zero_up]
  unfold Product.prod upCol
  blk_point [iblk, V, idx t]

theorem pay_act (g u : Vec Ideal S1024x512 .f32) (j : S1024x512.Idx) : k0_pay7 g u j = Pointwise.swiglu (g j) (u j) := by
  pointwise [k0_pay7, Pointwise.swiglu, Pointwise.sigmoid]
  rw [zero_sub]

theorem array_act (c : Dev nD) : (dats m 0 c).arrAt 5 (cfgs 0).N = fun i : S4096x5632.Idx => Pointwise.swiglu (Product.prod
    (m ((c : Thread nD τ).loc main_arg0)) (m ((c : Thread nD τ).loc main_arg1)) (i 0) (gateCol i)) (Product.prod
    (m ((c : Thread nD τ).loc main_arg0)) (m ((c : Thread nD τ).loc main_arg1)) (i 0) (upCol i)) := by
  refine (dats m 0 c).arrAt_eq_of_covers 5 _ (by decide +kernel) fun t hf y => ?_
  blk_simp
  rw [after0_5]
  unfold outsAt0
  dsimp only
  frame_out
  rw [pay_act, add_gate, zero_gate, zero_add, add_up, zero_up, zero_add]
  refine congrArg₂ Pointwise.swiglu ?_ ?_
  · unfold Product.prod gateCol
    blk_point [iblk, V, idx t]
  · unfold Product.prod upCol
    blk_point [iblk, V, idx t]

end Cert.UpIdeal.Value

namespace Cert.UpRefIdeal.Value
open Cert.UpRefIdeal Cert.UpRefIdeal.Read

/-- One half of the product: the gates. -/
theorem gate (x : Vec Ideal S4096x2048 .bf16) (w : Vec Ideal S2048x11264 .bf16) (i : S4096x5632.Idx) :
    val_main_v3 x w i = Product.prod x w (i 0) (Cert.UpIdeal.Value.gateCol i) := by
  rw [val_main_v3_apply, val_main_v2_apply]
  exact Finset.sum_congr rfl fun k _ => congrArg₂ (· * ·) (congrArg x (Product.place rfl rfl)) (congrArg w (Product.place rfl rfl))

/-- The other half. -/
theorem up (x : Vec Ideal S4096x2048 .bf16) (w : Vec Ideal S2048x11264 .bf16) (i : S4096x5632.Idx) :
    val_main_v4 x w i = Product.prod x w (i 0) (Cert.UpIdeal.Value.upCol i) := by
  rw [val_main_v4_apply, val_main_v2_apply]
  exact Finset.sum_congr rfl fun k _ => congrArg₂ (· * ·) (congrArg x (Product.place rfl rfl)) (congrArg w (Product.place rfl rfl))

theorem act (x : Vec Ideal S4096x2048 .bf16) (w : Vec Ideal S2048x11264 .bf16) (i : S4096x5632.Idx) :
    val_main_v9 x w i = Pointwise.swiglu (val_main_v3 x w i) (val_main_v4 x w i) := by
  simp only [val_main_v9_apply, val_main_v8_apply, val_main_v7_apply, val_main_call0_v5_apply, val_main_call0_v4_apply,
    val_main_call0_v3_apply, val_main_call0_v2_apply, val_main_call0_v1_apply, val_main_call0_v0_apply,
    val_main_call0_cst_apply, val_main_call0_cst_0_apply]
  generalize val_main_v3 x w i = g
  generalize val_main_v4 x w i = u
  pointwise [Pointwise.swiglu, Pointwise.sigmoid]

/-- The reference runs and leaves its arguments as they were. -/
theorem frame : Cert.quiescent_UpRefIdeal := fun m ρ _ => (θ_run defs _ _).mono
  (fun r h => ⟨fun c => (h c).2.2.2, sem_eq_zero_of_no_sems (by decide) r.2⟩) (run m ρ)

end Cert.UpRefIdeal.Value

/-- The two programs end with the same three arrays. -/
theorem Cert.UpIdeal.Value.equal : Cert.algebraic_UpIdeal_UpRefIdeal := by
  intro m ρ m' ρ' _ hargs
  refine ⟨fun c => (Cert.UpIdeal.Gen.dats m 0 c).arrAt 3 (Cert.UpIdeal.cfgs 0).N,
    fun c => (Cert.UpIdeal.Gen.dats m 0 c).arrAt 4 (Cert.UpIdeal.cfgs 0).N,
    fun c => (Cert.UpIdeal.Gen.dats m 0 c).arrAt 5 (Cert.UpIdeal.cfgs 0).N, Cert.UpIdeal.Value.run_blocks m ρ,
    (θ_run _ _ _).mono (fun r h c => ?_) (Cert.UpRefIdeal.Value.run m' ρ')⟩
  obtain ⟨r0, r1, r2, ra⟩ := h c
  obtain ⟨a0, a1⟩ := hargs c
  refine ⟨r0.trans ((Cert.UpRefIdeal.Read.val_main_v5_eq _ _).trans (Eq.trans ?_ (Cert.UpIdeal.Value.array_gate m c).symm)),
    r1.trans ((Cert.UpRefIdeal.Read.val_main_v6_eq _ _).trans (Eq.trans ?_ (Cert.UpIdeal.Value.array_up m c).symm)),
    r2.trans ((Cert.UpRefIdeal.Read.val_main_v9_eq _ _).trans (Eq.trans ?_ (Cert.UpIdeal.Value.array_act m c).symm)), ra⟩ <;>
    funext i <;> rw [← a0, ← a1]
  · exact Cert.UpRefIdeal.Value.gate _ _ i
  · exact Cert.UpRefIdeal.Value.up _ _ i
  · rw [Cert.UpRefIdeal.Value.act, Cert.UpRefIdeal.Value.gate, Cert.UpRefIdeal.Value.up]
end
-- ==== Proof.Sgu.Real.lean ====
module
public import Idealize.ShloMosaic.Lib.Pointwise
@[expose] public section
noncomputable section

/-!
# The gradient of the spatial gating unit over the real numbers

The unit gates `gelu u` with a causal mix of the rows of `rmsnorm (gelu v)`: the rows are cut into
chunks of 128, the columns into heads of 128, and inside a chunk row `t` of a head takes
`∑ s ≤ t, w h t s * vn s c + b t h`.  Here is its gradient as plain formulas over functions of natural
coordinates: row `r` lies in chunk `r / 128`, column `c` in head `c / 128`.  The formulas are the
common value of the kernel's arrays and of the reference's.
-/
namespace Sgu

/-- The rounded `√(2/π)` of the tanh form of gelu. -/
def gk : ℝ := 13386282 / 16777216
/-- The rounded `10⁻⁶` that guards the root mean square. -/
def eps : ℝ := 8796093 / 8796093022208

/-- The tanh inside gelu. -/
def th (x : ℝ) : ℝ := Real.tanh (gk * (x + 8943 / 200000 * (x * x * x)))
/-- gelu in its tanh form. -/
def gelu (x : ℝ) : ℝ := x * (1 / 2 * (1 + th x))
/-- The derivative of gelu. -/
def dgelu (x : ℝ) : ℝ :=
  1 / 2 * (1 + th x) + 1 / 2 * x * (1 - th x * th x) * (gk * (1 + 26829 / 200000 * (x * x)))

/-- The row of `r`'s chunk at position `s`. -/
def at' (r s : ℕ) : ℕ := 128 * (r / 128) + s

variable (u v d : ℕ → ℕ → ℝ) (g : ℕ → ℝ) (w : ℕ → ℕ → ℕ → ℝ) (b : ℕ → ℕ → ℝ)

/-- The guarded mean square of a row of `gelu v`. -/
def msq (r : ℕ) : ℝ := (∑ c : Fin 1024, gelu (v r c) * gelu (v r c)) * (1 / 1024) + eps
/-- One over the root mean square of a row. -/
def rinv (r : ℕ) : ℝ := (√(msq v r))⁻¹
/-- The normalised row. -/
def nrm (r c : ℕ) : ℝ := gelu (v r c) * rinv v r
/-- The normalised row times the gain. -/
def vn (r c : ℕ) : ℝ := nrm v r c * g c
/-- The causal weight of a head. -/
def wm (h t s : ℕ) : ℝ := if s ≤ t then w h t s else 0
/-- The mixed rows, the gate's second factor. -/
def mix (r c : ℕ) : ℝ := (∑ s : Fin 128, wm w (c / 128) (r % 128) s * vn v g (at' r s) c) + b (r % 128) (c / 128)
/-- The gradient of the mixed rows. -/
def ds (r c : ℕ) : ℝ := d r c * gelu (u r c)
/-- The gradient of `vn`: the mix transposed. -/
def dvn (r c : ℕ) : ℝ := ∑ t : Fin 128, wm w (c / 128) t (r % 128) * ds u d (at' r t) c
/-- The gradient of the normalised rows. -/
def dn (r c : ℕ) : ℝ := dvn u d w r c * g c
/-- The gradient of `gelu v`, through the root mean square. -/
def dvg (r c : ℕ) : ℝ :=
  rinv v r * (dn u d g w r c - nrm v r c * ((∑ k : Fin 1024, dn u d g w r k * nrm v r k) * (1 / 1024)))
/-- The gradient with respect to `v`. -/
def dv (r c : ℕ) : ℝ := dvg u v d g w r c * dgelu (v r c)
/-- The gradient with respect to `u`. -/
def du (r c : ℕ) : ℝ := d r c * mix v g w b r c * dgelu (u r c)
/-- What chunk `k` adds to the gradient of the causal weight. -/
def dwc (k h t s : ℕ) : ℝ :=
  if s ≤ t then ∑ c : Fin 128, ds u d (128 * k + t) (128 * h + c) * vn v g (128 * k + s) (128 * h + c) else 0
/-- What chunk `k` adds to the gradient of the bias. -/
def dbc (k t h : ℕ) : ℝ := ∑ c : Fin 128, ds u d (128 * k + t) (128 * h + c)
/-- What row `r` adds to the gradient of the gain. -/
def dgr (r c : ℕ) : ℝ := dvn u d w r c * nrm v r c

theorem eps_pos : 0 < eps := by unfold eps; norm_num

theorem msq_pos (r : ℕ) : 0 < msq v r :=
  add_pos_of_nonneg_of_pos
    (mul_nonneg (Finset.sum_nonneg fun _ _ => mul_self_nonneg _) (by norm_num)) eps_pos

/-! ## The formulas at a row and a column given by chunk, head and position -/

theorem mix_at (k h t c : ℕ) (ht : t < 128) (hc : c < 128) :
    mix v g w b (128 * k + t) (128 * h + c)
      = (∑ s : Fin 128, wm w h t s * vn v g (128 * k + s) (128 * h + c)) + b t h := by
  have e1 : (128 * h + c) / 128 = h := by omega
  have e2 : (128 * k + t) / 128 = k := by omega
  have e3 : (128 * k + t) % 128 = t := by omega
  simp only [mix, at', e1, e2, e3]

theorem dvn_at (k h s c : ℕ) (hs : s < 128) (hc : c < 128) :
    dvn u d w (128 * k + s) (128 * h + c)
      = ∑ t : Fin 128, wm w h t s * ds u d (128 * k + t) (128 * h + c) := by
  have e1 : (128 * h + c) / 128 = h := by omega
  have e2 : (128 * k + s) / 128 = k := by omega
  have e3 : (128 * k + s) % 128 = s := by omega
  simp only [dvn, at', e1, e2, e3]

/-! ## The formulas on a window of rows that starts at a chunk -/

/-- The rows from `o` on. -/
def from' (o : ℕ) (x : ℕ → ℕ → ℝ) : ℕ → ℕ → ℝ := fun r c => x (o + r) c

theorem at_add (k r s : ℕ) : 128 * k + at' r s = at' (128 * k + r) s := by
  have e : (128 * k + r) / 128 = k + r / 128 := by omega
  simp only [at', e]; omega

theorem add_mod (k r : ℕ) : (128 * k + r) % 128 = r % 128 := by omega

theorem mix_from (k r c : ℕ) : mix (from' (128 * k) v) g w b r c = mix v g w b (128 * k + r) c := by
  simp only [mix, ← at_add, add_mod]; rfl

theorem dvn_from (k r c : ℕ) : dvn (from' (128 * k) u) (from' (128 * k) d) w r c = dvn u d w (128 * k + r) c := by
  simp only [dvn, ← at_add, add_mod]; rfl

theorem du_from (k r c : ℕ) :
    du (from' (128 * k) u) (from' (128 * k) v) (from' (128 * k) d) g w b r c = du u v d g w b (128 * k + r) c := by
  simp only [du, mix_from]; rfl

theorem dv_from (k r c : ℕ) :
    dv (from' (128 * k) u) (from' (128 * k) v) (from' (128 * k) d) g w r c = dv u v d g w (128 * k + r) c := by
  simp only [dv, dvg, dn, dvn_from]; rfl

theorem dgr_from (k r c : ℕ) :
    dgr (from' (128 * k) u) (from' (128 * k) v) (from' (128 * k) d) w r c = dgr u v d w (128 * k + r) c := by
  simp only [dgr, dvn_from]; rfl

theorem dwc_from (o k h t s : ℕ) :
    dwc (from' (128 * o) u) (from' (128 * o) v) (from' (128 * o) d) g k h t s = dwc u v d g (o + k) h t s := by
  have e (i : ℕ) : 128 * o + (128 * k + i) = 128 * (o + k) + i := by omega
  simp only [dwc, ← e]; rfl

theorem dbc_from (o k t h : ℕ) :
    dbc (from' (128 * o) u) (from' (128 * o) d) k t h = dbc u d (o + k) t h := by
  have e (i : ℕ) : 128 * o + (128 * k + i) = 128 * (o + k) + i := by omega
  simp only [dbc, ← e]; rfl

end Sgu
end
-- ==== Proof.Sgu.Ideal.lean ====
module
public import proofs.«01_k».proof.Proof.Sgu.Real
@[expose] public section
noncomputable section
open Idealize.ShloMosaic

/-!
# Real numbers among the ideal values

The constants of the two programs as reals, and the operations on finite values.
-/
namespace Sgu

theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_44715 : Ideal.ofBits .f32 0x472EAB00#32 = ((44715 : ℝ) : EReal) := by
  simp [Ideal.ofBits, Ideal.ieee, -EReal.coe_mul]; norm_num
theorem ofBits_million : Ideal.ofBits .f32 0x49742400#32 = ((1000000 : ℝ) : EReal) := by
  simp [Ideal.ofBits, Ideal.ieee, -EReal.coe_mul]; norm_num
theorem ofBits_gk : Ideal.ofBits .f32 0x3F4C422A#32 = ((gk : ℝ) : EReal) := by
  simp [Ideal.ofBits, Ideal.ieee, -EReal.coe_mul, gk]; norm_num
theorem ofBits_eps : Ideal.ofBits .f32 0x358637BD#32 = ((eps : ℝ) : EReal) := by
  simp [Ideal.ofBits, Ideal.ieee, -EReal.coe_mul, eps]; norm_num

/-- A finite sum of reals, taken among the ideal values. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

theorem rsqrt_pos {r : ℝ} (h : 0 < r) : Ideal.rsqrt ((r : ℝ) : EReal) = (((√r)⁻¹ : ℝ) : EReal) := by
  rw [Ideal.rsqrt_coe, if_neg (not_lt.mpr h.le), if_neg h.ne']

theorem ite_coe (p : Prop) [Decidable p] (a b : ℝ) :
    (if p then ((a : ℝ) : EReal) else ((b : ℝ) : EReal)) = ((if p then a else b : ℝ) : EReal) := by
  split <;> rfl

end Sgu
end
-- ==== Proof.Sgu.Finite.lean ====
module
public import proofs.«01_k».proof.Proof.Sgu.Ideal
public import Idealize.ShloMosaic.Lib.Pipeline.ValueKit
@[expose] public section
noncomputable section
open Idealize.ShloMosaic

/-!
# Finite arrays as real functions

An element of which the precondition holds is a real number, so a finite array is a real function of its
coordinates, continued by zero outside its bounds.
-/
namespace Sgu

/-- An element smaller in size than infinity is a real number. -/
theorem real_of_lt {x : EReal} (h : Ideal.cmp .olt (max x (-x)) (Ideal.ofBits .f32 0x7F800000#32) = 1#1) :
    x = ((x.toReal : ℝ) : EReal) := by
  have htop : Ideal.ofBits .f32 0x7F800000#32 = ⊤ := by simp [Ideal.ofBits, Ideal.ieee]
  rw [htop] at h
  refine (EReal.coe_toReal ?_ ?_).symm
  · rintro rfl
    simp [Ideal.cmp] at h
  · rintro rfl
    simp [Ideal.cmp] at h

/-- Every element of an array passes the precondition's test. -/
def Finite {s : Shape} (x : s.Idx → EReal) : Prop :=
  ∀ i, Ideal.cmp .olt (max (x i) (-(x i))) (Ideal.ofBits .f32 0x7F800000#32) = 1#1

/-- A finite vector as a real function. -/
def real1 {n : ℕ} (x : (⟨1, ![n]⟩ : Shape).Idx → EReal) (i : ℕ) : ℝ :=
  if h : i < n then (x (ValueIdx.ix1 ⟨i, h⟩)).toReal else 0
/-- A finite matrix as a real function. -/
def real2 {n k : ℕ} (x : (⟨2, ![n, k]⟩ : Shape).Idx → EReal) (i j : ℕ) : ℝ :=
  if h : i < n ∧ j < k then (x (ValueIdx.ix2 ⟨i, h.1⟩ ⟨j, h.2⟩)).toReal else 0
/-- A finite three-axis array as a real function. -/
def real3 {n k l : ℕ} (x : (⟨3, ![n, k, l]⟩ : Shape).Idx → EReal) (i j p : ℕ) : ℝ :=
  if h : i < n ∧ j < k ∧ p < l then (x (ValueIdx.ix3 ⟨i, h.1⟩ ⟨j, h.2.1⟩ ⟨p, h.2.2⟩)).toReal else 0

theorem real1_eq {n : ℕ} {x : (⟨1, ![n]⟩ : Shape).Idx → EReal} (h : Finite x) (i : (⟨1, ![n]⟩ : Shape).Idx) :
    x i = ((real1 x (i 0).val : ℝ) : EReal) := by
  have e : i = ValueIdx.ix1 ⟨(i 0).val, (i 0).isLt⟩ := by funext a; fin_cases a; rfl
  have hi : (i 0).val < n := (i 0).isLt
  unfold real1
  rw [dif_pos hi]
  exact (real_of_lt (h i)).trans (congrArg (fun q => (((x q).toReal : ℝ) : EReal)) e)
theorem real2_eq {n k : ℕ} {x : (⟨2, ![n, k]⟩ : Shape).Idx → EReal} (h : Finite x) (i : (⟨2, ![n, k]⟩ : Shape).Idx) :
    x i = ((real2 x (i 0).val (i 1).val : ℝ) : EReal) := by
  have e : i = ValueIdx.ix2 ⟨(i 0).val, (i 0).isLt⟩ ⟨(i 1).val, (i 1).isLt⟩ := by funext a; fin_cases a <;> rfl
  have hi : (i 0).val < n ∧ (i 1).val < k := ⟨(i 0).isLt, (i 1).isLt⟩
  unfold real2
  rw [dif_pos hi]
  exact (real_of_lt (h i)).trans (congrArg (fun q => (((x q).toReal : ℝ) : EReal)) e)
theorem real3_eq {n k l : ℕ} {x : (⟨3, ![n, k, l]⟩ : Shape).Idx → EReal} (h : Finite x) (i : (⟨3, ![n, k, l]⟩ : Shape).Idx) :
    x i = ((real3 x (i 0).val (i 1).val (i 2).val : ℝ) : EReal) := by
  have e : i = ValueIdx.ix3 ⟨(i 0).val, (i 0).isLt⟩ ⟨(i 1).val, (i 1).isLt⟩ ⟨(i 2).val, (i 2).isLt⟩ := by
    funext a; fin_cases a <;> rfl
  have hi : (i 0).val < n ∧ (i 1).val < k ∧ (i 2).val < l := ⟨(i 0).isLt, (i 1).isLt, (i 2).isLt⟩
  unfold real3
  rw [dif_pos hi]
  exact (real_of_lt (h i)).trans (congrArg (fun q => (((x q).toReal : ℝ) : EReal)) e)

end Sgu
end
-- ==== Proof.Pointwise.ActBwdPoint.lean ====
module
public import proofs.«01_k».proof.Defs
public import proofs.«01_k».proof.Proof.Gen.ActBwdIdeal.Value
public import proofs.«01_k».proof.Proof.Pointwise.Sigmoid
@[expose] public section
set_option maxRecDepth 16384
noncomputable section
open Idealize.ShloMosaic Idealize.ShloMosaic.TcCoe Idealize.SL.Sem Pointwise

/-!
# What one grid point of the activation's gradient leaves in its block

The body walks eleven tiles of 512 columns; of each it stores the gradient by the gate in the block's left half
and the gradient by `up` in its right half.
-/
namespace Cert.ActBwdIdeal.Value
open Cert.ActBwdIdeal Cert.ActBwdIdeal.Gen

/-- The element at `y` of the two gradients side by side, whose source element is `i`. -/
def side (g u d : Vec Ideal S256x5632 .bf16) (i : S256x5632.Idx) (c : ℕ) : EReal :=
  if c < 5632 then dGate (d i) (u i) (g i) else dUp (d i) (g i)

theorem point (g u d : Vec Ideal S256x5632 .bf16) (y : S256x11264.Idx) (i : S256x5632.Idx)
    (hi0 : (i 0 : ℕ) = y 0) (hi1 : (i 1 : ℕ) = (y 1 : ℕ) % 5632) :
    out0_3 g u d y = side g u d i (y 1) := by
  unfold side
  unfold_out out0_3
  canon_tiles x h
  all_goals
    open_payloads
    pointwise [dUp, dGate, sigmoid, h1]
    simp only [zero_sub]
    first
      | rw [if_pos (by omega)]
      | rw [if_neg (by omega)]
      | skip
    blk_point []

end Cert.ActBwdIdeal.Value
end
-- ==== Proof.Pointwise.SwigluGrad.lean ====
module
public import proofs.«01_k».proof.Proof.Pointwise.Sigmoid
@[expose] public section
noncomputable section
open Idealize.ShloMosaic

/-!
# The two forms of the activation's gradient by the gate

The derivative of a product is a sum of two terms; the kernel computes it with a common factor taken out.  Over
the extended reals the two are equal when the common factor is a real number.
-/
namespace Pointwise

theorem sigmoid_coe (r : ℝ) : sigmoid r = (((1 + Real.exp (-r))⁻¹ : ℝ) : EReal) := Ideal.logistic_coe r
theorem sigmoid_top : sigmoid ⊤ = 1 := Ideal.logistic_top
theorem sigmoid_bot : sigmoid ⊥ = 0 := Ideal.logistic_bot
theorem one_sub_one : (1 : EReal) - 1 = 0 := by
  rw [← EReal.coe_one, ← EReal.coe_sub, sub_self, EReal.coe_zero]

theorem dGate_eq (d u : ℝ) (g : EReal) :
    (d * u : EReal) * sigmoid g + g * (d * u) * (sigmoid g * (1 - sigmoid g)) = dGate d u g := by
  unfold dGate
  rw [← EReal.coe_mul]
  induction g using EReal.rec with
  | bot => simp [sigmoid_bot]
  | top =>
    rw [sigmoid_top, one_sub_one]
    simp
  | coe r =>
    rw [sigmoid_coe]
    norm_cast
    ring

end Pointwise
end
-- ==== Proof.Pointwise.ActBwd.lean ====
module
public import proofs.«01_k».proof.Defs
public import proofs.«01_k».proof.Proof.Gen.ActBwdRefIdeal.Run
public import proofs.«01_k».proof.Proof.Gen.ActBwdRefIdeal.Read
public import proofs.«01_k».proof.Proof.Product.Sum
public import proofs.«01_k».proof.Proof.Sgu.Finite
public import proofs.«01_k».proof.Proof.Pointwise.ActBwdPoint
public import proofs.«01_k».proof.Proof.Pointwise.SwigluGrad
@[expose] public section
set_option maxRecDepth 16384
noncomputable section
open Idealize.ShloMosaic Idealize.ShloMosaic.TcCoe Idealize.SL.Sem Pointwise

/-! # The gradient of the FFN's activation `silu(gate) * up`, by the gate and by `up` side by side -/
namespace Cert.ActBwdIdeal.Value
open Cert.ActBwdIdeal Cert.ActBwdIdeal.Gen

variable (m : (ℓ : Loc nD τ sig) → Buf (Elt Ideal) ℓ)

/-- A grid point works on 256 whole rows. -/
theorem idx : ∀ t : Fin cfg0.N, win0_0.index t = ![t.val, 0] ∧ win0_1.index t = ![t.val, 0] ∧
    win0_2.index t = ![t.val, 0] ∧ win0_3.index t = ![t.val, 0] := (by decide +kernel : ∀ t : Fin grid0.N, _)

/-- The place of the arguments an element of the result comes from. -/
def src (i : S4096x11264.Idx) : S4096x5632.Idx := ix2 (i 0) ⟨(i 1).val % 5632, Nat.mod_lt _ (by norm_num)⟩

/-- The array the call leaves. -/
def grads (g u d : Vec Ideal S4096x5632 .bf16) (i : S4096x11264.Idx) : EReal :=
  if (i 1).val < 5632 then dGate (d (src i)) (u (src i)) (g (src i)) else dUp (d (src i)) (g (src i))

theorem array (c : Dev nD) : (dats m 0 c).arrAt 3 (cfgs 0).N = fun i : S4096x11264.Idx =>
    grads (m ((c : Thread nD τ).loc main_arg0)) (m ((c : Thread nD τ).loc main_arg1)) (m ((c : Thread nD τ).loc main_arg2)) i := by
  refine (dats m 0 c).arrAt_eq_of_covers 3 _ (by decide +kernel) fun t hf y => ?_
  blk_simp
  rw [after0_3, point _ _ _ y (ix2 (y 0) ⟨(y 1).val % 5632, Nat.mod_lt _ (by norm_num)⟩) rfl rfl]
  unfold side grads src
  blk_simp [idx t]
  by_cases hy : (y 1).val < 5632
  · rw [if_pos hy, if_pos hy]
    congr 1 <;> blk_point [iblk, V, idx t]
  · rw [if_neg hy, if_neg hy]
    congr 1 <;> blk_point [iblk, V, idx t]

end Cert.ActBwdIdeal.Value
namespace Cert.ActBwdRefIdeal.Value
open Cert.ActBwdRefIdeal Cert.ActBwdRefIdeal.Read

/-- The logistic function of the gate. -/
theorem sig (g : Vec Ideal S4096x5632 .bf16) (i : S4096x5632.Idx) : val_main_v2_2 g i = sigmoid (g i) := by
  pointwise [val_main_v2_2_apply, val_main_call0_v4_apply, val_main_call0_cst_0_apply, val_main_call0_v3_apply,
    val_main_call0_v2_apply, val_main_call0_cst_apply, val_main_call0_v1_apply, val_main_call0_v0_apply,
    val_main_v0_apply, sigmoid]

/-- The gradient by `up`. -/
theorem by_up (g d : Vec Ideal S4096x5632 .bf16) (i : S4096x5632.Idx) : val_main_v5 g d i = dUp (d i) (g i) := by
  rw [val_main_v5_apply, val_main_v2_0_apply, sig]
  pointwise [val_main_v4_apply, val_main_v0_apply, dUp]
  rw [mul_comm]

/-- The gradient by the gate, at a finite cotangent. -/
theorem by_gate {g u d : Vec Ideal S4096x5632 .bf16} (hu : Sgu.Finite u) (hd : Sgu.Finite d) (i : S4096x5632.Idx) :
    val_main_v7 g u d i = dGate (d i) (u i) (g i) := by
  rw [val_main_v7_apply, val_main_call1_v1_apply, val_main_call1_v2_apply, val_main_v2_1_apply, val_main_call0_v7_apply,
    val_main_call1_v0_apply, sig]
  pointwise [val_main_v6_apply, val_main_v4_apply, val_main_v1_apply, val_main_v0_apply, val_main_call0_v6_apply,
    val_main_call0_cst_1_apply]
  rw [Sgu.real_of_lt (hu i), Sgu.real_of_lt (hd i)]
  exact dGate_eq _ _ _

theorem entry {g u d : Vec Ideal S4096x5632 .bf16} (hu : Sgu.Finite u) (hd : Sgu.Finite d) (i : S4096x11264.Idx) :
    val_main_v9 g u d i = Cert.ActBwdIdeal.Value.grads g u d i := by
  rw [val_main_v9_apply]
  unfold Cert.ActBwdIdeal.Value.grads
  rw [← by_gate hu hd, ← by_up]
  pointwise [val_main_v8]
  by_cases hi : (i 1).val < 5632
  · rw [dif_pos hi, if_pos hi]
    exact congrArg (val_main_v7 g u d) (Product.place rfl (Fin.ext (show (i 1).val = (i 1).val % 5632 by omega)))
  · have hl : (i 1).val < 11264 := (i 1).isLt
    rw [dif_neg hi, if_neg hi]
    have hm : (i 1).val % 5632 = (i 1).val - 5632 := by omega
    unfold Cert.ActBwdIdeal.Value.src
    simp only [hm]

/-- The reference runs and leaves its arguments as they were. -/
theorem frame : Cert.quiescent_ActBwdRefIdeal := fun m ρ _ => (θ_run defs _ _).mono
  (fun r h => ⟨fun c => (h c).2, sem_eq_zero_of_no_sems (by decide) r.2⟩) (run m ρ)

end Cert.ActBwdRefIdeal.Value

namespace Cert.ActBwdIdeal.Value

/-- The precondition's own side conditions. -/
theorem pre_facts : Cert.Pre_finite_gradient.Facts where
  bitsLt_bf16_f32 := by decide
  bcast_S_S4096x5632 := by decide

attribute [local instance] pre_facts

/-- The two programs end with the same array. -/
theorem equal : Cert.algebraic_ActBwdIdeal_ActBwdRefIdeal_pre_finite_gradient := by
  intro m ρ m' ρ' hpre hargs
  refine ⟨fun c => (Cert.ActBwdIdeal.Gen.dats m 0 c).arrAt 3 (Cert.ActBwdIdeal.cfgs 0).N, Cert.ActBwdIdeal.Value.run_blocks m ρ,
    (θ_run _ _ _).mono (fun r h c => ?_) (Cert.ActBwdRefIdeal.Value.run m' ρ')⟩
  obtain ⟨r0, ra⟩ := h c
  obtain ⟨a0, a1, a2⟩ := hargs c
  obtain ⟨f1, f2⟩ := hpre c
  refine ⟨r0.trans ((Cert.ActBwdRefIdeal.Read.val_main_v9_eq _ _ _).trans (Eq.trans ?_ (Cert.ActBwdIdeal.Value.array m c).symm)), ra⟩
  funext i
  rw [a0, a1, a2]
  exact Cert.ActBwdRefIdeal.Value.entry (congrFun f1) (congrFun f2) i

end Cert.ActBwdIdeal.Value
end
-- ==== Proof.Pointwise.Gates.lean ====
module
public import proofs.«01_k».proof.Defs
public import proofs.«01_k».proof.Proof.Gen.GatesIdeal.Value
public import proofs.«01_k».proof.Proof.Gen.GatesRefIdeal.Run
public import proofs.«01_k».proof.Proof.Gen.GatesRefIdeal.Read
public import proofs.«01_k».proof.Proof.Product.Sum
public import proofs.«01_k».proof.Proof.Pointwise.Sigmoid
@[expose] public section
set_option maxRecDepth 16384
noncomputable section
open Idealize.ShloMosaic Idealize.ShloMosaic.TcCoe Idealize.SL.Sem Pointwise

/-! # The mixer's gates: `sigmoid(ga) * ya + sigmoid(gb) * yb` -/
namespace Cert.GatesIdeal.Value
open Cert.GatesIdeal Cert.GatesIdeal.Gen

variable (m : (ℓ : Loc nD τ sig) → Buf (Elt Ideal) ℓ)

/-- Which blocks a grid point works on: the second gate's columns lie 2048 further right. -/
theorem idx : ∀ t : Fin cfg0.N, win0_0.index t = ![t.val / 4, t.val % 4] ∧ win0_1.index t = ![t.val / 4, t.val % 4 + 4] ∧
    win0_2.index t = ![t.val / 4, t.val % 4] ∧ win0_3.index t = ![t.val / 4, t.val % 4] ∧
    win0_4.index t = ![t.val / 4, t.val % 4] := (by decide +kernel : ∀ t : Fin grid0.N, _)

/-- One element of the result. -/
def gated (ga gb ya yb : EReal) : EReal := sigmoid ga * ya + sigmoid gb * yb

theorem pay (ga gb ya yb : Vec Ideal S512x512 .bf16) (j : S512x512.Idx) :
    k0_pay1 ga gb ya yb j = gated (ga j) (gb j) (ya j) (yb j) := by
  pointwise [k0_pay1, gated, sigmoid]
  simp only [zero_sub]

/-- The array the call leaves. -/
theorem array (c : Dev nD) : (dats m 0 c).arrAt 4 (cfgs 0).N = fun i : S4096x2048.Idx => gated
    (m ((c : Thread nD τ).loc main_arg0) (gateA i)) (m ((c : Thread nD τ).loc main_arg0) (gateB i))
    (m ((c : Thread nD τ).loc main_arg1) i) (m ((c : Thread nD τ).loc main_arg2) i) := by
  refine (dats m 0 c).arrAt_eq_of_covers 4 _ (by decide +kernel) fun t hf y => ?_
  blk_simp
  rw [after0_4]
  unfold out0_4
  frame_out
  rw [pay]
  unfold gateA gateB
  congr 1 <;> blk_point [iblk, V, idx t]

end Cert.GatesIdeal.Value

namespace Cert.GatesRefIdeal.Value
open Cert.GatesRefIdeal Cert.GatesRefIdeal.Read Cert.GatesIdeal.Value

theorem entry (zg : Vec Ideal S4096x4096 .bf16) (ya yb : Vec Ideal S4096x2048 .bf16) (i : S4096x2048.Idx) :
    val_main_v20 zg ya yb i = gated (zg (gateA i)) (zg (gateB i)) (ya i) (yb i) := by
  have ea : idx_main_v3 i = gateA i := Product.place rfl rfl
  have eb : idx_main_v4 i = gateB i := Product.place rfl rfl
  rw [← ea, ← eb]
  pointwise [val_main_v20_apply, val_main_v19_apply, val_main_v18_apply, val_main_v17_apply, val_main_v16_apply,
    val_main_v15_apply, val_main_v14_apply, val_main_v13_apply, val_main_v12_apply, val_main_v11_apply,
    val_main_v10_apply, val_main_v9_apply, val_main_v8_apply, val_main_v7_apply, val_main_v6_apply, val_main_v5_apply,
    val_main_v4_apply, val_main_v3_apply, val_main_v2_apply, val_main_v1_apply, val_main_v0_apply, val_main_cst_apply,
    val_main_cst_0_apply, val_main_cst_1_apply, val_main_cst_2_apply, gated, sigmoid]

/-- The reference runs and leaves its arguments as they were. -/
theorem frame : Cert.quiescent_GatesRefIdeal := fun m ρ _ => (θ_run defs _ _).mono
  (fun r h => ⟨fun c => (h c).2, sem_eq_zero_of_no_sems (by decide) r.2⟩) (run m ρ)

end Cert.GatesRefIdeal.Value

/-- The two programs end with the same array. -/
theorem Cert.GatesIdeal.Value.equal : Cert.algebraic_GatesIdeal_GatesRefIdeal := by
  intro m ρ m' ρ' _ hargs
  refine ⟨fun c => (Cert.GatesIdeal.Gen.dats m 0 c).arrAt 4 (Cert.GatesIdeal.cfgs 0).N, Cert.GatesIdeal.Value.run_blocks m ρ,
    (θ_run _ _ _).mono (fun r h c => ?_) (Cert.GatesRefIdeal.Value.run m' ρ')⟩
  obtain ⟨r0, ra⟩ := h c
  obtain ⟨a0, a1, a2⟩ := hargs c
  refine ⟨r0.trans ((Cert.GatesRefIdeal.Read.val_main_v20_eq _ _ _).trans (Eq.trans ?_ (Cert.GatesIdeal.Value.array m c).symm)), ra⟩
  funext i
  rw [← a0, ← a1, ← a2]
  exact Cert.GatesRefIdeal.Value.entry _ _ _ i
end
-- ==== Proof.Pointwise.GatesBwd.lean ====
module
public import proofs.«01_k».proof.Defs
public import proofs.«01_k».proof.Proof.Gen.GatesBwdIdeal.Value
public import proofs.«01_k».proof.Proof.Gen.GatesBwdRefIdeal.Run
public import proofs.«01_k».proof.Proof.Gen.GatesBwdRefIdeal.Read
public import proofs.«01_k».proof.Proof.Product.Sum
public import proofs.«01_k».proof.Proof.Pointwise.Sigmoid
@[expose] public section
set_option maxRecDepth 16384
noncomputable section
open Idealize.ShloMosaic Idealize.ShloMosaic.TcCoe Idealize.SL.Sem Pointwise

/-! # The gradient of the mixer's gates by the branches and by the gates -/
namespace Cert.GatesBwdIdeal.Value
open Cert.GatesBwdIdeal Cert.GatesBwdIdeal.Gen

variable (m : (ℓ : Loc nD τ sig) → Buf (Elt Ideal) ℓ)

/-- Which blocks a grid point works on: the second gate's columns lie 2048 further right. -/
theorem idx : ∀ t : Fin cfg0.N, win0_0.index t = ![t.val / 4, t.val % 4] ∧ win0_1.index t = ![t.val / 4, t.val % 4 + 4] ∧
    win0_2.index t = ![t.val / 4, t.val % 4] ∧ win0_3.index t = ![t.val / 4, t.val % 4] ∧
    win0_4.index t = ![t.val / 4, t.val % 4] ∧ win0_5.index t = ![t.val / 4, t.val % 4] ∧
    win0_6.index t = ![t.val / 4, t.val % 4] ∧ win0_7.index t = ![t.val / 4, t.val % 4] ∧
    win0_8.index t = ![t.val / 4, t.val % 4] := (by decide +kernel : ∀ t : Fin grid0.N, _)

theorem pay_a (d g : Vec Ideal S512x512 .bf16) (j : S512x512.Idx) : k0_pay5 d g j = branchGrad (d j) (g j) := by
  pointwise [k0_pay5, k0_pay2, k0_pay3, branchGrad, sigmoid]
  simp only [zero_sub]
theorem pay_b (d g : Vec Ideal S512x512 .bf16) (j : S512x512.Idx) : k0_pay6 d g j = branchGrad (d j) (g j) := by
  pointwise [k0_pay6, k0_pay2, k0_pay4, branchGrad, sigmoid]
  simp only [zero_sub]
theorem pay_ga (d g y : Vec Ideal S512x512 .bf16) (j : S512x512.Idx) : k0_pay7 d g y j = gateGrad (d j) (y j) (g j) := by
  pointwise [k0_pay7, k0_pay2, k0_pay3, gateGrad, sigmoid]
  simp only [zero_sub]
theorem pay_gb (d g y : Vec Ideal S512x512 .bf16) (j : S512x512.Idx) :
    k0_pay1 (k0_pay2 d) (k0_pay4 g) y j = gateGrad (d j) (y j) (g j) := by
  pointwise [k0_pay1, k0_pay2, k0_pay4, gateGrad, sigmoid]
  simp only [zero_sub]

/-- The four arrays the call leaves. -/
theorem array_a (c : Dev nD) : (dats m 0 c).arrAt 5 (cfgs 0).N = fun i : S4096x2048.Idx =>
    branchGrad (m ((c : Thread nD τ).loc main_arg3) i) (m ((c : Thread nD τ).loc main_arg0) (gateA i)) := by
  refine (dats m 0 c).arrAt_eq_of_covers 5 _ (by decide +kernel) fun t hf y => ?_
  blk_simp
  rw [after0_5]
  unfold out0_5
  frame_out
  rw [pay_a]
  unfold gateA
  congr 1 <;> blk_point [iblk, V, idx t]

theorem array_b (c : Dev nD) : (dats m 0 c).arrAt 6 (cfgs 0).N = fun i : S4096x2048.Idx =>
    branchGrad (m ((c : Thread nD τ).loc main_arg3) i) (m ((c : Thread nD τ).loc main_arg0) (gateB i)) := by
  refine (dats m 0 c).arrAt_eq_of_covers 6 _ (by decide +kernel) fun t hf y => ?_
  blk_simp
  rw [after0_6]
  unfold out0_6
  frame_out
  rw [pay_b]
  unfold gateB
  congr 1 <;> blk_point [iblk, V, idx t]

theorem array_ga (c : Dev nD) : (dats m 0 c).arrAt 7 (cfgs 0).N = fun i : S4096x2048.Idx =>
    gateGrad (m ((c : Thread nD τ).loc main_arg3) i) (m ((c : Thread nD τ).loc main_arg1) i)
      (m ((c : Thread nD τ).loc main_arg0) (gateA i)) := by
  refine (dats m 0 c).arrAt_eq_of_covers 7 _ (by decide +kernel) fun t hf y => ?_
  blk_simp
  rw [after0_7]
  unfold out0_7
  frame_out
  rw [pay_ga]
  unfold gateA
  congr 1 <;> blk_point [iblk, V, idx t]

theorem array_gb (c : Dev nD) : (dats m 0 c).arrAt 8 (cfgs 0).N = fun i : S4096x2048.Idx =>
    gateGrad (m ((c : Thread nD τ).loc main_arg3) i) (m ((c : Thread nD τ).loc main_arg2) i)
      (m ((c : Thread nD τ).loc main_arg0) (gateB i)) := by
  refine (dats m 0 c).arrAt_eq_of_covers 8 _ (by decide +kernel) fun t hf y => ?_
  blk_simp
  rw [after0_8]
  unfold out0_8
  frame_out
  rw [pay_gb]
  unfold gateB
  congr 1 <;> blk_point [iblk, V, idx t]

end Cert.GatesBwdIdeal.Value

namespace Cert.GatesBwdRefIdeal.Value
open Cert.GatesBwdRefIdeal Cert.GatesBwdRefIdeal.Read Cert.GatesBwdRefIdeal.Gen

theorem place_a (i : S4096x2048.Idx) : idx_main_v3 i = gateA i := Product.place rfl rfl
theorem place_b (i : S4096x2048.Idx) : idx_main_v4 i = gateB i := Product.place rfl rfl

/-- The two gates' values. -/
theorem sig_a (zg : Vec Ideal S4096x4096 .bf16) (i : S4096x2048.Idx) : val_main_v10 zg i = sigmoid (zg (gateA i)) := by
  rw [← place_a]
  pointwise [val_main_v10_apply, val_main_v9_apply, val_main_v8_apply, val_main_v7_apply, val_main_v6_apply,
    val_main_v5_apply, val_main_v3_apply, val_main_v0_apply, val_main_cst_apply, val_main_cst_0_apply, sigmoid]
theorem sig_b (zg : Vec Ideal S4096x4096 .bf16) (i : S4096x2048.Idx) : val_main_v20 zg i = sigmoid (zg (gateB i)) := by
  rw [← place_b]
  pointwise [val_main_v20_apply, val_main_v19_apply, val_main_v18_apply, val_main_v17_apply, val_main_v16_apply,
    val_main_v15_apply, val_main_v4_apply, val_main_v0_apply, val_main_cst_2_apply, val_main_cst_3_apply, sigmoid]

theorem entry_a (zg : Vec Ideal S4096x4096 .bf16) (d : Vec Ideal S4096x2048 .bf16) (i : S4096x2048.Idx) :
    val_main_v36 zg d i = branchGrad (d i) (zg (gateA i)) := by
  rw [val_main_v36_apply, val_main_v30_apply, sig_a]
  exact mul_comm _ _
theorem entry_b (zg : Vec Ideal S4096x4096 .bf16) (d : Vec Ideal S4096x2048 .bf16) (i : S4096x2048.Idx) :
    val_main_v37 zg d i = branchGrad (d i) (zg (gateB i)) := by
  rw [val_main_v37_apply, val_main_v27_apply, sig_b]
  exact mul_comm _ _

theorem grad_a (zg : Vec Ideal S4096x4096 .bf16) (ya d : Vec Ideal S4096x2048 .bf16) (i : S4096x2048.Idx) :
    val_main_v32 zg ya d i = gateGrad (d i) (ya i) (zg (gateA i)) := by
  rw [val_main_v32_apply, val_main_v13_apply, val_main_v12_apply, sig_a]
  pointwise [val_main_v31_apply, val_main_v26_apply, val_main_v1_apply, val_main_v11_apply, val_main_cst_1_apply, gateGrad]
theorem grad_b (zg : Vec Ideal S4096x4096 .bf16) (yb d : Vec Ideal S4096x2048 .bf16) (i : S4096x2048.Idx) :
    val_main_v29 zg yb d i = gateGrad (d i) (yb i) (zg (gateB i)) := by
  rw [val_main_v29_apply, val_main_v23_apply, val_main_v22_apply, sig_b]
  pointwise [val_main_v28_apply, val_main_v26_apply, val_main_v2_apply, val_main_v21_apply, val_main_cst_4_apply, gateGrad]

theorem entry_ga (zg : Vec Ideal S4096x4096 .bf16) (ya yb d : Vec Ideal S4096x2048 .bf16) (i : S4096x2048.Idx) :
    val_main_v38 zg ya yb d i = gateGrad (d i) (ya i) (zg (gateA i)) := by
  rw [← grad_a, val_main_v38_apply, val_main_v34_apply]
  exact concatenate_pair_apply_left (t := S4096x4096) (s₁ := S4096x2048) (s₂ := S4096x2048) 1 _ _
    concatenates_S4096x2048_S4096x2048_S4096x4096_d1 _ rfl i
    fun b => match b with
      | ⟨0, _⟩ => rfl
      | ⟨1, _⟩ => rfl
theorem entry_gb (zg : Vec Ideal S4096x4096 .bf16) (ya yb d : Vec Ideal S4096x2048 .bf16) (i : S4096x2048.Idx) :
    val_main_v39 zg ya yb d i = gateGrad (d i) (yb i) (zg (gateB i)) := by
  rw [← grad_b, val_main_v39_apply, val_main_v35_apply]
  exact concatenate_pair_apply_right (t := S4096x4096) (s₁ := S4096x2048) (s₂ := S4096x2048) 1 _ _
    concatenates_S4096x2048_S4096x2048_S4096x4096_d1 _ rfl rfl i
    (fun b hb => match b with
      | ⟨0, _⟩ => rfl
      | ⟨1, _⟩ => absurd rfl hb) (Nat.add_comm _ _)

/-- The reference runs and leaves its arguments as they were. -/
theorem frame : Cert.quiescent_GatesBwdRefIdeal := fun m ρ _ => (θ_run defs _ _).mono
  (fun r h => ⟨fun c => (h c).2.2.2.2, sem_eq_zero_of_no_sems (by decide) r.2⟩) (run m ρ)

end Cert.GatesBwdRefIdeal.Value

/-- The two programs end with the same four arrays. -/
theorem Cert.GatesBwdIdeal.Value.equal : Cert.algebraic_GatesBwdIdeal_GatesBwdRefIdeal := by
  intro m ρ m' ρ' _ hargs
  refine ⟨fun c => (Cert.GatesBwdIdeal.Gen.dats m 0 c).arrAt 5 (Cert.GatesBwdIdeal.cfgs 0).N,
    fun c => (Cert.GatesBwdIdeal.Gen.dats m 0 c).arrAt 6 (Cert.GatesBwdIdeal.cfgs 0).N,
    fun c => (Cert.GatesBwdIdeal.Gen.dats m 0 c).arrAt 7 (Cert.GatesBwdIdeal.cfgs 0).N,
    fun c => (Cert.GatesBwdIdeal.Gen.dats m 0 c).arrAt 8 (Cert.GatesBwdIdeal.cfgs 0).N, Cert.GatesBwdIdeal.Value.run_blocks m ρ,
    (θ_run _ _ _).mono (fun r h c => ?_) (Cert.GatesBwdRefIdeal.Value.run m' ρ')⟩
  obtain ⟨r0, r1, r2, r3, ra⟩ := h c
  obtain ⟨a0, a1, a2, a3⟩ := hargs c
  refine ⟨r0.trans ((Cert.GatesBwdRefIdeal.Read.val_main_v36_eq _ _).trans (Eq.trans ?_ (Cert.GatesBwdIdeal.Value.array_a m c).symm)),
    r1.trans ((Cert.GatesBwdRefIdeal.Read.val_main_v37_eq _ _).trans (Eq.trans ?_ (Cert.GatesBwdIdeal.Value.array_b m c).symm)),
    r2.trans ((Cert.GatesBwdRefIdeal.Read.val_main_v38_eq _ _ _ _).trans (Eq.trans ?_ (Cert.GatesBwdIdeal.Value.array_ga m c).symm)),
    r3.trans ((Cert.GatesBwdRefIdeal.Read.val_main_v39_eq _ _ _ _).trans (Eq.trans ?_ (Cert.GatesBwdIdeal.Value.array_gb m c).symm)), ra⟩ <;>
    funext i
  · rw [← a0, ← a3]; exact Cert.GatesBwdRefIdeal.Value.entry_a _ _ i
  · rw [← a0, ← a3]; exact Cert.GatesBwdRefIdeal.Value.entry_b _ _ i
  · rw [← a0, ← a1, ← a3]; exact Cert.GatesBwdRefIdeal.Value.entry_ga _ _ _ _ i
  · rw [← a0, ← a2, ← a3]; exact Cert.GatesBwdRefIdeal.Value.entry_gb _ _ _ _ i
end
-- ==== Proof.Norm.Rows.lean ====
module
public import proofs.«01_k».proof.Proof.Sgu.Ideal
public import Idealize.ShloMosaic.Lib.Pipeline.ValueKit
@[expose] public section
noncomputable section
open Idealize.ShloMosaic

/-!
# The root mean square norm of a row, among the ideal values

A row of 2048 values is divided by the guarded root of its mean square and multiplied by a gain.  Rows are
functions of natural coordinates, here and in the modules that use them.
-/
namespace Norm

/-- A matrix by natural coordinates, zero outside its bounds. -/
def entry2 {n k : ℕ} (x : (⟨2, ![n, k]⟩ : Shape).Idx → EReal) (i j : ℕ) : EReal :=
  if h : i < n ∧ j < k then x (ix2 ⟨i, h.1⟩ ⟨j, h.2⟩) else 0
/-- A vector by natural coordinates, zero outside its bounds. -/
def entry1 {n : ℕ} (x : (⟨1, ![n]⟩ : Shape).Idx → EReal) (i : ℕ) : EReal :=
  if h : i < n then x (ix1 ⟨i, h⟩) else 0

theorem entry2_eq {n k : ℕ} (x : (⟨2, ![n, k]⟩ : Shape).Idx → EReal) (i : (⟨2, ![n, k]⟩ : Shape).Idx) :
    x i = entry2 x (i 0).val (i 1).val := by
  have e : i = ix2 ⟨(i 0).val, (i 0).isLt⟩ ⟨(i 1).val, (i 1).isLt⟩ := by funext a; fin_cases a <;> rfl
  have hi : (i 0).val < n ∧ (i 1).val < k := ⟨(i 0).isLt, (i 1).isLt⟩
  unfold entry2
  rw [dif_pos hi]
  exact congrArg x e
theorem entry1_eq {n : ℕ} (x : (⟨1, ![n]⟩ : Shape).Idx → EReal) (i : (⟨1, ![n]⟩ : Shape).Idx) :
    x i = entry1 x (i 0).val := by
  have e : i = ix1 ⟨(i 0).val, (i 0).isLt⟩ := by funext a; fin_cases a; rfl
  have hi : (i 0).val < n := (i 0).isLt
  unfold entry1
  rw [dif_pos hi]
  exact congrArg x e

/-- One over the guarded root mean square of a row. -/
def inverse (x : ℕ → EReal) : EReal :=
  Ideal.rsqrt (Ideal.div (∑ k : Fin 2048, x k * x k) (Ideal.ofBits .f32 0x45000000#32) + Ideal.ofBits .f32 0x358637BD#32)

/-- The norm of a row at column `k`, under the gain `g`. -/
def normed (x g : ℕ → EReal) (k : ℕ) : EReal := x k * inverse x * g k

/-- A residual row and a half of the norm of another row. -/
def stepped (x f g : ℕ → EReal) (k : ℕ) : EReal := x k + Ideal.ofBits .f32 0x3F000000#32 * normed f g k

/-- A residual row and the norm of another row. -/
def joined (x f g : ℕ → EReal) (k : ℕ) : EReal := x k + normed f g k

end Norm
end
-- ==== Proof.Norm.Gradient.lean ====
module
public import proofs.«01_k».proof.Proof.Norm.Rows
public import Idealize.ShloMosaic.Lib.Pointwise
@[expose] public section
noncomputable section
open Idealize.ShloMosaic

/-!
# The gradient of the root mean square norm among the ideal values

A row `f` of 2048 values has the norm `f * rinv f * g`.  `back f e` is the gradient by `f` when `e` is the
gradient of the normalised row `f * rinv f`.  Nothing here asks the values to be finite: the guarded mean
square is a positive number or infinite, so `rinv f` is a number and not negative, and such a factor may be
taken out of any sum.
-/
namespace Norm

/-- The guarded mean square of a row. -/
def msq (f : ℕ → EReal) : EReal := (∑ k : Fin 2048, f k * f k) * ((1 / 2048 : ℝ) : EReal) + ((Sgu.eps : ℝ) : EReal)
/-- One over the guarded root mean square of a row. -/
def rinv (f : ℕ → EReal) : EReal := Ideal.rsqrt (msq f)
/-- The normalised row. -/
def nrm (f : ℕ → EReal) (k : ℕ) : EReal := f k * rinv f
/-- The gradient by the row, from the gradient of the normalised row. -/
def back (f e : ℕ → EReal) (k : ℕ) : EReal :=
  rinv f * (e k - nrm f k * ((∑ j : Fin 2048, e j * nrm f j) * ((1 / 2048 : ℝ) : EReal)))

/-- Half of a gradient. -/
def half (d : ℕ → ℕ → EReal) (r k : ℕ) : EReal := d r k * ((1 / 2 : ℝ) : EReal)
/-- The gradient by the rows of `f`, under the gain `g`, from the gradient `e` of the norm. -/
def dx (f e : ℕ → ℕ → EReal) (g : ℕ → EReal) (r k : ℕ) : EReal := back (f r) (fun k => e r k * g k) k
/-- What a row adds to the gradient of the gain. -/
def dgr (f e : ℕ → ℕ → EReal) (r k : ℕ) : EReal := e r k * nrm (f r) k
/-- The gradient of a residual stream: by way of the norm and past it. -/
def through (x e : ℕ → ℕ → EReal) (g : ℕ → EReal) (y : ℕ → ℕ → EReal) (r k : ℕ) : EReal := dx x e g r k + y r k

theorem columns_ne : (2048 : ℝ) ≠ 0 := by norm_num

theorem ofBits_2048 : Ideal.ofBits .f32 0x45000000#32 = ((2048 : ℝ) : EReal) := by
  simp [Ideal.ofBits, Ideal.ieee, -EReal.coe_mul]; norm_num

theorem square_nonneg (x : EReal) : 0 ≤ x * x := by
  induction x with
  | bot => simp
  | top => simp
  | coe x => rw [← EReal.coe_mul]; exact EReal.coe_nonneg.mpr (mul_self_nonneg x)

/-- The guarded mean square is infinite or a positive number. -/
theorem msq_cases (f : ℕ → EReal) : msq f = ⊤ ∨ ∃ v : ℝ, 0 < v ∧ msq f = (v : EReal) := by
  have he : (0 : ℝ) < Sgu.eps := by norm_num [Sgu.eps]
  have hs : 0 ≤ ∑ k : Fin 2048, f k * f k := Finset.sum_nonneg fun k _ => square_nonneg _
  unfold msq
  generalize ∑ k : Fin 2048, f k * f k = s at hs
  induction s with
  | bot => exact absurd hs (by simp)
  | top => left; rw [EReal.top_mul_coe_of_pos (by norm_num), EReal.top_add_coe]
  | coe s =>
    have hs := EReal.coe_nonneg.mp hs
    exact .inr ⟨s * (1 / 2048) + Sgu.eps, by positivity, by rw [← EReal.coe_mul, ← EReal.coe_add]⟩

/-- A factor that is a number and not negative may be taken out of a sum. -/
theorem sum_mul {ι : Type*} (s : Finset ι) (f : ι → EReal) {r : ℝ} (h : 0 ≤ r) :
    ∑ i ∈ s, f i * (r : EReal) = (∑ i ∈ s, f i) * (r : EReal) := by
  induction s using Finset.cons_induction with
  | empty => simp
  | cons a s ha ih =>
    rw [Finset.sum_cons, Finset.sum_cons, ih,
      EReal.right_distrib_of_nonneg_of_ne_top (EReal.coe_nonneg.mpr h) (EReal.coe_ne_top r)]

theorem add_self (a : EReal) : a + a = a * ((2 : ℝ) : EReal) := by
  induction a with
  | bot => rw [EReal.bot_mul_coe_of_pos (by norm_num), EReal.bot_add]
  | top => rw [EReal.top_mul_coe_of_pos (by norm_num), EReal.top_add_top]
  | coe a => rw [← EReal.coe_mul, ← EReal.coe_add, mul_two]

/-- The same gradient as a sum of its three terms, the cube of `rinv` spelt `rinv / msq`. -/
theorem back_eq (f e : ℕ → EReal) (k : ℕ) :
    e k * rinv f
        + f k * ((∑ j : Fin 2048, f j * e j) * (((-(1 / 2) : ℝ) : EReal) * Ideal.div (rinv f) (msq f)) * ((1 / 2048 : ℝ) : EReal))
        + (∑ j : Fin 2048, f j * e j) * (((-(1 / 2) : ℝ) : EReal) * Ideal.div (rinv f) (msq f)) * ((1 / 2048 : ℝ) : EReal) * f k
      = back f e k := by
  rcases msq_cases f with h | ⟨v, hv, h⟩
  · have hr : rinv f = 0 := by rw [rinv, h, Ideal.rsqrt_top]
    have hd : Ideal.div (rinv f) (msq f) = 0 := by rw [hr, h, Ideal.div, if_neg (by simp), zero_mul]
    rw [back, hd, hr]
    simp only [mul_zero, zero_mul, add_zero]
  · obtain ⟨r, hr0, hr, h3⟩ : ∃ r : ℝ, 0 ≤ r ∧ rinv f = (r : EReal) ∧ 1 / v = r * r :=
      ⟨(√v)⁻¹, by positivity, by rw [rinv, h, Sgu.rsqrt_pos hv],
        by rw [← mul_inv, Real.mul_self_sqrt hv.le, one_div]⟩
    have hs : ∑ j : Fin 2048, e j * nrm f j = (∑ j : Fin 2048, f j * e j) * (r : EReal) := by
      rw [← sum_mul _ _ hr0]
      exact Finset.sum_congr rfl fun j _ => by rw [nrm, hr, ← mul_assoc, mul_comm (e j)]
    rw [back, hs, nrm, hr, h, Ideal.div_coe hv.ne', h3, sub_eq_add_neg,
      EReal.left_distrib_of_nonneg_of_ne_top (EReal.coe_nonneg.mpr hr0) (EReal.coe_ne_top r), add_assoc,
      mul_comm (e k)]
    generalize ∑ j : Fin 2048, f j * e j = S
    have l : f k * (S * (((-(1 / 2) : ℝ) : EReal) * ((r : EReal) * ((r * r : ℝ) : EReal))) * ((1 / 2048 : ℝ) : EReal))
        = f k * S * ((-(1 / 2) * (r * (r * r)) * (1 / 2048) : ℝ) : EReal) := by
      simp only [EReal.coe_mul, mul_assoc]
    rw [mul_comm _ (f k), l, add_self, ← EReal.neg_mul]
    have q : (r : EReal) * (-(f k * (r : EReal)) * (S * (r : EReal) * ((1 / 2048 : ℝ) : EReal)))
        = f k * S * ((-(r * r * r * (1 / 2048)) : ℝ) : EReal) := by
      rw [EReal.neg_mul, mul_neg, EReal.coe_neg, mul_neg]
      refine congrArg _ ?_
      simp only [EReal.coe_mul]
      ac_rfl
    rw [q, mul_assoc (f k * S), ← EReal.coe_mul]
    refine congrArg (fun z : ℝ => (r : EReal) * e k + f k * S * (z : EReal)) ?_
    ring

/-- The sum over sixteen row blocks is the sum over the rows. -/
theorem sum_rows (f : ℕ → EReal) : ∑ k ∈ Finset.range 16, ∑ r : Fin 256, f (k * 256 + r) = ∑ r : Fin 4096, f r := by
  rw [← Fin.sum_univ_eq_sum_range (fun k => ∑ r : Fin 256, f (k * 256 + r)) 16]
  exact Fin.sum_mul_add_congr (S := 16) (f := fun r : Fin 4096 => f r)
    (fun s k _ => rfl)

/-- A block that the first of sixteen points sets and every later one adds to holds the sum over the rows. -/
theorem sum_after (X : ∀ n, n < 16 → EReal) (f : ℕ → EReal)
    (h0 : ∀ h, X 0 h = ∑ r : Fin 256, f (0 * 256 + r))
    (hs : ∀ n h, X (n + 1) h = X n (Nat.lt_of_succ_lt h) + ∑ r : Fin 256, f ((n + 1) * 256 + r))
    (h15 : 15 < 16) : X 15 h15 = ∑ r : Fin 4096, f r := by
  have h : ∀ n hn, X n hn = ∑ k ∈ Finset.range (n + 1), ∑ r : Fin 256, f (k * 256 + r) := by
    intro n
    induction n with
    | zero => intro hn; rw [h0, Finset.sum_range_one]
    | succ n ih => intro hn; rw [hs, ih, Finset.sum_range_succ _ (n + 1)]
  rw [h, sum_rows]

end Norm
end
-- ==== Proof.Norm.LastNormBwd.lean ====
module
public import proofs.«01_k».proof.Defs
public import proofs.«01_k».proof.Proof.Gen.LastNormBwdIdeal.Value
public import proofs.«01_k».proof.Proof.Gen.LastNormBwdRefIdeal.Run
public import proofs.«01_k».proof.Proof.Gen.LastNormBwdRefIdeal.Read
public import proofs.«01_k».proof.Proof.Norm.Gradient
public import Idealize.ShloMosaic.Lib.Pipeline.ReadBack
@[expose] public section
set_option maxRecDepth 16384
noncomputable section
open Idealize.ShloMosaic Idealize.ShloMosaic.TcCoe Idealize.SL.Sem
open _root_.Norm Idealize.ShloMosaic.Ideal
open Sgu (ofBits_half ofBits_neg_half ofBits_one ofBits_eps)

/-! # The gradient of the last residual's norm, half of it taken -/
namespace Cert.LastNormBwdIdeal.Value
open Cert.LastNormBwdIdeal Cert.LastNormBwdIdeal.Gen

variable {f d : ℕ → ℕ → EReal} {g : ℕ → EReal}

section block
variable {X D : Vec Ideal S256x2048 .f32} {G : Vec Ideal S1x2048 .f32}
variable (hX : ∀ (r : Fin 256) (k : Fin 2048), X (ix2 r k) = f r k)
variable (hD : ∀ (r : Fin 256) (k : Fin 2048), D (ix2 r k) = d r k)
variable (hG : ∀ k : Fin 2048, G (ix2 0 k) = g k)

include hX in
theorem pay_rinv (r : Fin 256) : k0_pay3 X (ix2 r 0) = rinv (f r) := by
  pointwise [k0_pay3]
  simp only [hX, ofBits_2048, ofBits_eps, div_coe columns_ne]
  rfl

include hX in
theorem pay_nrm (r : Fin 256) (k : Fin 2048) : k0_pay4 X (ix2 r k) = nrm (f r) k := by
  pointwise [k0_pay4]
  simp only [hX, pay_rinv hX, nrm]

include hD in
theorem pay_half (r : Fin 256) (k : Fin 2048) : k0_pay5 D (ix2 r k) = half d r k := by
  pointwise [k0_pay5]
  simp only [hD, ofBits_half, half]

include hX hD hG in
theorem pay_dx (r : Fin 256) (k : Fin 2048) : k0_pay6 X D G (ix2 r k) = dx f (half d) g r k := by
  pointwise [k0_pay6]
  simp only [pay_nrm hX, pay_rinv hX, pay_half hD, hG, ofBits_2048, div_coe columns_ne,
    dx, back]

include hX hD in
theorem pay_dgr (k : Fin 2048) : k0_pay8 X D (ix2 0 k) = (∑ r : Fin 256, dgr f (half d) r k) := by
  pointwise [k0_pay8]
  simp only [pay_nrm hX, pay_half hD, dgr]

include hX hD in
/-- What a block of rows adds to the gradient of the gain. -/
theorem pay_gain (S : Vec Ideal S1x2048 .f32) (k : Fin 2048) :
    k0_pay1 (k0_pay7 S) (k0_pay8 X D) (ix2 0 k) = S (ix2 0 k) + (∑ r : Fin 256, dgr f (half d) r k) := by
  refine Eq.trans ?_ (congrArg (_ + ·) (pay_dgr hX hD k))
  pointwise [k0_pay1, k0_pay7]
end block

/-- Which blocks a grid point works on. -/
theorem idx : ∀ t : Fin cfg0.N, win0_0.index t = ![t.val, 0] ∧ win0_1.index t = ![0, 0] ∧ win0_2.index t = ![t.val, 0] ∧
    win0_3.index t = ![t.val, 0] ∧ win0_4.index t = ![0, 0] ∧ t.val < 16 := (by decide +kernel : ∀ t : Fin grid0.N, _)

/-- The three arguments hold the values `f g d` on device `c`. -/
structure Args (m : (ℓ : Loc nD τ sig) → Buf (Elt Ideal) ℓ) (c : Dev nD) (f : ℕ → ℕ → EReal) (g : ℕ → EReal) (d : ℕ → ℕ → EReal) : Prop where
  hf : ∀ i : S4096x2048.Idx, m ((c : Thread nD τ).loc main_arg0) i = f (i 0).val (i 1).val
  hg : ∀ i : S2048.Idx, m ((c : Thread nD τ).loc main_arg1) i = g (i 0).val
  hd : ∀ i : S4096x2048.Idx, m ((c : Thread nD τ).loc main_arg2) i = d (i 0).val (i 1).val

variable {m : (ℓ : Loc nD τ sig) → Buf (Elt Ideal) ℓ} {c : Dev nD}
variable (H : Args m c f g d) (t : Fin cfg0.N)

include H in
theorem block_f (r : Fin 256) (k : Fin 2048) : iblk m c 0 t (ix2 r k) = f (t.val * 256 + r) k := by
  have ht := (idx t).2.2.2.2.2
  refine Eq.trans ?_ (H.hf (ix2 ⟨t.val * 256 + r, by omega⟩ k))
  blk_ext [iblk, V, idx t]

include H in
theorem block_d (r : Fin 256) (k : Fin 2048) : iblk m c 2 t (ix2 r k) = d (t.val * 256 + r) k := by
  have ht := (idx t).2.2.2.2.2
  refine Eq.trans ?_ (H.hd (ix2 ⟨t.val * 256 + r, by omega⟩ k))
  blk_ext [iblk, V, idx t]

include H in
theorem block_g (k : Fin 2048) : iblk m c 1 t (ix2 0 k) = g k := by
  refine Eq.trans ?_ (H.hg (ix1 k))
  blk_simp [iblk]
  entry_read
  pointwise
  blk_ext [idx t]

include H in
theorem dx_block (r : Fin 256) (k : Fin 2048) :
    (outsAt0 m c t.val t.isLt).1 (ix2 r k) = dx f (half d) g (t.val * 256 + r) k := by
  by_cases h0 : t.val % 16 = 0
  on_goal 1 => rw [outsAt0_A m c t h0]
  on_goal 2 => rw [outsAt0_B m c t h0]
  all_goals
    dsimp only
    frame_open
    frame_out
    exact pay_dx (f := fun r => f (t.val * 256 + r)) (d := fun r => d (t.val * 256 + r)) (block_f H t) (block_d H t) (block_g H t) r k

include H in
theorem dg_first (h0 : t.val % 16 = 0) (k : Fin 2048) :
    (outsAt0 m c t.val t.isLt).2 (ix2 0 k) = (∑ r : Fin 256, dgr f (half d) (t.val * 256 + r) k) := by
  rw [outsAt0_A m c t h0]
  dsimp only
  frame_open
  simp (disch := decide) only [↓ View.readCov_skip, ↓ View.readCov_cons_toLoadRect, ↓ View.readCov_fill]
  frame_out
  refine (pay_gain (f := fun r => f (t.val * 256 + r)) (d := fun r => d (t.val * 256 + r)) (block_f H t) (block_d H t) _ k).trans ?_
  pointwise [k0_pay2]
  rfl

include H in
theorem dg_next (h0 : ¬ t.val % 16 = 0) (k : Fin 2048) :
    (outsAt0 m c t.val t.isLt).2 (ix2 0 k) = (outsAt0 m c (t.val - 1) (Nat.lt_of_le_of_lt (Nat.sub_le _ _) t.isLt)).2 (ix2 0 k)
      + (∑ r : Fin 256, dgr f (half d) (t.val * 256 + r) k) := by
  rw [outsAt0_B m c t h0]
  dsimp only
  frame_open
  simp (disch := decide) only [↓ View.readCov_skip, ↓ View.readCov_cons_toLoadRect, ↓ View.readCov_fill]
  frame_out
  exact pay_gain (f := fun r => f (t.val * 256 + r)) (d := fun r => d (t.val * 256 + r)) (block_f H t) (block_d H t) _ k

include H in
/-- The gradients by the rows. -/
theorem rows : (dats m 0 c).arrAt 3 (cfgs 0).N = fun i : S4096x2048.Idx => dx f (half d) g (i 0).val (i 1).val := by
  refine (dats m 0 c).arrAt_eq_of_covers 3 _ (by decide +kernel) fun t ht y => ?_
  blk_simp [idx t]
  rw [after0_3]
  idx_vars y
  exact dx_block H t _ _

include H in
/-- The gradient of the gain. -/
theorem gain : (dats m 0 c).arrAt 4 (cfgs 0).N = fun i : S1x2048.Idx => (∑ r : Fin 4096, dgr f (half d) r (i 1).val) := by
  refine (dats m 0 c).arrAt_eq_of_after_last 4 t0_15 (by decide +kernel) _ fun j => ?_
  blk_simp
  rw [after0_4]
  idx_vars j
  obtain rfl : j0 = 0 := Subsingleton.elim _ _
  exact sum_after (fun n hn => (outsAt0 m c n hn).2 (ix2 0 j1)) (fun r => dgr f (half d) r j1)
    (fun h => dg_first H ⟨0, h⟩ rfl j1) (fun n h => dg_next H ⟨n + 1, h⟩ (show ¬ (n + 1) % 16 = 0 by omega) j1) t0_15.isLt

end Cert.LastNormBwdIdeal.Value

namespace Cert.LastNormBwdRefIdeal.Value
open Cert.LastNormBwdRefIdeal Cert.LastNormBwdRefIdeal.Read Cert.LastNormBwdIdeal.Value

variable {f d : ℕ → ℕ → EReal} {g : ℕ → EReal}
variable {X D : (⟨S4096x2048, .f32⟩ : BufTy).Contents (Elt Ideal)} {G : (⟨S2048, .f32⟩ : BufTy).Contents (Elt Ideal)}
variable (hX : ∀ i : S4096x2048.Idx, X i = f (i 0).val (i 1).val)
variable (hG : ∀ i : S2048.Idx, G i = g (i 0).val)
variable (hD : ∀ i : S4096x2048.Idx, D i = d (i 0).val (i 1).val)

include hX in
theorem ref_msq (i : S4096x1.Idx) : val_main_v6 (F := Ideal) X i = msq (f (i 0).val) := by
  simp only [val_main_v6_apply, val_main_v5_apply, val_main_v4_apply, val_main_v3_apply, val_main_v2_apply, val_main_v1_apply,
    val_main_v0_apply, val_main_cst_apply, val_main_cst_0_apply, val_main_cst_1_apply, hX]
  pointwise
  simp only [ofBits_2048, ofBits_eps, div_coe columns_ne, msq]

include hX in
theorem ref_rinv (i : S4096x1.Idx) : val_main_v7 (F := Ideal) X i = rinv (f (i 0).val) := by
  simp only [val_main_v7_apply, ref_msq hX]
  rfl

include hX in
theorem ref_nrm (i : S4096x2048.Idx) : val_main_v12 (F := Ideal) X i = nrm (f (i 0).val) (i 1).val := by
  simp only [val_main_v12_apply, val_main_v11_apply, ref_rinv hX, hX]
  pointwise
  simp only [nrm]

include hD in
theorem ref_half (i : S4096x2048.Idx) : val_main_v19 (F := Ideal) D i = half d (i 0).val (i 1).val := by
  simp only [val_main_v19_apply, val_main_v18_apply, val_main_cst_4_apply, hD]
  pointwise
  rw [ofBits_half, mul_comm, half]

include hX hG hD in
theorem ref_dx (i : S4096x2048.Idx) : val_main_v40 (F := Ideal) X G D i = dx f (half d) g (i 0).val (i 1).val := by
  simp only [val_main_v40_apply, val_main_v39_apply, val_main_v38_apply, val_main_v37_apply, val_main_v36_apply,
    val_main_v35_apply, val_main_v34_apply, val_main_v33_apply, val_main_v32_apply, val_main_v31_apply, val_main_v30_apply,
    val_main_v29_apply, val_main_v28_apply, val_main_v27_apply, val_main_v26_apply, val_main_v24_apply, val_main_v23_apply,
    val_main_v13_apply, val_main_v10_apply, val_main_v9_apply, val_main_v8_apply, val_main_cst_2_apply, val_main_cst_7_apply,
    val_main_cst_8_apply, val_main_cst_9_apply, ref_msq hX, ref_rinv hX, ref_half hD, hX, hG]
  pointwise
  simp only [Finset.univ_unique, Finset.sum_singleton, Nat.mul_one, Fin.default_eq_zero, Fin.val_zero, Nat.add_zero, zero_add,
    ofBits_neg_half, ofBits_2048, div_coe columns_ne]
  exact (back_eq (f (i 0).val) (fun k => half d (i 0).val k * g k) (i 1).val)

include hX hD in
theorem ref_dg (i : S1x2048.Idx) : val_main_v41 (F := Ideal) X D i = (∑ r : Fin 4096, dgr f (half d) r (i 1).val) := by
  simp only [val_main_v41_apply, val_main_v25_apply, val_main_v22_apply, val_main_v21_apply, val_main_v20_apply,
    val_main_cst_5_apply, val_main_cst_6_apply, ref_nrm hX, ref_half hD]
  pointwise
  have h0 : (i 0).val = 0 := Nat.lt_one_iff.mp (i 0).isLt
  simp only [Finset.univ_unique, Finset.sum_singleton, Fin.default_eq_zero, Fin.val_zero, Nat.zero_mul, zero_add, h0,
    dgr, mul_comm (nrm _ _)]

/-- The reference runs and leaves its arguments as they were. -/
theorem frame : Cert.quiescent_LastNormBwdRefIdeal := fun m ρ _ => (θ_run defs _ _).mono
  (fun r h => ⟨fun c => (h c).2.2, sem_eq_zero_of_no_sems (by decide) r.2⟩) (run m ρ)

end Cert.LastNormBwdRefIdeal.Value

namespace Cert.LastNormBwdIdeal.Value

/-- The two programs end with the same two arrays. -/
theorem equal : Cert.algebraic_LastNormBwdIdeal_LastNormBwdRefIdeal := by
  intro m ρ m' ρ' _ hargs
  refine ⟨fun c => (Cert.LastNormBwdIdeal.Gen.dats m 0 c).arrAt 3 (Cert.LastNormBwdIdeal.cfgs 0).N,
    fun c => (Cert.LastNormBwdIdeal.Gen.dats m 0 c).arrAt 4 (Cert.LastNormBwdIdeal.cfgs 0).N,
    Cert.LastNormBwdIdeal.Value.run_blocks m ρ, (θ_run _ _ _).mono (fun r h c => ?_) (Cert.LastNormBwdRefIdeal.Value.run m' ρ')⟩
  obtain ⟨r0, r1, ra⟩ := h c
  obtain ⟨a0, a1, a2⟩ := hargs c
  have H : Args m c _ _ _ := ⟨entry2_eq _, entry1_eq _, entry2_eq _⟩
  refine ⟨r0.trans ((Cert.LastNormBwdRefIdeal.Read.val_main_v40_eq _ _).trans (Eq.trans ?_ (rows H).symm)),
    r1.trans ((Cert.LastNormBwdRefIdeal.Read.val_main_v41_eq _ _).trans (Eq.trans ?_ (gain H).symm)), ra⟩
  · funext i
    rw [a0, a1, a2]
    exact Cert.LastNormBwdRefIdeal.Value.ref_dx H.hf H.hg H.hd i
  · funext i
    rw [a0, a2]
    exact Cert.LastNormBwdRefIdeal.Value.ref_dg H.hf H.hd i

end Cert.LastNormBwdIdeal.Value
end
-- ==== Proof.Norm.NormBwd.lean ====
module
public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.Norm.LastNormBwd
@[expose] public section
set_option maxRecDepth 16384
noncomputable section
open Idealize.ShloMosaic Idealize.ShloMosaic.TcCoe Idealize.SL.Sem
open _root_.Norm Idealize.ShloMosaic.Ideal
open Sgu (ofBits_half ofBits_neg_half ofBits_one ofBits_eps)

/-!
# The gradient of the residual stream, through a norm and past it

The normalised rows are computed as in the last residual's norm, so their lemmas are those.
-/
namespace Cert.NormBwdIdeal.Value
open Cert.NormBwdIdeal Cert.NormBwdIdeal.Gen

variable {x d y : ℕ → ℕ → EReal} {g : ℕ → EReal}

section block
variable {X D Y : Vec Ideal S256x2048 .f32} {G : Vec Ideal S1x2048 .f32}
variable (hX : ∀ (r : Fin 256) (k : Fin 2048), X (ix2 r k) = x r k)
variable (hD : ∀ (r : Fin 256) (k : Fin 2048), D (ix2 r k) = d r k)
variable (hY : ∀ (r : Fin 256) (k : Fin 2048), Y (ix2 r k) = y r k)
variable (hG : ∀ k : Fin 2048, G (ix2 0 k) = g k)

include hX in
theorem pay_rinv (r : Fin 256) : k0_pay3 X (ix2 r 0) = rinv (x r) := Cert.LastNormBwdIdeal.Value.pay_rinv hX r

include hX in
theorem pay_nrm (r : Fin 256) (k : Fin 2048) : k0_pay4 X (ix2 r k) = nrm (x r) k :=
  Cert.LastNormBwdIdeal.Value.pay_nrm hX r k

include hD in
theorem pay_one (r : Fin 256) (k : Fin 2048) : k0_pay5 D (ix2 r k) = d r k := by
  pointwise [k0_pay5]
  simp only [hD, ofBits_one, mul_one]

include hX hD hG hY in
theorem pay_through (r : Fin 256) (k : Fin 2048) : k0_pay6 X D G Y (ix2 r k) = through x d g y r k := by
  pointwise [k0_pay6]
  simp only [pay_nrm hX, pay_rinv hX, pay_one hD, hG, hY, ofBits_2048, div_coe columns_ne,
    through, dx, back]

include hX hD in
/-- What a block of rows adds to the gradient of the gain. -/
theorem pay_gain (S : Vec Ideal S1x2048 .f32) (k : Fin 2048) :
    k0_pay1 (k0_pay7 S) (k0_pay8 X D) (ix2 0 k) = S (ix2 0 k) + (∑ r : Fin 256, dgr x d r k) := by
  pointwise [k0_pay1, k0_pay7, k0_pay8]
  simp only [pay_nrm hX, pay_one hD, dgr]
end block

/-- Which blocks a grid point works on. -/
theorem idx : ∀ t : Fin cfg0.N, win0_0.index t = ![t.val, 0] ∧ win0_1.index t = ![0, 0] ∧ win0_2.index t = ![t.val, 0] ∧
    win0_3.index t = ![t.val, 0] ∧ win0_4.index t = ![t.val, 0] ∧ win0_5.index t = ![0, 0] ∧ t.val < 16 :=
  (by decide +kernel : ∀ t : Fin grid0.N, _)

/-- The four arguments hold the values `x g d y` on device `c`. -/
structure Args (m : (ℓ : Loc nD τ sig) → Buf (Elt Ideal) ℓ) (c : Dev nD) (x : ℕ → ℕ → EReal) (g : ℕ → EReal) (d y : ℕ → ℕ → EReal) : Prop where
  hx : ∀ i : S4096x2048.Idx, m ((c : Thread nD τ).loc main_arg0) i = x (i 0).val (i 1).val
  hg : ∀ i : S2048.Idx, m ((c : Thread nD τ).loc main_arg1) i = g (i 0).val
  hd : ∀ i : S4096x2048.Idx, m ((c : Thread nD τ).loc main_arg2) i = d (i 0).val (i 1).val
  hy : ∀ i : S4096x2048.Idx, m ((c : Thread nD τ).loc main_arg3) i = y (i 0).val (i 1).val

variable {m : (ℓ : Loc nD τ sig) → Buf (Elt Ideal) ℓ} {c : Dev nD}
variable (H : Args m c x g d y) (t : Fin cfg0.N)

include H in
theorem block_x (r : Fin 256) (k : Fin 2048) : iblk m c 0 t (ix2 r k) = x (t.val * 256 + r) k := by
  have ht := (idx t).2.2.2.2.2.2
  refine Eq.trans ?_ (H.hx (ix2 ⟨t.val * 256 + r, by omega⟩ k))
  blk_ext [iblk, V, idx t]

include H in
theorem block_d (r : Fin 256) (k : Fin 2048) : iblk m c 2 t (ix2 r k) = d (t.val * 256 + r) k := by
  have ht := (idx t).2.2.2.2.2.2
  refine Eq.trans ?_ (H.hd (ix2 ⟨t.val * 256 + r, by omega⟩ k))
  blk_ext [iblk, V, idx t]

include H in
theorem block_y (r : Fin 256) (k : Fin 2048) : iblk m c 3 t (ix2 r k) = y (t.val * 256 + r) k := by
  have ht := (idx t).2.2.2.2.2.2
  refine Eq.trans ?_ (H.hy (ix2 ⟨t.val * 256 + r, by omega⟩ k))
  blk_ext [iblk, V, idx t]

include H in
theorem block_g (k : Fin 2048) : iblk m c 1 t (ix2 0 k) = g k := by
  refine Eq.trans ?_ (H.hg (ix1 k))
  blk_simp [iblk]
  entry_read
  pointwise
  blk_ext [idx t]

include H in
theorem dx_block (r : Fin 256) (k : Fin 2048) :
    (outsAt0 m c t.val t.isLt).1 (ix2 r k) = through x d g y (t.val * 256 + r) k := by
  by_cases h0 : t.val % 16 = 0
  on_goal 1 => rw [outsAt0_A m c t h0]
  on_goal 2 => rw [outsAt0_B m c t h0]
  all_goals
    dsimp only
    frame_open
    frame_out
    exact pay_through (x := fun r => x (t.val * 256 + r)) (d := fun r => d (t.val * 256 + r))
      (y := fun r => y (t.val * 256 + r)) (block_x H t) (block_d H t) (block_y H t) (block_g H t) r k

include H in
theorem dg_first (h0 : t.val % 16 = 0) (k : Fin 2048) :
    (outsAt0 m c t.val t.isLt).2 (ix2 0 k) = (∑ r : Fin 256, dgr x d (t.val * 256 + r) k) := by
  rw [outsAt0_A m c t h0]
  dsimp only
  frame_open
  simp (disch := decide) only [↓ View.readCov_skip, ↓ View.readCov_cons_toLoadRect, ↓ View.readCov_fill]
  frame_out
  refine (pay_gain (x := fun r => x (t.val * 256 + r)) (d := fun r => d (t.val * 256 + r)) (block_x H t) (block_d H t) _ k).trans ?_
  pointwise [k0_pay2]
  rfl

include H in
theorem dg_next (h0 : ¬ t.val % 16 = 0) (k : Fin 2048) :
    (outsAt0 m c t.val t.isLt).2 (ix2 0 k) = (outsAt0 m c (t.val - 1) (Nat.lt_of_le_of_lt (Nat.sub_le _ _) t.isLt)).2 (ix2 0 k)
      + (∑ r : Fin 256, dgr x d (t.val * 256 + r) k) := by
  rw [outsAt0_B m c t h0]
  dsimp only
  frame_open
  simp (disch := decide) only [↓ View.readCov_skip, ↓ View.readCov_cons_toLoadRect, ↓ View.readCov_fill]
  frame_out
  exact pay_gain (x := fun r => x (t.val * 256 + r)) (d := fun r => d (t.val * 256 + r)) (block_x H t) (block_d H t) _ k

include H in
/-- The gradients of the residual stream. -/
theorem rows : (dats m 0 c).arrAt 4 (cfgs 0).N = fun i : S4096x2048.Idx => through x d g y (i 0).val (i 1).val := by
  refine (dats m 0 c).arrAt_eq_of_covers 4 _ (by decide +kernel) fun t ht y => ?_
  blk_simp [idx t]
  rw [after0_4]
  idx_vars y
  exact dx_block H t _ _

include H in
/-- The gradient of the gain. -/
theorem gain : (dats m 0 c).arrAt 5 (cfgs 0).N = fun i : S1x2048.Idx => (∑ r : Fin 4096, dgr x d r (i 1).val) := by
  refine (dats m 0 c).arrAt_eq_of_after_last 5 t0_15 (by decide +kernel) _ fun j => ?_
  blk_simp
  rw [after0_5]
  idx_vars j
  obtain rfl : j0 = 0 := Subsingleton.elim _ _
  exact sum_after (fun n hn => (outsAt0 m c n hn).2 (ix2 0 j1)) (fun r => dgr x d r j1)
    (fun h => dg_first H ⟨0, h⟩ rfl j1) (fun n h => dg_next H ⟨n + 1, h⟩ (show ¬ (n + 1) % 16 = 0 by omega) j1) t0_15.isLt

end Cert.NormBwdIdeal.Value

namespace Cert.NormBwdRefIdeal.Value
open Cert.NormBwdRefIdeal Cert.NormBwdRefIdeal.Read Cert.NormBwdIdeal.Value

variable {x d y : ℕ → ℕ → EReal} {g : ℕ → EReal}
variable {X D Y : (⟨S4096x2048, .f32⟩ : BufTy).Contents (Elt Ideal)} {G : (⟨S2048, .f32⟩ : BufTy).Contents (Elt Ideal)}
variable (hX : ∀ i : S4096x2048.Idx, X i = x (i 0).val (i 1).val)
variable (hG : ∀ i : S2048.Idx, G i = g (i 0).val)
variable (hD : ∀ i : S4096x2048.Idx, D i = d (i 0).val (i 1).val)
variable (hY : ∀ i : S4096x2048.Idx, Y i = y (i 0).val (i 1).val)

include hX in
theorem ref_msq (i : S4096x1.Idx) : val_main_v6 (F := Ideal) X i = msq (x (i 0).val) :=
  Cert.LastNormBwdRefIdeal.Value.ref_msq hX i

include hX in
theorem ref_rinv (i : S4096x1.Idx) : val_main_v7 (F := Ideal) X i = rinv (x (i 0).val) :=
  Cert.LastNormBwdRefIdeal.Value.ref_rinv hX i

include hX in
theorem ref_nrm (i : S4096x2048.Idx) : val_main_v12 (F := Ideal) X i = nrm (x (i 0).val) (i 1).val :=
  Cert.LastNormBwdRefIdeal.Value.ref_nrm hX i

include hX hG hD in
theorem ref_dx (i : S4096x2048.Idx) : val_main_v35 (F := Ideal) X G D i = dx x d g (i 0).val (i 1).val := by
  simp only [val_main_v35_apply, val_main_v34_apply, val_main_v33_apply, val_main_v32_apply, val_main_v31_apply,
    val_main_v30_apply, val_main_v29_apply, val_main_v28_apply, val_main_v27_apply, val_main_v26_apply, val_main_v25_apply,
    val_main_v24_apply, val_main_v23_apply, val_main_v22_apply, val_main_v20_apply, val_main_v19_apply,
    val_main_v13_apply, val_main_v10_apply, val_main_v9_apply, val_main_v8_apply, val_main_cst_2_apply, val_main_cst_5_apply,
    val_main_cst_6_apply, val_main_cst_7_apply, ref_msq hX, ref_rinv hX, hD, hX, hG]
  pointwise
  simp only [Finset.univ_unique, Finset.sum_singleton, Nat.mul_one, Fin.default_eq_zero, Fin.val_zero, Nat.add_zero, zero_add,
    ofBits_neg_half, ofBits_2048, div_coe columns_ne]
  exact (back_eq (x (i 0).val) (fun k => d (i 0).val k * g k) (i 1).val)

include hX hG hD hY in
theorem ref_through (i : S4096x2048.Idx) :
    val_main_v36 (F := Ideal) X G D Y i = through x d g y (i 0).val (i 1).val := by
  simp only [val_main_v36_apply, ref_dx hX hG hD, hY]
  pointwise
  rw [through]

include hX hD in
theorem ref_dg (i : S1x2048.Idx) : val_main_v37 (F := Ideal) X D i = (∑ r : Fin 4096, dgr x d r (i 1).val) := by
  simp only [val_main_v37_apply, val_main_v21_apply, val_main_v18_apply, val_main_v17_apply, val_main_v16_apply,
    val_main_cst_3_apply, val_main_cst_4_apply, ref_nrm hX, hD]
  pointwise
  have h0 : (i 0).val = 0 := Nat.lt_one_iff.mp (i 0).isLt
  simp only [Finset.univ_unique, Finset.sum_singleton, Fin.default_eq_zero, Fin.val_zero, Nat.zero_mul, zero_add, h0,
    dgr, mul_comm (nrm _ _)]

/-- The reference runs and leaves its arguments as they were. -/
theorem frame : Cert.quiescent_NormBwdRefIdeal := fun m ρ _ => (θ_run defs _ _).mono
  (fun r h => ⟨fun c => (h c).2.2, sem_eq_zero_of_no_sems (by decide) r.2⟩) (run m ρ)

end Cert.NormBwdRefIdeal.Value

namespace Cert.NormBwdIdeal.Value

/-- The two programs end with the same two arrays. -/
theorem equal : Cert.algebraic_NormBwdIdeal_NormBwdRefIdeal := by
  intro m ρ m' ρ' _ hargs
  refine ⟨fun c => (Cert.NormBwdIdeal.Gen.dats m 0 c).arrAt 4 (Cert.NormBwdIdeal.cfgs 0).N,
    fun c => (Cert.NormBwdIdeal.Gen.dats m 0 c).arrAt 5 (Cert.NormBwdIdeal.cfgs 0).N,
    Cert.NormBwdIdeal.Value.run_blocks m ρ, (θ_run _ _ _).mono (fun r h c => ?_) (Cert.NormBwdRefIdeal.Value.run m' ρ')⟩
  obtain ⟨r0, r1, ra⟩ := h c
  obtain ⟨a0, a1, a2, a3⟩ := hargs c
  have H : Args m c _ _ _ _ := ⟨entry2_eq _, entry1_eq _, entry2_eq _, entry2_eq _⟩
  refine ⟨r0.trans ((Cert.NormBwdRefIdeal.Read.val_main_v36_eq _ _ _ _).trans (Eq.trans ?_ (rows H).symm)),
    r1.trans ((Cert.NormBwdRefIdeal.Read.val_main_v37_eq _ _).trans (Eq.trans ?_ (gain H).symm)), ra⟩
  · funext i
    rw [a0, a1, a2, a3]
    exact Cert.NormBwdRefIdeal.Value.ref_through H.hx H.hg H.hd H.hy i
  · funext i
    rw [a0, a2]
    exact Cert.NormBwdRefIdeal.Value.ref_dg H.hx H.hd i

end Cert.NormBwdIdeal.Value
end
-- ==== Proof.Norm.NormBwdChain.lean ====
module
public import proofs.«01_k».proof.Proof.Gen.NormBwdChainIdeal.Value
public import proofs.«01_k».proof.Proof.Gen.NormBwdChainRefIdeal.Run
public import proofs.«01_k».proof.Proof.Gen.NormBwdChainRefIdeal.Read
public import proofs.«01_k».proof.Proof.Norm.NormBwd
@[expose] public section
set_option maxRecDepth 16384
noncomputable section
open Idealize.ShloMosaic Idealize.ShloMosaic.TcCoe Idealize.SL.Sem
open _root_.Norm Idealize.ShloMosaic.Ideal
open Sgu (ofBits_half ofBits_neg_half ofBits_one ofBits_eps)

/-!
# The gradient of the residual stream before the second FFN, and of the mix's result it was made from

The gradient of the residual stream goes on through a second norm.  The first stage is the one of `NormBwd`,
and so is the second on the reference's side; the lemmas for them serve here.
-/
namespace Cert.NormBwdChainIdeal.Value
open Cert.NormBwdChainIdeal Cert.NormBwdChainIdeal.Gen

variable {x d y f : ℕ → ℕ → EReal} {g q : ℕ → EReal}

section block
variable {X D Y E : Vec Ideal S256x2048 .f32} {G : Vec Ideal S1x2048 .f32}
variable (hX : ∀ (r : Fin 256) (k : Fin 2048), X (ix2 r k) = x r k)
variable (hD : ∀ (r : Fin 256) (k : Fin 2048), D (ix2 r k) = d r k)
variable (hY : ∀ (r : Fin 256) (k : Fin 2048), Y (ix2 r k) = y r k)
variable (hG : ∀ k : Fin 2048, G (ix2 0 k) = g k)

include hX hD hG hY in
theorem pay_through (r : Fin 256) (k : Fin 2048) : k0_pay6 X D G Y (ix2 r k) = through x d g y r k :=
  Cert.NormBwdIdeal.Value.pay_through hX hD hY hG r k

include hX hD in
theorem pay_gain (S : Vec Ideal S1x2048 .f32) (k : Fin 2048) :
    k0_pay9 (k0_pay7 S) (k0_pay8 X D) (ix2 0 k) = S (ix2 0 k) + (∑ r : Fin 256, dgr x d r k) :=
  Cert.NormBwdIdeal.Value.pay_gain hX hD S k

include hX in
theorem pay_rinv2 (r : Fin 256) : k0_pay11 X (ix2 r 0) = rinv (x r) := Cert.NormBwdIdeal.Value.pay_rinv hX r

include hX in
theorem pay_nrm2 (r : Fin 256) (k : Fin 2048) : k0_pay12 X (ix2 r k) = nrm (x r) k :=
  Cert.NormBwdIdeal.Value.pay_nrm hX r k

include hD in
theorem pay_one2 (r : Fin 256) (k : Fin 2048) : k0_pay10 (F := Ideal) D (ix2 r k) = d r k :=
  Cert.NormBwdIdeal.Value.pay_one hD r k

include hX hD hG in
theorem pay_dx (r : Fin 256) (k : Fin 2048) : k0_pay13 D X G (ix2 r k) = dx x d g r k := by
  pointwise [k0_pay13]
  simp only [pay_nrm2 hX, pay_rinv2 hX, pay_one2 hD, hG, ofBits_2048, div_coe columns_ne,
    dx, back]

include hX hD in
theorem pay_gain2 (S : Vec Ideal S1x2048 .f32) (k : Fin 2048) :
    k0_pay14 D X S (ix2 0 k) = S (ix2 0 k) + (∑ r : Fin 256, dgr x d r k) :=
  Cert.NormBwdIdeal.Value.pay_gain hX hD S k
end block

/-- Which blocks a grid point works on. -/
theorem idx : ∀ t : Fin cfg0.N, win0_0.index t = ![t.val, 0] ∧ win0_1.index t = ![0, 0] ∧ win0_2.index t = ![t.val, 0] ∧
    win0_3.index t = ![t.val, 0] ∧ win0_4.index t = ![t.val, 0] ∧ win0_5.index t = ![0, 0] ∧ win0_6.index t = ![t.val, 0] ∧
    win0_7.index t = ![0, 0] ∧ win0_8.index t = ![t.val, 0] ∧ win0_9.index t = ![0, 0] ∧ t.val < 16 :=
  (by decide +kernel : ∀ t : Fin grid0.N, _)

/-- The six arguments hold the values `x g d y f q` on device `c`. -/
structure Args (m : (ℓ : Loc nD τ sig) → Buf (Elt Ideal) ℓ) (c : Dev nD) (x : ℕ → ℕ → EReal) (g : ℕ → EReal) (d y f : ℕ → ℕ → EReal)
    (q : ℕ → EReal) : Prop where
  hx : ∀ i : S4096x2048.Idx, m ((c : Thread nD τ).loc main_arg0) i = x (i 0).val (i 1).val
  hg : ∀ i : S2048.Idx, m ((c : Thread nD τ).loc main_arg1) i = g (i 0).val
  hd : ∀ i : S4096x2048.Idx, m ((c : Thread nD τ).loc main_arg2) i = d (i 0).val (i 1).val
  hy : ∀ i : S4096x2048.Idx, m ((c : Thread nD τ).loc main_arg3) i = y (i 0).val (i 1).val
  hf : ∀ i : S4096x2048.Idx, m ((c : Thread nD τ).loc main_arg4) i = f (i 0).val (i 1).val
  hq : ∀ i : S2048.Idx, m ((c : Thread nD τ).loc main_arg5) i = q (i 0).val

variable {m : (ℓ : Loc nD τ sig) → Buf (Elt Ideal) ℓ} {c : Dev nD}
variable (H : Args m c x g d y f q) (t : Fin cfg0.N)

include H in
theorem block_x (r : Fin 256) (k : Fin 2048) : iblk m c 0 t (ix2 r k) = x (t.val * 256 + r) k := by
  have ht := (idx t).2.2.2.2.2.2.2.2.2.2
  refine Eq.trans ?_ (H.hx (ix2 ⟨t.val * 256 + r, by omega⟩ k))
  blk_ext [iblk, V, idx t]

include H in
theorem block_d (r : Fin 256) (k : Fin 2048) : iblk m c 2 t (ix2 r k) = d (t.val * 256 + r) k := by
  have ht := (idx t).2.2.2.2.2.2.2.2.2.2
  refine Eq.trans ?_ (H.hd (ix2 ⟨t.val * 256 + r, by omega⟩ k))
  blk_ext [iblk, V, idx t]

include H in
theorem block_y (r : Fin 256) (k : Fin 2048) : iblk m c 3 t (ix2 r k) = y (t.val * 256 + r) k := by
  have ht := (idx t).2.2.2.2.2.2.2.2.2.2
  refine Eq.trans ?_ (H.hy (ix2 ⟨t.val * 256 + r, by omega⟩ k))
  blk_ext [iblk, V, idx t]

include H in
theorem block_f (r : Fin 256) (k : Fin 2048) : iblk m c 4 t (ix2 r k) = f (t.val * 256 + r) k := by
  have ht := (idx t).2.2.2.2.2.2.2.2.2.2
  refine Eq.trans ?_ (H.hf (ix2 ⟨t.val * 256 + r, by omega⟩ k))
  blk_ext [iblk, V, idx t]

include H in
theorem block_g (k : Fin 2048) : iblk m c 1 t (ix2 0 k) = g k := by
  refine Eq.trans ?_ (H.hg (ix1 k))
  blk_simp [iblk]
  entry_read
  pointwise
  blk_ext [idx t]

include H in
theorem block_q (k : Fin 2048) : iblk m c 5 t (ix2 0 k) = q k := by
  refine Eq.trans ?_ (H.hq (ix1 k))
  blk_simp [iblk]
  entry_read
  pointwise
  blk_ext [idx t]

include H in
/-- The block of the residual stream's gradient, before it is stored. -/
theorem stage (r : Fin 256) (k : Fin 2048) : k0_pay6 (iblk m c 0 t) (iblk m c 2 t) (iblk m c 1 t) (iblk m c 3 t) (ix2 r k)
    = through x d g y (t.val * 256 + r) k :=
  pay_through (x := fun r => x (t.val * 256 + r)) (d := fun r => d (t.val * 256 + r))
    (y := fun r => y (t.val * 256 + r)) (block_x H t) (block_d H t) (block_y H t) (block_g H t) r k

include H in
theorem dx_block (r : Fin 256) (k : Fin 2048) :
    (outsAt0 m c t.val t.isLt).1 (ix2 r k) = through x d g y (t.val * 256 + r) k := by
  by_cases h0 : t.val % 16 = 0
  on_goal 1 => rw [outsAt0_A m c t h0]
  on_goal 2 => rw [outsAt0_B m c t h0]
  all_goals
    dsimp only
    frame_open
    frame_out
    exact stage H t r k

include H in
theorem df_block (r : Fin 256) (k : Fin 2048) : (outsAt0 m c t.val t.isLt).2.2.1 (ix2 r k)
    = dx f (through x d g y) q (t.val * 256 + r) k := by
  by_cases h0 : t.val % 16 = 0
  on_goal 1 => rw [outsAt0_A m c t h0]
  on_goal 2 => rw [outsAt0_B m c t h0]
  all_goals
    dsimp only
    frame_open
    frame_out
    exact pay_dx (x := fun r => f (t.val * 256 + r)) (d := fun r => through x d g y (t.val * 256 + r))
      (block_f H t) (stage H t) (block_q H t) r k

include H in
theorem dg_first (h0 : t.val % 16 = 0) (k : Fin 2048) :
    (outsAt0 m c t.val t.isLt).2.1 (ix2 0 k) = (∑ r : Fin 256, dgr x d (t.val * 256 + r) k) := by
  rw [outsAt0_A m c t h0]
  dsimp only
  frame_open
  simp (disch := decide) only [↓ View.readCov_skip, ↓ View.readCov_cons_toLoadRect, ↓ View.readCov_fill]
  frame_out
  refine (pay_gain (x := fun r => x (t.val * 256 + r)) (d := fun r => d (t.val * 256 + r)) (block_x H t) (block_d H t) _ k).trans ?_
  pointwise [k0_pay1]
  rfl

include H in
theorem dg_next (h0 : ¬ t.val % 16 = 0) (k : Fin 2048) :
    (outsAt0 m c t.val t.isLt).2.1 (ix2 0 k) = (outsAt0 m c (t.val - 1) (Nat.lt_of_le_of_lt (Nat.sub_le _ _) t.isLt)).2.1 (ix2 0 k)
      + (∑ r : Fin 256, dgr x d (t.val * 256 + r) k) := by
  rw [outsAt0_B m c t h0]
  dsimp only
  frame_open
  simp (disch := decide) only [↓ View.readCov_skip, ↓ View.readCov_cons_toLoadRect, ↓ View.readCov_fill]
  frame_out
  exact pay_gain (x := fun r => x (t.val * 256 + r)) (d := fun r => d (t.val * 256 + r)) (block_x H t) (block_d H t) _ k

include H in
theorem dq_first (h0 : t.val % 16 = 0) (k : Fin 2048) : (outsAt0 m c t.val t.isLt).2.2.2 (ix2 0 k)
    = (∑ r : Fin 256, dgr f (through x d g y) (t.val * 256 + r) k) := by
  rw [outsAt0_A m c t h0]
  dsimp only
  frame_open
  simp (disch := decide) only [↓ View.readCov_skip, ↓ View.readCov_cons_toLoadRect, ↓ View.readCov_fill]
  frame_out
  refine (pay_gain2 (x := fun r => f (t.val * 256 + r)) (d := fun r => through x d g y (t.val * 256 + r))
    (block_f H t) (stage H t) _ k).trans ?_
  pointwise [k0_pay2]
  rfl

include H in
theorem dq_next (h0 : ¬ t.val % 16 = 0) (k : Fin 2048) : (outsAt0 m c t.val t.isLt).2.2.2 (ix2 0 k)
    = (outsAt0 m c (t.val - 1) (Nat.lt_of_le_of_lt (Nat.sub_le _ _) t.isLt)).2.2.2 (ix2 0 k)
      + (∑ r : Fin 256, dgr f (through x d g y) (t.val * 256 + r) k) := by
  rw [outsAt0_B m c t h0]
  dsimp only
  frame_open
  simp (disch := decide) only [↓ View.readCov_skip, ↓ View.readCov_cons_toLoadRect, ↓ View.readCov_fill]
  frame_out
  exact pay_gain2 (x := fun r => f (t.val * 256 + r)) (d := fun r => through x d g y (t.val * 256 + r))
    (block_f H t) (stage H t) _ k

include H in
/-- The gradients of the residual stream. -/
theorem rows : (dats m 0 c).arrAt 6 (cfgs 0).N = fun i : S4096x2048.Idx => through x d g y (i 0).val (i 1).val := by
  refine (dats m 0 c).arrAt_eq_of_covers 6 _ (by decide +kernel) fun t ht y => ?_
  blk_simp [idx t]
  rw [after0_6]
  idx_vars y
  exact dx_block H t _ _

include H in
/-- The gradients of the mix's result. -/
theorem results : (dats m 0 c).arrAt 8 (cfgs 0).N =
    fun i : S4096x2048.Idx => dx f (through x d g y) q (i 0).val (i 1).val := by
  refine (dats m 0 c).arrAt_eq_of_covers 8 _ (by decide +kernel) fun t ht y => ?_
  blk_simp [idx t]
  rw [after0_8]
  idx_vars y
  exact df_block H t _ _

include H in
/-- The gradient of the first gain. -/
theorem gain : (dats m 0 c).arrAt 7 (cfgs 0).N = fun i : S1x2048.Idx => (∑ r : Fin 4096, dgr x d r (i 1).val) := by
  refine (dats m 0 c).arrAt_eq_of_after_last 7 t0_15 (by decide +kernel) _ fun j => ?_
  blk_simp
  rw [after0_7]
  idx_vars j
  obtain rfl : j0 = 0 := Subsingleton.elim _ _
  exact sum_after (fun n hn => (outsAt0 m c n hn).2.1 (ix2 0 j1)) (fun r => dgr x d r j1)
    (fun h => dg_first H ⟨0, h⟩ rfl j1) (fun n h => dg_next H ⟨n + 1, h⟩ (show ¬ (n + 1) % 16 = 0 by omega) j1) t0_15.isLt

include H in
/-- The gradient of the second gain. -/
theorem gain2 : (dats m 0 c).arrAt 9 (cfgs 0).N =
    fun i : S1x2048.Idx => (∑ r : Fin 4096, dgr f (through x d g y) r (i 1).val) := by
  refine (dats m 0 c).arrAt_eq_of_after_last 9 t0_15 (by decide +kernel) _ fun j => ?_
  blk_simp
  rw [after0_9]
  idx_vars j
  obtain rfl : j0 = 0 := Subsingleton.elim _ _
  exact sum_after (fun n hn => (outsAt0 m c n hn).2.2.2 (ix2 0 j1)) (fun r => dgr f (through x d g y) r j1)
    (fun h => dq_first H ⟨0, h⟩ rfl j1) (fun n h => dq_next H ⟨n + 1, h⟩ (show ¬ (n + 1) % 16 = 0 by omega) j1) t0_15.isLt

end Cert.NormBwdChainIdeal.Value

namespace Cert.NormBwdChainRefIdeal.Value
open Cert.NormBwdChainRefIdeal Cert.NormBwdChainRefIdeal.Read Cert.NormBwdChainIdeal.Value

variable {x d y f : ℕ → ℕ → EReal} {g q : ℕ → EReal}
variable {X D Y E : (⟨S4096x2048, .f32⟩ : BufTy).Contents (Elt Ideal)} {G Q : (⟨S2048, .f32⟩ : BufTy).Contents (Elt Ideal)}
variable (hX : ∀ i : S4096x2048.Idx, X i = x (i 0).val (i 1).val)
variable (hG : ∀ i : S2048.Idx, G i = g (i 0).val)
variable (hD : ∀ i : S4096x2048.Idx, D i = d (i 0).val (i 1).val)
variable (hY : ∀ i : S4096x2048.Idx, Y i = y (i 0).val (i 1).val)
variable (hE : ∀ i : S4096x2048.Idx, E i = f (i 0).val (i 1).val)
variable (hQ : ∀ i : S2048.Idx, Q i = q (i 0).val)

include hX hG hD hY in
theorem ref_through (i : S4096x2048.Idx) :
    val_main_v36 (F := Ideal) X G D Y i = through x d g y (i 0).val (i 1).val :=
  Cert.NormBwdRefIdeal.Value.ref_through hX hG hD hY i

include hX hD in
theorem ref_dg (i : S1x2048.Idx) : val_main_v37 (F := Ideal) X D i = (∑ r : Fin 4096, dgr x d r (i 1).val) :=
  Cert.NormBwdRefIdeal.Value.ref_dg hX hD i

include hX hG hD hY hE hQ in
theorem ref_df (i : S4096x2048.Idx) : val_main_v74 (F := Ideal) X G D Y E Q i
    = dx f (through x d g y) q (i 0).val (i 1).val :=
  Cert.NormBwdRefIdeal.Value.ref_dx hE hQ (ref_through hX hG hD hY) i

include hX hG hD hY hE in
theorem ref_dq (i : S1x2048.Idx) : val_main_v75 (F := Ideal) X G D Y E i
    = (∑ r : Fin 4096, dgr f (through x d g y) r (i 1).val) :=
  Cert.NormBwdRefIdeal.Value.ref_dg hE (ref_through hX hG hD hY) i

/-- The reference runs and leaves its arguments as they were. -/
theorem frame : Cert.quiescent_NormBwdChainRefIdeal := fun m ρ _ => (θ_run defs _ _).mono
  (fun r h => ⟨fun c => (h c).2.2.2.2, sem_eq_zero_of_no_sems (by decide) r.2⟩) (run m ρ)

end Cert.NormBwdChainRefIdeal.Value

namespace Cert.NormBwdChainIdeal.Value

/-- The two programs end with the same four arrays. -/
theorem equal : Cert.algebraic_NormBwdChainIdeal_NormBwdChainRefIdeal := by
  intro m ρ m' ρ' _ hargs
  refine ⟨fun c => (Cert.NormBwdChainIdeal.Gen.dats m 0 c).arrAt 6 (Cert.NormBwdChainIdeal.cfgs 0).N,
    fun c => (Cert.NormBwdChainIdeal.Gen.dats m 0 c).arrAt 7 (Cert.NormBwdChainIdeal.cfgs 0).N,
    fun c => (Cert.NormBwdChainIdeal.Gen.dats m 0 c).arrAt 8 (Cert.NormBwdChainIdeal.cfgs 0).N,
    fun c => (Cert.NormBwdChainIdeal.Gen.dats m 0 c).arrAt 9 (Cert.NormBwdChainIdeal.cfgs 0).N,
    Cert.NormBwdChainIdeal.Value.run_blocks m ρ, (θ_run _ _ _).mono (fun r h c => ?_) (Cert.NormBwdChainRefIdeal.Value.run m' ρ')⟩
  obtain ⟨r0, r1, r2, r3, ra⟩ := h c
  obtain ⟨a0, a1, a2, a3, a4, a5⟩ := hargs c
  have H : Args m c _ _ _ _ _ _ := ⟨entry2_eq _, entry1_eq _, entry2_eq _, entry2_eq _, entry2_eq _, entry1_eq _⟩
  refine ⟨r0.trans ((Cert.NormBwdChainRefIdeal.Read.val_main_v36_eq _ _ _ _).trans (Eq.trans ?_ (rows H).symm)),
    r1.trans ((Cert.NormBwdChainRefIdeal.Read.val_main_v37_eq _ _).trans (Eq.trans ?_ (gain H).symm)),
    r2.trans ((Cert.NormBwdChainRefIdeal.Read.val_main_v74_eq _ _).trans (Eq.trans ?_ (results H).symm)),
    r3.trans ((Cert.NormBwdChainRefIdeal.Read.val_main_v75_eq _ _).trans (Eq.trans ?_ (gain2 H).symm)), ra⟩
  · funext i
    rw [a0, a1, a2, a3]
    exact Cert.NormBwdChainRefIdeal.Value.ref_through H.hx H.hg H.hd H.hy i
  · funext i
    rw [a0, a2]
    exact Cert.NormBwdChainRefIdeal.Value.ref_dg H.hx H.hd i
  · funext i
    rw [a0, a1, a2, a3, a4, a5]
    exact Cert.NormBwdChainRefIdeal.Value.ref_df H.hx H.hg H.hd H.hy H.hf H.hq i
  · funext i
    rw [a0, a1, a2, a3, a4]
    exact Cert.NormBwdChainRefIdeal.Value.ref_dq H.hx H.hg H.hd H.hy H.hf i

end Cert.NormBwdChainIdeal.Value
end
-- ==== Proof.Norm.NormBwdHalf.lean ====
module
public import proofs.«01_k».proof.Proof.Gen.NormBwdHalfIdeal.Value
public import proofs.«01_k».proof.Proof.Gen.NormBwdHalfRefIdeal.Run
public import proofs.«01_k».proof.Proof.Gen.NormBwdHalfRefIdeal.Read
public import proofs.«01_k».proof.Proof.Norm.NormBwdChain
@[expose] public section
set_option maxRecDepth 16384
noncomputable section
open Idealize.ShloMosaic Idealize.ShloMosaic.TcCoe Idealize.SL.Sem
open _root_.Norm Idealize.ShloMosaic.Ideal
open Sgu (ofBits_half ofBits_neg_half ofBits_one ofBits_eps)

/-!
# The gradient of the residual stream before the mix, and of the FFN's result it was made from

The gradient of the residual stream goes on through half of a second norm.  The first stage is the one of
`NormBwd`, the second the one of `LastNormBwd`, and their lemmas serve here.
-/
namespace Cert.NormBwdHalfIdeal.Value
open Cert.NormBwdHalfIdeal Cert.NormBwdHalfIdeal.Gen

variable {x d y f : ℕ → ℕ → EReal} {g q : ℕ → EReal}

section block
variable {X D Y E : Vec Ideal S256x2048 .f32} {G : Vec Ideal S1x2048 .f32}
variable (hX : ∀ (r : Fin 256) (k : Fin 2048), X (ix2 r k) = x r k)
variable (hD : ∀ (r : Fin 256) (k : Fin 2048), D (ix2 r k) = d r k)
variable (hY : ∀ (r : Fin 256) (k : Fin 2048), Y (ix2 r k) = y r k)
variable (hG : ∀ k : Fin 2048, G (ix2 0 k) = g k)

include hX hD hG hY in
theorem pay_through (r : Fin 256) (k : Fin 2048) : k0_pay6 X D G Y (ix2 r k) = through x d g y r k :=
  Cert.NormBwdIdeal.Value.pay_through hX hD hY hG r k

include hX hD in
theorem pay_gain (S : Vec Ideal S1x2048 .f32) (k : Fin 2048) :
    k0_pay9 (k0_pay7 S) (k0_pay8 X D) (ix2 0 k) = S (ix2 0 k) + (∑ r : Fin 256, dgr x d r k) :=
  Cert.NormBwdIdeal.Value.pay_gain hX hD S k

include hX hD hG in
theorem pay_dx (r : Fin 256) (k : Fin 2048) : k0_pay13 D X G (ix2 r k) = dx x (half d) g r k :=
  Cert.LastNormBwdIdeal.Value.pay_dx hX hD hG r k

include hX hD in
theorem pay_gain2 (S : Vec Ideal S1x2048 .f32) (k : Fin 2048) :
    k0_pay14 D X S (ix2 0 k) = S (ix2 0 k) + (∑ r : Fin 256, dgr x (half d) r k) :=
  Cert.LastNormBwdIdeal.Value.pay_gain hX hD S k
end block

/-- Which blocks a grid point works on. -/
theorem idx : ∀ t : Fin cfg0.N, win0_0.index t = ![t.val, 0] ∧ win0_1.index t = ![0, 0] ∧ win0_2.index t = ![t.val, 0] ∧
    win0_3.index t = ![t.val, 0] ∧ win0_4.index t = ![t.val, 0] ∧ win0_5.index t = ![0, 0] ∧ win0_6.index t = ![t.val, 0] ∧
    win0_7.index t = ![0, 0] ∧ win0_8.index t = ![t.val, 0] ∧ win0_9.index t = ![0, 0] ∧ t.val < 16 :=
  (by decide +kernel : ∀ t : Fin grid0.N, _)

/-- The six arguments hold the values `x g d y f q` on device `c`. -/
structure Args (m : (ℓ : Loc nD τ sig) → Buf (Elt Ideal) ℓ) (c : Dev nD) (x : ℕ → ℕ → EReal) (g : ℕ → EReal) (d y f : ℕ → ℕ → EReal)
    (q : ℕ → EReal) : Prop where
  hx : ∀ i : S4096x2048.Idx, m ((c : Thread nD τ).loc main_arg0) i = x (i 0).val (i 1).val
  hg : ∀ i : S2048.Idx, m ((c : Thread nD τ).loc main_arg1) i = g (i 0).val
  hd : ∀ i : S4096x2048.Idx, m ((c : Thread nD τ).loc main_arg2) i = d (i 0).val (i 1).val
  hy : ∀ i : S4096x2048.Idx, m ((c : Thread nD τ).loc main_arg3) i = y (i 0).val (i 1).val
  hf : ∀ i : S4096x2048.Idx, m ((c : Thread nD τ).loc main_arg4) i = f (i 0).val (i 1).val
  hq : ∀ i : S2048.Idx, m ((c : Thread nD τ).loc main_arg5) i = q (i 0).val

variable {m : (ℓ : Loc nD τ sig) → Buf (Elt Ideal) ℓ} {c : Dev nD}
variable (H : Args m c x g d y f q) (t : Fin cfg0.N)

include H in
theorem block_x (r : Fin 256) (k : Fin 2048) : iblk m c 0 t (ix2 r k) = x (t.val * 256 + r) k := by
  have ht := (idx t).2.2.2.2.2.2.2.2.2.2
  refine Eq.trans ?_ (H.hx (ix2 ⟨t.val * 256 + r, by omega⟩ k))
  blk_ext [iblk, V, idx t]

include H in
theorem block_d (r : Fin 256) (k : Fin 2048) : iblk m c 2 t (ix2 r k) = d (t.val * 256 + r) k := by
  have ht := (idx t).2.2.2.2.2.2.2.2.2.2
  refine Eq.trans ?_ (H.hd (ix2 ⟨t.val * 256 + r, by omega⟩ k))
  blk_ext [iblk, V, idx t]

include H in
theorem block_y (r : Fin 256) (k : Fin 2048) : iblk m c 3 t (ix2 r k) = y (t.val * 256 + r) k := by
  have ht := (idx t).2.2.2.2.2.2.2.2.2.2
  refine Eq.trans ?_ (H.hy (ix2 ⟨t.val * 256 + r, by omega⟩ k))
  blk_ext [iblk, V, idx t]

include H in
theorem block_f (r : Fin 256) (k : Fin 2048) : iblk m c 4 t (ix2 r k) = f (t.val * 256 + r) k := by
  have ht := (idx t).2.2.2.2.2.2.2.2.2.2
  refine Eq.trans ?_ (H.hf (ix2 ⟨t.val * 256 + r, by omega⟩ k))
  blk_ext [iblk, V, idx t]

include H in
theorem block_g (k : Fin 2048) : iblk m c 1 t (ix2 0 k) = g k := by
  refine Eq.trans ?_ (H.hg (ix1 k))
  blk_simp [iblk]
  entry_read
  pointwise
  blk_ext [idx t]

include H in
theorem block_q (k : Fin 2048) : iblk m c 5 t (ix2 0 k) = q k := by
  refine Eq.trans ?_ (H.hq (ix1 k))
  blk_simp [iblk]
  entry_read
  pointwise
  blk_ext [idx t]

include H in
/-- The block of the residual stream's gradient, before it is stored. -/
theorem stage (r : Fin 256) (k : Fin 2048) : k0_pay6 (iblk m c 0 t) (iblk m c 2 t) (iblk m c 1 t) (iblk m c 3 t) (ix2 r k)
    = through x d g y (t.val * 256 + r) k :=
  pay_through (x := fun r => x (t.val * 256 + r)) (d := fun r => d (t.val * 256 + r))
    (y := fun r => y (t.val * 256 + r)) (block_x H t) (block_d H t) (block_y H t) (block_g H t) r k

include H in
theorem dx_block (r : Fin 256) (k : Fin 2048) :
    (outsAt0 m c t.val t.isLt).1 (ix2 r k) = through x d g y (t.val * 256 + r) k := by
  by_cases h0 : t.val % 16 = 0
  on_goal 1 => rw [outsAt0_A m c t h0]
  on_goal 2 => rw [outsAt0_B m c t h0]
  all_goals
    dsimp only
    frame_open
    frame_out
    exact stage H t r k

include H in
theorem df_block (r : Fin 256) (k : Fin 2048) : (outsAt0 m c t.val t.isLt).2.2.1 (ix2 r k)
    = dx f (half (through x d g y)) q (t.val * 256 + r) k := by
  by_cases h0 : t.val % 16 = 0
  on_goal 1 => rw [outsAt0_A m c t h0]
  on_goal 2 => rw [outsAt0_B m c t h0]
  all_goals
    dsimp only
    frame_open
    frame_out
    exact pay_dx (x := fun r => f (t.val * 256 + r)) (d := fun r => through x d g y (t.val * 256 + r))
      (block_f H t) (stage H t) (block_q H t) r k

include H in
theorem dg_first (h0 : t.val % 16 = 0) (k : Fin 2048) :
    (outsAt0 m c t.val t.isLt).2.1 (ix2 0 k) = (∑ r : Fin 256, dgr x d (t.val * 256 + r) k) := by
  rw [outsAt0_A m c t h0]
  dsimp only
  frame_open
  simp (disch := decide) only [↓ View.readCov_skip, ↓ View.readCov_cons_toLoadRect, ↓ View.readCov_fill]
  frame_out
  refine (pay_gain (x := fun r => x (t.val * 256 + r)) (d := fun r => d (t.val * 256 + r)) (block_x H t) (block_d H t) _ k).trans ?_
  pointwise [k0_pay1]
  rfl

include H in
theorem dg_next (h0 : ¬ t.val % 16 = 0) (k : Fin 2048) :
    (outsAt0 m c t.val t.isLt).2.1 (ix2 0 k) = (outsAt0 m c (t.val - 1) (Nat.lt_of_le_of_lt (Nat.sub_le _ _) t.isLt)).2.1 (ix2 0 k)
      + (∑ r : Fin 256, dgr x d (t.val * 256 + r) k) := by
  rw [outsAt0_B m c t h0]
  dsimp only
  frame_open
  simp (disch := decide) only [↓ View.readCov_skip, ↓ View.readCov_cons_toLoadRect, ↓ View.readCov_fill]
  frame_out
  exact pay_gain (x := fun r => x (t.val * 256 + r)) (d := fun r => d (t.val * 256 + r)) (block_x H t) (block_d H t) _ k

include H in
theorem dq_first (h0 : t.val % 16 = 0) (k : Fin 2048) : (outsAt0 m c t.val t.isLt).2.2.2 (ix2 0 k)
    = (∑ r : Fin 256, dgr f (half (through x d g y)) (t.val * 256 + r) k) := by
  rw [outsAt0_A m c t h0]
  dsimp only
  frame_open
  simp (disch := decide) only [↓ View.readCov_skip, ↓ View.readCov_cons_toLoadRect, ↓ View.readCov_fill]
  frame_out
  refine (pay_gain2 (x := fun r => f (t.val * 256 + r)) (d := fun r => through x d g y (t.val * 256 + r))
    (block_f H t) (stage H t) _ k).trans ?_
  pointwise [k0_pay2]
  rfl

include H in
theorem dq_next (h0 : ¬ t.val % 16 = 0) (k : Fin 2048) : (outsAt0 m c t.val t.isLt).2.2.2 (ix2 0 k)
    = (outsAt0 m c (t.val - 1) (Nat.lt_of_le_of_lt (Nat.sub_le _ _) t.isLt)).2.2.2 (ix2 0 k)
      + (∑ r : Fin 256, dgr f (half (through x d g y)) (t.val * 256 + r) k) := by
  rw [outsAt0_B m c t h0]
  dsimp only
  frame_open
  simp (disch := decide) only [↓ View.readCov_skip, ↓ View.readCov_cons_toLoadRect, ↓ View.readCov_fill]
  frame_out
  exact pay_gain2 (x := fun r => f (t.val * 256 + r)) (d := fun r => through x d g y (t.val * 256 + r))
    (block_f H t) (stage H t) _ k

include H in
/-- The gradients of the residual stream. -/
theorem rows : (dats m 0 c).arrAt 6 (cfgs 0).N = fun i : S4096x2048.Idx => through x d g y (i 0).val (i 1).val := by
  refine (dats m 0 c).arrAt_eq_of_covers 6 _ (by decide +kernel) fun t ht y => ?_
  blk_simp [idx t]
  rw [after0_6]
  idx_vars y
  exact dx_block H t _ _

include H in
/-- The gradients of the FFN's result. -/
theorem results : (dats m 0 c).arrAt 8 (cfgs 0).N =
    fun i : S4096x2048.Idx => dx f (half (through x d g y)) q (i 0).val (i 1).val := by
  refine (dats m 0 c).arrAt_eq_of_covers 8 _ (by decide +kernel) fun t ht y => ?_
  blk_simp [idx t]
  rw [after0_8]
  idx_vars y
  exact df_block H t _ _

include H in
/-- The gradient of the first gain. -/
theorem gain : (dats m 0 c).arrAt 7 (cfgs 0).N = fun i : S1x2048.Idx => (∑ r : Fin 4096, dgr x d r (i 1).val) := by
  refine (dats m 0 c).arrAt_eq_of_after_last 7 t0_15 (by decide +kernel) _ fun j => ?_
  blk_simp
  rw [after0_7]
  idx_vars j
  obtain rfl : j0 = 0 := Subsingleton.elim _ _
  exact sum_after (fun n hn => (outsAt0 m c n hn).2.1 (ix2 0 j1)) (fun r => dgr x d r j1)
    (fun h => dg_first H ⟨0, h⟩ rfl j1) (fun n h => dg_next H ⟨n + 1, h⟩ (show ¬ (n + 1) % 16 = 0 by omega) j1) t0_15.isLt

include H in
/-- The gradient of the second gain. -/
theorem gain2 : (dats m 0 c).arrAt 9 (cfgs 0).N =
    fun i : S1x2048.Idx => (∑ r : Fin 4096, dgr f (half (through x d g y)) r (i 1).val) := by
  refine (dats m 0 c).arrAt_eq_of_after_last 9 t0_15 (by decide +kernel) _ fun j => ?_
  blk_simp
  rw [after0_9]
  idx_vars j
  obtain rfl : j0 = 0 := Subsingleton.elim _ _
  exact sum_after (fun n hn => (outsAt0 m c n hn).2.2.2 (ix2 0 j1)) (fun r => dgr f (half (through x d g y)) r j1)
    (fun h => dq_first H ⟨0, h⟩ rfl j1) (fun n h => dq_next H ⟨n + 1, h⟩ (show ¬ (n + 1) % 16 = 0 by omega) j1) t0_15.isLt

end Cert.NormBwdHalfIdeal.Value

namespace Cert.NormBwdHalfRefIdeal.Value
open Cert.NormBwdHalfRefIdeal Cert.NormBwdHalfRefIdeal.Read Cert.NormBwdHalfIdeal.Value

variable {x d y f : ℕ → ℕ → EReal} {g q : ℕ → EReal}
variable {X D Y E : (⟨S4096x2048, .f32⟩ : BufTy).Contents (Elt Ideal)} {G Q : (⟨S2048, .f32⟩ : BufTy).Contents (Elt Ideal)}
variable (hX : ∀ i : S4096x2048.Idx, X i = x (i 0).val (i 1).val)
variable (hG : ∀ i : S2048.Idx, G i = g (i 0).val)
variable (hD : ∀ i : S4096x2048.Idx, D i = d (i 0).val (i 1).val)
variable (hY : ∀ i : S4096x2048.Idx, Y i = y (i 0).val (i 1).val)
variable (hE : ∀ i : S4096x2048.Idx, E i = f (i 0).val (i 1).val)
variable (hQ : ∀ i : S2048.Idx, Q i = q (i 0).val)

include hX hG hD hY in
theorem ref_through (i : S4096x2048.Idx) :
    val_main_v36 (F := Ideal) X G D Y i = through x d g y (i 0).val (i 1).val :=
  Cert.NormBwdRefIdeal.Value.ref_through hX hG hD hY i

include hX hD in
theorem ref_dg (i : S1x2048.Idx) : val_main_v37 (F := Ideal) X D i = (∑ r : Fin 4096, dgr x d r (i 1).val) :=
  Cert.NormBwdRefIdeal.Value.ref_dg hX hD i

include hX hG hD hY hE hQ in
theorem ref_df (i : S4096x2048.Idx) : val_main_v78 (F := Ideal) X G D Y E Q i
    = dx f (half (through x d g y)) q (i 0).val (i 1).val :=
  Cert.LastNormBwdRefIdeal.Value.ref_dx hE hQ (ref_through hX hG hD hY) i

include hX hG hD hY hE in
theorem ref_dq (i : S1x2048.Idx) : val_main_v79 (F := Ideal) X G D Y E i
    = (∑ r : Fin 4096, dgr f (half (through x d g y)) r (i 1).val) :=
  Cert.LastNormBwdRefIdeal.Value.ref_dg hE (ref_through hX hG hD hY) i

/-- The reference runs and leaves its arguments as they were. -/
theorem frame : Cert.quiescent_NormBwdHalfRefIdeal := fun m ρ _ => (θ_run defs _ _).mono
  (fun r h => ⟨fun c => (h c).2.2.2.2, sem_eq_zero_of_no_sems (by decide) r.2⟩) (run m ρ)

end Cert.NormBwdHalfRefIdeal.Value

namespace Cert.NormBwdHalfIdeal.Value

/-- The two programs end with the same four arrays. -/
theorem equal : Cert.algebraic_NormBwdHalfIdeal_NormBwdHalfRefIdeal := by
  intro m ρ m' ρ' _ hargs
  refine ⟨fun c => (Cert.NormBwdHalfIdeal.Gen.dats m 0 c).arrAt 6 (Cert.NormBwdHalfIdeal.cfgs 0).N,
    fun c => (Cert.NormBwdHalfIdeal.Gen.dats m 0 c).arrAt 7 (Cert.NormBwdHalfIdeal.cfgs 0).N,
    fun c => (Cert.NormBwdHalfIdeal.Gen.dats m 0 c).arrAt 8 (Cert.NormBwdHalfIdeal.cfgs 0).N,
    fun c => (Cert.NormBwdHalfIdeal.Gen.dats m 0 c).arrAt 9 (Cert.NormBwdHalfIdeal.cfgs 0).N,
    Cert.NormBwdHalfIdeal.Value.run_blocks m ρ, (θ_run _ _ _).mono (fun r h c => ?_) (Cert.NormBwdHalfRefIdeal.Value.run m' ρ')⟩
  obtain ⟨r0, r1, r2, r3, ra⟩ := h c
  obtain ⟨a0, a1, a2, a3, a4, a5⟩ := hargs c
  have H : Args m c _ _ _ _ _ _ := ⟨entry2_eq _, entry1_eq _, entry2_eq _, entry2_eq _, entry2_eq _, entry1_eq _⟩
  refine ⟨r0.trans ((Cert.NormBwdHalfRefIdeal.Read.val_main_v36_eq _ _ _ _).trans (Eq.trans ?_ (rows H).symm)),
    r1.trans ((Cert.NormBwdHalfRefIdeal.Read.val_main_v37_eq _ _).trans (Eq.trans ?_ (gain H).symm)),
    r2.trans ((Cert.NormBwdHalfRefIdeal.Read.val_main_v78_eq _ _).trans (Eq.trans ?_ (results H).symm)),
    r3.trans ((Cert.NormBwdHalfRefIdeal.Read.val_main_v79_eq _ _).trans (Eq.trans ?_ (gain2 H).symm)), ra⟩
  · funext i
    rw [a0, a1, a2, a3]
    exact Cert.NormBwdHalfRefIdeal.Value.ref_through H.hx H.hg H.hd H.hy i
  · funext i
    rw [a0, a2]
    exact Cert.NormBwdHalfRefIdeal.Value.ref_dg H.hx H.hd i
  · funext i
    rw [a0, a1, a2, a3, a4, a5]
    exact Cert.NormBwdHalfRefIdeal.Value.ref_df H.hx H.hg H.hd H.hy H.hf H.hq i
  · funext i
    rw [a0, a1, a2, a3, a4]
    exact Cert.NormBwdHalfRefIdeal.Value.ref_dq H.hx H.hg H.hd H.hy H.hf i

end Cert.NormBwdHalfIdeal.Value
end
-- ==== Proof.Norm.Norm.lean ====
module
public import proofs.«01_k».proof.Defs
public import proofs.«01_k».proof.Proof.Gen.NormIdeal.Value
public import proofs.«01_k».proof.Proof.Gen.NormRefIdeal.Run
public import proofs.«01_k».proof.Proof.Gen.NormRefIdeal.Read
public import proofs.«01_k».proof.Proof.Norm.Rows
@[expose] public section
set_option maxRecDepth 16384
noncomputable section
open Idealize.ShloMosaic Idealize.ShloMosaic.TcCoe Idealize.SL.Sem _root_.Norm

/-! # The norm before a sub-layer -/
namespace Cert.NormIdeal.Value
open Cert.NormIdeal Cert.NormIdeal.Gen

/-- Which blocks a grid point works on. -/
theorem idx : ∀ t : Fin cfg0.N, win0_0.index t = ![t.val, 0] ∧ win0_1.index t = ![0, 0] ∧
    win0_2.index t = ![t.val, 0] ∧ t.val < 16 := (by decide +kernel : ∀ t : Fin grid0.N, _)

variable {m : (ℓ : Loc nD τ sig) → Buf (Elt Ideal) ℓ} {c : Dev nD} {x : ℕ → ℕ → EReal} {g : ℕ → EReal}
variable (hx : ∀ (i : Fin 4096) (j : Fin 2048), m ((c : Thread nD τ).loc main_arg0) (ix2 i j) = x i j)
variable (hg : ∀ j : Fin 2048, m ((c : Thread nD τ).loc main_arg1) (ix1 j) = g j)

include hx in
theorem block_x (t : Fin cfg0.N) (r : Fin 256) (k : Fin 2048) : iblk m c 0 t (ix2 r k) = x (t.val * 256 + r) k := by
  have ht := (idx t).2.2.2
  refine Eq.trans ?_ (hx ⟨t.val * 256 + r, by omega⟩ k)
  blk_ext [iblk, V, idx t]

include hg in
theorem block_g (t : Fin cfg0.N) (k : Fin 2048) : iblk m c 1 t (ix2 0 k) = g k := by
  refine Eq.trans ?_ (hg k)
  blk_simp [iblk]
  entry_read
  pointwise
  blk_ext [idx t]

include hx hg in
/-- The array the call leaves. -/
theorem array : (dats m 0 c).arrAt 2 (cfgs 0).N = fun i : S4096x2048.Idx => normed (x (i 0).val) g (i 1).val := by
  refine (dats m 0 c).arrAt_eq_of_covers 2 _ (by decide +kernel) fun t hf y => ?_
  blk_simp [idx t]
  rw [after0_2]
  unfold out0_2
  idx_vars y
  frame_out
  pointwise [k0_pay1, normed, inverse, block_x hx, block_g hg]

end Cert.NormIdeal.Value

namespace Cert.NormRefIdeal.Value
open Cert.NormRefIdeal Cert.NormRefIdeal.Read Cert.NormIdeal.Value

variable {x : ℕ → ℕ → EReal} {g : ℕ → EReal}
variable {X : (⟨S4096x2048, .f32⟩ : BufTy).Contents (Elt Ideal)} {G : (⟨S2048, .f32⟩ : BufTy).Contents (Elt Ideal)}
variable (hx : ∀ i : S4096x2048.Idx, X i = x (i 0).val (i 1).val) (hg : ∀ i : S2048.Idx, G i = g (i 0).val)

include hx hg in
theorem entry (i : S4096x2048.Idx) : val_main_v13 (F := Ideal) X G i = normed (x (i 0).val) g (i 1).val := by
  simp only [val_main_v13_apply, val_main_v12_apply, val_main_v11_apply, val_main_v10_apply, val_main_v9_apply,
    val_main_v8_apply, val_main_v7_apply, val_main_v6_apply, val_main_v5_apply, val_main_v4_apply, val_main_v3_apply,
    val_main_v2_apply, val_main_v1_apply, val_main_v0_apply, val_main_cst_apply, val_main_cst_0_apply, val_main_cst_1_apply,
    hx, hg]
  pointwise [normed, inverse]

/-- The reference runs and leaves its arguments as they were. -/
theorem frame : Cert.quiescent_NormRefIdeal := fun m ρ _ => (θ_run defs _ _).mono
  (fun r h => ⟨fun c => (h c).2, sem_eq_zero_of_no_sems (by decide) r.2⟩) (run m ρ)

end Cert.NormRefIdeal.Value

/-- The two programs end with the same array. -/
theorem Cert.NormIdeal.Value.equal : Cert.algebraic_NormIdeal_NormRefIdeal := by
  intro m ρ m' ρ' _ hargs
  refine ⟨fun c => (Cert.NormIdeal.Gen.dats m 0 c).arrAt 2 (Cert.NormIdeal.cfgs 0).N, Cert.NormIdeal.Value.run_blocks m ρ,
    (θ_run _ _ _).mono (fun r h c => ?_) (Cert.NormRefIdeal.Value.run m' ρ')⟩
  obtain ⟨r0, ra⟩ := h c
  obtain ⟨a0, a1⟩ := hargs c
  refine ⟨r0.trans ((Cert.NormRefIdeal.Read.val_main_v13_eq _ _).trans (Eq.trans ?_ (Cert.NormIdeal.Value.array
    (fun i j => entry2_eq _ (ix2 i j)) (fun j => entry1_eq _ (ix1 j))).symm)), ra⟩
  funext i
  rw [← a0, ← a1]
  exact Cert.NormRefIdeal.Value.entry (entry2_eq _) (entry1_eq _) i
end
-- ==== Proof.Norm.ResNorm.lean ====
module
public import proofs.«01_k».proof.Defs
public import proofs.«01_k».proof.Proof.Gen.ResNormIdeal.Value
public import proofs.«01_k».proof.Proof.Gen.ResNormRefIdeal.Run
public import proofs.«01_k».proof.Proof.Gen.ResNormRefIdeal.Read
public import proofs.«01_k».proof.Proof.Norm.Rows
@[expose] public section
set_option maxRecDepth 16384
noncomputable section
open Idealize.ShloMosaic Idealize.ShloMosaic.TcCoe Idealize.SL.Sem _root_.Norm

/-! # The residual stream after the FFN, and its norm before the next sub-layer -/
namespace Cert.ResNormIdeal.Value
open Cert.ResNormIdeal Cert.ResNormIdeal.Gen

/-- Which blocks a grid point works on. -/
theorem idx : ∀ t : Fin cfg0.N, win0_0.index t = ![t.val, 0] ∧ win0_1.index t = ![t.val, 0] ∧ win0_2.index t = ![0, 0] ∧
    win0_3.index t = ![0, 0] ∧
    win0_4.index t = ![t.val, 0] ∧ win0_5.index t = ![t.val, 0] ∧ t.val < 16 := (by decide +kernel : ∀ t : Fin grid0.N, _)

variable {m : (ℓ : Loc nD τ sig) → Buf (Elt Ideal) ℓ} {c : Dev nD} {x f : ℕ → ℕ → EReal} {g n : ℕ → EReal}
variable (hx : ∀ (i : Fin 4096) (j : Fin 2048), m ((c : Thread nD τ).loc main_arg0) (ix2 i j) = x i j)
variable (hf : ∀ (i : Fin 4096) (j : Fin 2048), m ((c : Thread nD τ).loc main_arg1) (ix2 i j) = f i j)
variable (hg : ∀ j : Fin 2048, m ((c : Thread nD τ).loc main_arg2) (ix1 j) = g j)
variable (hn : ∀ j : Fin 2048, m ((c : Thread nD τ).loc main_arg3) (ix1 j) = n j)

include hx in
theorem block_x (t : Fin cfg0.N) (r : Fin 256) (k : Fin 2048) : iblk m c 0 t (ix2 r k) = x (t.val * 256 + r) k := by
  have ht := (idx t).2.2.2.2.2.2
  refine Eq.trans ?_ (hx ⟨t.val * 256 + r, by omega⟩ k)
  blk_ext [iblk, V, idx t]

include hf in
theorem block_f (t : Fin cfg0.N) (r : Fin 256) (k : Fin 2048) : iblk m c 1 t (ix2 r k) = f (t.val * 256 + r) k := by
  have ht := (idx t).2.2.2.2.2.2
  refine Eq.trans ?_ (hf ⟨t.val * 256 + r, by omega⟩ k)
  blk_ext [iblk, V, idx t]

include hg in
theorem block_g (t : Fin cfg0.N) (k : Fin 2048) : iblk m c 2 t (ix2 0 k) = g k := by
  refine Eq.trans ?_ (hg k)
  blk_simp [iblk]
  entry_read
  pointwise
  blk_ext [idx t]

include hn in
theorem block_n (t : Fin cfg0.N) (k : Fin 2048) : iblk m c 3 t (ix2 0 k) = n k := by
  refine Eq.trans ?_ (hn k)
  blk_simp [iblk]
  entry_read
  pointwise
  blk_ext [idx t]

include hx hf hg in
/-- The residual stream the call leaves. -/
theorem stream : (dats m 0 c).arrAt 4 (cfgs 0).N =
    fun i : S4096x2048.Idx => stepped (x (i 0).val) (f (i 0).val) g (i 1).val := by
  refine (dats m 0 c).arrAt_eq_of_covers 4 _ (by decide +kernel) fun t ht y => ?_
  blk_simp [idx t]
  rw [after0_4]
  unfold out0_4
  idx_vars y
  frame_out
  pointwise [k0_pay1, stepped, normed, inverse, block_x hx, block_f hf, block_g hg]

include hx hf hg hn in
/-- The norms the call leaves. -/
theorem norms : (dats m 0 c).arrAt 5 (cfgs 0).N =
    fun i : S4096x2048.Idx => normed (stepped (x (i 0).val) (f (i 0).val) g) n (i 1).val := by
  refine (dats m 0 c).arrAt_eq_of_covers 5 _ (by decide +kernel) fun t ht y => ?_
  blk_simp [idx t]
  rw [after0_5]
  unfold out0_5
  idx_vars y
  frame_out
  pointwise [k0_pay1, k0_pay2, stepped, normed, inverse, block_x hx, block_f hf, block_g hg, block_n hn]

end Cert.ResNormIdeal.Value

namespace Cert.ResNormRefIdeal.Value
open Cert.ResNormRefIdeal Cert.ResNormRefIdeal.Read Cert.ResNormIdeal.Value

variable {x f : ℕ → ℕ → EReal} {g n : ℕ → EReal}
variable {X Y : (⟨S4096x2048, .f32⟩ : BufTy).Contents (Elt Ideal)} {G N : (⟨S2048, .f32⟩ : BufTy).Contents (Elt Ideal)}
variable (hx : ∀ i : S4096x2048.Idx, X i = x (i 0).val (i 1).val) (hf : ∀ i : S4096x2048.Idx, Y i = f (i 0).val (i 1).val)
variable (hg : ∀ i : S2048.Idx, G i = g (i 0).val) (hn : ∀ i : S2048.Idx, N i = n (i 0).val)

include hx hf hg in
theorem entry_stream (i : S4096x2048.Idx) :
    val_main_v15 (F := Ideal) X Y G i = stepped (x (i 0).val) (f (i 0).val) g (i 1).val := by
  simp only [val_main_v15_apply, val_main_v14_apply, val_main_v13_apply, val_main_v12_apply, val_main_v11_apply,
    val_main_v10_apply, val_main_v9_apply, val_main_v8_apply, val_main_v7_apply, val_main_v6_apply, val_main_v5_apply,
    val_main_v4_apply, val_main_v3_apply, val_main_v2_apply, val_main_v1_apply, val_main_v0_apply, val_main_cst_apply,
    val_main_cst_0_apply, val_main_cst_1_apply, val_main_cst_2_apply, hx, hf, hg]
  pointwise [stepped, normed, inverse]

include hx hf hg hn in
theorem entry_norm (i : S4096x2048.Idx) :
    val_main_v29 (F := Ideal) X Y G N i = normed (stepped (x (i 0).val) (f (i 0).val) g) n (i 1).val := by
  simp only [val_main_v29_apply, val_main_v28_apply, val_main_v27_apply, val_main_v26_apply, val_main_v25_apply,
    val_main_v24_apply, val_main_v23_apply, val_main_v22_apply, val_main_v21_apply, val_main_v20_apply, val_main_v19_apply,
    val_main_v18_apply, val_main_v17_apply, val_main_v16_apply, val_main_cst_3_apply, val_main_cst_4_apply,
    val_main_cst_5_apply, entry_stream hx hf hg, hn]
  pointwise [normed, inverse]

/-- The reference runs and leaves its arguments as they were. -/
theorem frame : Cert.quiescent_ResNormRefIdeal := fun m ρ _ => (θ_run defs _ _).mono
  (fun r h => ⟨fun c => (h c).2.2, sem_eq_zero_of_no_sems (by decide) r.2⟩) (run m ρ)

end Cert.ResNormRefIdeal.Value

/-- The two programs end with the same two arrays. -/
theorem Cert.ResNormIdeal.Value.equal : Cert.algebraic_ResNormIdeal_ResNormRefIdeal := by
  intro m ρ m' ρ' _ hargs
  refine ⟨fun c => (Cert.ResNormIdeal.Gen.dats m 0 c).arrAt 4 (Cert.ResNormIdeal.cfgs 0).N,
    fun c => (Cert.ResNormIdeal.Gen.dats m 0 c).arrAt 5 (Cert.ResNormIdeal.cfgs 0).N,
    Cert.ResNormIdeal.Value.run_blocks m ρ, (θ_run _ _ _).mono (fun r h c => ?_) (Cert.ResNormRefIdeal.Value.run m' ρ')⟩
  obtain ⟨r0, r1, ra⟩ := h c
  obtain ⟨a0, a1, a2, a3⟩ := hargs c
  refine ⟨r0.trans ((Cert.ResNormRefIdeal.Read.val_main_v15_eq _ _ _).trans (Eq.trans ?_
    (Cert.ResNormIdeal.Value.stream (fun i j => entry2_eq _ (ix2 i j)) (fun i j => entry2_eq _ (ix2 i j))
      (fun j => entry1_eq _ (ix1 j))).symm)),
    r1.trans ((Cert.ResNormRefIdeal.Read.val_main_v29_eq _ _ _ _).trans (Eq.trans ?_
    (Cert.ResNormIdeal.Value.norms (fun i j => entry2_eq _ (ix2 i j)) (fun i j => entry2_eq _ (ix2 i j))
      (fun j => entry1_eq _ (ix1 j)) (fun j => entry1_eq _ (ix1 j))).symm)), ra⟩
  · funext i
    rw [← a0, ← a1, ← a2]
    exact Cert.ResNormRefIdeal.Value.entry_stream (entry2_eq _) (entry2_eq _) (entry1_eq _) i
  · funext i
    rw [← a0, ← a1, ← a2, ← a3]
    exact Cert.ResNormRefIdeal.Value.entry_norm (entry2_eq _) (entry2_eq _) (entry1_eq _) (entry1_eq _) i
end
-- ==== Proof.Norm.ResNormMix.lean ====
module
public import proofs.«01_k».proof.Defs
public import proofs.«01_k».proof.Proof.Gen.ResNormMixIdeal.Value
public import proofs.«01_k».proof.Proof.Gen.ResNormMixRefIdeal.Run
public import proofs.«01_k».proof.Proof.Gen.ResNormMixRefIdeal.Read
public import proofs.«01_k».proof.Proof.Norm.Rows
@[expose] public section
set_option maxRecDepth 16384
noncomputable section
open Idealize.ShloMosaic Idealize.ShloMosaic.TcCoe Idealize.SL.Sem _root_.Norm

/-! # The residual stream after the mix, and its norm before the next sub-layer -/
namespace Cert.ResNormMixIdeal.Value
open Cert.ResNormMixIdeal Cert.ResNormMixIdeal.Gen

/-- Which blocks a grid point works on. -/
theorem idx : ∀ t : Fin cfg0.N, win0_0.index t = ![t.val, 0] ∧ win0_1.index t = ![t.val, 0] ∧ win0_2.index t = ![0, 0] ∧
    win0_3.index t = ![0, 0] ∧
    win0_4.index t = ![t.val, 0] ∧ win0_5.index t = ![t.val, 0] ∧ t.val < 16 := (by decide +kernel : ∀ t : Fin grid0.N, _)

variable {m : (ℓ : Loc nD τ sig) → Buf (Elt Ideal) ℓ} {c : Dev nD} {x f : ℕ → ℕ → EReal} {g n : ℕ → EReal}
variable (hx : ∀ (i : Fin 4096) (j : Fin 2048), m ((c : Thread nD τ).loc main_arg0) (ix2 i j) = x i j)
variable (hf : ∀ (i : Fin 4096) (j : Fin 2048), m ((c : Thread nD τ).loc main_arg1) (ix2 i j) = f i j)
variable (hg : ∀ j : Fin 2048, m ((c : Thread nD τ).loc main_arg2) (ix1 j) = g j)
variable (hn : ∀ j : Fin 2048, m ((c : Thread nD τ).loc main_arg3) (ix1 j) = n j)

include hx in
theorem block_x (t : Fin cfg0.N) (r : Fin 256) (k : Fin 2048) : iblk m c 0 t (ix2 r k) = x (t.val * 256 + r) k := by
  have ht := (idx t).2.2.2.2.2.2
  refine Eq.trans ?_ (hx ⟨t.val * 256 + r, by omega⟩ k)
  blk_ext [iblk, V, idx t]

include hf in
theorem block_f (t : Fin cfg0.N) (r : Fin 256) (k : Fin 2048) : iblk m c 1 t (ix2 r k) = f (t.val * 256 + r) k := by
  have ht := (idx t).2.2.2.2.2.2
  refine Eq.trans ?_ (hf ⟨t.val * 256 + r, by omega⟩ k)
  blk_ext [iblk, V, idx t]

include hg in
theorem block_g (t : Fin cfg0.N) (k : Fin 2048) : iblk m c 2 t (ix2 0 k) = g k := by
  refine Eq.trans ?_ (hg k)
  blk_simp [iblk]
  entry_read
  pointwise
  blk_ext [idx t]

include hn in
theorem block_n (t : Fin cfg0.N) (k : Fin 2048) : iblk m c 3 t (ix2 0 k) = n k := by
  refine Eq.trans ?_ (hn k)
  blk_simp [iblk]
  entry_read
  pointwise
  blk_ext [idx t]

include hx hf hg in
/-- The residual stream the call leaves. -/
theorem stream : (dats m 0 c).arrAt 4 (cfgs 0).N =
    fun i : S4096x2048.Idx => joined (x (i 0).val) (f (i 0).val) g (i 1).val := by
  refine (dats m 0 c).arrAt_eq_of_covers 4 _ (by decide +kernel) fun t ht y => ?_
  blk_simp [idx t]
  rw [after0_4]
  unfold out0_4
  idx_vars y
  frame_out
  pointwise [k0_pay1, joined, normed, inverse, block_x hx, block_f hf, block_g hg, Sgu.ofBits_one]
  simp only [EReal.coe_one, one_mul]

include hx hf hg hn in
/-- The norms the call leaves. -/
theorem norms : (dats m 0 c).arrAt 5 (cfgs 0).N =
    fun i : S4096x2048.Idx => normed (joined (x (i 0).val) (f (i 0).val) g) n (i 1).val := by
  refine (dats m 0 c).arrAt_eq_of_covers 5 _ (by decide +kernel) fun t ht y => ?_
  blk_simp [idx t]
  rw [after0_5]
  unfold out0_5
  idx_vars y
  frame_out
  pointwise [k0_pay1, k0_pay2, joined, normed, inverse, block_x hx, block_f hf, block_g hg, block_n hn, Sgu.ofBits_one]
  simp only [EReal.coe_one, one_mul]

end Cert.ResNormMixIdeal.Value

namespace Cert.ResNormMixRefIdeal.Value
open Cert.ResNormMixRefIdeal Cert.ResNormMixRefIdeal.Read Cert.ResNormMixIdeal.Value

variable {x f : ℕ → ℕ → EReal} {g n : ℕ → EReal}
variable {X Y : (⟨S4096x2048, .f32⟩ : BufTy).Contents (Elt Ideal)} {G N : (⟨S2048, .f32⟩ : BufTy).Contents (Elt Ideal)}
variable (hx : ∀ i : S4096x2048.Idx, X i = x (i 0).val (i 1).val) (hf : ∀ i : S4096x2048.Idx, Y i = f (i 0).val (i 1).val)
variable (hg : ∀ i : S2048.Idx, G i = g (i 0).val) (hn : ∀ i : S2048.Idx, N i = n (i 0).val)

include hx hf hg in
theorem entry_stream (i : S4096x2048.Idx) :
    val_main_v13 (F := Ideal) X Y G i = joined (x (i 0).val) (f (i 0).val) g (i 1).val := by
  simp only [val_main_v13_apply, val_main_v12_apply, val_main_v11_apply,
    val_main_v10_apply, val_main_v9_apply, val_main_v8_apply, val_main_v7_apply, val_main_v6_apply, val_main_v5_apply,
    val_main_v4_apply, val_main_v3_apply, val_main_v2_apply, val_main_v1_apply, val_main_v0_apply, val_main_cst_apply,
    val_main_cst_0_apply, val_main_cst_1_apply, hx, hf, hg]
  pointwise [joined, normed, inverse]

include hx hf hg hn in
theorem entry_norm (i : S4096x2048.Idx) :
    val_main_v27 (F := Ideal) X Y G N i = normed (joined (x (i 0).val) (f (i 0).val) g) n (i 1).val := by
  simp only [val_main_v27_apply, val_main_v26_apply, val_main_v25_apply,
    val_main_v24_apply, val_main_v23_apply, val_main_v22_apply, val_main_v21_apply, val_main_v20_apply, val_main_v19_apply,
    val_main_v18_apply, val_main_v17_apply, val_main_v16_apply, val_main_v15_apply, val_main_v14_apply, val_main_cst_2_apply,
    val_main_cst_3_apply, val_main_cst_4_apply, entry_stream hx hf hg, hn]
  pointwise [normed, inverse]

/-- The reference runs and leaves its arguments as they were. -/
theorem frame : Cert.quiescent_ResNormMixRefIdeal := fun m ρ _ => (θ_run defs _ _).mono
  (fun r h => ⟨fun c => (h c).2.2, sem_eq_zero_of_no_sems (by decide) r.2⟩) (run m ρ)

end Cert.ResNormMixRefIdeal.Value

/-- The two programs end with the same two arrays. -/
theorem Cert.ResNormMixIdeal.Value.equal : Cert.algebraic_ResNormMixIdeal_ResNormMixRefIdeal := by
  intro m ρ m' ρ' _ hargs
  refine ⟨fun c => (Cert.ResNormMixIdeal.Gen.dats m 0 c).arrAt 4 (Cert.ResNormMixIdeal.cfgs 0).N,
    fun c => (Cert.ResNormMixIdeal.Gen.dats m 0 c).arrAt 5 (Cert.ResNormMixIdeal.cfgs 0).N,
    Cert.ResNormMixIdeal.Value.run_blocks m ρ, (θ_run _ _ _).mono (fun r h c => ?_) (Cert.ResNormMixRefIdeal.Value.run m' ρ')⟩
  obtain ⟨r0, r1, ra⟩ := h c
  obtain ⟨a0, a1, a2, a3⟩ := hargs c
  refine ⟨r0.trans ((Cert.ResNormMixRefIdeal.Read.val_main_v13_eq _ _ _).trans (Eq.trans ?_
    (Cert.ResNormMixIdeal.Value.stream (fun i j => entry2_eq _ (ix2 i j)) (fun i j => entry2_eq _ (ix2 i j))
      (fun j => entry1_eq _ (ix1 j))).symm)),
    r1.trans ((Cert.ResNormMixRefIdeal.Read.val_main_v27_eq _ _ _ _).trans (Eq.trans ?_
    (Cert.ResNormMixIdeal.Value.norms (fun i j => entry2_eq _ (ix2 i j)) (fun i j => entry2_eq _ (ix2 i j))
      (fun j => entry1_eq _ (ix1 j)) (fun j => entry1_eq _ (ix1 j))).symm)), ra⟩
  · funext i
    rw [← a0, ← a1, ← a2]
    exact Cert.ResNormMixRefIdeal.Value.entry_stream (entry2_eq _) (entry2_eq _) (entry1_eq _) i
  · funext i
    rw [← a0, ← a1, ← a2, ← a3]
    exact Cert.ResNormMixRefIdeal.Value.entry_norm (entry2_eq _) (entry2_eq _) (entry1_eq _) (entry1_eq _) i
end
-- ==== Proof.Norm.ResNormLast.lean ====
module
public import proofs.«01_k».proof.Defs
public import proofs.«01_k».proof.Proof.Gen.ResNormLastIdeal.Value
public import proofs.«01_k».proof.Proof.Gen.ResNormLastRefIdeal.Run
public import proofs.«01_k».proof.Proof.Gen.ResNormLastRefIdeal.Read
public import proofs.«01_k».proof.Proof.Norm.Rows
@[expose] public section
set_option maxRecDepth 16384
noncomputable section
open Idealize.ShloMosaic Idealize.ShloMosaic.TcCoe Idealize.SL.Sem _root_.Norm

/-! # The last residual: half of the norm of the FFN's result, added -/
namespace Cert.ResNormLastIdeal.Value
open Cert.ResNormLastIdeal Cert.ResNormLastIdeal.Gen

/-- Which blocks a grid point works on. -/
theorem idx : ∀ t : Fin cfg0.N, win0_0.index t = ![t.val, 0] ∧ win0_1.index t = ![t.val, 0] ∧ win0_2.index t = ![0, 0] ∧
    win0_3.index t = ![t.val, 0] ∧ t.val < 16 := (by decide +kernel : ∀ t : Fin grid0.N, _)

variable {m : (ℓ : Loc nD τ sig) → Buf (Elt Ideal) ℓ} {c : Dev nD} {x f : ℕ → ℕ → EReal} {g : ℕ → EReal}
variable (hx : ∀ (i : Fin 4096) (j : Fin 2048), m ((c : Thread nD τ).loc main_arg0) (ix2 i j) = x i j)
variable (hf : ∀ (i : Fin 4096) (j : Fin 2048), m ((c : Thread nD τ).loc main_arg1) (ix2 i j) = f i j)
variable (hg : ∀ j : Fin 2048, m ((c : Thread nD τ).loc main_arg2) (ix1 j) = g j)

include hx in
theorem block_x (t : Fin cfg0.N) (r : Fin 256) (k : Fin 2048) : iblk m c 0 t (ix2 r k) = x (t.val * 256 + r) k := by
  have ht := (idx t).2.2.2.2
  refine Eq.trans ?_ (hx ⟨t.val * 256 + r, by omega⟩ k)
  blk_ext [iblk, V, idx t]

include hf in
theorem block_f (t : Fin cfg0.N) (r : Fin 256) (k : Fin 2048) : iblk m c 1 t (ix2 r k) = f (t.val * 256 + r) k := by
  have ht := (idx t).2.2.2.2
  refine Eq.trans ?_ (hf ⟨t.val * 256 + r, by omega⟩ k)
  blk_ext [iblk, V, idx t]

include hg in
theorem block_g (t : Fin cfg0.N) (k : Fin 2048) : iblk m c 2 t (ix2 0 k) = g k := by
  refine Eq.trans ?_ (hg k)
  blk_simp [iblk]
  entry_read
  pointwise
  blk_ext [idx t]

include hx hf hg in
/-- The array the call leaves. -/
theorem array : (dats m 0 c).arrAt 3 (cfgs 0).N =
    fun i : S4096x2048.Idx => stepped (x (i 0).val) (f (i 0).val) g (i 1).val := by
  refine (dats m 0 c).arrAt_eq_of_covers 3 _ (by decide +kernel) fun t ht y => ?_
  blk_simp [idx t]
  rw [after0_3]
  unfold out0_3
  idx_vars y
  frame_out
  pointwise [k0_pay1, stepped, normed, inverse, block_x hx, block_f hf, block_g hg]

end Cert.ResNormLastIdeal.Value

namespace Cert.ResNormLastRefIdeal.Value
open Cert.ResNormLastRefIdeal Cert.ResNormLastRefIdeal.Read Cert.ResNormLastIdeal.Value

variable {x f : ℕ → ℕ → EReal} {g : ℕ → EReal}
variable {X Y : (⟨S4096x2048, .f32⟩ : BufTy).Contents (Elt Ideal)} {G : (⟨S2048, .f32⟩ : BufTy).Contents (Elt Ideal)}
variable (hx : ∀ i : S4096x2048.Idx, X i = x (i 0).val (i 1).val) (hf : ∀ i : S4096x2048.Idx, Y i = f (i 0).val (i 1).val)
variable (hg : ∀ i : S2048.Idx, G i = g (i 0).val)

include hx hf hg in
theorem entry (i : S4096x2048.Idx) :
    val_main_v15 (F := Ideal) X Y G i = stepped (x (i 0).val) (f (i 0).val) g (i 1).val := by
  simp only [val_main_v15_apply, val_main_v14_apply, val_main_v13_apply, val_main_v12_apply, val_main_v11_apply,
    val_main_v10_apply, val_main_v9_apply, val_main_v8_apply, val_main_v7_apply, val_main_v6_apply, val_main_v5_apply,
    val_main_v4_apply, val_main_v3_apply, val_main_v2_apply, val_main_v1_apply, val_main_v0_apply, val_main_cst_apply,
    val_main_cst_0_apply, val_main_cst_1_apply, val_main_cst_2_apply, hx, hf, hg]
  pointwise [stepped, normed, inverse]

/-- The reference runs and leaves its arguments as they were. -/
theorem frame : Cert.quiescent_ResNormLastRefIdeal := fun m ρ _ => (θ_run defs _ _).mono
  (fun r h => ⟨fun c => (h c).2, sem_eq_zero_of_no_sems (by decide) r.2⟩) (run m ρ)

end Cert.ResNormLastRefIdeal.Value

/-- The two programs end with the same array. -/
theorem Cert.ResNormLastIdeal.Value.equal : Cert.algebraic_ResNormLastIdeal_ResNormLastRefIdeal := by
  intro m ρ m' ρ' _ hargs
  refine ⟨fun c => (Cert.ResNormLastIdeal.Gen.dats m 0 c).arrAt 3 (Cert.ResNormLastIdeal.cfgs 0).N,
    Cert.ResNormLastIdeal.Value.run_blocks m ρ, (θ_run _ _ _).mono (fun r h c => ?_) (Cert.ResNormLastRefIdeal.Value.run m' ρ')⟩
  obtain ⟨r0, ra⟩ := h c
  obtain ⟨a0, a1, a2⟩ := hargs c
  refine ⟨r0.trans ((Cert.ResNormLastRefIdeal.Read.val_main_v15_eq _ _ _).trans (Eq.trans ?_
    (Cert.ResNormLastIdeal.Value.array (fun i j => entry2_eq _ (ix2 i j)) (fun i j => entry2_eq _ (ix2 i j))
      (fun j => entry1_eq _ (ix1 j))).symm)), ra⟩
  funext i
  rw [← a0, ← a1, ← a2]
  exact Cert.ResNormLastRefIdeal.Value.entry (entry2_eq _) (entry2_eq _) (entry1_eq _) i
end
-- ==== Proof.Loss.Loss.lean ====
module
public import proofs.«01_k».proof.Defs
public import proofs.«01_k».proof.Proof.Gen.LossIdeal.Value
public import proofs.«01_k».proof.Proof.Gen.LossRefIdeal.Run
public import proofs.«01_k».proof.Proof.Gen.LossRefIdeal.Read
public import proofs.«01_k».proof.Proof.Norm.Gradient
public import Idealize.ShloMosaic.Lib.Pipeline.ReadBack
@[expose] public section
set_option maxRecDepth 16384
noncomputable section
open Idealize.ShloMosaic Idealize.ShloMosaic.TcCoe Idealize.SL.Sem
open _root_.Norm Idealize.ShloMosaic.Ideal
open Sgu (ofBits_half ofBits_one)

/-! # The loss's gradient and the sum of the squared errors -/
namespace Cert.LossIdeal.Value
open Cert.LossIdeal Cert.LossIdeal.Gen

/-- The gradient of the loss by an output: the error over the width. -/
def errorOver (y z : ℕ → ℕ → EReal) (r k : ℕ) : EReal := (y r k - z r k) * ((1 / 2048 : ℝ) : EReal)
/-- The squared errors of a row. -/
def squares (y z : ℕ → ℕ → EReal) (r : ℕ) : EReal := ∑ k : Fin 2048, (y r k - z r k) * (y r k - z r k)

theorem ofBits_width : Ideal.ofBits .f32 0x3A000000#32 = ((1 / 2048 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_4096 : Ideal.ofBits .f32 0x45800000#32 = ((4096 : ℝ) : EReal) := by
  simp [Ideal.ofBits, Ideal.ieee, -EReal.coe_mul]; norm_num

variable {y z : ℕ → ℕ → EReal}

section block
variable {Y Z : Vec Ideal S256x2048 .f32}
variable (hY : ∀ (r : Fin 256) (k : Fin 2048), Y (ix2 r k) = y r k)
variable (hZ : ∀ (r : Fin 256) (k : Fin 2048), Z (ix2 r k) = z r k)

include hY hZ in
theorem pay_slope (r : Fin 256) (k : Fin 2048) : k0_pay3 Y Z (ix2 r k) = errorOver y z r k := by
  pointwise [k0_pay3, k0_pay2]
  rw [hY, hZ, ofBits_width, errorOver]

include hY hZ in
/-- What a block of rows adds to the sum. -/
theorem pay_sum (S : Vec Ideal S8x128 .f32) (a : Fin 8) (b : Fin 128) :
    k0_pay4 Y Z S (ix2 a b) = S (ix2 a b) + ∑ r : Fin 256, squares y z r := by
  pointwise [k0_pay4, k0_pay2]
  simp only [hY, hZ, squares]
end block

/-- Which blocks a grid point works on. -/
theorem idx : ∀ t : Fin cfg0.N, win0_0.index t = ![t.val, 0] ∧ win0_1.index t = ![t.val, 0] ∧ win0_2.index t = ![t.val, 0] ∧
    win0_3.index t = ![0, 0] ∧ t.val < 16 := (by decide +kernel : ∀ t : Fin grid0.N, _)

/-- The two arguments hold the values `y z` on device `c`. -/
structure Args (m : (ℓ : Loc nD τ sig) → Buf (Elt Ideal) ℓ) (c : Dev nD) (y z : ℕ → ℕ → EReal) : Prop where
  hy : ∀ i : S4096x2048.Idx, m ((c : Thread nD τ).loc main_arg0) i = y (i 0).val (i 1).val
  hz : ∀ i : S4096x2048.Idx, m ((c : Thread nD τ).loc main_arg1) i = z (i 0).val (i 1).val

variable {m : (ℓ : Loc nD τ sig) → Buf (Elt Ideal) ℓ} {c : Dev nD}
variable (H : Args m c y z) (t : Fin cfg0.N)

include H in
theorem block_y (r : Fin 256) (k : Fin 2048) : iblk m c 0 t (ix2 r k) = y (t.val * 256 + r) k := by
  have ht := (idx t).2.2.2.2
  refine Eq.trans ?_ (H.hy (ix2 ⟨t.val * 256 + r, by omega⟩ k))
  blk_ext [iblk, V, idx t]

include H in
theorem block_z (r : Fin 256) (k : Fin 2048) : iblk m c 1 t (ix2 r k) = z (t.val * 256 + r) k := by
  have ht := (idx t).2.2.2.2
  refine Eq.trans ?_ (H.hz (ix2 ⟨t.val * 256 + r, by omega⟩ k))
  blk_ext [iblk, V, idx t]

include H in
theorem slope_block (r : Fin 256) (k : Fin 2048) :
    (outsAt0 m c t.val t.isLt).1 (ix2 r k) = errorOver y z (t.val * 256 + r) k := by
  by_cases h0 : t.val % 16 = 0
  on_goal 1 => rw [outsAt0_A m c t h0]
  on_goal 2 => rw [outsAt0_B m c t h0]
  all_goals
    dsimp only
    frame_open
    frame_out
    exact pay_slope (y := fun r => y (t.val * 256 + r)) (z := fun r => z (t.val * 256 + r)) (block_y H t) (block_z H t) r k

include H in
theorem sum_first (h0 : t.val % 16 = 0) (a : Fin 8) (b : Fin 128) :
    (outsAt0 m c t.val t.isLt).2 (ix2 a b) = ∑ r : Fin 256, squares y z (t.val * 256 + r) := by
  rw [outsAt0_A m c t h0]
  dsimp only
  frame_open
  simp (disch := decide) only [↓ View.readCov_skip, ↓ View.readCov_cons_toLoadRect, ↓ View.readCov_fill]
  frame_out
  refine (pay_sum (y := fun r => y (t.val * 256 + r)) (z := fun r => z (t.val * 256 + r)) (block_y H t) (block_z H t) _ a b).trans ?_
  pointwise [k0_pay1]
  rfl

include H in
theorem sum_next (h0 : ¬ t.val % 16 = 0) (a : Fin 8) (b : Fin 128) :
    (outsAt0 m c t.val t.isLt).2 (ix2 a b) = (outsAt0 m c (t.val - 1) (Nat.lt_of_le_of_lt (Nat.sub_le _ _) t.isLt)).2 (ix2 a b)
      + ∑ r : Fin 256, squares y z (t.val * 256 + r) := by
  rw [outsAt0_B m c t h0]
  dsimp only
  frame_open
  simp (disch := decide) only [↓ View.readCov_skip, ↓ View.readCov_cons_toLoadRect, ↓ View.readCov_fill]
  frame_out
  exact pay_sum (y := fun r => y (t.val * 256 + r)) (z := fun r => z (t.val * 256 + r)) (block_y H t) (block_z H t) _ a b

include H in
/-- The gradient the call leaves. -/
theorem slopes : (dats m 0 c).arrAt 2 (cfgs 0).N = fun i : S4096x2048.Idx => errorOver y z (i 0).val (i 1).val := by
  refine (dats m 0 c).arrAt_eq_of_covers 2 _ (by decide +kernel) fun t ht y => ?_
  blk_simp [idx t]
  rw [after0_2]
  idx_vars y
  exact slope_block H t _ _

include H in
/-- The sum of the squared errors, which the call leaves in every place. -/
theorem total : (dats m 0 c).arrAt 3 (cfgs 0).N = fun _ : S8x128.Idx => ∑ r : Fin 4096, squares y z r := by
  refine (dats m 0 c).arrAt_eq_of_after_last 3 t0_15 (by decide +kernel) _ fun j => ?_
  blk_simp
  rw [after0_3]
  idx_vars j
  exact sum_after (fun n hn => (outsAt0 m c n hn).2 (ix2 j0 j1)) (squares y z)
    (fun h => sum_first H ⟨0, h⟩ rfl j0 j1) (fun n h => sum_next H ⟨n + 1, h⟩ (show ¬ (n + 1) % 16 = 0 by omega) j0 j1) t0_15.isLt

end Cert.LossIdeal.Value

namespace Cert.LossRefIdeal.Value
open Cert.LossRefIdeal Cert.LossRefIdeal.Read Cert.LossIdeal.Value

variable {y z : ℕ → ℕ → EReal}
variable {Y Z : (⟨S4096x2048, .f32⟩ : BufTy).Contents (Elt Ideal)}
variable (hY : ∀ i : S4096x2048.Idx, Y i = y (i 0).val (i 1).val)
variable (hZ : ∀ i : S4096x2048.Idx, Z i = z (i 0).val (i 1).val)

include hY hZ in
theorem ref_slope (i : S4096x2048.Idx) : val_main_v14 (F := Ideal) Y Z i = errorOver y z (i 0).val (i 1).val := by
  simp only [val_main_v14_apply, val_main_v13_apply, val_main_v12_apply, val_main_v11_apply, val_main_v10_apply,
    val_main_v9_apply, val_main_v3_apply, val_main_v2_apply, val_main_v0_apply, val_main_cst_apply, val_main_cst_4_apply,
    val_main_cst_5_apply, val_main_cst_6_apply, hY, hZ]
  pointwise
  simp only [ofBits_half, ofBits_one, ofBits_2048, ofBits_two, div_coe columns_ne, errorOver]
  rw [← EReal.coe_mul, ← mul_assoc, ← EReal.coe_mul]
  refine (congrArg (fun q : ℝ => (q : EReal) * _) ?_).trans (mul_comm _ _)
  norm_num

include hY hZ in
/-- The squares of a row over the width. -/
theorem ref_mean (i : S4096.Idx) : val_main_v6 (F := Ideal) Y Z i = squares y z (i 0).val * ((1 / 2048 : ℝ) : EReal) := by
  simp only [val_main_v6_apply, val_main_v5_apply, val_main_v4_apply, val_main_v1_apply, val_main_v0_apply,
    val_main_cst_0_apply, val_main_cst_1_apply, hY, hZ]
  pointwise
  simp only [ofBits_2048, div_coe columns_ne, squares]

include hY hZ in
theorem ref_total (i : S8x128.Idx) : val_main_v16 (F := Ideal) Y Z i = ∑ r : Fin 4096, squares y z r := by
  simp only [val_main_v16_apply, val_main_v15_apply, val_main_v8_apply, val_main_v7_apply, val_main_cst_2_apply,
    val_main_cst_3_apply, val_main_cst_7_apply, ref_mean hY hZ]
  pointwise
  rw [sum_mul _ _ (by norm_num), ofBits_4096, ofBits_half, sum_idx1 fun k : S4096.Idx => squares y z (k 0).val,
    mul_comm _ ((1 / 2048 : ℝ) : EReal), ← mul_assoc, ← mul_assoc, ← EReal.coe_mul, ← EReal.coe_mul]
  refine (congrArg (fun q : ℝ => (q : EReal) * _) ?_).trans (one_mul _)
  norm_num

/-- The reference runs and leaves its arguments as they were. -/
theorem frame : Cert.quiescent_LossRefIdeal := fun m ρ _ => (θ_run defs _ _).mono
  (fun r h => ⟨fun c => (h c).2.2, sem_eq_zero_of_no_sems (by decide) r.2⟩) (run m ρ)

end Cert.LossRefIdeal.Value

namespace Cert.LossIdeal.Value

/-- The two programs end with the same two arrays. -/
theorem equal : Cert.algebraic_LossIdeal_LossRefIdeal := by
  intro m ρ m' ρ' _ hargs
  refine ⟨fun c => (Cert.LossIdeal.Gen.dats m 0 c).arrAt 2 (Cert.LossIdeal.cfgs 0).N,
    fun c => (Cert.LossIdeal.Gen.dats m 0 c).arrAt 3 (Cert.LossIdeal.cfgs 0).N,
    Cert.LossIdeal.Value.run_blocks m ρ, (θ_run _ _ _).mono (fun r h c => ?_) (Cert.LossRefIdeal.Value.run m' ρ')⟩
  obtain ⟨r0, r1, ra⟩ := h c
  obtain ⟨a0, a1⟩ := hargs c
  have H : Args m c _ _ := ⟨entry2_eq _, entry2_eq _⟩
  refine ⟨r0.trans ((Cert.LossRefIdeal.Read.val_main_v14_eq _ _).trans (Eq.trans ?_ (slopes H).symm)),
    r1.trans ((Cert.LossRefIdeal.Read.val_main_v16_eq _ _).trans (Eq.trans ?_ (total H).symm)), ra⟩
  · funext i
    rw [a0, a1]
    exact Cert.LossRefIdeal.Value.ref_slope H.hy H.hz i
  · funext i
    rw [a0, a1]
    exact Cert.LossRefIdeal.Value.ref_total H.hy H.hz i

end Cert.LossIdeal.Value
end
-- ==== Proof.Adam.Adam.lean ====
module
public import proofs.«01_k».proof.Defs
public import proofs.«01_k».proof.Proof.Gen.AdamIdeal.Value
public import proofs.«01_k».proof.Proof.Gen.AdamRefIdeal.Run
public import proofs.«01_k».proof.Proof.Gen.AdamRefIdeal.Read
public import Idealize.ShloMosaic.Lib.Pipeline.ValueKit
@[expose] public section
set_option maxRecDepth 16384
noncomputable section
open Idealize.ShloMosaic Idealize.ShloMosaic.TcCoe Idealize.SL.Sem

/-! # The optimiser's step on a packed array: the update and the two moments -/
namespace Cert.AdamIdeal.Value
open Cert.AdamIdeal Cert.AdamIdeal.Gen

/-- The first moment, of a gradient and the moment before. -/
def moment (g a : EReal) : EReal := Ideal.ofBits .f32 0x3F666666#32 * a + Ideal.ofBits .f32 0x3DCCCCCD#32 * g
/-- The second moment, of a gradient and the moment before. -/
def moment2 (g v : EReal) : EReal := Ideal.ofBits .f32 0x3F7FBE77#32 * v + Ideal.ofBits .f32 0x3A83126F#32 * (g * g)
/-- The update of a weight `w`: the corrected moments' quotient and the decay, times minus the rate. -/
def update (g w a v : EReal) : EReal := Ideal.ofBits .f32 0xBA83126F#32 *
  (Ideal.div (Ideal.div (moment g a) (Ideal.ofBits .f32 0x3F26BD02#32))
    (Ideal.sqrt (Ideal.div (moment2 g v) (Ideal.ofBits .f32 0x3C231ACC#32)) + Ideal.ofBits .f32 0x322BCC77#32)
    + Ideal.ofBits .f32 0x3C23D70A#32 * w)

/-- A grid point works on 32 whole rows. -/
theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The updates the call leaves. -/
theorem updates : (dats m 0 c).arrAt 4 (cfgs 0).N = fun i : S4576x128.Idx =>
    update (m ((c : Thread nD τ).loc main_arg0) i) (m ((c : Thread nD τ).loc main_arg1) i)
      (m ((c : Thread nD τ).loc main_arg2) i) (m ((c : Thread nD τ).loc main_arg3) i) := by
  refine (dats m 0 c).arrAt_eq_of_covers 4 _ (by decide +kernel) fun t ht y => ?_
  blk_simp [idx t]
  rw [after0_4]
  unfold out0_4
  idx_vars y
  frame_out
  pointwise [k0_pay1, k0_pay2, k0_pay3, update, moment, moment2]
  congr 1 <;> blk_point [iblk, V, idx t]

/-- The first moments the call leaves. -/
theorem moments : (dats m 0 c).arrAt 5 (cfgs 0).N = fun i : S4576x128.Idx =>
    moment (m ((c : Thread nD τ).loc main_arg0) i) (m ((c : Thread nD τ).loc main_arg2) i) := by
  refine (dats m 0 c).arrAt_eq_of_covers 5 _ (by decide +kernel) fun t ht y => ?_
  blk_simp [idx t]
  rw [after0_5]
  unfold out0_5
  idx_vars y
  frame_out
  pointwise [k0_pay1, moment]
  blk_point [iblk, V, idx t]

/-- The second moments the call leaves. -/
theorem moments2 : (dats m 0 c).arrAt 6 (cfgs 0).N = fun i : S4576x128.Idx =>
    moment2 (m ((c : Thread nD τ).loc main_arg0) i) (m ((c : Thread nD τ).loc main_arg3) i) := by
  refine (dats m 0 c).arrAt_eq_of_covers 6 _ (by decide +kernel) fun t ht y => ?_
  blk_simp [idx t]
  rw [after0_6]
  unfold out0_6
  idx_vars y
  frame_out
  pointwise [k0_pay2, moment2]
  blk_point [iblk, V, idx t]

end Cert.AdamIdeal.Value

namespace Cert.AdamRefIdeal.Value
open Cert.AdamRefIdeal Cert.AdamRefIdeal.Read Cert.AdamIdeal.Value

variable (g w a v : (⟨S4576x128, .f32⟩ : BufTy).Contents (Elt Ideal)) (i : S4576x128.Idx)

theorem first : val_main_v4 (F := Ideal) g a i = moment (g i) (a i) := by
  simp only [val_main_v4_apply, val_main_v3_apply, val_main_v2_apply, val_main_v1_apply, val_main_v0_apply,
    val_main_cst_apply, val_main_cst_0_apply]
  pointwise [moment]

theorem second : val_main_v10 (F := Ideal) g v i = moment2 (g i) (v i) := by
  simp only [val_main_v10_apply, val_main_v9_apply, val_main_v8_apply, val_main_v7_apply, val_main_v6_apply,
    val_main_v5_apply, val_main_cst_1_apply, val_main_cst_2_apply]
  pointwise [moment2]

theorem step : val_main_v23 (F := Ideal) g w a v i = update (g i) (w i) (a i) (v i) := by
  simp only [val_main_v23_apply, val_main_v22_apply, val_main_v21_apply, val_main_v20_apply, val_main_v19_apply,
    val_main_v18_apply, val_main_v17_apply, val_main_v16_apply, val_main_v15_apply, val_main_v14_apply, val_main_v13_apply,
    val_main_v12_apply, val_main_v11_apply, val_main_cst_3_apply, val_main_cst_4_apply, val_main_cst_5_apply,
    val_main_cst_6_apply, val_main_cst_7_apply, first, second]
  pointwise [update]

/-- The reference runs and leaves its arguments as they were. -/
theorem frame : Cert.quiescent_AdamRefIdeal := fun m ρ _ => (θ_run defs _ _).mono
  (fun r h => ⟨fun c => (h c).2.2.2, sem_eq_zero_of_no_sems (by decide) r.2⟩) (run m ρ)

end Cert.AdamRefIdeal.Value

/-- The two programs end with the same three arrays. -/
theorem Cert.AdamIdeal.Value.equal : Cert.algebraic_AdamIdeal_AdamRefIdeal := by
  intro m ρ m' ρ' _ hargs
  refine ⟨fun c => (Cert.AdamIdeal.Gen.dats m 0 c).arrAt 4 (Cert.AdamIdeal.cfgs 0).N,
    fun c => (Cert.AdamIdeal.Gen.dats m 0 c).arrAt 5 (Cert.AdamIdeal.cfgs 0).N,
    fun c => (Cert.AdamIdeal.Gen.dats m 0 c).arrAt 6 (Cert.AdamIdeal.cfgs 0).N,
    Cert.AdamIdeal.Value.run_blocks m ρ, (θ_run _ _ _).mono (fun r h c => ?_) (Cert.AdamRefIdeal.Value.run m' ρ')⟩
  obtain ⟨r0, r1, r2, ra⟩ := h c
  obtain ⟨a0, a1, a2, a3⟩ := hargs c
  refine ⟨r0.trans ((Cert.AdamRefIdeal.Read.val_main_v23_eq _ _ _ _).trans (Eq.trans ?_ (Cert.AdamIdeal.Value.updates m c).symm)),
    r1.trans ((Cert.AdamRefIdeal.Read.val_main_v4_eq _ _).trans (Eq.trans ?_ (Cert.AdamIdeal.Value.moments m c).symm)),
    r2.trans ((Cert.AdamRefIdeal.Read.val_main_v10_eq _ _).trans (Eq.trans ?_ (Cert.AdamIdeal.Value.moments2 m c).symm)), ra⟩
  all_goals
    funext i
    rw [a0]
    try rw [a1]
    try rw [a2]
    try rw [a3]
  · exact Cert.AdamRefIdeal.Value.step _ _ _ _ i
  · exact Cert.AdamRefIdeal.Value.first _ _ i
  · exact Cert.AdamRefIdeal.Value.second _ _ i
end
-- ==== Proof.Adam.AdamUp.lean ====
module
public import proofs.«01_k».proof.Defs
public import proofs.«01_k».proof.Proof.Adam.Adam
public import proofs.«01_k».proof.Proof.Gen.AdamUpIdeal.Value
public import proofs.«01_k».proof.Proof.Gen.AdamUpRefIdeal.Run
public import proofs.«01_k».proof.Proof.Gen.AdamUpRefIdeal.Read
public import Idealize.ShloMosaic.Lib.Pipeline.ValueKit
@[expose] public section
set_option maxRecDepth 16384
noncomputable section
open Idealize.ShloMosaic Idealize.ShloMosaic.TcCoe Idealize.SL.Sem

/-! # The optimiser's step on one layer of a large parameter: the other layers of the stacks stay -/
namespace Cert.AdamUpIdeal.Value
open Cert.AdamUpIdeal Cert.AdamUpIdeal.Gen Cert.AdamIdeal.Value

/-- The place of an element of the stack within its layer. -/
def spot (i : S4x2048x2816.Idx) : S2048x2816.Idx := fun a => match a with
  | ⟨0, _⟩ => ⟨(i 1).val, (i 1).isLt⟩
  | ⟨1, _⟩ => ⟨(i 2).val, (i 2).isLt⟩
/-- The gradient of an element: the sum of the two halves. -/
def grad (p q : Vec Ideal S2048x2816 .bf16) (i : S4x2048x2816.Idx) : EReal := p (spot i) + q (spot i)

/-- A grid point works on 256 rows and half of the columns, in the first layer of the stacks. -/
theorem idx : ∀ t : Fin cfg0.N, win0_0.index t = ![t.val / 2, t.val % 2] ∧ win0_1.index t = ![t.val / 2, t.val % 2] ∧
    win0_2.index t = ![0, t.val / 2, t.val % 2] ∧ win0_3.index t = ![0, t.val / 2, t.val % 2] ∧
    win0_4.index t = ![0, t.val / 2, t.val % 2] ∧ win0_5.index t = ![0, t.val / 2, t.val % 2] ∧
    win0_6.index t = ![0, t.val / 2, t.val % 2] ∧ win0_7.index t = ![0, t.val / 2, t.val % 2] ∧
    win0_8.index t = ![0, t.val / 2, t.val % 2] :=
  (by decide +kernel : ∀ t : Fin grid0.N, _)

/-- Row `y1` and column `y2` of the block of the grid point `t` is the element `i` of the first layer. -/
def Within (t : Fin cfg0.N) (y1 : Fin 256) (y2 : Fin 1408) (i : S4x2048x2816.Idx) : Prop :=
  (i 0).val = 0 ∧ (i 1).val = 256 * (t.val / 2) + y1.val ∧ (i 2).val = 1408 * (t.val % 2) + y2.val

variable (m : (ℓ : Loc nD τ sig) → Buf (Elt Ideal) ℓ) (c : Dev nD)
variable {t : Fin cfg0.N} {y1 : Fin 256} {y2 : Fin 1408} {i : S4x2048x2816.Idx}

theorem own (h : Within t y1 y2 i) : iblk m c 0 t (ix2 y1 y2) = m ((c : Thread nD τ).loc main_arg0) (spot i) := by
  unfold iblk; entry_read; blk_ext [spot, idx t, h.2.1, h.2.2]
theorem sibling (h : Within t y1 y2 i) : iblk m c 1 t (ix2 y1 y2) = m ((c : Thread nD τ).loc main_arg1) (spot i) := by
  unfold iblk; entry_read; blk_ext [spot, idx t, h.2.1, h.2.2]
theorem weight (h : Within t y1 y2 i) : iblk m c 2 t (ix3 0 y1 y2) = m ((c : Thread nD τ).loc main_arg2) i := by
  unfold iblk; entry_read; blk_ext [idx t, h.1, h.2.1, h.2.2]
theorem before (h : Within t y1 y2 i) : iblk m c 3 t (ix3 0 y1 y2) = m ((c : Thread nD τ).loc main_arg3) i := by
  unfold iblk; entry_read; blk_ext [idx t, h.1, h.2.1, h.2.2]
theorem before2 (h : Within t y1 y2 i) : iblk m c 4 t (ix3 0 y1 y2) = m ((c : Thread nD τ).loc main_arg4) i := by
  unfold iblk; entry_read; blk_ext [idx t, h.1, h.2.1, h.2.2]

/-- The gradients the call leaves. -/
theorem gradients : (dats m 0 c).arrAt 5 (cfgs 0).N = fun i : S4x2048x2816.Idx =>
    if (i 0).val = 0 then grad (m ((c : Thread nD τ).loc main_arg0)) (m ((c : Thread nD τ).loc main_arg1)) i
      else m ((c : Thread nD τ).loc main_arg5) i := by
  refine (dats m 0 c).arrAt_eq_of_coversWhere_of_agree 5 _ (fun β => β (0 : Fin _) = 0) (by decide +kernel)
    (fun t hf y => ?_) (fun j hj => ?_)
  · blk_simp [idx t]
    rw [after0_5]
    unfold outsAt0
    idx_vars y
    frame_out
    have h : Within t y1 y2 (((View.whole main_v0_0).slice (win0_5.rect t)).emb (ix3 y0 y1 y2)) := by
      refine ⟨?_, ?_, ?_⟩ <;> blk_simp [idx t] <;> omega
    pointwise [k0_pay1, k0_pay5]
    rw [own m c h, sibling m c h]
    rfl
  · blk_simp [Pipeline.Window.cell_apply] at hj
    rw [A_eq m c 5]
    entry_read
    exact (if_neg fun h : (j 0).val = 0 => hj (by rw [h])).symm

/-- The updates the call leaves. -/
theorem updates : (dats m 0 c).arrAt 6 (cfgs 0).N = fun i : S4x2048x2816.Idx =>
    if (i 0).val = 0 then update (grad (m ((c : Thread nD τ).loc main_arg0)) (m ((c : Thread nD τ).loc main_arg1)) i)
      (m ((c : Thread nD τ).loc main_arg2) i) (m ((c : Thread nD τ).loc main_arg3) i) (m ((c : Thread nD τ).loc main_arg4) i)
      else m ((c : Thread nD τ).loc main_arg6) i := by
  refine (dats m 0 c).arrAt_eq_of_coversWhere_of_agree 6 _ (fun β => β (0 : Fin _) = 0) (by decide +kernel)
    (fun t hf y => ?_) (fun j hj => ?_)
  · blk_simp [idx t]
    rw [after0_6]
    unfold outsAt0
    idx_vars y
    frame_out
    have h : Within t y1 y2 (((View.whole main_v0_1).slice (win0_6.rect t)).emb (ix3 y0 y1 y2)) := by
      refine ⟨?_, ?_, ?_⟩ <;> blk_simp [idx t] <;> omega
    pointwise [k0_pay2, k0_pay5, k0_pay6, k0_pay7, k0_pay8]
    rw [own m c h, sibling m c h, weight m c h, before m c h, before2 m c h]
    rfl
  · blk_simp [Pipeline.Window.cell_apply] at hj
    rw [A_eq m c 6]
    entry_read
    exact (if_neg fun h : (j 0).val = 0 => hj (by rw [h])).symm

/-- The first moments the call leaves. -/
theorem moments : (dats m 0 c).arrAt 7 (cfgs 0).N = fun i : S4x2048x2816.Idx =>
    if (i 0).val = 0 then moment (grad (m ((c : Thread nD τ).loc main_arg0)) (m ((c : Thread nD τ).loc main_arg1)) i)
      (m ((c : Thread nD τ).loc main_arg3) i) else m ((c : Thread nD τ).loc main_arg7) i := by
  refine (dats m 0 c).arrAt_eq_of_coversWhere_of_agree 7 _ (fun β => β (0 : Fin _) = 0) (by decide +kernel)
    (fun t hf y => ?_) (fun j hj => ?_)
  · blk_simp [idx t]
    rw [after0_7]
    unfold outsAt0
    idx_vars y
    frame_out
    have h : Within t y1 y2 (((View.whole main_v0_2).slice (win0_7.rect t)).emb (ix3 y0 y1 y2)) := by
      refine ⟨?_, ?_, ?_⟩ <;> blk_simp [idx t] <;> omega
    pointwise [k0_pay3, k0_pay5, k0_pay6]
    rw [own m c h, sibling m c h, before m c h]
    rfl
  · blk_simp [Pipeline.Window.cell_apply] at hj
    rw [A_eq m c 7]
    entry_read
    exact (if_neg fun h : (j 0).val = 0 => hj (by rw [h])).symm

/-- The second moments the call leaves. -/
theorem moments2 : (dats m 0 c).arrAt 8 (cfgs 0).N = fun i : S4x2048x2816.Idx =>
    if (i 0).val = 0 then moment2 (grad (m ((c : Thread nD τ).loc main_arg0)) (m ((c : Thread nD τ).loc main_arg1)) i)
      (m ((c : Thread nD τ).loc main_arg4) i) else m ((c : Thread nD τ).loc main_arg8) i := by
  refine (dats m 0 c).arrAt_eq_of_coversWhere_of_agree 8 _ (fun β => β (0 : Fin _) = 0) (by decide +kernel)
    (fun t hf y => ?_) (fun j hj => ?_)
  · blk_simp [idx t]
    rw [after0_8]
    unfold outsAt0
    idx_vars y
    frame_out
    have h : Within t y1 y2 (((View.whole main_v0_3).slice (win0_8.rect t)).emb (ix3 y0 y1 y2)) := by
      refine ⟨?_, ?_, ?_⟩ <;> blk_simp [idx t] <;> omega
    pointwise [k0_pay4, k0_pay5, k0_pay7]
    rw [own m c h, sibling m c h, before2 m c h]
    rfl
  · blk_simp [Pipeline.Window.cell_apply] at hj
    rw [A_eq m c 8]
    entry_read
    exact (if_neg fun h : (j 0).val = 0 => hj (by rw [h])).symm
end Cert.AdamUpIdeal.Value

namespace Cert.AdamUpRefIdeal.Value
open Cert.AdamUpRefIdeal Cert.AdamUpRefIdeal.Read Cert.AdamUpRefIdeal.Gen Cert.AdamIdeal.Value
open Cert.AdamUpIdeal.Value (spot grad)

variable (p q : Vec Ideal S2048x2816 .bf16) (w a v s : Vec Ideal S4x2048x2816 .f32) (i : S4x2048x2816.Idx)

/-- A new first layer before the three other layers of a stack. -/
theorem joined (x : Vec Ideal S1x2048x2816 .f32) (y : Vec Ideal S3x2048x2816 .f32) (j : S2048x2816.Idx → EReal)
    (hx : ∀ k : S1x2048x2816.Idx, x k = j (idx_main_v33 k)) (hy : ∀ k : S3x2048x2816.Idx, y k = s (idx_main_v34 k)) :
    concatenate S4x2048x2816 0 [⟨S1x2048x2816, x⟩, ⟨S3x2048x2816, y⟩] concatenates_S1x2048x2816_S3x2048x2816_S4x2048x2816_d0 i
      = if (i 0).val = 0 then j (spot i) else s i := by
  split
  · next h =>
    refine (concatenate_pair_apply_left (t := S4x2048x2816) (s₁ := S1x2048x2816) (s₂ := S3x2048x2816) 0 _ _
      concatenates_S1x2048x2816_S3x2048x2816_S4x2048x2816_d0 i rfl (fun b => match b with
        | ⟨0, _⟩ => ⟨0, Nat.one_pos⟩
        | ⟨1, _⟩ => ⟨(i 1).val, (i 1).isLt⟩
        | ⟨2, _⟩ => ⟨(i 2).val, (i 2).isLt⟩) fun b => match b with
        | ⟨0, _⟩ => h.symm
        | ⟨1, _⟩ => rfl
        | ⟨2, _⟩ => rfl).trans ((hx _).trans (congrArg j ?_))
    funext b
    match b with
    | ⟨0, _⟩ => rfl
    | ⟨1, _⟩ => rfl
  · next h =>
    have h0 : (i 0).val < 4 := (i 0).isLt
    refine (concatenate_pair_apply_right (t := S4x2048x2816) (s₁ := S1x2048x2816) (s₂ := S3x2048x2816) 0 _ _
      concatenates_S1x2048x2816_S3x2048x2816_S4x2048x2816_d0 i rfl rfl (fun b => match b with
        | ⟨0, _⟩ => ⟨(i 0).val - 1, by show (i 0).val - 1 < 3; omega⟩
        | ⟨1, _⟩ => ⟨(i 1).val, (i 1).isLt⟩
        | ⟨2, _⟩ => ⟨(i 2).val, (i 2).isLt⟩) (fun b hb => match b with
        | ⟨0, _⟩ => absurd rfl hb
        | ⟨1, _⟩ => rfl
        | ⟨2, _⟩ => rfl) (by show (i 0).val - 1 + 1 = (i 0).val; omega)).trans ((hy _).trans (congrArg s ?_))
    funext b
    match b with
    | ⟨0, _⟩ => exact Fin.ext (by show 1 + ((i 0).val - 1) = (i 0).val; omega)
    | ⟨1, _⟩ => rfl
    | ⟨2, _⟩ => rfl

/-- The element of the first layer at a place. -/
def top (k : S2048x2816.Idx) : S4x2048x2816.Idx := fun b => match b with
  | ⟨0, _⟩ => ⟨0, by show 0 < 4; omega⟩
  | ⟨1, _⟩ => ⟨(k 0).val, (k 0).isLt⟩
  | ⟨2, _⟩ => ⟨(k 1).val, (k 1).isLt⟩

theorem layer_w (k : S2048x2816.Idx) : val_main_v4 (F := Ideal) w k = w (top k) := by
  rw [val_main_v4_apply, val_main_v3_apply]
  have h0 : (k 0).val < 2048 := (k 0).isLt
  have h1 : (k 1).val < 2816 := (k 1).isLt
  refine congrArg w (funext fun b => ?_)
  match b with
  | ⟨0, _⟩ => rfl
  | ⟨1, _⟩ => exact Fin.ext (by show ((k 0).val * 2816 + (k 1).val) / 2816 % 2048 = (k 0).val; omega)
  | ⟨2, _⟩ => exact Fin.ext (by show ((k 0).val * 2816 + (k 1).val) % 2816 = (k 1).val; omega)
theorem layer_a (k : S2048x2816.Idx) : val_main_v6 (F := Ideal) a k = a (top k) := layer_w a k
theorem layer_v (k : S2048x2816.Idx) : val_main_v8 (F := Ideal) v k = v (top k) := layer_w v k

/-- In the first layer, the element at an element's place is the element. -/
theorem top_spot (h : (i 0).val = 0) : top (spot i) = i := funext fun b => match b with
  | ⟨0, _⟩ => Fin.ext h.symm
  | ⟨1, _⟩ => rfl
  | ⟨2, _⟩ => rfl

theorem summed (k : S2048x2816.Idx) : val_main_v2 (F := Ideal) p q k = p k + q k := by
  simp only [val_main_v2_apply, val_main_v1_apply, val_main_v0_apply]
  pointwise

theorem first (k : S2048x2816.Idx) : val_main_v13 (F := Ideal) p q a k = moment (p k + q k) (a (top k)) := by
  simp only [val_main_v13_apply, val_main_v12_apply, val_main_v11_apply, val_main_v10_apply, val_main_v9_apply,
    val_main_cst_apply, val_main_cst_0_apply, summed, layer_a]
  pointwise [moment]

theorem second (k : S2048x2816.Idx) : val_main_v19 (F := Ideal) p q v k = moment2 (p k + q k) (v (top k)) := by
  simp only [val_main_v19_apply, val_main_v18_apply, val_main_v17_apply, val_main_v16_apply, val_main_v15_apply,
    val_main_v14_apply, val_main_cst_1_apply, val_main_cst_2_apply, summed, layer_v]
  pointwise [moment2]

theorem step (k : S2048x2816.Idx) : val_main_v32 (F := Ideal) p q w a v k
    = update (p k + q k) (w (top k)) (a (top k)) (v (top k)) := by
  simp only [val_main_v32_apply, val_main_v31_apply, val_main_v30_apply, val_main_v29_apply, val_main_v28_apply,
    val_main_v27_apply, val_main_v26_apply, val_main_v25_apply, val_main_v24_apply, val_main_v23_apply, val_main_v22_apply,
    val_main_v21_apply, val_main_v20_apply, val_main_cst_3_apply, val_main_cst_4_apply, val_main_cst_5_apply,
    val_main_cst_6_apply, val_main_cst_7_apply, first, second, layer_w]
  pointwise [update]

theorem entry_g : val_main_v35 (F := Ideal) p q s i = if (i 0).val = 0 then grad p q i else s i :=
  joined s i _ _ (fun k => p k + q k) (fun k => (val_main_v33_apply p q k).trans (summed p q _)) (val_main_v34_apply s)
theorem entry_d : val_main_v38 (F := Ideal) p q w a v s i
    = if (i 0).val = 0 then update (grad p q i) (w i) (a i) (v i) else s i := by
  refine (joined s i _ _ (fun k => update (p k + q k) (w (top k)) (a (top k)) (v (top k)))
    (fun k => (val_main_v36_apply p q w a v k).trans (step p q w a v _)) (val_main_v37_apply s)).trans
    (if_ctx_congr Iff.rfl (fun h => ?_) fun _ => rfl)
  rw [top_spot i h]; rfl
theorem entry_m : val_main_v41 (F := Ideal) p q a s i = if (i 0).val = 0 then moment (grad p q i) (a i) else s i := by
  refine (joined s i _ _ (fun k => moment (p k + q k) (a (top k)))
    (fun k => (val_main_v39_apply p q a k).trans (first p q a _)) (val_main_v40_apply s)).trans
    (if_ctx_congr Iff.rfl (fun h => ?_) fun _ => rfl)
  rw [top_spot i h]; rfl
theorem entry_v : val_main_v44 (F := Ideal) p q v s i = if (i 0).val = 0 then moment2 (grad p q i) (v i) else s i := by
  refine (joined s i _ _ (fun k => moment2 (p k + q k) (v (top k)))
    (fun k => (val_main_v42_apply p q v k).trans (second p q v _)) (val_main_v43_apply s)).trans
    (if_ctx_congr Iff.rfl (fun h => ?_) fun _ => rfl)
  rw [top_spot i h]; rfl

/-- The reference runs and leaves its arguments as they were. -/
theorem frame : Cert.quiescent_AdamUpRefIdeal := fun m ρ _ => (θ_run defs _ _).mono
  (fun r h => ⟨fun c => (h c).2.2.2.2, sem_eq_zero_of_no_sems (by decide) r.2⟩) (run m ρ)

end Cert.AdamUpRefIdeal.Value

/-- The two programs end with the same four stacks. -/
theorem Cert.AdamUpIdeal.Value.equal : Cert.algebraic_AdamUpIdeal_AdamUpRefIdeal := by
  intro m ρ m' ρ' _ hargs
  refine ⟨fun c => (Cert.AdamUpIdeal.Gen.dats m 0 c).arrAt 5 (Cert.AdamUpIdeal.cfgs 0).N,
    fun c => (Cert.AdamUpIdeal.Gen.dats m 0 c).arrAt 6 (Cert.AdamUpIdeal.cfgs 0).N,
    fun c => (Cert.AdamUpIdeal.Gen.dats m 0 c).arrAt 7 (Cert.AdamUpIdeal.cfgs 0).N,
    fun c => (Cert.AdamUpIdeal.Gen.dats m 0 c).arrAt 8 (Cert.AdamUpIdeal.cfgs 0).N,
    Cert.AdamUpIdeal.Value.run_blocks m ρ, (θ_run _ _ _).mono (fun r h c => ?_) (Cert.AdamUpRefIdeal.Value.run m' ρ')⟩
  obtain ⟨r0, r1, r2, r3, ra⟩ := h c
  obtain ⟨a0, a1, a2, a3, a4, a5, a6, a7, a8⟩ := hargs c
  refine ⟨r0.trans ((Cert.AdamUpRefIdeal.Read.val_main_v35_eq _ _ _).trans (Eq.trans ?_ (Cert.AdamUpIdeal.Value.gradients m c).symm)),
    r1.trans ((Cert.AdamUpRefIdeal.Read.val_main_v38_eq _ _ _ _ _ _).trans (Eq.trans ?_ (Cert.AdamUpIdeal.Value.updates m c).symm)),
    r2.trans ((Cert.AdamUpRefIdeal.Read.val_main_v41_eq _ _ _ _).trans (Eq.trans ?_ (Cert.AdamUpIdeal.Value.moments m c).symm)),
    r3.trans ((Cert.AdamUpRefIdeal.Read.val_main_v44_eq _ _ _ _).trans (Eq.trans ?_ (Cert.AdamUpIdeal.Value.moments2 m c).symm)), ra⟩ <;>
    funext i
  · rw [← a0, ← a1, ← a5]; exact Cert.AdamUpRefIdeal.Value.entry_g _ _ _ i
  · rw [← a0, ← a1, ← a2, ← a3, ← a4, ← a6]; exact Cert.AdamUpRefIdeal.Value.entry_d _ _ _ _ _ _ i
  · rw [← a0, ← a1, ← a3, ← a7]; exact Cert.AdamUpRefIdeal.Value.entry_m _ _ _ _ i
  · rw [← a0, ← a1, ← a4, ← a8]; exact Cert.AdamUpRefIdeal.Value.entry_v _ _ _ _ i
end
-- ==== Proof.Pool.Sums.lean ====
module
public import Idealize.ShloMosaic.Lib.Pipeline.ValueKit
public import Idealize.ShloMosaic.Lib.Routing.OpsOne
public import Idealize.ShloMosaic.Lib.WordCmp
public import Idealize.ShloMosaic.Lib.SortNet.Extract
@[expose] public section
noncomputable section
open Idealize.ShloMosaic Idealize.ShloMosaic.Routing ValueIdx

/-!
# Running sums and window sums of finite columns
-/
namespace Pool

/-- Adding up finite values one after another. -/
theorem foldl_coe {ι : Type} (l : List ι) (g : ι → EReal) (f : ι → ℝ) (hg : ∀ a, g a = (f a : EReal)) (v : ℝ) :
    l.foldl (fun r n => r + g n) (v : EReal) = ((v + (l.map f).sum : ℝ) : EReal) := by
  induction l generalizing v with
  | nil => simp
  | cons a l ih => rw [List.foldl_cons, hg, ← EReal.coe_add, ih, List.map_cons, List.sum_cons, add_assoc]

/-- A sum down a column of the shape that a window has. -/
theorem sum_col {R : ℕ} (f : ℕ → ℝ) :
    ((List.finRange (shape2 R 1).numel).map fun n => f n.val).sum = ∑ n ∈ Finset.range R, f n := by
  rw [← Fin.sum_univ_def, Fin.sum_univ_eq_sum_range f, numel_col]

/-- The rows of a window that is as long as the column and ends at row `j`. -/
theorem sum_upto (p : ℕ → ℝ) (N j : ℕ) (h : j ≤ N) :
    ∑ n ∈ Finset.range (N + 1), (if N ≤ j + n then p (j + n - N) else 0) = ∑ k ∈ Finset.range (j + 1), p k := by
  obtain ⟨s, rfl⟩ := Nat.exists_eq_add_of_le h
  rw [show j + s + 1 = s + (j + 1) by omega, Finset.sum_range_add,
    Finset.sum_eq_zero fun n hn => if_neg (by rw [Finset.mem_range] at hn; omega), zero_add]
  refine Finset.sum_congr rfl fun n hn => ?_
  rw [if_pos (by omega), show j + (s + n) - (j + s) = n by omega]

/-- The rows of a window that is as long as the column and begins at row `j`. -/
theorem sum_from (p : ℕ → ℝ) (N j : ℕ) (h : j ≤ N) :
    ∑ n ∈ Finset.range N, (if j + n < N then p (j + n) else 0) = ∑ k ∈ Finset.range (N - j), p (j + k) := by
  obtain ⟨s, rfl⟩ := Nat.exists_eq_add_of_le h
  rw [show j + s - j = s by omega, show Finset.range (j + s) = Finset.range (s + j) by rw [add_comm],
    Finset.sum_range_add, Finset.sum_eq_zero (s := Finset.range j) fun n hn => if_neg (by omega), add_zero]
  exact Finset.sum_congr rfl fun n hn => if_pos (by rw [Finset.mem_range] at hn; omega)

/-- A running sum from the first row on. -/
theorem cumsum {R Rm1 C : ℕ} (hR : Rm1 + 1 = R) (x : FVec Ideal (shape2 R C) .f32) (p : ℕ → ℕ → ℝ)
    (hx : ∀ i, x i = (p (i 0).val (i 1).val : EReal)) (init : FVec Ideal shape0 .f32) (hinit : ∀ i, init i = 0)
    (h : (shape2 R C).ReduceWindows (![R, 1] : Fin 2 → ℕ) ![1, 1] ![Rm1, 0] ![0, 0] (shape2 R C))
    (hu : 0 < shape0.numel) (i : (shape2 R C).Idx) :
    Host.reduceWindowAdd (F := Ideal) ![R, 1] ![1, 1] ![Rm1, 0] ![0, 0] x init h hu i
      = ((∑ k ∈ Finset.range ((i 0).val + 1), p k (i 1).val : ℝ) : EReal) := by
  subst hR
  have h0 : (i 0).val < Rm1 + 1 := (i 0).isLt
  have h1 : (i 1).val < C := (i 1).isLt
  show Host.reduceWindow (· + ·) _ _ _ _ x _ h _ i = _
  unfold Host.reduceWindow
  refine Eq.trans (congrArg (fun v => List.foldl _ v _) ((hinit _).trans EReal.coe_zero.symm)) ((foldl_coe _ _
    (fun n => (fun n => if Rm1 ≤ (i 0).val + n then p ((i 0).val + n - Rm1) (i 1).val else 0) n.val) (fun n => ?_) 0).trans ?_)
  · have hw0 : ((shape2 (Rm1 + 1) 1).rowMajor.symm n 0).val = n.val := by rw [symm_col]; rfl
    have hw1 : ((shape2 (Rm1 + 1) 1).rowMajor.symm n 1).val = 0 := by rw [symm_col]; rfl
    have hn : n.val < Rm1 + 1 := (n.cast (numel_col _)).isLt
    dsimp only
    split
    · next hin =>
      have q := hin 0
      change Rm1 ≤ (i 0).val * 1 + ((shape2 (Rm1 + 1) 1).rowMajor.symm n 0).val ∧ _ at q
      rw [hw0] at q
      rw [if_pos (by omega), hx]
      refine congrArg₂ (fun a b => ((p a b : ℝ) : EReal)) ?_ ?_
      · show (i 0).val * 1 + ((shape2 (Rm1 + 1) 1).rowMajor.symm n 0).val - Rm1 = _
        rw [hw0, Nat.mul_one]
      · show (i 1).val * 1 + ((shape2 (Rm1 + 1) 1).rowMajor.symm n 1).val - 0 = _
        rw [hw1]; omega
    · next hin =>
      rw [if_neg fun hle => hin fun a => by
        match a with
        | ⟨0, _⟩ =>
          show Rm1 ≤ (i 0).val * 1 + ((shape2 (Rm1 + 1) 1).rowMajor.symm n 0).val
            ∧ (i 0).val * 1 + ((shape2 (Rm1 + 1) 1).rowMajor.symm n 0).val - Rm1 < Rm1 + 1
          rw [hw0]; omega
        | ⟨1, _⟩ =>
          show 0 ≤ (i 1).val * 1 + ((shape2 (Rm1 + 1) 1).rowMajor.symm n 1).val
            ∧ (i 1).val * 1 + ((shape2 (Rm1 + 1) 1).rowMajor.symm n 1).val - 0 < C
          rw [hw1]; omega]
      exact hinit _
  · refine (congrArg (fun s : ℝ => ((0 + s : ℝ) : EReal)) (sum_col (R := Rm1 + 1) fun n =>
      if Rm1 ≤ (i 0).val + n then p ((i 0).val + n - Rm1) (i 1).val else 0)).trans ?_
    rw [zero_add]
    exact congrArg _ (sum_upto (fun a => p a (i 1).val) Rm1 (i 0).val (by omega))

/-- A running sum from the last row back. -/
theorem cumsum_back {R Rm1 C : ℕ} (hR : Rm1 + 1 = R) (x : FVec Ideal (shape2 R C) .f32) (p : ℕ → ℕ → ℝ)
    (hx : ∀ i, x i = (p (i 0).val (i 1).val : EReal)) (init : FVec Ideal shape0 .f32) (hinit : ∀ i, init i = 0)
    (h : (shape2 R C).ReduceWindows (![R, 1] : Fin 2 → ℕ) ![1, 1] ![0, 0] ![Rm1, 0] (shape2 R C))
    (hu : 0 < shape0.numel) (i : (shape2 R C).Idx) :
    Host.reduceWindowAdd (F := Ideal) ![R, 1] ![1, 1] ![0, 0] ![Rm1, 0] x init h hu i
      = ((∑ k ∈ Finset.range (R - (i 0).val), p ((i 0).val + k) (i 1).val : ℝ) : EReal) := by
  subst hR
  have h0 : (i 0).val < Rm1 + 1 := (i 0).isLt
  have h1 : (i 1).val < C := (i 1).isLt
  show Host.reduceWindow (· + ·) _ _ _ _ x _ h _ i = _
  unfold Host.reduceWindow
  refine Eq.trans (congrArg (fun v => List.foldl _ v _) ((hinit _).trans EReal.coe_zero.symm)) ((foldl_coe _ _
    (fun n => (fun n => if (i 0).val + n < Rm1 + 1 then p ((i 0).val + n) (i 1).val else 0) n.val) (fun n => ?_) 0).trans ?_)
  · have hw0 : ((shape2 (Rm1 + 1) 1).rowMajor.symm n 0).val = n.val := by rw [symm_col]; rfl
    have hw1 : ((shape2 (Rm1 + 1) 1).rowMajor.symm n 1).val = 0 := by rw [symm_col]; rfl
    dsimp only
    split
    · next hin =>
      have q := hin 0
      change _ ∧ (i 0).val * 1 + ((shape2 (Rm1 + 1) 1).rowMajor.symm n 0).val - 0 < Rm1 + 1 at q
      rw [hw0] at q
      rw [if_pos (by omega), hx]
      refine congrArg₂ (fun a b => ((p a b : ℝ) : EReal)) ?_ ?_
      · show (i 0).val * 1 + ((shape2 (Rm1 + 1) 1).rowMajor.symm n 0).val - 0 = _
        rw [hw0]; omega
      · show (i 1).val * 1 + ((shape2 (Rm1 + 1) 1).rowMajor.symm n 1).val - 0 = _
        rw [hw1]; omega
    · next hin =>
      rw [if_neg fun hle => hin fun a => by
        match a with
        | ⟨0, _⟩ =>
          show 0 ≤ (i 0).val * 1 + ((shape2 (Rm1 + 1) 1).rowMajor.symm n 0).val
            ∧ (i 0).val * 1 + ((shape2 (Rm1 + 1) 1).rowMajor.symm n 0).val - 0 < Rm1 + 1
          rw [hw0]; omega
        | ⟨1, _⟩ =>
          show 0 ≤ (i 1).val * 1 + ((shape2 (Rm1 + 1) 1).rowMajor.symm n 1).val
            ∧ (i 1).val * 1 + ((shape2 (Rm1 + 1) 1).rowMajor.symm n 1).val - 0 < C
          rw [hw1]; omega]
      exact hinit _
  · refine (congrArg (fun s : ℝ => ((0 + s : ℝ) : EReal)) (sum_col (R := Rm1 + 1) fun n =>
      if (i 0).val + n < Rm1 + 1 then p ((i 0).val + n) (i 1).val else 0)).trans ?_
    rw [zero_add]
    exact congrArg _ (sum_from (fun a => p a (i 1).val) (Rm1 + 1) (i 0).val (by omega))

/-- A column with sixteen zeros before its first row. -/
def led (p : ℕ → ℕ → ℝ) (n c : ℕ) : ℝ := if 16 ≤ n then p (n - 16) c else 0

/-- The sum of row `n` and the `w - 1` rows before it. -/
def run (p : ℕ → ℕ → ℝ) (w n c : ℕ) : ℝ := ∑ k ∈ Finset.range w, p (n - k) c

/-- A window twice as long is two windows. -/
theorem run_double (p : ℕ → ℕ → ℝ) (w n c : ℕ) : run p (w + w) n c = run p w n c + run p w (n - w) c := by
  simp only [run, Finset.sum_range_add, Nat.sub_sub]

/-- A window is a difference of running sums. -/
theorem run_led (p : ℕ → ℕ → ℝ) (w t c : ℕ) (hw : w ≤ 16) : run (led p) w (t + 16) c
    = ∑ k ∈ Finset.range (t + 1), p k c - ∑ k ∈ Finset.range (t + 1 - w), p k c := by
  induction w with
  | zero => simp [run]
  | succ w ih =>
    rw [run, Finset.sum_range_succ, ← run, ih (by omega), led]
    by_cases h : w ≤ t
    · obtain ⟨s, rfl⟩ := Nat.exists_eq_add_of_le h
      rw [if_pos (by omega), show w + s + 1 - w = s + 1 by omega, show w + s + 1 - (w + 1) = s by omega,
        show w + s + 16 - w - 16 = s by omega, Finset.sum_range_succ _ s]
      ring
    · rw [if_neg (by omega), show t + 1 - w = 0 by omega, show t + 1 - (w + 1) = 0 by omega, add_zero]

/-- A small natural number as a word, as a float. -/
theorem word {n : ℕ} (h : n < 2 ^ 31) : FloatOps.sitofp (F := Ideal) .f32 (BitVec.ofNat 32 n) = ((n : ℝ) : EReal) := by
  show (((BitVec.ofNat 32 n).toInt : ℝ) : EReal) = _
  rw [WordCmp.toInt_ofNat_of_lt (w := 32) h, Int.cast_natCast]

/-- The mean of a window less the row itself, the window counted as no longer than the column so far. -/
def mean (x p : ℝ) (n w : ℕ) : ℝ := x * (1 / ((min n w : ℕ) : ℝ)) - p

theorem mean_eq (x p : ℝ) {n w : ℕ} (hn : 0 < n) (hw : 0 < w) :
    Ideal.div (x : EReal) (min ((n : ℝ) : EReal) ((w : ℝ) : EReal)) - (p : EReal) = ((mean x p n w : ℝ) : EReal) := by
  have e : min ((n : ℝ) : EReal) ((w : ℝ) : EReal) = (((min n w : ℕ) : ℝ) : EReal) := by
    rw [Nat.cast_min]
    exact (EReal.coe_strictMono.monotone.map_min).symm
  have h : ((min n w : ℕ) : ℝ) ≠ 0 := by exact_mod_cast (Nat.lt_min.2 ⟨hn, hw⟩).ne'
  rw [e, Ideal.div_coe h, ← EReal.coe_mul, ← EReal.coe_sub, mean]

theorem two : Ideal.ofBits .f32 0x40000000#32 = (((2 : ℕ) : ℝ) : EReal) := by
  simp [Ideal.ofBits, Ideal.ieee, -EReal.coe_mul]; norm_num
theorem four : Ideal.ofBits .f32 0x40800000#32 = (((4 : ℕ) : ℝ) : EReal) := by
  simp [Ideal.ofBits, Ideal.ieee, -EReal.coe_mul]; norm_num
theorem eight : Ideal.ofBits .f32 0x41000000#32 = (((8 : ℕ) : ℝ) : EReal) := by
  simp [Ideal.ofBits, Ideal.ieee, -EReal.coe_mul]; norm_num
theorem sixteen : Ideal.ofBits .f32 0x41800000#32 = (((16 : ℕ) : ℝ) : EReal) := by
  simp [Ideal.ofBits, Ideal.ieee, -EReal.coe_mul]; norm_num

/-- The window of a column: two rows in the first group of columns, and twice as many in each next one. -/
def window (c : ℕ) : ℕ := 2 ^ (c / 256 + 1)

theorem window_le {c : ℕ} (h : c < 1024) : window c ≤ 16 :=
  (Nat.pow_le_pow_right (by omega) (by omega : c / 256 + 1 ≤ 4)).trans (by norm_num)

/-- A column of the pooling: the mean of the rows of its window, less the row itself. -/
def pooled (p : ℕ → ℕ → ℝ) (t c : ℕ) : ℝ := mean (run (led p) (window c) (t + 16) c) (p t c) (t + 1) (window c)

/-- The length of a window cut at the first row, counted in words. -/
theorem count {t w : ℕ} (ht : t < 4096) (hw : w ≤ 16) :
    FloatOps.sitofp (F := Ideal) .f32 (IntOp.minsi (IntOp.addi 1#32 (BitVec.ofNat 32 t)) (BitVec.ofNat 32 w))
      = (((min (t + 1) w : ℕ) : ℝ) : EReal) := by
  have e : IntOp.addi 1#32 (BitVec.ofNat 32 t) = BitVec.ofNat 32 (t + 1) := by
    rw [add_comm t 1, BitVec.ofNat_add]
    rfl
  show (((IntOp.minsi _ _).toInt : ℝ) : EReal) = _
  rw [SortNet.toInt_minsi, e, WordCmp.toInt_ofNat_of_lt (w := 32) (a := t + 1) (by omega),
    WordCmp.toInt_ofNat_of_lt (w := 32) (a := w) (by omega), ← Nat.cast_min, Int.cast_natCast]

/-- A pooled entry from running sums. -/
theorem pooled_sums (p : ℕ → ℕ → ℝ) {t a n w : ℕ} (ht : t < 4096) (ha : a < 1024) (hn : n = t + 1 - w)
    (hw : w = window a) :
    Ideal.div (((∑ k ∈ Finset.range (t + 1), p k a : ℝ) : EReal) - ((∑ k ∈ Finset.range n, p k a : ℝ) : EReal))
      (FloatOps.sitofp (F := Ideal) .f32 (IntOp.minsi (IntOp.addi 1#32 (BitVec.ofNat 32 t)) (BitVec.ofNat 32 w)))
      - ((p t a : ℝ) : EReal) = ((pooled p t a : ℝ) : EReal) := by
  subst hn hw
  have h1 : 1 ≤ window a := Nat.one_le_two_pow
  have h : ((min (t + 1) (window a) : ℕ) : ℝ) ≠ 0 := by
    exact_mod_cast (Nat.lt_min.2 ⟨Nat.succ_pos t, h1⟩).ne'
  rw [count ht (window_le ha), ← EReal.coe_sub, Ideal.div_coe h, ← EReal.coe_mul, ← EReal.coe_sub,
    ← run_led p _ t a (window_le ha), pooled, mean]

/-- A pooled row times a column of its group's weights. -/
def grouped (p : ℕ → ℕ → ℝ) (w : ℕ → ℕ → ℕ → EReal) (t a : ℕ) : EReal :=
  ∑ k : Fin 256, ((pooled p t (256 * (a / 256) + k) : ℝ) : EReal) * w (a / 256) k (a % 256)

/-- The columns of a group have one window. -/
theorem window_group (a : ℕ) {k : ℕ} (h : k < 256) : window (256 * (a / 256) + k) = window a := by
  rw [window, window, show (256 * (a / 256) + k) / 256 = a / 256 by omega]

end Pool
end
-- ==== Proof.Sgu.Values.lean ====
module
public import proofs.«01_k».proof.Proof.Gen.KernelIdeal.Value
public import proofs.«01_k».proof.Proof.Sgu.Ideal
public import Idealize.ShloMosaic.Lib.Pipeline.ValueKit
@[expose] public section
set_option maxRecDepth 16384
noncomputable section
open Idealize.ShloMosaic Idealize.ShloMosaic.TcCoe Idealize.SL.Sem

/-!
# What the kernel's values are at one grid point

One grid point holds 256 rows of each operand.  Over finite blocks every value the body computes
before its eight heads is the real formula of the same name, and so is every value it computes after them.
-/
namespace Cert.KernelIdeal.Sgu
open Cert.KernelIdeal Cert.KernelIdeal.Gen Idealize.ShloMosaic.Ideal _root_.Sgu

/-- The named decimal of gelu is its exact value. -/
theorem named_c : Named.named (F := Ideal) (φ := .f32) κ "gelu_c" 0x3D372713#32 = ((8943 / 200000 : ℝ) : EReal) :=
  IdealRules.named_const.ideal_named_scalar κ "gelu_c" _ _ rfl
/-- The named decimal of gelu's derivative is its exact value. -/
theorem named_3c : Named.named (F := Ideal) (φ := .f32) κ "gelu_3c" 0x3E095D4F#32 = ((26829 / 200000 : ℝ) : EReal) :=
  IdealRules.named_const.ideal_named_scalar κ "gelu_3c" _ _ rfl

variable {u v d : ℕ → ℕ → ℝ} {g : ℕ → ℝ} {w : ℕ → ℕ → ℕ → ℝ} {b : ℕ → ℕ → ℝ}
variable {U V : Vec Ideal S256x1024 .f32} {D : Vec Ideal S256x1024 .bf16} {G : Vec Ideal S1x1024 .f32}
variable (hU : ∀ (r : Fin 256) (c : Fin 1024), U (ix2 r c) = ((u r c : ℝ) : EReal))
variable (hV : ∀ (r : Fin 256) (c : Fin 1024), V (ix2 r c) = ((v r c : ℝ) : EReal))
variable (hD : ∀ (r : Fin 256) (c : Fin 1024), D (ix2 r c) = ((d r c : ℝ) : EReal))
variable (hG : ∀ c : Fin 1024, G (ix2 0 c) = ((g c : ℝ) : EReal))

include hU in
theorem tanh_u (r : Fin 256) (c : Fin 1024) : k0_pay5 U (ix2 r c) = ((th (u r c) : ℝ) : EReal) := by
  pointwise [k0_pay5]
  simp only [hU, ofBits_gk, named_c, ← EReal.coe_mul, ← EReal.coe_add, tanh_coe, th]

include hU in
theorem gelu_u (r : Fin 256) (c : Fin 1024) : k0_pay6 U (ix2 r c) = ((gelu (u r c) : ℝ) : EReal) := by
  pointwise [k0_pay6]
  simp only [tanh_u hU, hU, ofBits_half, ← EReal.coe_one, ← EReal.coe_mul, ← EReal.coe_add, gelu]

include hV in
theorem tanh_v (r : Fin 256) (c : Fin 1024) : k0_pay7 V (ix2 r c) = ((th (v r c) : ℝ) : EReal) := by
  pointwise [k0_pay7]
  simp only [hV, ofBits_gk, named_c, ← EReal.coe_mul, ← EReal.coe_add, tanh_coe, th]

include hV in
theorem gelu_v (r : Fin 256) (c : Fin 1024) : k0_pay8 V (ix2 r c) = ((gelu (v r c) : ℝ) : EReal) := by
  pointwise [k0_pay8]
  simp only [tanh_v hV, hV, ofBits_half, ← EReal.coe_one, ← EReal.coe_mul, ← EReal.coe_add, gelu]

include hV in
theorem rinv_v (r : Fin 256) : k0_pay9 V (ix2 r 0) = ((rinv v r : ℝ) : EReal) := by
  pointwise [k0_pay9]
  have h : (1024 : ℝ) ≠ 0 := by norm_num
  simp only [gelu_v hV, ofBits_1024, ofBits_eps, ← EReal.coe_mul, sum_coe, div_coe h, ← EReal.coe_add]
  exact rsqrt_pos (msq_pos v r)

include hV in
theorem nrm_v (r : Fin 256) (c : Fin 1024) : k0_pay10 V (ix2 r c) = ((nrm v r c : ℝ) : EReal) := by
  pointwise [k0_pay10]
  simp only [gelu_v hV, rinv_v hV, ← EReal.coe_mul, nrm]

include hV hG in
theorem vn_v (r : Fin 256) (c : Fin 1024) :
    k0_pay12 (k0_pay10 V) G (ix2 r c) = ((vn v g r c : ℝ) : EReal) := by
  pointwise [k0_pay12, k0_pay11]
  simp only [nrm_v hV, hG, ← EReal.coe_mul, vn]

/-- The causal mask: row `t` takes column `s` when `s ≤ t`. -/
theorem mask_apply (t s : Fin 128) :
    (k0_pay14 : IVec S128x128 1) (ix2 t s) = BitVec.ofBool (decide (s.val ≤ t.val)) := by
  pointwise [k0_pay14]
  exact WordCmp.cmpi_sge_ofNat (by omega) (by omega)

include hU in
theorem du_end {X : Vec Ideal S256x1024 .f32} {x : ℕ → ℕ → ℝ} (r : Fin 256) (c : Fin 1024)
    (hX : X (ix2 r c) = ((x r c : ℝ) : EReal)) :
    k0_pay1 U (k0_pay5 U) X (FloatOps.ofBits .f32 0x3F800000#32) (ix2 r c)
      = ((x r c * dgelu (u r c) : ℝ) : EReal) := by
  pointwise [k0_pay1]
  simp only [hX, tanh_u hU, hU, ofBits_half, ofBits_gk, named_3c, ← EReal.coe_one, ← EReal.coe_mul, ← EReal.coe_sub,
    ← EReal.coe_add, dgelu]

include hV hG in
theorem dv_end {X : Vec Ideal S256x1024 .f32}
    (hX : ∀ (r : Fin 256) (c : Fin 1024), X (ix2 r c) = ((dvn u d w r c : ℝ) : EReal)) (r : Fin 256) (c : Fin 1024) :
    k0_pay165 V (k0_pay7 V) (k0_pay9 V) (k0_pay10 V) (k0_pay11 G) X (ix2 r c) = ((dv u v d g w r c : ℝ) : EReal) := by
  pointwise [k0_pay165, k0_pay11]
  have h : (1024 : ℝ) ≠ 0 := by norm_num
  simp only [hX, tanh_v hV, hV, nrm_v hV, rinv_v hV, hG, ofBits_1024, ofBits_half, ofBits_gk, named_3c, ← EReal.coe_one,
    ← EReal.coe_mul, sum_coe, div_coe h, ← EReal.coe_sub, ← EReal.coe_add, dgelu, dv, dvg, dn]

include hV in
theorem dgain_end {X : Vec Ideal S256x1024 .f32} {A : Vec Ideal S1x1024 .f32}
    (hX : ∀ (r : Fin 256) (c : Fin 1024), X (ix2 r c) = ((dvn u d w r c : ℝ) : EReal)) (c : Fin 1024) :
    k0_pay164 (k0_pay10 V) X A (ix2 0 c) = A (ix2 0 c) + ((∑ r : Fin 256, dgr u v d w r c : ℝ) : EReal) := by
  pointwise [k0_pay164]
  simp only [hX, nrm_v hV, ← EReal.coe_mul, sum_coe, dgr]

end Cert.KernelIdeal.Sgu
end
-- ==== Proof.Sgu.Tiles.lean ====
module
public import proofs.«01_k».proof.Proof.Sgu.Values
public import Idealize.ShloMosaic.Lib.Pipeline.ReadBack
@[expose] public section
set_option maxRecDepth 16384
noncomputable section
open Idealize.ShloMosaic Idealize.ShloMosaic.TcCoe Idealize.SL.Sem

/-!
# What one grid point leaves in the output blocks

The body walks eight heads of 128 columns and two chunks of 128 rows: sixteen tiles of 128 by 128.  Each
tile of the two scratch arrays holds the real formula of `mix` or `dvn`, so the blocks of `du` and `dv`
hold theirs; the three accumulated outputs grow by what the two chunks contribute.
-/
namespace Cert.KernelIdeal.Sgu
open Cert.KernelIdeal Cert.KernelIdeal.Gen Idealize.ShloMosaic.Ideal _root_.Sgu

/-- A load of the whole buffer reads the pieces written to it. -/
theorem readCov_whole {S : Shape} {e : EltTy} {Val : EltTy → Type} [∀ e, Nonempty (Val e)] {σ : RefSig} {k : Kind}
    {sp : Space} (v : View σ k sp S e) {off : Fin S.rank → Nat} (inb : ∀ a, off a + S.size a ≤ S.size a)
    (L : List (View.Piece Val S e)) (h : ∀ a, off a = 0) :
    v.readCov L (Rect.unit off (no_index S.size) inb).toLoadRect = View.canon L :=
  (View.readCov_eq_canon' v L _).trans (View.ld_unit_lit inb (View.canon L) h)

/-- The list without its second, fourth, … entry. -/
def everyOther {α : Type*} : List α → List α
  | p :: _ :: L => p :: everyOther L
  | L => L

/-- The pieces come in pairs written to one rectangle. -/
def Paired {S : Shape} {e : EltTy} {Val : EltTy → Type} : List (View.Piece Val S e) → Prop
  | p :: q :: L => p.1 = q.1 ∧ Paired L
  | _ => True

/-- Of two pieces written to one rectangle the later one stays. -/
theorem canon_everyOther {S : Shape} {e : EltTy} {Val : EltTy → Type} [∀ e, Nonempty (Val e)] (y : S.Idx) :
    ∀ L : List (View.Piece Val S e), Paired L → View.canon L y = View.canon (everyOther L) y
  | [], _ => rfl
  | [_], _ => rfl
  | ⟨r, x⟩ :: ⟨r', x'⟩ :: L, h => by
    obtain ⟨rfl, hL⟩ : r = r' ∧ Paired L := h
    show _ = View.canon (⟨r, x⟩ :: everyOther L) y
    by_cases hy : y ∈ r.set
    · obtain ⟨k, rfl⟩ := r.exists_idx_of_mem hy
      exact (View.canon_cons_emb r x _ k).trans (View.canon_cons_emb r x _ k).symm
    · rw [View.canon_cons_of_not_mem ⟨r, x⟩ _ hy, View.canon_cons_of_not_mem ⟨r, x'⟩ _ hy,
        View.canon_cons_of_not_mem ⟨r, x⟩ _ hy]
      exact canon_everyOther y L hL

/-- A first piece every index of which is written again is not read. -/
theorem canon_drop_fill {S : Shape} {e : EltTy} {Val : EltTy → Type} [∀ e, Nonempty (Val e)]
    (q : View.Piece Val S e) (y : S.Idx) : ∀ L : List (View.Piece Val S e), (∃ p ∈ L, y ∈ p.1.set) →
      View.canon (L ++ [q]) y = View.canon L y
  | [], h => by obtain ⟨p, hp, _⟩ := h; exact absurd hp List.not_mem_nil
  | p :: L, h => by
    by_cases hy : y ∈ p.1.set
    · obtain ⟨r, x⟩ := p
      obtain ⟨k, rfl⟩ := r.exists_idx_of_mem hy
      exact (View.canon_cons_emb r x _ k).trans (View.canon_cons_emb r x L k).symm
    · rw [List.cons_append, View.canon_cons_of_not_mem p _ hy, View.canon_cons_of_not_mem p _ hy]
      obtain ⟨p', hp', hy'⟩ := h
      rcases List.mem_cons.mp hp' with rfl | hp'
      · exact absurd hy' hy
      · exact canon_drop_fill q y L ⟨p', hp', hy'⟩

/-- The same for a list written out, the fill its last entry. -/
theorem canon_dropLast {S : Shape} {e : EltTy} {Val : EltTy → Type} [∀ e, Nonempty (Val e)]
    (p : View.Piece Val S e) (L : List (View.Piece Val S e)) (y : S.Idx)
    (h : ∃ q ∈ (p :: L).dropLast, y ∈ q.1.set) : View.canon (p :: L) y = View.canon (p :: L).dropLast y := by
  conv_lhs => rw [← List.dropLast_append_getLast (List.cons_ne_nil p L)]
  exact canon_drop_fill _ y _ h

/-- The causal choice: the first value where `s ≤ t`. -/
theorem causal {α : Type} (t s : Fin 128) (x y : α) :
    Scalar.select (IntOp.cmpi .sge (BitVec.ofNat 32 t.val) (BitVec.ofNat 32 s.val)) x y
      = if s.val ≤ t.val then x else y := by
  rw [WordCmp.cmpi_sge_ofNat (by omega) (by omega)]
  by_cases h : s.val ≤ t.val <;> simp [Scalar.select, h]

variable {u v d : ℕ → ℕ → ℝ} {g : ℕ → ℝ} {w : ℕ → ℕ → ℕ → ℝ} {b : ℕ → ℕ → ℝ}

/-! ## A tile's sum is the formula at the tile's rows and columns -/

theorem dug_tile {r a r' C H t : ℕ} {R : Fin 128 → ℕ} (hR : ∀ i : Fin 128, R i = at' r i) (hr : r' = r) (hC : C = a)
    (hH : H = a / 128) (ht : t = r % 128) :
    d r' C * ((∑ i : Fin 128, if i.val ≤ t then w H t i * (nrm v (R i) C * g C) else 0) + b t H)
      = d r a * mix v g w b r a := by
  subst hr hC hH ht
  simp only [hR, mix, wm, vn, ite_mul, zero_mul]

theorem dvn_tile {r a C H s : ℕ} {R : Fin 128 → ℕ} (hR : ∀ i : Fin 128, R i = at' r i) (hC : C = a)
    (hH : H = a / 128) (hs : s = r % 128) :
    (∑ i : Fin 128, if s ≤ i.val then w H i s * (d (R i) C * gelu (u (R i) C)) else 0) = dvn u d w r a := by
  subst hC hH hs
  simp only [hR, dvn, wm, ds, ite_mul, zero_mul]

theorem dbt_tile {h i i₀ i₁ : ℕ} {C : Fin 128 → ℕ} (hC : ∀ k : Fin 128, C k = 128 * h + k) (h0 : i₀ = i)
    (h1 : i₁ = 128 + i) :
    (∑ k : Fin 128, d i₀ (C k) * gelu (u i₀ (C k))) + ∑ k : Fin 128, d i₁ (C k) * gelu (u i₁ (C k))
      = dbc u d 0 i h + dbc u d 1 i h := by
  subst h0 h1
  simp only [hC, dbc, ds, Nat.mul_zero, Nat.zero_add, Nat.mul_one]

theorem dw_tile {h i i₀ i₁ j j₀ j₁ i' j' : ℕ} {C : Fin 128 → ℕ} (hC : ∀ k : Fin 128, C k = 128 * h + k) (hi : i' = i)
    (hj : j' = j) (h0 : i₀ = i) (h1 : i₁ = 128 + i) (g0 : j₀ = j) (g1 : j₁ = 128 + j) :
    (if j' ≤ i' then ∑ k : Fin 128, d i₀ (C k) * gelu (u i₀ (C k)) * (nrm v j₀ (C k) * g (C k)) else 0)
        + (if j' ≤ i' then ∑ k : Fin 128, d i₁ (C k) * gelu (u i₁ (C k)) * (nrm v j₁ (C k) * g (C k)) else 0)
      = dwc u v d g 0 h i j + dwc u v d g 1 h i j := by
  subst h0 h1 g0 g1 hi hj
  simp only [hC, dwc, ds, vn, Nat.mul_zero, Nat.zero_add, Nat.mul_one]

variable (m : (ℓ : Loc nD τ sig) → Buf (Elt Ideal) ℓ)

/-- The six input blocks of grid point `t` hold the real values `u v d g w b`. -/
structure Point (c : Dev nD) (t : Fin cfg0.N) (u v d : ℕ → ℕ → ℝ) (g : ℕ → ℝ) (w : ℕ → ℕ → ℕ → ℝ) (b : ℕ → ℕ → ℝ) :
    Prop where
  hU : ∀ (r : Fin 256) (a : Fin 1024), iblk m c 0 t (ix2 r a) = ((u r a : ℝ) : EReal)
  hV : ∀ (r : Fin 256) (a : Fin 1024), iblk m c 1 t (ix2 r a) = ((v r a : ℝ) : EReal)
  hD : ∀ (r : Fin 256) (a : Fin 1024), iblk m c 2 t (ix2 r a) = ((d r a : ℝ) : EReal)
  hG : ∀ a : Fin 1024, iblk m c 3 t (ix2 0 a) = ((g a : ℝ) : EReal)
  hW : ∀ (h : Fin 8) (i j : Fin 128), iblk m c 4 t (ix3 h i j) = ((w h i j : ℝ) : EReal)
  hB : ∀ (i : Fin 128) (h : Fin 8), iblk m c 5 t (ix2 i h) = ((b i h : ℝ) : EReal)

theorem ix3_congr {a b c : ℕ} {i i' : Fin a} {j j' : Fin b} {k k' : Fin c} (hi : i.val = i'.val) (hj : j.val = j'.val)
    (hk : k.val = k'.val) : ix3 i j k = ix3 i' j' k' := by
  rw [Fin.ext hi, Fin.ext hj, Fin.ext hk]

variable {m} {c : Dev nD} {t : Fin cfg0.N}

/-- The block of `du`. -/
theorem du_block (H : Point m c t u v d g w b) (r : Fin 256) (a : Fin 1024) :
    (outsAt0 m c t.val t.isLt).1 (ix2 r a) = ((du u v d g w b r a : ℝ) : EReal) := by
  by_cases h0 : t.val % 16 = 0
  on_goal 1 => rw [outsAt0_A m c t h0]
  on_goal 2 => rw [outsAt0_B m c t h0]
  all_goals
    dsimp only
    frame_open
    simp (disch := decide) only [↓ View.readCov_skip, ↓ View.readCov_cons_toLoadRect, ↓ View.readCov_fill]
    frame_out
    obtain ⟨hU, hV, hD, hG, hW, hB⟩ := H
    have hN := nrm_v hV
    have hA := gelu_u hU
    generalize iblk m c 0 t = U at *
    generalize iblk m c 1 t = V at *
    generalize iblk m c 2 t = D at *
    generalize iblk m c 3 t = G at *
    generalize iblk m c 4 t = W at *
    generalize iblk m c 5 t = B at *
    generalize k0_pay10 V = N at *
    refine du_end hU (x := fun r c => d r c * mix v g w b r c) r a ?_
    simp (disch := decide) only [readCov_whole]
    canon_tiles x h
    all_goals
      idx_vars x
      open_payloads
      pointwise
      simp only [hN, hA, hD, hG, hW, hB, causal, ← EReal.coe_mul, ← EReal.coe_zero, ite_coe, sum_coe, ← EReal.coe_add]
      refine congrArg _ (dug_tile ?_ ?_ ?_ ?_ ?_)
      all_goals first | omega | (intro i; simp only [at']; omega)

/-- The block of `dv`. -/
theorem dv_block (H : Point m c t u v d g w b) (r : Fin 256) (a : Fin 1024) :
    (outsAt0 m c t.val t.isLt).2.1 (ix2 r a) = ((dv u v d g w r a : ℝ) : EReal) := by
  by_cases h0 : t.val % 16 = 0
  on_goal 1 => rw [outsAt0_A m c t h0]
  on_goal 2 => rw [outsAt0_B m c t h0]
  all_goals
    dsimp only
    frame_open
    simp (disch := decide) only [↓ View.readCov_skip, ↓ View.readCov_cons_toLoadRect, ↓ View.readCov_fill]
    frame_out
    obtain ⟨hU, hV, hD, hG, hW, hB⟩ := H
    have hN := nrm_v hV
    have hA := gelu_u hU
    generalize iblk m c 0 t = U at *
    generalize iblk m c 1 t = V at *
    generalize iblk m c 2 t = D at *
    generalize iblk m c 3 t = G at *
    generalize iblk m c 4 t = W at *
    generalize iblk m c 5 t = B at *
    refine dv_end hV hG ?_ r a
    intro r a
    generalize k0_pay6 U = A at *
    simp (disch := decide) only [readCov_whole]
    canon_tiles x h
    all_goals
      idx_vars x
      open_payloads
      pointwise
      simp only [hN, hA, hD, hG, hW, hB, causal, ← EReal.coe_mul, ← EReal.coe_zero, ite_coe, sum_coe, ← EReal.coe_add]
      refine congrArg _ (dvn_tile ?_ ?_ ?_ ?_)
      all_goals first | omega | (intro i; simp only [at']; omega)

/-- The block of `dgain` after the first point. -/
theorem dgain_first (H : Point m c t u v d g w b) (h0 : t.val % 16 = 0) (a : Fin 1024) :
    (outsAt0 m c t.val t.isLt).2.2.2.2 (ix2 0 a) = ((∑ r : Fin 256, dgr u v d w r a : ℝ) : EReal) := by
  rw [outsAt0_A m c t h0]
  dsimp only
  frame_open
  simp (disch := decide) only [↓ View.readCov_skip, ↓ View.readCov_cons_toLoadRect, ↓ View.readCov_fill]
  frame_out
  obtain ⟨hU, hV, hD, hG, hW, hB⟩ := H
  have hN := nrm_v hV
  have hA := gelu_u hU
  generalize iblk m c 0 t = U at *
  generalize iblk m c 1 t = V at *
  generalize iblk m c 2 t = D at *
  generalize iblk m c 3 t = G at *
  generalize iblk m c 4 t = W at *
  generalize iblk m c 5 t = B at *
  refine (dgain_end hV (d := d) (w := w) (u := u) ?_ a).trans ?_
  · intro r a
    generalize k0_pay6 U = A at *
    simp (disch := decide) only [readCov_whole]
    canon_tiles x h
    all_goals
      idx_vars x
      open_payloads
      pointwise
      simp only [hN, hA, hD, hG, hW, hB, causal, ← EReal.coe_mul, ← EReal.coe_zero, ite_coe, sum_coe, ← EReal.coe_add]
      refine congrArg _ (dvn_tile ?_ ?_ ?_ ?_)
      all_goals first | omega | (intro i; simp only [at']; omega)
  · pointwise [k0_pay4]

/-- What a later point adds to the block of `dgain`. -/
theorem dgain_next (H : Point m c t u v d g w b) (h0 : ¬ t.val % 16 = 0) (a : Fin 1024) :
    (outsAt0 m c t.val t.isLt).2.2.2.2 (ix2 0 a) = (outsAt0 m c (t.val - 1) (Nat.lt_of_le_of_lt (Nat.sub_le _ _) t.isLt)).2.2.2.2 (ix2 0 a)
        + ((∑ r : Fin 256, dgr u v d w r a : ℝ) : EReal) := by
  rw [outsAt0_B m c t h0]
  dsimp only
  frame_open
  simp (disch := decide) only [↓ View.readCov_skip, ↓ View.readCov_cons_toLoadRect, ↓ View.readCov_fill]
  frame_out
  obtain ⟨hU, hV, hD, hG, hW, hB⟩ := H
  have hN := nrm_v hV
  have hA := gelu_u hU
  generalize outsAt0 m c (t.val - 1) _ = O
  generalize iblk m c 0 t = U at *
  generalize iblk m c 1 t = V at *
  generalize iblk m c 2 t = D at *
  generalize iblk m c 3 t = G at *
  generalize iblk m c 4 t = W at *
  generalize iblk m c 5 t = B at *
  refine (dgain_end hV (d := d) (w := w) (u := u) ?_ a).trans ?_
  · intro r a
    generalize k0_pay6 U = A at *
    simp (disch := decide) only [readCov_whole]
    canon_tiles x h
    all_goals
      idx_vars x
      open_payloads
      pointwise
      simp only [hN, hA, hD, hG, hW, hB, causal, ← EReal.coe_mul, ← EReal.coe_zero, ite_coe, sum_coe, ← EReal.coe_add]
      refine congrArg _ (dvn_tile ?_ ?_ ?_ ?_)
      all_goals first | omega | (intro i; simp only [at']; omega)
  · rfl

/-- The block of `dw` after the first point. -/
theorem dw_first (H : Point m c t u v d g w b) (h0 : t.val % 16 = 0) (h : Fin 8) (i j : Fin 128) :
    (outsAt0 m c t.val t.isLt).2.2.1 (ix3 h i j) = ((dwc u v d g 0 h i j + dwc u v d g 1 h i j : ℝ) : EReal) := by
  rw [outsAt0_A m c t h0]
  dsimp only
  frame_open
  simp (disch := decide) only [↓ View.readCov_skip, ↓ View.readCov_cons_toLoadRect, ↓ View.readCov_fill]
  frame_out
  obtain ⟨hU, hV, hD, hG, hW, hB⟩ := H
  have hN := nrm_v hV
  have hA := gelu_u hU
  generalize iblk m c 0 t = U at *
  generalize iblk m c 1 t = V at *
  generalize iblk m c 2 t = D at *
  generalize iblk m c 3 t = G at *
  generalize iblk m c 4 t = W at *
  generalize iblk m c 5 t = B at *
  generalize k0_pay6 U = A at *
  generalize k0_pay10 V = N at *
  refine (canon_everyOther _ _ ?_).trans ?_
  · exact ⟨rfl, rfl, rfl, rfl, rfl, rfl, rfl, rfl, trivial⟩
  simp only [everyOther]
  rw [canon_dropLast _ _ _ (View.cover_of_tiled_head _ _ _ rfl _)]
  simp only [List.dropLast]
  canon_tiles x h
  all_goals
    idx_vars x
    open_payloads
    pointwise
    simp only [hN, hA, hD, hG, hW, hB, causal, ← EReal.coe_mul, ← EReal.coe_zero, ite_coe, sum_coe, ← EReal.coe_add]
    refine (congrArg _ (dw_tile ?_ ?_ ?_ ?_ ?_ ?_ ?_))
    all_goals first | omega | (intro k; omega) | (change (_ : Fin 8).val = h.val; omega)

/-- What a later point adds to the block of `dw`. -/
theorem dw_next (H : Point m c t u v d g w b) (h0 : ¬ t.val % 16 = 0) (h : Fin 8) (i j : Fin 128) :
    (outsAt0 m c t.val t.isLt).2.2.1 (ix3 h i j) = (outsAt0 m c (t.val - 1) (Nat.lt_of_le_of_lt (Nat.sub_le _ _) t.isLt)).2.2.1 (ix3 h i j)
        + ((dwc u v d g 0 h i j + dwc u v d g 1 h i j : ℝ) : EReal) := by
  rw [outsAt0_B m c t h0]
  dsimp only
  frame_open
  simp (disch := decide) only [↓ View.readCov_skip, ↓ View.readCov_cons_toLoadRect, ↓ View.readCov_fill]
  frame_out
  obtain ⟨hU, hV, hD, hG, hW, hB⟩ := H
  have hN := nrm_v hV
  have hA := gelu_u hU
  generalize outsAt0 m c (t.val - 1) _ = O
  generalize iblk m c 0 t = U at *
  generalize iblk m c 1 t = V at *
  generalize iblk m c 2 t = D at *
  generalize iblk m c 3 t = G at *
  generalize iblk m c 4 t = W at *
  generalize iblk m c 5 t = B at *
  generalize k0_pay6 U = A at *
  generalize k0_pay10 V = N at *
  refine (canon_everyOther _ _ ?_).trans ?_
  · exact ⟨rfl, rfl, rfl, rfl, rfl, rfl, rfl, rfl, trivial⟩
  simp only [everyOther]
  canon_tiles x h
  all_goals
    idx_vars x
    open_payloads
    pointwise
    simp only [hN, hA, hD, hG, hW, hB, causal, ← EReal.coe_mul, ← EReal.coe_zero, ite_coe, sum_coe, ← EReal.coe_add]
    rw [add_assoc, ← EReal.coe_add]
    refine congrArg₂ (· + ·) (congrArg O.2.2.1 (ix3_congr ?_ ?_ ?_)) (congrArg _ (dw_tile ?_ ?_ ?_ ?_ ?_ ?_ ?_))
    all_goals first | omega | (intro k; omega) | (change (_ : Fin 8).val = h.val; omega)

/-- The block of `dbt` after the first point. -/
theorem dbt_first (H : Point m c t u v d g w b) (h0 : t.val % 16 = 0) (i : Fin 128) (h : Fin 8) :
    (outsAt0 m c t.val t.isLt).2.2.2.1 (ix2 i h) = ((dbc u d 0 i h + dbc u d 1 i h : ℝ) : EReal) := by
  rw [outsAt0_A m c t h0]
  dsimp only
  frame_open
  simp (disch := decide) only [↓ View.readCov_skip, ↓ View.readCov_cons_toLoadRect, ↓ View.readCov_fill]
  frame_out
  obtain ⟨hU, hV, hD, hG, hW, hB⟩ := H
  have hN := nrm_v hV
  have hA := gelu_u hU
  generalize iblk m c 0 t = U at *
  generalize iblk m c 1 t = V at *
  generalize iblk m c 2 t = D at *
  generalize iblk m c 3 t = G at *
  generalize iblk m c 4 t = W at *
  generalize iblk m c 5 t = B at *
  generalize k0_pay6 U = A at *
  generalize k0_pay10 V = N at *
  refine (canon_everyOther _ _ ?_).trans ?_
  · exact ⟨rfl, rfl, rfl, rfl, rfl, rfl, rfl, rfl, trivial⟩
  simp only [everyOther]
  rw [canon_dropLast _ _ _ (View.cover_of_tiled_head _ _ _ rfl _)]
  simp only [List.dropLast]
  canon_tiles x h
  all_goals
    idx_vars x
    open_payloads
    pointwise
    simp only [hN, hA, hD, hG, hW, hB, causal, ← EReal.coe_mul, ← EReal.coe_zero, ite_coe, sum_coe, ← EReal.coe_add]
    refine (congrArg _ (dbt_tile ?_ ?_ ?_))
    all_goals first | omega | (intro k; omega) | (change (_ : Fin 8).val = h.val; omega)

/-- What a later point adds to the block of `dbt`. -/
theorem dbt_next (H : Point m c t u v d g w b) (h0 : ¬ t.val % 16 = 0) (i : Fin 128) (h : Fin 8) :
    (outsAt0 m c t.val t.isLt).2.2.2.1 (ix2 i h) = (outsAt0 m c (t.val - 1) (Nat.lt_of_le_of_lt (Nat.sub_le _ _) t.isLt)).2.2.2.1 (ix2 i h)
        + ((dbc u d 0 i h + dbc u d 1 i h : ℝ) : EReal) := by
  rw [outsAt0_B m c t h0]
  dsimp only
  frame_open
  simp (disch := decide) only [↓ View.readCov_skip, ↓ View.readCov_cons_toLoadRect, ↓ View.readCov_fill]
  frame_out
  obtain ⟨hU, hV, hD, hG, hW, hB⟩ := H
  have hN := nrm_v hV
  have hA := gelu_u hU
  generalize outsAt0 m c (t.val - 1) _ = O
  generalize iblk m c 0 t = U at *
  generalize iblk m c 1 t = V at *
  generalize iblk m c 2 t = D at *
  generalize iblk m c 3 t = G at *
  generalize iblk m c 4 t = W at *
  generalize iblk m c 5 t = B at *
  generalize k0_pay6 U = A at *
  generalize k0_pay10 V = N at *
  refine (canon_everyOther _ _ ?_).trans ?_
  · exact ⟨rfl, rfl, rfl, rfl, rfl, rfl, rfl, rfl, trivial⟩
  simp only [everyOther]
  canon_tiles x h
  all_goals
    idx_vars x
    open_payloads
    pointwise
    simp only [hN, hA, hD, hG, hW, hB, causal, ← EReal.coe_mul, ← EReal.coe_zero, ite_coe, sum_coe, ← EReal.coe_add]
    rw [add_assoc, ← EReal.coe_add]
    refine congrArg₂ (· + ·) (congrArg O.2.2.2.1 (congrArg₂ ix2 (Fin.ext ?_) (Fin.ext ?_))) (congrArg _ (dbt_tile ?_ ?_ ?_))
    all_goals first | omega | (intro k; omega) | (change (_ : Fin 8).val = h.val; omega)

end Cert.KernelIdeal.Sgu
end
-- ==== Proof.Sgu.Reference.lean ====
module
public import proofs.«01_k».proof.Proof.Gen.ReferenceIdeal.Read
public import proofs.«01_k».proof.Proof.Sgu.Ideal
public import Idealize.ShloMosaic.Lib.Pipeline.ValueKit
public import Idealize.ShloMosaic.Lib.TwoAxisContraction
public import Idealize.ShloMosaic.Lib.WordCmp
@[expose] public section
set_option maxRecDepth 16384
noncomputable section
open Idealize.ShloMosaic Idealize.ShloMosaic.TcCoe Idealize.SL.Sem

/-!
# What the reference's stages are over finite arguments

Each stage of the reference that has a name in `Real.lean` is that real formula: the two gelus and their
derivatives, the normalised rows, the causal mix, and the gradients they give.
-/
namespace Cert.ReferenceIdeal.Sgu
open Cert.ReferenceIdeal Cert.ReferenceIdeal.Gen Cert.ReferenceIdeal.Read Idealize.ShloMosaic.Ideal _root_.Sgu

variable {x0 : (⟨S4096x3072, .f32⟩ : BufTy).Contents (Elt Ideal)} {x1 : (⟨S4096x1024, .bf16⟩ : BufTy).Contents (Elt Ideal)}
variable {x2 : (⟨S1024, .f32⟩ : BufTy).Contents (Elt Ideal)} {x3 : (⟨S8x128x128, .f32⟩ : BufTy).Contents (Elt Ideal)}
variable {x4 : (⟨S8x128, .f32⟩ : BufTy).Contents (Elt Ideal)}
variable {u v d : ℕ → ℕ → ℝ} {g : ℕ → ℝ} {w : ℕ → ℕ → ℕ → ℝ} {b : ℕ → ℕ → ℝ}
variable (hu : ∀ i : S4096x1024.Idx, val_main_v0 (F := Ideal) x0 i = ((u (i 0).val (i 1).val : ℝ) : EReal))
variable (hv : ∀ i : S4096x1024.Idx, val_main_v1 (F := Ideal) x0 i = ((v (i 0).val (i 1).val : ℝ) : EReal))
variable (hd : ∀ i : S4096x1024.Idx, x1 i = ((d (i 0).val (i 1).val : ℝ) : EReal))
variable (hg : ∀ i : S1024.Idx, x2 i = ((g (i 0).val : ℝ) : EReal))
variable (hw : ∀ i : S8x128x128.Idx, x3 i = ((w (i 0).val (i 1).val (i 2).val : ℝ) : EReal))
variable (hb : ∀ i : S8x128.Idx, x4 i = ((b (i 1).val (i 0).val : ℝ) : EReal))

theorem million_ne : (1000000 : ℝ) ≠ 0 := by norm_num
theorem tile_ne : (1024 : ℝ) ≠ 0 := by norm_num

/-! ## The gelus -/

/-- The reference spells gelu's decimal as a quotient. -/
theorem th_eq (x : ℝ) : Real.tanh (gk * (x + 44715 * (x * x * x) * (1 / 1000000))) = th x := by
  unfold th; congr 1; ring

include hu in
theorem tanh_u (i : S4096x1024.Idx) : val_main_v14 (F := Ideal) x0 i = ((th (u (i 0).val (i 1).val) : ℝ) : EReal) := by
  simp only [val_main_v14_apply, val_main_v13_apply, val_main_v12_apply, val_main_cst_2_apply, val_main_v11_apply,
    val_main_v10_apply, val_main_v9_apply, val_main_cst_1_apply, val_main_v8_apply, val_main_v7_apply,
    val_main_cst_0_apply, val_main_v3_apply, val_main_v2_apply, hu]
  pointwise
  simp only [ofBits_gk, ofBits_44715, ofBits_million, ← EReal.coe_mul, div_coe million_ne, ← EReal.coe_add, tanh_coe, th_eq]

include hv in
theorem tanh_v (i : S4096x1024.Idx) : val_main_v37 (F := Ideal) x0 i = ((th (v (i 0).val (i 1).val) : ℝ) : EReal) := by
  simp only [val_main_v37_apply, val_main_v36_apply, val_main_v35_apply, val_main_cst_10_apply, val_main_v34_apply,
    val_main_v33_apply, val_main_v32_apply, val_main_cst_9_apply, val_main_v31_apply, val_main_v30_apply,
    val_main_cst_8_apply, val_main_v26_apply, val_main_v25_apply, hv]
  pointwise
  simp only [ofBits_gk, ofBits_44715, ofBits_million, ← EReal.coe_mul, div_coe million_ne, ← EReal.coe_add, tanh_coe, th_eq]

include hu in
theorem half_u (i : S4096x1024.Idx) :
    val_main_v23 (F := Ideal) x0 i = ((1 / 2 * (1 + th (u (i 0).val (i 1).val)) : ℝ) : EReal) := by
  simp only [val_main_v23_apply, val_main_v22_apply, val_main_cst_6_apply, val_main_v21_apply, val_main_v20_apply,
    val_main_cst_5_apply, tanh_u hu]
  pointwise
  simp only [ofBits_half, ← EReal.coe_one, ← EReal.coe_mul, ← EReal.coe_add]

include hv in
theorem half_v (i : S4096x1024.Idx) :
    val_main_v46 (F := Ideal) x0 i = ((1 / 2 * (1 + th (v (i 0).val (i 1).val)) : ℝ) : EReal) := by
  simp only [val_main_v46_apply, val_main_v45_apply, val_main_cst_14_apply, val_main_v44_apply, val_main_v43_apply,
    val_main_cst_13_apply, tanh_v hv]
  pointwise
  simp only [ofBits_half, ← EReal.coe_one, ← EReal.coe_mul, ← EReal.coe_add]

include hu in
theorem gelu_u (i : S4096x1024.Idx) : val_main_v24 (F := Ideal) x0 i = ((gelu (u (i 0).val (i 1).val) : ℝ) : EReal) := by
  simp only [val_main_v24_apply, half_u hu, hu]
  pointwise
  simp only [← EReal.coe_mul, gelu]

include hv in
theorem gelu_v (i : S4096x1024.Idx) : val_main_v47 (F := Ideal) x0 i = ((gelu (v (i 0).val (i 1).val) : ℝ) : EReal) := by
  simp only [val_main_v47_apply, half_v hv, hv]
  pointwise
  simp only [← EReal.coe_mul, gelu]

/-- The reference's way through gelu: the derivative's two terms, each met in its own order. -/
theorem dgelu_eq (y x : ℝ) :
    y * (1 / 2 * (1 + th x)) + gk * (1 / 2 * (x * y) * ((1 + th x) * (1 - th x)))
      + 44715 * (gk * (1 / 2 * (x * y) * ((1 + th x) * (1 - th x))) * (1 / 1000000)) * (3 * (x * x)) = y * dgelu x := by
  unfold dgelu; ring

include hu in
theorem through_u {y : ℝ} {i : S4096x1024.Idx} (hy : val_main_v80 (F := Ideal) x0 x1 x2 x3 x4 i = ((y : ℝ) : EReal)) :
    val_main_v140 (F := Ideal) x0 x1 x2 x3 x4 i = ((y * dgelu (u (i 0).val (i 1).val) : ℝ) : EReal) := by
  simp only [val_main_v140_apply, val_main_v139_apply, val_main_v138_apply, val_main_v137_apply, val_main_cst_34_apply,
    val_main_v136_apply, val_main_v135_apply, val_main_cst_33_apply, val_main_v134_apply, val_main_v133_apply,
    val_main_v132_apply, val_main_cst_32_apply, val_main_v131_apply, val_main_v130_apply, val_main_v129_apply,
    val_main_cst_31_apply, val_main_v128_apply, val_main_v127_apply, val_main_v19_apply, val_main_v18_apply,
    val_main_v17_apply, val_main_cst_4_apply, val_main_v16_apply, val_main_v15_apply, val_main_cst_3_apply,
    val_main_v6_apply, val_main_v5_apply, val_main_cst_apply, val_main_v4_apply, hy, tanh_u hu, half_u hu, hu]
  pointwise
  simp only [ofBits_gk, ofBits_half, ofBits_three, ofBits_44715, ofBits_million, ← EReal.coe_one, ← EReal.coe_mul,
    div_coe million_ne, ← EReal.coe_sub, ← EReal.coe_add, dgelu_eq]

include hv in
theorem through_v {y : ℝ} {i : S4096x1024.Idx} (hy : val_main_v112 (F := Ideal) x0 x1 x2 x3 i = ((y : ℝ) : EReal)) :
    val_main_v126 (F := Ideal) x0 x1 x2 x3 i = ((y * dgelu (v (i 0).val (i 1).val) : ℝ) : EReal) := by
  simp only [val_main_v126_apply, val_main_v125_apply, val_main_v124_apply, val_main_v123_apply, val_main_cst_30_apply,
    val_main_v122_apply, val_main_v121_apply, val_main_cst_29_apply, val_main_v120_apply, val_main_v119_apply,
    val_main_v118_apply, val_main_cst_28_apply, val_main_v117_apply, val_main_v116_apply, val_main_v115_apply,
    val_main_cst_27_apply, val_main_v114_apply, val_main_v113_apply, val_main_v42_apply, val_main_v41_apply,
    val_main_v40_apply, val_main_cst_12_apply, val_main_v39_apply, val_main_v38_apply, val_main_cst_11_apply,
    val_main_v29_apply, val_main_v28_apply, val_main_cst_7_apply, val_main_v27_apply, hy, tanh_v hv, half_v hv, hv]
  pointwise
  simp only [ofBits_gk, ofBits_half, ofBits_three, ofBits_44715, ofBits_million, ← EReal.coe_one, ← EReal.coe_mul,
    div_coe million_ne, ← EReal.coe_sub, ← EReal.coe_add, dgelu_eq]

/-! ## The normalised rows -/

include hv in
theorem msq_v (i : S4096x1.Idx) : val_main_v54 (F := Ideal) x0 i = ((msq v (i 0).val : ℝ) : EReal) := by
  simp only [val_main_v54_apply, val_main_v53_apply, val_main_cst_17_apply, val_main_v52_apply, val_main_v51_apply,
    val_main_cst_16_apply, val_main_v50_apply, val_main_v49_apply, val_main_cst_15_apply, val_main_v48_apply, gelu_v hv]
  pointwise
  simp only [ofBits_1024, ofBits_eps, ← EReal.coe_mul, sum_coe, div_coe tile_ne, ← EReal.coe_add, msq]

include hv in
theorem rinv_v (i : S4096x1.Idx) : val_main_v55 (F := Ideal) x0 i = ((rinv v (i 0).val : ℝ) : EReal) := by
  simp only [val_main_v55_apply, msq_v hv]
  exact rsqrt_pos (msq_pos v _)

include hv in
theorem nrm_v (i : S4096x1024.Idx) : val_main_v60 (F := Ideal) x0 i = ((nrm v (i 0).val (i 1).val : ℝ) : EReal) := by
  simp only [val_main_v60_apply, val_main_v59_apply, gelu_v hv, rinv_v hv]
  pointwise
  simp only [← EReal.coe_mul, nrm]

include hv hg in
theorem vn_v (i : S4096x1024.Idx) : val_main_v63 (F := Ideal) x0 x2 i = ((vn v g (i 0).val (i 1).val : ℝ) : EReal) := by
  simp only [val_main_v63_apply, val_main_v62_apply, val_main_v61_apply, nrm_v hv, hg]
  pointwise
  simp only [← EReal.coe_mul, vn]

/-! ## The causal mix -/

/-- Row-major position of (chunk, position, head, lane): row and column of the flat array. -/
theorem flat_row (i : S32x128x8x128.Idx) :
    ((((i 0).val * 128 + (i 1).val) * 8 + (i 2).val) * 128 + (i 3).val) / 1024 = 128 * (i 0).val + (i 1).val := by
  have h2 : (i 2).val < 8 := (i 2).isLt
  have h3 : (i 3).val < 128 := (i 3).isLt
  omega
theorem flat_col (i : S32x128x8x128.Idx) :
    ((((i 0).val * 128 + (i 1).val) * 8 + (i 2).val) * 128 + (i 3).val) % 1024 = 128 * (i 2).val + (i 3).val := by
  have h2 : (i 2).val < 8 := (i 2).isLt
  have h3 : (i 3).val < 128 := (i 3).isLt
  omega

include hv hg in
theorem vn_chunks (i : S32x128x8x128.Idx) : val_main_v64 (F := Ideal) x0 x2 i
    = ((vn v g (128 * (i 0).val + (i 1).val) (128 * (i 2).val + (i 3).val) : ℝ) : EReal) := by
  rw [val_main_v64_apply, vn_v hv hg]
  exact congrArg _ (congrArg₂ _ (flat_row i) (flat_col i))

theorem mask (i : S128x128.Idx) :
    val_main_v66 (F := Ideal) i = ((if (i 1).val ≤ (i 0).val then 1 else 0 : ℝ) : EReal) := by
  simp only [val_main_v66_apply, val_main_call0_v4_apply, val_main_call0_v3_apply, val_main_call0_v2_apply,
    val_main_call0_v1_apply, val_main_call0_c_apply, val_main_call0_v0_apply, val_main_call0_v5_apply,
    val_main_call0_cst_apply, val_main_v65_apply, val_main_cst_19_apply]
  pointwise
  have h0 : (i 0).val < 128 := (i 0).isLt
  have h1 : (i 1).val < 128 := (i 1).isLt
  rw [show IntOp.addi (BitVec.ofNat 32 (i 0).val) 0#32 = BitVec.ofNat 32 (i 0).val from BitVec.add_zero _,
    WordCmp.cmpi_sge_ofNat (by omega) (by omega)]
  by_cases h : (i 1).val ≤ (i 0).val <;> simp [h, Scalar.select]

include hw in
theorem wm_w (i : S8x128x128.Idx) :
    val_main_v69 (F := Ideal) x3 i = ((wm w (i 0).val (i 1).val (i 2).val : ℝ) : EReal) := by
  simp only [val_main_v69_apply, val_main_v68_apply, val_main_v67_apply, mask, hw]
  pointwise
  simp only [← EReal.coe_mul, mul_ite, mul_one, mul_zero, wm]

include hv hg hw hb in
theorem mix_chunks (i : S32x128x8x128.Idx) : val_main_v75 (F := Ideal) x0 x2 x3 x4 i
    = ((mix v g w b (128 * (i 0).val + (i 1).val) (128 * (i 2).val + (i 3).val) : ℝ) : EReal) := by
  rw [mix_at _ _ _ _ _ _ _ _ (i 1).isLt (i 3).isLt]
  simp only [val_main_v75_apply, val_main_v74_apply, val_main_v73_apply, val_main_v72_apply, val_main_v71_apply,
    val_main_v70_apply, vn_chunks hv hg, wm_w hw, hb]
  pointwise
  simp only [← EReal.coe_mul, sum_coe, ← EReal.coe_add]
  exact congrArg _ (congrArg (· + _) (Finset.sum_congr rfl fun _ _ => mul_comm _ _))

/-- The row and the column of the flat array, from the coordinates they have when it is cut into chunks and heads. -/
theorem back_row (i : S4096x1024.Idx) :
    128 * (((i 0).val * 1024 + (i 1).val) / 131072) + ((i 0).val * 1024 + (i 1).val) / 1024 % 128 = (i 0).val := by
  have h1 : (i 1).val < 1024 := (i 1).isLt
  omega
theorem back_col (i : S4096x1024.Idx) :
    128 * (((i 0).val * 1024 + (i 1).val) / 128 % 8) + ((i 0).val * 1024 + (i 1).val) % 128 = (i 1).val := by
  have h1 : (i 1).val < 1024 := (i 1).isLt
  omega

include hv hg hw hb in
theorem mix_v (i : S4096x1024.Idx) :
    val_main_v76 (F := Ideal) x0 x2 x3 x4 i = ((mix v g w b (i 0).val (i 1).val : ℝ) : EReal) := by
  rw [val_main_v76_apply, mix_chunks hv hg hw hb]
  exact congrArg _ (congrArg₂ _ (back_row i) (back_col i))

/-! ## The gradients -/

include hu hd in
theorem ds_u (i : S4096x1024.Idx) :
    val_main_v79 (F := Ideal) x0 x1 i = ((ds u d (i 0).val (i 1).val : ℝ) : EReal) := by
  simp only [val_main_v79_apply, val_main_v78_apply, gelu_u hu, hd]
  pointwise
  rw [← EReal.coe_mul, mul_comm, ds]

include hu hd in
theorem ds_chunks (i : S32x128x8x128.Idx) : val_main_v81 (F := Ideal) x0 x1 i
    = ((ds u d (128 * (i 0).val + (i 1).val) (128 * (i 2).val + (i 3).val) : ℝ) : EReal) := by
  rw [val_main_v81_apply, ds_u hu hd]
  exact congrArg _ (congrArg₂ _ (flat_row i) (flat_col i))

include hu hv hd hg hw hb in
/-- The reference's `du`. -/
theorem du_ref (i : S4096x1024.Idx) :
    val_main_v141 (F := Ideal) x0 x1 x2 x3 x4 i = ((du u v d g w b (i 0).val (i 1).val : ℝ) : EReal) := by
  rw [val_main_v141_apply]
  refine through_u hu ?_
  simp only [val_main_v80_apply, val_main_v78_apply, mix_v hv hg hw hb, hd]
  pointwise
  rw [← EReal.coe_mul]

include hu hd hw in
theorem dvn_chunks (i : S32x128x8x128.Idx) : val_main_v89 (F := Ideal) x0 x1 x3 i
    = ((dvn u d w (128 * (i 0).val + (i 1).val) (128 * (i 2).val + (i 3).val) : ℝ) : EReal) := by
  rw [dvn_at _ _ _ _ _ _ _ (i 1).isLt (i 3).isLt]
  simp only [val_main_v89_apply, val_main_v88_apply, val_main_v86_apply, ds_chunks hu hd, wm_w hw]
  simp only [← EReal.coe_mul, sum_coe]
  exact congrArg _ (Finset.sum_congr rfl fun _ _ => mul_comm _ _)

include hu hd hw in
theorem dvn_v (i : S4096x1024.Idx) :
    val_main_v92 (F := Ideal) x0 x1 x3 i = ((dvn u d w (i 0).val (i 1).val : ℝ) : EReal) := by
  rw [val_main_v92_apply, dvn_chunks hu hd hw]
  exact congrArg _ (congrArg₂ _ (back_row i) (back_col i))

include hu hd hg hw in
theorem dn_v (i : S4096x1024.Idx) :
    val_main_v97 (F := Ideal) x0 x1 x2 x3 i = ((dn u d g w (i 0).val (i 1).val : ℝ) : EReal) := by
  simp only [val_main_v97_apply, val_main_v96_apply, val_main_v61_apply, dvn_v hu hd hw, hg]
  pointwise
  rw [← EReal.coe_mul, dn]

/-- The reference's way through the root mean square, `rinv³` spelt `rinv / msq`. -/
theorem dvg_eq (r c : ℕ) :
    dn u d g w r c * rinv v r
        + gelu (v r c) * ((∑ k : Fin 1024, gelu (v r k) * dn u d g w r k) * (-(1 / 2) * (rinv v r * (1 / msq v r))) * (1 / 1024))
        + (∑ k : Fin 1024, gelu (v r k) * dn u d g w r k) * (-(1 / 2) * (rinv v r * (1 / msq v r))) * (1 / 1024) * gelu (v r c)
      = dvg u v d g w r c := by
  have hs : ∑ k : Fin 1024, dn u d g w r k * nrm v r k = (∑ k : Fin 1024, gelu (v r k) * dn u d g w r k) * rinv v r := by
    rw [Finset.sum_mul]
    exact Finset.sum_congr rfl fun k _ => by unfold nrm; ring
  have hm : 1 / msq v r = rinv v r * rinv v r := by
    unfold rinv
    rw [← mul_inv, Real.mul_self_sqrt (msq_pos v r).le, one_div]
  rw [dvg, hs, hm, nrm]
  ring

include hu hv hd hg hw in
theorem dvg_v (i : S4096x1024.Idx) :
    val_main_v112 (F := Ideal) x0 x1 x2 x3 i = ((dvg u v d g w (i 0).val (i 1).val : ℝ) : EReal) := by
  have hm := (msq_pos v (i 0).val).ne'
  simp only [val_main_v112_apply, val_main_v111_apply, val_main_v110_apply, val_main_v109_apply, val_main_v108_apply,
    val_main_v107_apply, val_main_cst_26_apply, val_main_v106_apply, val_main_v105_apply, val_main_cst_25_apply,
    val_main_v104_apply, val_main_v103_apply, val_main_v102_apply, val_main_v101_apply, val_main_v100_apply,
    val_main_cst_24_apply, val_main_v99_apply, val_main_v58_apply, val_main_v57_apply, val_main_cst_18_apply,
    val_main_v56_apply, msq_v hv, rinv_v hv, gelu_v hv, dn_v hu hd hg hw]
  pointwise
  simp only [Finset.univ_unique, Finset.sum_singleton, Nat.mul_one, Fin.default_eq_zero, Fin.val_zero, Nat.add_zero, zero_add,
    ofBits_neg_half, ofBits_1024, ← EReal.coe_mul, sum_coe, div_coe hm, div_coe tile_ne, ← EReal.coe_add, dvg_eq]

include hu hv hd hg hw in
/-- The reference's `dv`. -/
theorem dv_ref (i : S4096x1024.Idx) :
    val_main_v142 (F := Ideal) x0 x1 x2 x3 i = ((dv u v d g w (i 0).val (i 1).val : ℝ) : EReal) :=
  (val_main_v142_apply x0 x1 x2 x3 i).trans (through_v hv (dvg_v hu hv hd hg hw i))

include hu hv hd hw in
/-- The reference's gradient of the gain. -/
theorem dgain_ref (i : S1x1024.Idx) :
    val_main_v144 (F := Ideal) x0 x1 x3 i = ((∑ r : Fin 4096, dgr u v d w r.val (i 1).val : ℝ) : EReal) := by
  have h0 : (i 0).val = 0 := Nat.lt_one_iff.mp (i 0).isLt
  simp only [val_main_v144_apply, val_main_v98_apply, val_main_cst_23_apply, val_main_v95_apply, val_main_v94_apply,
    val_main_cst_22_apply, val_main_v93_apply, nrm_v hv, dvn_v hu hd hw, h0]
  pointwise
  simp only [Finset.univ_unique, Finset.sum_singleton, Fin.default_eq_zero, Fin.val_zero, Nat.zero_mul, zero_add,
    ← EReal.coe_mul, sum_coe, dgr, mul_comm (nrm _ _ _)]

/-- A sum over the chunks and the lanes of an array (chunk, position, head, lane). -/
theorem sum_chunk_lane {n l : ℕ} (h : (⟨4, ![n, 128, 8, l]⟩ : Shape).ReducesTo [0, 3] S128x8)
    (x : (⟨4, ![n, 128, 8, l]⟩ : Shape).Idx → EReal) (a : EReal) (j : S128x8.Idx) :
    Ideal.hostReduceAdd h x a j = a + ∑ k : Fin n, ∑ c : Fin l, x (ix4 k (j 0) (j 1) c) := by
  unfold Ideal.hostReduceAdd
  rw [← Fintype.sum_prod_type' (f := fun (k : Fin n) (c : Fin l) => x (ix4 k (j 0) (j 1) c))]
  refine congrArg (a + ·) (Finset.sum_nbij' (fun i => ((i 0, i 3) : Fin n × Fin l)) (fun p => ix4 p.1 (j 0) (j 1) p.2)
    (fun _ _ => Finset.mem_univ _) (fun p _ => ?_) (fun i hi => ?_) (fun _ _ => rfl) (fun i hi => ?_))
  · refine Finset.mem_filter.mpr ⟨Finset.mem_univ _, funext fun q => ?_⟩
    fin_cases q <;> rfl
  all_goals
    have e := (Finset.mem_filter.mp hi).2
    subst e
  · funext q; fin_cases q <;> rfl
  · congr 1; funext q; fin_cases q <;> rfl

include hu hd in
/-- The reference's gradient of the bias, position by head. -/
theorem dbt_ref (i : S128x8.Idx) :
    val_main_v143 (F := Ideal) x0 x1 i = ((∑ k ∈ Finset.range 32, dbc u d k (i 0).val (i 1).val : ℝ) : EReal) := by
  rw [val_main_v143_apply, val_main_v85_apply, val_main_v84]
  simp only [Host.reduceAdd, Ideal.hostReduceAdd_def]
  rw [sum_chunk_lane (n := 1) (l := 1)]
  simp only [Finset.univ_unique, Finset.sum_singleton, val_main_v83_apply]
  rw [val_main_v82]
  simp only [Host.reduceAdd, Ideal.hostReduceAdd_def]
  rw [sum_chunk_lane (n := 32) (l := 128)]
  simp only [ds_chunks hu hd, val_main_cst_20_apply, val_main_cst_21_apply]
  pointwise
  have h1 : (i 1).val < 8 := (i 1).isLt
  have e1 : ((i 0).val * 8 + (i 1).val) / 8 = (i 0).val := by omega
  have e2 : ((i 0).val * 8 + (i 1).val) % 8 = (i 1).val := by omega
  simp only [e1, e2, sum_coe, ← Fin.sum_univ_eq_sum_range, dbc]

include hu hv hd hg in
/-- The reference's gradient of the causal weight. -/
theorem dw_ref (i : S8x128x128.Idx) : val_main_v91 (F := Ideal) x0 x1 x2 i
    = ((∑ k ∈ Finset.range 32, dwc u v d g k (i 0).val (i 1).val (i 2).val : ℝ) : EReal) := by
  have hdot : val_main_v87 (F := Ideal) x0 x1 x2 i
      = ((∑ k : Fin 32, ∑ c : Fin 128, ds u d (128 * k.val + (i 1).val) (128 * (i 0).val + c.val)
          * vn v g (128 * k.val + (i 2).val) (128 * (i 0).val + c.val) : ℝ) : EReal) := by
    unfold val_main_v87
    simp only [Host.dotGeneral]
    rw [Ideal.dotGeneral_apply, ValueIdx.sum_contr2 _ 32 128 rfl rfl rfl]
    simp only [val_main_v86_apply, ds_chunks hu hd, vn_chunks hv hg, ← EReal.coe_mul, sum_coe]
    rfl
  simp only [val_main_v91_apply, val_main_v90_apply, val_main_v67_apply, mask, hdot]
  pointwise
  simp only [← EReal.coe_mul, mul_ite, mul_one, mul_zero, ← Fin.sum_univ_eq_sum_range, dwc]
  split <;> simp

end Cert.ReferenceIdeal.Sgu
end
-- ==== Proof.Sgu.SguFwd.lean ====
module
public import proofs.«01_k».proof.Defs
public import proofs.«01_k».proof.Proof.Gen.SguFwdIdeal.Value
public import proofs.«01_k».proof.Proof.Gen.SguFwdRefIdeal.Run
public import proofs.«01_k».proof.Proof.Gen.SguFwdRefIdeal.Read
public import proofs.«01_k».proof.Proof.Sgu.Tiles
public import proofs.«01_k».proof.Proof.Sgu.Reference
public import proofs.«01_k».proof.Proof.Norm.Rows
@[expose] public section
set_option maxRecDepth 16384
noncomputable section
open Idealize.ShloMosaic Idealize.ShloMosaic.TcCoe Idealize.SL.Sem

/-!
# The spatial gating unit

Rows come in chunks of 128 and columns in heads of 128.  Inside a chunk and a head, row `r` of the normalised
gelu of `v` is replaced by a weighted sum of the rows up to `r` and a bias, and multiplied by the gelu of `u`.
-/
namespace Gating
open Sgu (at' at_add add_mod)

/-- The gelu by the hyperbolic tangent, over all ideal values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- One over the guarded root mean square of the gelus of a row. -/
def inverse (v : ℕ → EReal) : EReal :=
  Ideal.rsqrt (Ideal.div (∑ k : Fin 1024, gelu (v k) * gelu (v k)) (Ideal.ofBits .f32 0x44800000#32)
    + Ideal.ofBits .f32 0x358637BD#32)

/-- The normalised gelu under the gain `g`. -/
def normed (v : ℕ → ℕ → EReal) (g : ℕ → EReal) (r c : ℕ) : EReal := gelu (v r c) * inverse (v r) * g c

/-- A weight where the column is not after the row. -/
def causal (w : ℕ → ℕ → ℕ → EReal) (h t s : ℕ) : EReal := if s ≤ t then w h t s else 0

/-- The gated entry: the gelu of `u` times the mixed rows of the chunk. -/
def gated (u v : ℕ → ℕ → EReal) (g : ℕ → EReal) (w : ℕ → ℕ → ℕ → EReal) (b : ℕ → ℕ → EReal) (r c : ℕ) : EReal :=
  gelu (u r c) * ((∑ s : Fin 128, causal w (c / 128) (r % 128) s * normed v g (at' r s) c) + b (r % 128) (c / 128))

/-- The rows of a window that starts at a chunk. -/
theorem gated_from (u v : ℕ → ℕ → EReal) (g : ℕ → EReal) (w : ℕ → ℕ → ℕ → EReal) (b : ℕ → ℕ → EReal) (k r c : ℕ) :
    gated (fun i => u (128 * k + i)) (fun i => v (128 * k + i)) g w b r c = gated u v g w b (128 * k + r) c := by
  simp only [gated, normed, at_add, add_mod]

/-- A tile's sum is the formula at the tile's rows and columns. -/
theorem gated_tile {u v : ℕ → ℕ → EReal} {g : ℕ → EReal} {w : ℕ → ℕ → ℕ → EReal} {b : ℕ → ℕ → EReal}
    {r a r' C C' H t : ℕ} {R : Fin 128 → ℕ} (hR : ∀ i : Fin 128, R i = at' r i) (hr : r' = r) (hC : C = a)
    (hC' : C' = a) (hH : H = a / 128) (ht : t = r % 128) :
    gelu (u r' C) * ((∑ i : Fin 128, if i.val ≤ t then w H t i * normed v g (R i) C' else 0) + b t H)
      = gated u v g w b r a := by
  subst hr hC hC' hH ht
  simp only [hR, gated, causal, ite_mul, zero_mul]

/-- Coordinates of the flat array from those it has when it is cut into chunks and heads. -/
theorem gated_at (u v : ℕ → ℕ → EReal) (g : ℕ → EReal) (w : ℕ → ℕ → ℕ → EReal) (b : ℕ → ℕ → EReal) (r c : ℕ) :
    gelu (u r c) * ((∑ s : Fin 128, normed v g (128 * (r / 128) + s) (128 * (c / 128) + c % 128)
      * causal w (c / 128) (r % 128) s) + b (r % 128) (c / 128)) = gated u v g w b r c := by
  have e : 128 * (c / 128) + c % 128 = c := by omega
  simp only [gated, at', e, mul_comm (normed _ _ _ _)]

/-- An array of three axes by natural coordinates, zero outside its bounds. -/
def entry3 {n k l : ℕ} (x : (⟨3, ![n, k, l]⟩ : Shape).Idx → EReal) (i j p : ℕ) : EReal :=
  if h : i < n ∧ j < k ∧ p < l then x (ix3 ⟨i, h.1⟩ ⟨j, h.2.1⟩ ⟨p, h.2.2⟩) else 0

theorem entry3_eq {n k l : ℕ} (x : (⟨3, ![n, k, l]⟩ : Shape).Idx → EReal) (i : (⟨3, ![n, k, l]⟩ : Shape).Idx) :
    x i = entry3 x (i 0).val (i 1).val (i 2).val := by
  have e : i = ix3 ⟨(i 0).val, (i 0).isLt⟩ ⟨(i 1).val, (i 1).isLt⟩ ⟨(i 2).val, (i 2).isLt⟩ := by
    funext a; fin_cases a <;> rfl
  have hi : (i 0).val < n ∧ (i 1).val < k ∧ (i 2).val < l := ⟨(i 0).isLt, (i 1).isLt, (i 2).isLt⟩
  unfold entry3
  rw [dif_pos hi]
  exact congrArg x e

end Gating

namespace Cert.SguFwdIdeal.Value
open Cert.SguFwdIdeal Cert.SguFwdIdeal.Gen Gating

variable {u v : ℕ → ℕ → EReal} {g : ℕ → EReal} {w : ℕ → ℕ → ℕ → EReal} {b : ℕ → ℕ → EReal}
variable {U V : Vec Ideal S256x1024 .f32} {G : Vec Ideal S1x1024 .f32} {W : Vec Ideal S8x128x128 .f32}
variable {B : Vec Ideal S128x8 .f32}
variable (hU : ∀ (r : Fin 256) (c : Fin 1024), U (ix2 r c) = u r c)
variable (hV : ∀ (r : Fin 256) (c : Fin 1024), V (ix2 r c) = v r c)
variable (hG : ∀ c : Fin 1024, G (ix2 0 c) = g c)
variable (hW : ∀ (h : Fin 8) (i j : Fin 128), W (ix3 h i j) = w h i j)
variable (hB : ∀ (i : Fin 128) (h : Fin 8), B (ix2 i h) = b i h)

include hU in
theorem gelu_u (r : Fin 256) (c : Fin 1024) : k0_pay3 U (ix2 r c) = gelu (u r c) := by
  pointwise [k0_pay3, hU, gelu]

include hV hG in
theorem normed_v (r : Fin 256) (c : Fin 1024) : k0_pay4 V G (ix2 r c) = normed v g r c := by
  pointwise [k0_pay4, hV, hG, normed, inverse, gelu]

include hU hV hG hW hB in
/-- The block a grid point leaves. -/
theorem block (r : Fin 256) (a : Fin 1024) : out0_5 U V G W B (ix2 r a) = gated u v g w b r a := by
  unfold_out out0_5
  frame_out
  have hP := gelu_u hU
  have hQ := normed_v hV hG
  generalize k0_pay3 U = P at *
  generalize k0_pay4 V G = Q at *
  canon_tiles x h
  all_goals
    idx_vars x
    open_payloads
    pointwise
    simp only [hP, hQ, hW, hB, Cert.KernelIdeal.Sgu.causal]
    refine gated_tile ?_ ?_ ?_ ?_ ?_ ?_
    all_goals first | omega | (intro i; simp only [Sgu.at']; omega)

/-- Which blocks a grid point works on. -/
theorem idx : ∀ t : Fin cfg0.N, win0_0.index t = ![t.val, 1] ∧ win0_1.index t = ![t.val, 2] ∧
    win0_2.index t = ![0, 0] ∧ win0_3.index t = ![0, 0, 0] ∧ win0_4.index t = ![0, 0] ∧
    win0_5.index t = ![t.val, 0] ∧ t.val < 16 := (by decide +kernel : ∀ t : Fin grid0.N, _)

variable {m : (ℓ : Loc nD τ sig) → Buf (Elt Ideal) ℓ} {c : Dev nD} {z : ℕ → ℕ → EReal}
variable (hz : ∀ i : S4096x3072.Idx, m ((c : Thread nD τ).loc main_arg0) i = z (i 0).val (i 1).val)
variable (hg : ∀ i : S1024.Idx, m ((c : Thread nD τ).loc main_arg1) i = g (i 0).val)
variable (hw : ∀ i : S8x128x128.Idx, m ((c : Thread nD τ).loc main_arg2) i = w (i 0).val (i 1).val (i 2).val)
variable (hb : ∀ i : S8x128.Idx, m ((c : Thread nD τ).loc main_arg3) i = b (i 1).val (i 0).val)

include hz in
theorem block_u (t : Fin cfg0.N) (r : Fin 256) (a : Fin 1024) :
    iblk m c 0 t (ix2 r a) = z (128 * (2 * t.val) + r) (1024 + a) := by
  have ht := (idx t).2.2.2.2.2.2
  refine Eq.trans ?_ (hz (ix2 ⟨128 * (2 * t) + r, by omega⟩ ⟨1024 + a, by omega⟩))
  blk_ext [iblk, V, idx t]

include hz in
theorem block_v (t : Fin cfg0.N) (r : Fin 256) (a : Fin 1024) :
    iblk m c 1 t (ix2 r a) = z (128 * (2 * t.val) + r) (2048 + a) := by
  have ht := (idx t).2.2.2.2.2.2
  refine Eq.trans ?_ (hz (ix2 ⟨128 * (2 * t) + r, by omega⟩ ⟨2048 + a, by omega⟩))
  blk_ext [iblk, V, idx t]

include hg in
theorem block_g (t : Fin cfg0.N) (a : Fin 1024) : iblk m c 2 t (ix2 0 a) = g a := by
  refine Eq.trans ?_ (hg (ix1 a))
  blk_simp [iblk]
  entry_read
  pointwise
  blk_ext [idx t]

include hw in
theorem block_w (t : Fin cfg0.N) (h : Fin 8) (i j : Fin 128) : iblk m c 3 t (ix3 h i j) = w h i j := by
  refine Eq.trans ?_ (hw (ix3 h i j))
  blk_ext [iblk, V, idx t]

include hb in
theorem block_b (t : Fin cfg0.N) (i : Fin 128) (h : Fin 8) : iblk m c 4 t (ix2 i h) = b i h := by
  refine Eq.trans ?_ (hb (ix2 h i))
  blk_simp [iblk]
  entry_read
  pointwise
  blk_ext [idx t]

include hz hg hw hb in
/-- The array the call leaves. -/
theorem array : (dats m 0 c).arrAt 5 (cfgs 0).N = fun i : S4096x1024.Idx =>
    gated (fun r a => z r (1024 + a)) (fun r a => z r (2048 + a)) g w b (i 0).val (i 1).val := by
  refine (dats m 0 c).arrAt_eq_of_covers 5 _ (by decide +kernel) fun t hf y => ?_
  blk_simp [idx t]
  rw [after0_5]
  idx_vars y
  refine (block (u := fun r a => z (128 * (2 * t.val) + r) (1024 + a)) (v := fun r a => z (128 * (2 * t.val) + r) (2048 + a))
    (block_u hz t) (block_v hz t) (block_g hg t) (block_w hw t) (block_b hb t) _ _).trans ?_
  rw [gated_from (fun r a => z r (1024 + a)) (fun r a => z r (2048 + a)), show 128 * (2 * t.val) = t.val * 256 by omega]

end Cert.SguFwdIdeal.Value

namespace Cert.SguFwdRefIdeal.Value
open Cert.SguFwdRefIdeal Cert.SguFwdRefIdeal.Read Gating

variable {z : ℕ → ℕ → EReal} {g : ℕ → EReal} {w : ℕ → ℕ → ℕ → EReal} {b : ℕ → ℕ → EReal}
variable {Z : (⟨S4096x3072, .f32⟩ : BufTy).Contents (Elt Ideal)} {G : (⟨S1024, .f32⟩ : BufTy).Contents (Elt Ideal)}
variable {W : (⟨S8x128x128, .f32⟩ : BufTy).Contents (Elt Ideal)} {B : (⟨S8x128, .f32⟩ : BufTy).Contents (Elt Ideal)}
variable (hz : ∀ i : S4096x3072.Idx, Z i = z (i 0).val (i 1).val) (hg : ∀ i : S1024.Idx, G i = g (i 0).val)
variable (hw : ∀ i : S8x128x128.Idx, W i = w (i 0).val (i 1).val (i 2).val)
variable (hb : ∀ i : S8x128.Idx, B i = b (i 1).val (i 0).val)

include hz in
theorem gelu_u (i : S4096x1024.Idx) : val_main_v14 (F := Ideal) Z i = gelu (z (i 0).val (1024 + (i 1).val)) := by
  simp only [val_main_v14_apply, val_main_v13_apply, val_main_v12_apply, val_main_cst_2_apply, val_main_v11_apply,
    val_main_v10_apply, val_main_cst_1_apply, val_main_v9_apply, val_main_v8_apply, val_main_v7_apply,
    val_main_cst_0_apply, val_main_v6_apply, val_main_v5_apply, val_main_v4_apply, val_main_cst_apply,
    val_main_v3_apply, val_main_v2_apply, val_main_v0_apply, hz]
  pointwise [gelu]

include hz in
theorem gelu_v (i : S4096x1024.Idx) : val_main_v27 (F := Ideal) Z i = gelu (z (i 0).val (2048 + (i 1).val)) := by
  simp only [val_main_v27_apply, val_main_v26_apply, val_main_v25_apply, val_main_cst_6_apply, val_main_v24_apply,
    val_main_v23_apply, val_main_cst_5_apply, val_main_v22_apply, val_main_v21_apply, val_main_v20_apply,
    val_main_cst_4_apply, val_main_v19_apply, val_main_v18_apply, val_main_v17_apply, val_main_cst_3_apply,
    val_main_v16_apply, val_main_v15_apply, val_main_v1_apply, hz]
  pointwise [gelu]

include hz hg in
theorem normed_v (i : S4096x1024.Idx) :
    val_main_v40 (F := Ideal) Z G i = normed (fun r a => z r (2048 + a)) g (i 0).val (i 1).val := by
  simp only [val_main_v40_apply, val_main_v39_apply, val_main_v38_apply, val_main_v37_apply, val_main_v36_apply,
    val_main_v35_apply, val_main_v34_apply, val_main_v33_apply, val_main_cst_9_apply, val_main_v32_apply,
    val_main_v31_apply, val_main_cst_8_apply, val_main_v30_apply, val_main_v29_apply, val_main_cst_7_apply,
    val_main_v28_apply, gelu_v hz, hg]
  pointwise [normed, inverse]

include hz hg in
theorem normed_chunks (i : S32x128x8x128.Idx) : val_main_v41 (F := Ideal) Z G i
    = normed (fun r a => z r (2048 + a)) g (128 * (i 0).val + (i 1).val) (128 * (i 2).val + (i 3).val) := by
  rw [val_main_v41_apply, normed_v hz hg]
  exact congrArg₂ _ (Cert.ReferenceIdeal.Sgu.flat_row i) (Cert.ReferenceIdeal.Sgu.flat_col i)

/-- The causal mask of zeros and ones is that of the backward pass. -/
theorem mask (i : S128x128.Idx) :
    val_main_v43 (F := Ideal) i = ((if (i 1).val ≤ (i 0).val then 1 else 0 : ℝ) : EReal) :=
  Cert.ReferenceIdeal.Sgu.mask i

include hw in
theorem causal_w (i : S8x128x128.Idx) :
    val_main_v46 (F := Ideal) W i = causal w (i 0).val (i 1).val (i 2).val := by
  simp only [val_main_v46_apply, val_main_v45_apply, val_main_v44_apply, mask, hw]
  pointwise [causal]
  split <;> simp

include hz hg hw hb in
/-- The array the reference computes. -/
theorem entry (i : S4096x1024.Idx) : val_main_v55 (F := Ideal) Z G W B i
    = gated (fun r a => z r (1024 + a)) (fun r a => z r (2048 + a)) g w b (i 0).val (i 1).val := by
  have h1 : (i 1).val < 1024 := (i 1).isLt
  rw [← gated_at]
  simp only [val_main_v55_apply, val_main_v54_apply, val_main_v53_apply, val_main_v52_apply, val_main_v51_apply,
    val_main_v50_apply, val_main_v49_apply, val_main_v48_apply, val_main_v47_apply, gelu_u hz, normed_chunks hz hg,
    causal_w hw, hb]
  pointwise
  have e0 : ((i 0).val * 1024 + (i 1).val) / 131072 = (i 0).val / 128 := by omega
  have e1 : ((i 0).val * 1024 + (i 1).val) / 128 % 8 = (i 1).val / 128 := by omega
  have e2 : ((i 0).val * 1024 + (i 1).val) % 128 = (i 1).val % 128 := by omega
  have e3 : ((i 0).val * 1024 + (i 1).val) / 1024 % 128 = (i 0).val % 128 := by omega
  rw [e0, e1, e2, e3]

/-- The reference runs and leaves its arguments as they were. -/
theorem frame : Cert.quiescent_SguFwdRefIdeal := fun m ρ _ => (θ_run defs _ _).mono
  (fun r h => ⟨fun c => (h c).2, sem_eq_zero_of_no_sems (by decide) r.2⟩) (run m ρ)

end Cert.SguFwdRefIdeal.Value

open Norm Gating in
/-- The two programs end with the same array. -/
theorem Cert.SguFwdIdeal.Value.equal : Cert.algebraic_SguFwdIdeal_SguFwdRefIdeal := by
  intro m ρ m' ρ' _ hargs
  refine ⟨fun c => (Cert.SguFwdIdeal.Gen.dats m 0 c).arrAt 5 (Cert.SguFwdIdeal.cfgs 0).N, Cert.SguFwdIdeal.Value.run_blocks m ρ,
    (θ_run _ _ _).mono (fun r h c => ?_) (Cert.SguFwdRefIdeal.Value.run m' ρ')⟩
  obtain ⟨r0, ra⟩ := h c
  obtain ⟨a0, a1, a2, a3⟩ := hargs c
  refine ⟨r0.trans ((Cert.SguFwdRefIdeal.Read.val_main_v55_eq _ _).trans (Eq.trans ?_ (Cert.SguFwdIdeal.Value.array
    (entry2_eq _) (entry1_eq _) (entry3_eq _) (b := fun i h => entry2 _ h i) (entry2_eq _)).symm)), ra⟩
  funext i
  rw [← a0, ← a1, ← a2, ← a3]
  exact Cert.SguFwdRefIdeal.Value.entry (entry2_eq _) (entry1_eq _) (entry3_eq _) (entry2_eq _) i
end
-- ==== Proof.Pool.PoolFwd.lean ====
module
public import proofs.«01_k».proof.Defs
public import proofs.«01_k».proof.Proof.Gen.PoolFwdIdeal.Value
public import proofs.«01_k».proof.Proof.Gen.PoolFwdRefIdeal.Run
public import proofs.«01_k».proof.Proof.Gen.PoolFwdRefIdeal.Read
public import proofs.«01_k».proof.Proof.Pool.Sums
public import proofs.«01_k».proof.Proof.Sgu.SguFwd
public import proofs.«01_k».proof.Proof.Sgu.Finite
@[expose] public section
set_option maxRecDepth 16384
noncomputable section
open Idealize.ShloMosaic Idealize.ShloMosaic.TcCoe Idealize.SL.Sem

namespace Cert.PoolFwdIdeal.Value
open Cert.PoolFwdIdeal Cert.PoolFwdIdeal.Gen Pool

variable {q : ℕ → ℕ → ℝ} {w : ℕ → ℕ → ℕ → EReal} {s : ℕ → EReal} {i : grid0.Coords}
variable {P : Vec Ideal S256x1024 .f32} {H : Vec Ideal S16x1024 .f32} {W : Vec Ideal S4x256x256 .bf16}
variable {G : Vec Ideal S1x1024 .f32}
variable (hP : ∀ (r : Fin 256) (c : Fin 1024), P (ix2 r c) = ((q (16 + r) c : ℝ) : EReal))
variable (hH : ∀ (r : Fin 16) (c : Fin 1024),
  Scalar.select (Scalar.cmpi .sgt (BitVec.ofNat 32 (i 0).val) 0#32) (H (ix2 r c)) 0 = ((q r c : ℝ) : EReal))

/-- The rows before the tile, then the tile. -/
theorem joined (n c : ℕ) :
    (if n < 16 then ((q n c : ℝ) : EReal) else ((q (16 + (n - 16)) c : ℝ) : EReal)) = ((q n c : ℝ) : EReal) := by
  split
  · rfl
  · rw [show 16 + (n - 16) = n by omega]

include hP hH in
theorem run2 (n : Fin 272) (c : Fin 1024) (hn : 1 ≤ n.val) : k0_pay8 i P H (ix2 n c) = ((run q 2 n c : ℝ) : EReal) := by
  pointwise [k0_pay8, hP, hH]
  simp only [dite_eq_ite, joined]
  rw [show (n.val + 272 - 1) % 272 = n.val - 1 by omega, run_double q 1, EReal.coe_add]
  simp [run]

include hP hH in
theorem run4 (n : Fin 272) (c : Fin 1024) (hn : 3 ≤ n.val) : k0_pay9 i P H (ix2 n c) = ((run q 4 n c : ℝ) : EReal) := by
  pointwise [k0_pay9]
  rw [run2 hP hH n c (by omega), run_double q 2, EReal.coe_add]
  refine congrArg _ ((run2 hP hH ⟨(n.val + 272 - 2) % 272, by omega⟩ c (by show 1 ≤ (n.val + 272 - 2) % 272; omega)).trans ?_)
  exact congrArg (fun k => ((run q 2 k c : ℝ) : EReal)) (by show (n.val + 272 - 2) % 272 = n.val - 2; omega)

include hP hH in
theorem run8 (n : Fin 272) (c : Fin 1024) (hn : 7 ≤ n.val) : k0_pay10 i P H (ix2 n c) = ((run q 8 n c : ℝ) : EReal) := by
  pointwise [k0_pay10]
  rw [run4 hP hH n c (by omega), run_double q 4, EReal.coe_add]
  refine congrArg _ ((run4 hP hH ⟨(n.val + 272 - 4) % 272, by omega⟩ c (by show 3 ≤ (n.val + 272 - 4) % 272; omega)).trans ?_)
  exact congrArg (fun k => ((run q 4 k c : ℝ) : EReal)) (by show (n.val + 272 - 4) % 272 = n.val - 4; omega)

include hP hH in
theorem run16 (n : Fin 272) (c : Fin 1024) (hn : 15 ≤ n.val) : k0_pay11 i P H (ix2 n c) = ((run q 16 n c : ℝ) : EReal) := by
  pointwise [k0_pay11]
  rw [run8 hP hH n c (by omega), run_double q 8, EReal.coe_add]
  refine congrArg _ ((run8 hP hH ⟨(n.val + 272 - 8) % 272, by omega⟩ c (by show 7 ≤ (n.val + 272 - 8) % 272; omega)).trans ?_)
  exact congrArg (fun k => ((run q 8 k c : ℝ) : EReal)) (by show (n.val + 272 - 8) % 272 = n.val - 8; omega)

/-- The number of rows up to a row of the tile. -/
def upto (i : grid0.Coords) (r : ℕ) : ℕ := (i 0).val * 256 + 1 + r

theorem position (r : Fin 256) (z : Fin 1) : k0_pay12 (F := Ideal) i (ix2 r z) = (((upto i r : ℕ) : ℝ) : EReal) := by
  have hi : (i 0).val < 16 := (i 0).isLt
  pointwise [k0_pay12]
  rw [← word (by unfold upto; omega)]
  refine congrArg _ ?_
  simp only [upto, BitVec.ofNat_add, BitVec.ofNat_mul]
  rfl

/-- A pooled entry of the tile. -/
def tile (q : ℕ → ℕ → ℝ) (i : grid0.Coords) (w r c : ℕ) : ℝ := mean (run q w (16 + r) c) (q (16 + r) c) (upto i r) w

include hP hH in
theorem mean2 (r c : Fin 256) : k0_pay13 (F := Ideal) i P H (ix2 r c) = ((tile q i 2 r c : ℝ) : EReal) := by
  pointwise [k0_pay13]
  rw [run2 hP hH _ _ (by show 1 ≤ 16 + r.val; omega), position, hP, two]
  exact mean_eq _ _ (by unfold upto; omega) (by omega)

include hP hH in
theorem mean4 (r c : Fin 256) :
    k0_pay17 (F := Ideal) P (k0_pay9 i P H) (k0_pay12 i) (ix2 r c) = ((tile q i 4 r (256 + c) : ℝ) : EReal) := by
  pointwise [k0_pay17]
  rw [run4 hP hH _ _ (by show 3 ≤ 16 + r.val; omega), position, hP, four]
  exact mean_eq _ _ (by unfold upto; omega) (by omega)

include hP hH in
theorem mean8 (r c : Fin 256) :
    k0_pay21 (F := Ideal) P (k0_pay10 i P H) (k0_pay12 i) (ix2 r c) = ((tile q i 8 r (512 + c) : ℝ) : EReal) := by
  pointwise [k0_pay21]
  rw [run8 hP hH _ _ (by show 7 ≤ 16 + r.val; omega), position, hP, eight]
  exact mean_eq _ _ (by unfold upto; omega) (by omega)

include hP hH in
theorem mean16 (r c : Fin 256) :
    k0_pay4 (F := Ideal) P (k0_pay11 i P H) (k0_pay12 i) (ix2 r c) = ((tile q i 16 r (768 + c) : ℝ) : EReal) := by
  pointwise [k0_pay4]
  rw [run16 hP hH _ _ (by show 15 ≤ 16 + r.val; omega), position, hP, sixteen]
  exact mean_eq _ _ (by unfold upto; omega) (by omega)

variable (hW : ∀ (g : Fin 4) (k l : Fin 256), W (ix3 g k l) = w g k l) (hG : ∀ c : Fin 1024, G (ix2 0 c) = s c)

include hP hH in
/-- The pooled block of a grid point. -/
theorem block_d (r : Fin 256) (a : Fin 1024) :
    out0_4 i P H W G (ix2 r a) = ((tile q i (window a) r a : ℝ) : EReal) := by
  unfold_out out0_4
  frame_out
  canon_tiles x h
  all_goals
    idx_vars x
    have hr : r = x0 := Fin.ext (by omega)
    subst hr
  · have e : a.val / 256 = 3 := by omega
    rw [mean16 hP hH, window, e, h1]
    rfl
  · have e : a.val / 256 = 2 := by omega
    rw [mean8 hP hH, window, e, h1]
    rfl
  · have e : a.val / 256 = 1 := by omega
    rw [mean4 hP hH, window, e, h1]
    rfl
  · have e : a.val / 256 = 0 := by omega
    rw [mean2 hP hH, window, e, h1]
    rfl

/-- A pooled row of the tile times a column of its group's weights. -/
def mixed (q : ℕ → ℕ → ℝ) (w : ℕ → ℕ → ℕ → EReal) (i : grid0.Coords) (r a : ℕ) : EReal :=
  ∑ k : Fin 256, ((tile q i (window a) r (256 * (a / 256) + k) : ℝ) : EReal) * w (a / 256) k (a % 256)

include hP hH hW in
/-- The mixed block of a grid point. -/
theorem block_e (r : Fin 256) (a : Fin 1024) : out0_5 i P H W G (ix2 r a) = mixed q w i r a := by
  unfold_out out0_5
  frame_out
  canon_tiles x h
  all_goals
    idx_vars x
    have hr : r = x0 := Fin.ext (by omega)
    have hc : a.val % 256 = x1 := by omega
    subst hr
    pointwise [k0_pay1, k0_pay2, k0_pay5, k0_pay6, k0_pay14, k0_pay15, k0_pay18, k0_pay19, k0_pay22]
    rw [mixed, window, hc]
  · have e : a.val / 256 = 3 := by omega
    simp only [mean16 hP hH, hW, e]
    rfl
  · have e : a.val / 256 = 2 := by omega
    simp only [mean8 hP hH, hW, e]
    rfl
  · have e : a.val / 256 = 1 := by omega
    simp only [mean4 hP hH, hW, e]
    rfl
  · have e : a.val / 256 = 0 := by omega
    simp only [mean2 hP hH, hW, e, Nat.mul_zero, zero_add]
    rfl

include hP hH hW hG in
/-- The scaled block of a grid point. -/
theorem block_y (r : Fin 256) (a : Fin 1024) : out0_6 i P H W G (ix2 r a) = mixed q w i r a * s a := by
  unfold_out out0_6
  frame_out
  canon_tiles x h
  all_goals
    idx_vars x
    have hr : r = x0 := Fin.ext (by omega)
    have hc : a.val % 256 = x1 := by omega
    subst hr
    pointwise [k0_pay1, k0_pay3, k0_pay5, k0_pay7, k0_pay14, k0_pay16, k0_pay18, k0_pay20, k0_pay22]
    rw [mixed, window, hc]
  · have e : a.val / 256 = 3 := by omega
    simp only [mean16 hP hH, hW, hG, e]
    rw [h1]
    rfl
  · have e : a.val / 256 = 2 := by omega
    simp only [mean8 hP hH, hW, hG, e]
    rw [h1]
    rfl
  · have e : a.val / 256 = 1 := by omega
    simp only [mean4 hP hH, hW, hG, e]
    rw [h1]
    rfl
  · have e : a.val / 256 = 0 := by omega
    simp only [mean2 hP hH, hW, hG, e, Nat.mul_zero, zero_add]
    rw [h1]
    rfl

/-- Which blocks a grid point works on. -/
theorem idx : ∀ t : Fin cfg0.N, win0_0.index t = ![t.val, 0] ∧ win0_1.index t = ![16 * t.val - 1, 0] ∧
    win0_2.index t = ![0, 0, 0] ∧ win0_3.index t = ![0, 0] ∧ win0_4.index t = ![t.val, 0] ∧
    win0_5.index t = ![t.val, 0] ∧ win0_6.index t = ![t.val, 0] ∧ (grid0.coords t 0).val = t.val ∧ t.val < 16 :=
  (by decide +kernel : ∀ t : Fin grid0.N, _)

variable {m : (ℓ : Loc nD τ sig) → Buf (Elt Ideal) ℓ} {c : Dev nD} {p : ℕ → ℕ → ℝ}
variable (hp : ∀ i : S4096x3072.Idx, (i 1).val < 1024 →
  m ((c : Thread nD τ).loc main_arg0) i = ((p (i 0).val (i 1).val : ℝ) : EReal))
variable (hw : ∀ i : S4x256x256.Idx, m ((c : Thread nD τ).loc main_arg1) i = w (i 0).val (i 1).val (i 2).val)
variable (hs : ∀ i : S1024.Idx, m ((c : Thread nD τ).loc main_arg2) i = s (i 0).val)

/-- The rows a grid point sees: sixteen before its tile, then the tile. -/
def seen (p : ℕ → ℕ → ℝ) (t : ℕ) (n c : ℕ) : ℝ := led p (256 * t + n) c

include hp in
theorem block_p (t : Fin cfg0.N) (r : Fin 256) (a : Fin 1024) :
    iblk m c 0 t (ix2 r a) = ((seen p t (16 + r) a : ℝ) : EReal) := by
  have ht := (idx t).2.2.2.2.2.2.2.2
  refine Eq.trans ?_ ((hp (ix2 ⟨256 * t + r, by omega⟩ ⟨a, by omega⟩) a.isLt).trans ?_)
  · blk_ext [iblk, V, idx t]
  · rw [seen, led, if_pos (by omega)]
    exact congrArg (fun n => ((p n a : ℝ) : EReal)) (by show 256 * t.val + r.val = _; omega)

include hp in
theorem block_h (t : Fin cfg0.N) (r : Fin 16) (a : Fin 1024) :
    Scalar.select (Scalar.cmpi .sgt (BitVec.ofNat 32 (grid0.coords t 0).val) 0#32) (iblk m c 1 t (ix2 r a)) (0 : EReal)
      = ((seen p t r a : ℝ) : EReal) := by
  have ht := (idx t).2.2.2.2.2.2.2.2
  rw [(idx t).2.2.2.2.2.2.2.1]
  by_cases h0 : t.val = 0
  · rw [h0, seen, led, if_neg (by omega)]
    rfl
  · rw [show Scalar.cmpi .sgt (BitVec.ofNat 32 t.val) 0#32 = 1#1 from
      (by decide : ∀ n : Fin 16, n.val ≠ 0 → Scalar.cmpi .sgt (BitVec.ofNat 32 n.val) 0#32 = 1#1) ⟨t.val, ht⟩ h0]
    refine Eq.trans (b := iblk m c 1 t (ix2 r a)) rfl (Eq.trans ?_
      ((hp (ix2 ⟨256 * t - 16 + r, by omega⟩ ⟨a, by omega⟩) a.isLt).trans ?_))
    · blk_ext [iblk, V, idx t]
    · rw [seen, led, if_pos (by omega)]
      exact congrArg (fun n => ((p n a : ℝ) : EReal)) (by show 256 * t.val - 16 + r.val = _; omega)

include hw in
theorem block_w (t : Fin cfg0.N) (g : Fin 4) (k l : Fin 256) : iblk m c 2 t (ix3 g k l) = w g k l := by
  refine Eq.trans ?_ (hw (ix3 g k l))
  blk_ext [iblk, V, idx t]

include hs in
theorem block_s (t : Fin cfg0.N) (a : Fin 1024) : iblk m c 3 t (ix2 0 a) = s a := by
  refine Eq.trans ?_ (hs (ix1 a))
  blk_simp [iblk]
  entry_read
  pointwise
  blk_ext [idx t]

/-- A pooled entry of a tile is one of the array. -/
theorem tile_eq (t : Fin cfg0.N) (r a : ℕ) (ha : a < 1024) :
    tile (seen p t) (grid0.coords t) (window a) r a = pooled p (t.val * 256 + r) a := by
  have hw := window_le ha
  rw [tile, pooled]
  congr 1
  · refine Finset.sum_congr rfl fun k hk => ?_
    rw [Finset.mem_range] at hk
    rw [seen, show 256 * t.val + (16 + r - k) = t.val * 256 + r + 16 - k by omega]
  · rw [seen, led, if_pos (by omega), show 256 * t.val + (16 + r) - 16 = t.val * 256 + r by omega]
  · rw [upto, (idx t).2.2.2.2.2.2.2.1]
    omega

theorem mixed_eq (t : Fin cfg0.N) (r a : ℕ) (ha : a < 1024) :
    mixed (seen p t) w (grid0.coords t) r a = grouped p w (t.val * 256 + r) a := by
  refine Finset.sum_congr rfl fun k _ => ?_
  rw [← tile_eq t r _ (by omega), window_group a k.isLt]

include hp in
/-- The pooled array. -/
theorem array_d : (dats m 0 c).arrAt 4 (cfgs 0).N = fun i : S4096x1024.Idx =>
    ((pooled p (i 0).val (i 1).val : ℝ) : EReal) := by
  refine (dats m 0 c).arrAt_eq_of_covers 4 _ (by decide +kernel) fun t hf y => ?_
  blk_simp [idx t]
  rw [after0_4]
  idx_vars y
  refine (block_d (q := seen p t) (block_p hp t) (block_h hp t) _ _).trans ?_
  rw [tile_eq t _ _ (Fin.isLt _)]

include hp hw in
/-- The mixed array. -/
theorem array_e : (dats m 0 c).arrAt 5 (cfgs 0).N = fun i : S4096x1024.Idx => grouped p w (i 0).val (i 1).val := by
  refine (dats m 0 c).arrAt_eq_of_covers 5 _ (by decide +kernel) fun t hf y => ?_
  blk_simp [idx t]
  rw [after0_5]
  idx_vars y
  refine (block_e (q := seen p t) (block_p hp t) (block_h hp t) (block_w hw t) _ _).trans ?_
  rw [mixed_eq t _ _ (Fin.isLt _)]

include hp hw hs in
/-- The scaled array. -/
theorem array_y : (dats m 0 c).arrAt 6 (cfgs 0).N = fun i : S4096x1024.Idx =>
    grouped p w (i 0).val (i 1).val * s (i 1).val := by
  refine (dats m 0 c).arrAt_eq_of_covers 6 _ (by decide +kernel) fun t hf y => ?_
  blk_simp [idx t]
  rw [after0_6]
  idx_vars y
  refine (block_y (q := seen p t) (block_p hp t) (block_h hp t) (block_w hw t) (block_s hs t) _ _).trans ?_
  rw [mixed_eq t _ _ (Fin.isLt _)]

end Cert.PoolFwdIdeal.Value

namespace Cert.PoolFwdRefIdeal.Value
open Cert.PoolFwdRefIdeal Cert.PoolFwdRefIdeal.Read Pool

variable {p : ℕ → ℕ → ℝ} {w : ℕ → ℕ → ℕ → EReal} {s : ℕ → EReal}
variable {Z : (⟨S4096x3072, .f32⟩ : BufTy).Contents (Elt Ideal)} {W : (⟨S4x256x256, .bf16⟩ : BufTy).Contents (Elt Ideal)}
variable {G : (⟨S1024, .f32⟩ : BufTy).Contents (Elt Ideal)}
variable (hp : ∀ i : S4096x3072.Idx, (i 1).val < 1024 → Z i = ((p (i 0).val (i 1).val : ℝ) : EReal))
variable (hw : ∀ i : S4x256x256.Idx, W i = w (i 0).val (i 1).val (i 2).val) (hs : ∀ i : S1024.Idx, G i = s (i 0).val)

include hp in
theorem columns (i : S4096x1024.Idx) : val_main_v0 (F := Ideal) Z i = ((p (i 0).val (i 1).val : ℝ) : EReal) := by
  rw [val_main_v0_apply]
  exact (hp _ (i 1).isLt).trans rfl

include hp in
theorem sums (i : S4096x1024.Idx) : val_main_v1 (F := Ideal) Z i
    = ((∑ k ∈ Finset.range ((i 0).val + 1), p k (i 1).val : ℝ) : EReal) :=
  cumsum (Rm1 := 4095) rfl _ p (columns hp) _ (fun _ => by rw [val_main_call0_call0_v0_apply, val_main_call0_call0_cst_apply]; pointwise) _ _ i

include hp in
theorem padded (i : S4112x1024.Idx) : val_main_v3 (F := Ideal) Z i
    = ((∑ k ∈ Finset.range ((i 0).val - 15), p k (i 1).val : ℝ) : EReal) := by
  idx_vars i
  rw [val_main_v3]
  pointwise
  split
  · rw [val_main_v2_apply, val_main_cst_apply, show i0.val - 15 = 0 by omega]
    pointwise
    simp
  · rw [sums hp]
    exact congrArg (fun n => ((∑ k ∈ Finset.range n, p k i1 : ℝ) : EReal)) (by show i0.val - 16 + 1 = _; omega)

include hp in
theorem pooled2 (i : S4096x256.Idx) :
    val_main_v17 (F := Ideal) Z i = ((pooled p (i 0).val ((i 1).val) : ℝ) : EReal) := by
  have h1 : (i 1).val < 256 := (i 1).isLt
  simp only [val_main_v17_apply, val_main_v16_apply, val_main_v15_apply, val_main_v14_apply, val_main_v13_apply,
    val_main_v12_apply, val_main_v11_apply, val_main_v10_apply, val_main_v9_apply, val_main_v8_apply, val_main_v7_apply,
    val_main_v6_apply, val_main_v5_apply, val_main_v4_apply, val_main_c_apply, val_main_c_0_apply,
    columns hp, sums hp, padded hp]
  pointwise
  exact pooled_sums p (i 0).isLt (by omega) (by omega) (by rw [window, show ((i 1).val) / 256 = 0 by omega]; rfl)

include hp in
theorem pooled4 (i : S4096x256.Idx) :
    val_main_v28 (F := Ideal) Z i = ((pooled p (i 0).val (256 + (i 1).val) : ℝ) : EReal) := by
  have h1 : (i 1).val < 256 := (i 1).isLt
  simp only [val_main_v28_apply, val_main_v27_apply, val_main_v26_apply, val_main_v25_apply, val_main_v24_apply, val_main_v23_apply, val_main_v22_apply, val_main_v21_apply, val_main_v20_apply, val_main_v19_apply, val_main_v18_apply,
    val_main_v6_apply, val_main_v5_apply, val_main_v4_apply, val_main_c_apply, val_main_c_1_apply,
    columns hp, sums hp, padded hp]
  pointwise
  exact pooled_sums p (i 0).isLt (by omega) (by omega) (by rw [window, show (256 + (i 1).val) / 256 = 1 by omega]; rfl)

include hp in
theorem pooled8 (i : S4096x256.Idx) :
    val_main_v39 (F := Ideal) Z i = ((pooled p (i 0).val (512 + (i 1).val) : ℝ) : EReal) := by
  have h1 : (i 1).val < 256 := (i 1).isLt
  simp only [val_main_v39_apply, val_main_v38_apply, val_main_v37_apply, val_main_v36_apply, val_main_v35_apply, val_main_v34_apply, val_main_v33_apply, val_main_v32_apply, val_main_v31_apply, val_main_v30_apply, val_main_v29_apply,
    val_main_v6_apply, val_main_v5_apply, val_main_v4_apply, val_main_c_apply, val_main_c_2_apply,
    columns hp, sums hp, padded hp]
  pointwise
  exact pooled_sums p (i 0).isLt (by omega) (by omega) (by rw [window, show (512 + (i 1).val) / 256 = 2 by omega]; rfl)

include hp in
theorem pooled16 (i : S4096x256.Idx) :
    val_main_v50 (F := Ideal) Z i = ((pooled p (i 0).val (768 + (i 1).val) : ℝ) : EReal) := by
  have h1 : (i 1).val < 256 := (i 1).isLt
  simp only [val_main_v50_apply, val_main_v49_apply, val_main_v48_apply, val_main_v47_apply, val_main_v46_apply, val_main_v45_apply, val_main_v44_apply, val_main_v43_apply, val_main_v42_apply, val_main_v41_apply, val_main_v40_apply,
    val_main_v6_apply, val_main_v5_apply, val_main_v4_apply, val_main_c_apply, val_main_c_3_apply,
    columns hp, sums hp, padded hp]
  pointwise
  exact pooled_sums p (i 0).isLt (by omega) (by omega) (by rw [window, show (768 + (i 1).val) / 256 = 3 by omega]; rfl)

include hp in
theorem stacked (i : S4096x4x256.Idx) : val_main_v55 (F := Ideal) Z i
    = ((pooled p (i 0).val (256 * (i 1).val + (i 2).val) : ℝ) : EReal) := by
  idx_vars i
  rw [val_main_v55]
  pointwise
  simp only [val_main_v51_apply, val_main_v52_apply, val_main_v53_apply, val_main_v54_apply, pooled2 hp, pooled4 hp,
    pooled8 hp, pooled16 hp]
  split
  · exact congrArg (fun c => ((pooled p i0 c : ℝ) : EReal)) (by show i2.val = _; omega)
  split
  · exact congrArg (fun c => ((pooled p i0 c : ℝ) : EReal)) (by show 256 + i2.val = _; omega)
  split
  · exact congrArg (fun c => ((pooled p i0 c : ℝ) : EReal)) (by show 512 + i2.val = _; omega)
  · exact congrArg (fun c => ((pooled p i0 c : ℝ) : EReal)) (by show 768 + i2.val = _; omega)

include hp in
theorem entry_d (i : S4096x1024.Idx) : val_main_v61 (F := Ideal) Z i = ((pooled p (i 0).val (i 1).val : ℝ) : EReal) := by
  have h1 : (i 1).val < 1024 := (i 1).isLt
  simp only [val_main_v61_apply, val_main_v60_apply, stacked hp]
  pointwise
  exact congrArg₂ (fun t c => ((pooled p t c : ℝ) : EReal)) (by omega) (by omega)

include hp hw in
theorem entry_e (i : S4096x1024.Idx) : val_main_v59 (F := Ideal) Z W i = grouped p w (i 0).val (i 1).val := by
  have h1 : (i 1).val < 1024 := (i 1).isLt
  simp only [val_main_v59_apply, val_main_v58_apply, val_main_v57_apply, val_main_v56_apply, stacked hp, hw]
  pointwise
  have e0 : ((i 0).val * 1024 + (i 1).val) / 1024 = (i 0).val := by omega
  have e1 : ((i 0).val * 1024 + (i 1).val) / 256 % 4 = (i 1).val / 256 := by omega
  have e2 : ((i 0).val * 1024 + (i 1).val) % 256 = (i 1).val % 256 := by omega
  rw [e0, e1, e2]
  exact Finset.sum_congr rfl fun k _ => mul_comm _ _

include hp hw hs in
theorem entry_y (i : S4096x1024.Idx) :
    val_main_v66 (F := Ideal) Z W G i = grouped p w (i 0).val (i 1).val * s (i 1).val := by
  simp only [val_main_v66_apply, val_main_v65_apply, val_main_v64_apply, val_main_v63_apply, entry_e hp hw, hs]
  pointwise

/-- The reference runs and leaves its arguments as they were. -/
theorem frame : Cert.quiescent_PoolFwdRefIdeal := fun m ρ _ => (θ_run defs _ _).mono
  (fun r h => ⟨fun c => (h c).2.2.2, sem_eq_zero_of_no_sems (by decide) r.2⟩) (run m ρ)

end Cert.PoolFwdRefIdeal.Value

namespace Cert.PoolFwdIdeal.Value
open Cert.PoolFwdIdeal

/-- The first columns of an array as a real function. -/
def columns (z : S4096x3072.Idx → EReal) (r a : ℕ) : ℝ :=
  if h : r < 4096 ∧ a < 1024 then (z (ValueIdx.ix2 ⟨r, h.1⟩ ⟨a, by omega⟩)).toReal else 0

/-- The precondition's own side conditions. -/
theorem pre_facts : Cert.Pre_finite_columns.Facts where
  slices_S4096x3072_S4096x1024_0_0 := by decide
  bcast_S_S4096x1024 := by decide

attribute [local instance] pre_facts

/-- A finite column is a real one. -/
theorem finite_part {z : S4096x3072.Idx → EReal} {w : S4x256x256.Idx → EReal} {g : S1024.Idx → EReal}
    (h : Cert.Pre_finite_columns.fn (F := Ideal) z w g = fun _ => 1#1) (i : S4096x3072.Idx) (hi : (i 1).val < 1024) :
    z i = ((columns z (i 0).val (i 1).val : ℝ) : EReal) := by
  have h0 : (i 0).val < 4096 := (i 0).isLt
  have e : i = ValueIdx.ix2 ⟨(i 0).val, h0⟩ ⟨(i 1).val, by omega⟩ := by funext a; fin_cases a <;> rfl
  unfold columns
  rw [dif_pos ⟨h0, hi⟩]
  refine (Sgu.real_of_lt ?_).trans (congrArg (fun q => ((z q).toReal : EReal)) e)
  refine Eq.trans ?_ (congrFun h (ValueIdx.ix2 ⟨(i 0).val, h0⟩ ⟨(i 1).val, hi⟩))
  pointwise [Cert.Pre_finite_columns.fn]
  refine congrArg (fun v => Ideal.cmp .olt (max v (-v)) (Ideal.ofBits .f32 0x7F800000#32)) ?_
  exact congrArg z e

open _root_.Norm Gating in
/-- The two programs end with the same three arrays. -/
theorem equal : Cert.algebraic_PoolFwdIdeal_PoolFwdRefIdeal_pre_finite_columns := by
  intro m ρ m' ρ' hpre hargs
  refine ⟨fun c => (Cert.PoolFwdIdeal.Gen.dats m 0 c).arrAt 4 (Cert.PoolFwdIdeal.cfgs 0).N,
    fun c => (Cert.PoolFwdIdeal.Gen.dats m 0 c).arrAt 5 (Cert.PoolFwdIdeal.cfgs 0).N,
    fun c => (Cert.PoolFwdIdeal.Gen.dats m 0 c).arrAt 6 (Cert.PoolFwdIdeal.cfgs 0).N, Cert.PoolFwdIdeal.Value.run_blocks m ρ,
    (θ_run _ _ _).mono (fun r h c => ?_) (Cert.PoolFwdRefIdeal.Value.run m' ρ')⟩
  obtain ⟨r0, r1, r2, ra⟩ := h c
  obtain ⟨a0, a1, a2⟩ := hargs c
  have hp := finite_part (hpre c)
  have hq := fun i hi => (congrFun a0 i).trans (hp i hi)
  refine ⟨r0.trans ((Cert.PoolFwdRefIdeal.Read.val_main_v61_eq _ _).trans (Eq.trans ?_ (array_d hp).symm)),
    r1.trans ((Cert.PoolFwdRefIdeal.Read.val_main_v62_eq _ _).trans (Eq.trans ?_ (array_e hp (entry3_eq _)).symm)),
    r2.trans ((Cert.PoolFwdRefIdeal.Read.val_main_v66_eq _ _).trans (Eq.trans ?_ (array_y hp (entry3_eq _) (entry1_eq _)).symm)), ra⟩
  all_goals
    funext i
  · exact Cert.PoolFwdRefIdeal.Value.entry_d hq i
  · rw [← a1]
    exact Cert.PoolFwdRefIdeal.Value.entry_e hq (entry3_eq _) i
  · rw [← a1, ← a2]
    exact Cert.PoolFwdRefIdeal.Value.entry_y hq (entry3_eq _) (entry1_eq _) i

end Cert.PoolFwdIdeal.Value
end
-- ==== Proof.Pool.Ahead.lean ====
module
public import proofs.«01_k».proof.Proof.Pool.Sums
@[expose] public section
noncomputable section
open Idealize.ShloMosaic

/-!
# Window sums that look ahead, and what the pooling passes back
-/
namespace Pool

/-- The sum of row `n` and the `w - 1` rows after it. -/
def ahead (q : ℕ → ℕ → ℝ) (w n c : ℕ) : ℝ := ∑ k ∈ Finset.range w, q (n + k) c

/-- A window twice as long is two windows. -/
theorem ahead_double (q : ℕ → ℕ → ℝ) (w n c : ℕ) : ahead q (w + w) n c = ahead q w n c + ahead q w (n + w) c := by
  simp only [ahead, Finset.sum_range_add, add_assoc]

/-- Adding up, from row `j` on, what enters the window less what leaves it is the window of row `j`. -/
theorem sum_window (q : ℕ → ℝ) (w j L : ℕ) (hq : ∀ t, j + L ≤ t → q t = 0) :
    ∑ k ∈ Finset.range L, (q (j + k) - q (j + k + w)) = ∑ k ∈ Finset.range w, q (j + k) := by
  have h : ∑ k ∈ Finset.range (w + L), q (j + k) = ∑ k ∈ Finset.range (L + w), q (j + k) := by rw [add_comm]
  have z : ∑ k ∈ Finset.range w, q (j + (L + k)) = 0 := Finset.sum_eq_zero fun k _ => hq _ (by omega)
  have e : ∑ k ∈ Finset.range L, q (j + k + w) = ∑ k ∈ Finset.range L, q (j + (w + k)) :=
    Finset.sum_congr rfl fun k _ => congrArg q (by omega)
  rw [Finset.sum_range_add, Finset.sum_range_add, z] at h
  rw [Finset.sum_sub_distrib, e]
  linarith

/-- A row times the weights of its group, on the weights' other side. -/
def mixback (x : ℕ → ℕ → ℝ) (w : ℕ → ℕ → ℕ → ℝ) (t a : ℕ) : ℝ :=
  ∑ k : Fin 256, x t (256 * (a / 256) + k) * w (a / 256) (a % 256) k

theorem mixback_group (x : ℕ → ℕ → ℝ) (w : ℕ → ℕ → ℕ → ℝ) (t g : ℕ) {a : ℕ} (h : a < 256) :
    ∑ k : Fin 256, x t (256 * g + k) * w g a k = mixback x w t (256 * g + a) := by
  rw [mixback, show (256 * g + a) / 256 = g by omega, show (256 * g + a) % 256 = a by omega]

/-- One row's share of a window, the rows counted from row `o` on. -/
def share (o : ℕ) (x : ℕ → ℕ → ℝ) (w : ℕ → ℕ → ℕ → ℝ) (t a : ℕ) : ℝ :=
  mixback x w t a * (1 / ((min (o + t + 1) (window a) : ℕ) : ℝ))

/-- What a row passes back: the shares of the windows it is in, less the row itself. -/
def unpooled (o : ℕ) (x : ℕ → ℕ → ℝ) (w : ℕ → ℕ → ℕ → ℝ) (t a : ℕ) : ℝ :=
  ahead (share o x w) (window a) t a - mixback x w t a

theorem unpooled_from (o : ℕ) (x : ℕ → ℕ → ℝ) (w : ℕ → ℕ → ℕ → ℝ) (t a : ℕ) :
    unpooled o (fun n => x (o + n)) w t a = unpooled 0 x w (o + t) a := by
  simp only [unpooled, ahead, share, mixback, Nat.zero_add, Nat.add_assoc]

theorem div_count (x : ℝ) (o t w : ℕ) (hw : 0 < w) :
    Ideal.div (x : EReal) (min (((o + t + 1 : ℕ) : ℝ) : EReal) ((w : ℝ) : EReal))
      = ((x * (1 / ((min (o + t + 1) w : ℕ) : ℝ)) : ℝ) : EReal) := by
  have e : min (((o + t + 1 : ℕ) : ℝ) : EReal) ((w : ℝ) : EReal) = (((min (o + t + 1) w : ℕ) : ℝ) : EReal) := by
    rw [Nat.cast_min]
    exact (EReal.coe_strictMono.monotone.map_min).symm
  have h : ((min (o + t + 1) w : ℕ) : ℝ) ≠ 0 := by exact_mod_cast (Nat.lt_min.2 ⟨Nat.succ_pos _, hw⟩).ne'
  rw [e, Ideal.div_coe h, ← EReal.coe_mul]

/-- Turning the rows of a column of 272 by one, two, four and eight. -/
theorem turn1 {n : ℕ} (h : n < 271) : (n + 272 - 271) % 272 = n + 1 := by omega
theorem turn2 {n : ℕ} (h : n < 270) : (n + 272 - 270) % 272 = n + 2 := by omega
theorem turn4 {n : ℕ} (h : n < 268) : (n + 272 - 268) % 272 = n + 4 := by omega
theorem turn8 {n : ℕ} (h : n < 264) : (n + 272 - 264) % 272 = n + 8 := by omega

end Pool
end
-- ==== Proof.Pool.PoolBwd.lean ====
module
public import proofs.«01_k».proof.Defs
public import proofs.«01_k».proof.Proof.Gen.PoolBwdIdeal.Value
public import proofs.«01_k».proof.Proof.Gen.PoolBwdRefIdeal.Run
public import proofs.«01_k».proof.Proof.Gen.PoolBwdRefIdeal.Read
public import proofs.«01_k».proof.Proof.Pool.Ahead
public import proofs.«01_k».proof.Proof.Norm.Gradient
public import proofs.«01_k».proof.Proof.Sgu.Finite
public import proofs.«01_k».proof.Proof.Sgu.Tiles
public import Idealize.ShloMosaic.Lib.Pipeline.ReadBack
@[expose] public section
set_option maxRecDepth 16384
noncomputable section
open Idealize.ShloMosaic Idealize.ShloMosaic.TcCoe Idealize.SL.Sem

namespace Cert.PoolBwdIdeal.Value
open Cert.PoolBwdIdeal Cert.PoolBwdIdeal.Gen Pool
open Sgu (sum_coe)

variable {y : ℕ → ℕ → ℝ} {s : ℕ → ℝ} {w : ℕ → ℕ → ℕ → ℝ} {i : grid0.Coords}
variable {P : Vec Ideal S256x1024 .bf16} {H : Vec Ideal S16x1024 .bf16} {W : Vec Ideal S1x256x256 .bf16}
variable {G : Vec Ideal S1x1024 .f32}
variable (hP : ∀ (r : Fin 256) (c : Fin 1024), P (ix2 r c) = ((y r c : ℝ) : EReal))
variable (hH : ∀ (r : Fin 16) (c : Fin 1024),
  Scalar.select (Scalar.cmpi .slt (BitVec.ofNat 32 (i 0).val) 15#32) (H (ix2 r c) * G (ix2 0 c)) 0
    = ((y (256 + r) c * s c : ℝ) : EReal))
variable (hG : ∀ c : Fin 1024, G (ix2 0 c) = ((s c : ℝ) : EReal))

/-- The tile, then the rows after it. -/
theorem joined (n c : ℕ) :
    (if n < 256 then ((y n c * s c : ℝ) : EReal) else ((y (256 + (n - 256)) c * s c : ℝ) : EReal))
      = ((y n c * s c : ℝ) : EReal) := by
  split
  · rfl
  · rw [show 256 + (n - 256) = n by omega]

include hP hH hG in
theorem scaled (n : Fin 272) (c : Fin 1024) : k0_pay6 i P G H G (ix2 n c) = ((y n c * s c : ℝ) : EReal) := by
  pointwise [k0_pay6, k0_pay4, hH]
  simp only [hP, hH, hG, ← EReal.coe_mul, dite_eq_ite, joined]

theorem position (n : Fin 272) (z : Fin 1) :
    k0_pay7 (F := Ideal) i (ix2 n z) = ((((i 0).val * 256 + n + 1 : ℕ) : ℝ) : EReal) := by
  have hi : (i 0).val < 16 := (i 0).isLt
  pointwise [k0_pay7]
  rw [← word (by omega)]
  refine congrArg _ ?_
  rw [show (i 0).val * 256 + n.val + 1 = (i 0).val * 256 + 1 + n.val by omega]
  simp only [BitVec.ofNat_add, BitVec.ofNat_mul]
  rfl

/-- The tile's rows count from here. -/
abbrev base (i : grid0.Coords) : ℕ := (i 0).val * 256

section group
variable {x : ℕ → ℕ → ℝ} {g : ℕ}
variable {X : Vec Ideal S272x256 .bf16} (hX : ∀ (n : Fin 272) (k : Fin 256), X (ix2 n k) = ((x n (256 * g + k) : ℝ) : EReal))
variable (hW : ∀ (a k : Fin 256), W (ix3 0 a k) = ((w g a k : ℝ) : EReal))
variable {M : Vec Ideal S272x256 .f32}
variable (hM : ∀ (n : Fin 272) (a : Fin 256), M (ix2 n a) = ((mixback x w n (256 * g + a) : ℝ) : EReal))

include hX hW in
theorem out2 (hg : g = 0) (r a : Fin 256) : k0_pay10 (k0_pay7 i) X W (ix2 r a)
    = ((unpooled (base i) x w r (256 * g + a) : ℝ) : EReal) := by
  have h : window (256 * g + a) = 2 := by rw [window, show (256 * g + a.val) / 256 = 0 by omega]; rfl
  pointwise [k0_pay10]
  simp (disch := omega) only [hX, hW, ← EReal.coe_mul, sum_coe, mixback_group, Fin.is_lt, position, two, div_count]
  simp (disch := omega) only [turn1, unpooled, ahead, share, h, ← EReal.coe_add, ← EReal.coe_sub, Finset.sum_range_succ, Finset.sum_range_zero,
    Nat.add_assoc, Nat.reduceAdd, Nat.add_zero, zero_add]

include hM in
theorem out4 (hg : g = 1) (r a : Fin 256) : k0_pay16 (F := Ideal) (k0_pay7 i) M (ix2 r a)
    = ((unpooled (base i) x w r (256 * g + a) : ℝ) : EReal) := by
  have h : window (256 * g + a) = 4 := by rw [window, show (256 * g + a.val) / 256 = 1 by omega]; rfl
  pointwise [k0_pay16]
  simp (disch := omega) only [hM, position, four, div_count]
  simp (disch := omega) only [turn1, turn2, unpooled, ahead, share, h, ← EReal.coe_add, ← EReal.coe_sub, Finset.sum_range_succ, Finset.sum_range_zero,
    Nat.add_assoc, Nat.reduceAdd, Nat.add_zero, zero_add]
  refine congrArg _ ?_
  ring

variable {Q : Vec Ideal S272x256 .f32}
variable (hQ : ∀ (n : Fin 272) (a : Fin 256), Q (ix2 n a) = ((share (base i) x w n (256 * g + a) : ℝ) : EReal))

include hM hQ in
theorem out8 (hg : g = 2) (r a : Fin 256) : k0_pay21 (F := Ideal) M Q (ix2 r a)
    = ((unpooled (base i) x w r (256 * g + a) : ℝ) : EReal) := by
  have h : window (256 * g + a) = 8 := by rw [window, show (256 * g + a.val) / 256 = 2 by omega]; rfl
  pointwise [k0_pay21]
  simp (disch := omega) only [hM, hQ]
  simp (disch := omega) only [turn1, turn2, turn4, unpooled, ahead, share, h, ← EReal.coe_add, ← EReal.coe_sub, Finset.sum_range_succ, Finset.sum_range_zero,
    Nat.add_assoc, Nat.reduceAdd, Nat.add_zero, zero_add]
  refine congrArg _ ?_
  ring

variable {D : Vec Ideal S272x1024 .bf16} (hD : ∀ (n : Fin 272) (c : Fin 1024), D (ix2 n c) = ((x n c : ℝ) : EReal))

include hD hW in
theorem mixed1 (hg : g = 1) (n : Fin 272) (a : Fin 256) : k0_pay12 D W (ix2 n a)
    = ((mixback x w n (256 * g + a) : ℝ) : EReal) := by
  subst hg
  pointwise [k0_pay12, k0_pay11]
  simp only [hD, hW, ← EReal.coe_mul, sum_coe]
  have e := mixback_group x w n 1 a.isLt
  exact congrArg _ e

include hD hW in
theorem mixed2 (hg : g = 2) (n : Fin 272) (a : Fin 256) : k0_pay18 D W (ix2 n a)
    = ((mixback x w n (256 * g + a) : ℝ) : EReal) := by
  subst hg
  pointwise [k0_pay18, k0_pay17]
  simp only [hD, hW, ← EReal.coe_mul, sum_coe]
  have e := mixback_group x w n 2 a.isLt
  exact congrArg _ e

include hD hW in
theorem mixed3 (hg : g = 3) (n : Fin 272) (a : Fin 256) : k0_pay23 D W (ix2 n a)
    = ((mixback x w n (256 * g + a) : ℝ) : EReal) := by
  subst hg
  pointwise [k0_pay23, k0_pay22]
  simp only [hD, hW, ← EReal.coe_mul, sum_coe]
  have e := mixback_group x w n 3 a.isLt
  exact congrArg _ e

include hD hW in
theorem share8 (hg : g = 2) (n : Fin 272) (a : Fin 256) : k0_pay20 D (k0_pay7 i) W (ix2 n a)
    = ((share (base i) x w n (256 * g + a) : ℝ) : EReal) := by
  have h : window (256 * g + a) = 8 := by rw [window, show (256 * g + a.val) / 256 = 2 by omega]; rfl
  pointwise [k0_pay20]
  simp (disch := omega) only [mixed2 hW hD hg, position, eight, div_count, share, h]

include hD hW in
theorem sum8 (hg : g = 3) (n : Fin 272) (hn : n.val < 265) (a : Fin 256) : k0_pay25 D (k0_pay7 i) W (ix2 n a)
    = ((ahead (share (base i) x w) 8 n (256 * g + a) : ℝ) : EReal) := by
  have h : window (256 * g + a) = 16 := by rw [window, show (256 * g + a.val) / 256 = 3 by omega]; rfl
  pointwise [k0_pay25]
  simp (disch := omega) only [mixed3 hW hD hg, position, sixteen, div_count]
  simp (disch := omega) only [turn1, turn2, turn4, ahead, share, h, ← EReal.coe_add, Finset.sum_range_succ,
    Finset.sum_range_zero, Nat.add_assoc, Nat.reduceAdd, Nat.add_zero, zero_add]
  refine congrArg _ ?_
  ring

include hD hW hM in
theorem out16 (hg : g = 3) (r a : Fin 256) :
    k0_pay1 (F := Ideal) M (k0_pay25 D (k0_pay7 i) W) (k0_pay26 D (k0_pay7 i) W) (ix2 r a)
    = ((unpooled (base i) x w r (256 * g + a) : ℝ) : EReal) := by
  have h : window (256 * g + a) = 16 := by rw [window, show (256 * g + a.val) / 256 = 3 by omega]; rfl
  pointwise [k0_pay1, k0_pay26]
  refine (congrArg₂ (· - ·) (congrArg₂ (· + ·) (sum8 hW hD hg ⟨r, by omega⟩ (by show r.val < 265; omega) a)
    (sum8 hW hD hg ⟨(r.val + 272 - 264) % 272, by omega⟩ (by show (r.val + 272 - 264) % 272 < 265; omega) a)) (hM _ a)).trans ?_
  rw [← EReal.coe_add, ← EReal.coe_sub, unpooled, h, ahead_double _ 8]
  simp (disch := omega) only [turn8]

end group

/-- Which blocks a grid point works on. -/
theorem idx : ∀ t : Fin cfg0.N, win0_0.index t = ![t.val, 0] ∧ win0_1.index t = ![min (16 * t.val + 16) 255, 0] ∧
    win0_2.index t = ![t.val, 0] ∧ win0_3.index t = ![t.val, 0] ∧ win0_4.index t = ![0, 0, 0] ∧ win0_5.index t = ![0, 0] ∧
    win0_6.index t = ![t.val, 0] ∧ win0_7.index t = ![0, 0, 0] ∧ win0_8.index t = ![0, 0] ∧
    (grid0.coords t 0).val = t.val ∧ t.val < 16 :=
  (by decide +kernel : ∀ t : Fin grid0.N, _)

/-- The five arguments hold these values on device `c`; the gradient is continued by zero. -/
structure Args (m : (ℓ : Loc nD τ sig) → Buf (Elt Ideal) ℓ) (c : Dev nD) (y : ℕ → ℕ → ℝ) (e d : ℕ → ℕ → EReal)
    (w : ℕ → ℕ → ℕ → ℝ) (s : ℕ → ℝ) : Prop where
  hy : ∀ i : S4096x1024.Idx, m ((c : Thread nD τ).loc main_arg0) i = ((y (i 0).val (i 1).val : ℝ) : EReal)
  hz : ∀ t a, 4096 ≤ t → y t a = 0
  he : ∀ i : S4096x1024.Idx, m ((c : Thread nD τ).loc main_arg1) i = e (i 0).val (i 1).val
  hd : ∀ i : S4096x1024.Idx, m ((c : Thread nD τ).loc main_arg2) i = d (i 0).val (i 1).val
  hw : ∀ i : S4x256x256.Idx, m ((c : Thread nD τ).loc main_arg3) i = ((w (i 0).val (i 1).val (i 2).val : ℝ) : EReal)
  hs : ∀ i : S1024.Idx, m ((c : Thread nD τ).loc main_arg4) i = ((s (i 0).val : ℝ) : EReal)

variable {m : (ℓ : Loc nD τ sig) → Buf (Elt Ideal) ℓ} {c : Dev nD} {e d : ℕ → ℕ → EReal}
variable (A : Args m c y e d w s) (t : Fin cfg0.N)

include A in
theorem block_y (r : Fin 256) (a : Fin 1024) : iblk m c 0 t (ix2 r a) = ((y (t.val * 256 + r) a : ℝ) : EReal) := by
  have ht := (idx t).2.2.2.2.2.2.2.2.2.2
  refine Eq.trans ?_ (A.hy (ix2 ⟨t.val * 256 + r, by omega⟩ a))
  blk_ext [iblk, V, idx t]

include A in
theorem block_e (r : Fin 256) (a : Fin 1024) : iblk m c 2 t (ix2 r a) = e (t.val * 256 + r) a := by
  have ht := (idx t).2.2.2.2.2.2.2.2.2.2
  refine Eq.trans ?_ (A.he (ix2 ⟨t.val * 256 + r, by omega⟩ a))
  blk_ext [iblk, V, idx t]

include A in
theorem block_d (r : Fin 256) (a : Fin 1024) : iblk m c 3 t (ix2 r a) = d (t.val * 256 + r) a := by
  have ht := (idx t).2.2.2.2.2.2.2.2.2.2
  refine Eq.trans ?_ (A.hd (ix2 ⟨t.val * 256 + r, by omega⟩ a))
  blk_ext [iblk, V, idx t]

include A in
theorem block_w (g : Fin 4) (a k : Fin 256) : iblk m c 4 t (ix3 g a k) = ((w g a k : ℝ) : EReal) := by
  refine Eq.trans ?_ (A.hw (ix3 g a k))
  blk_ext [iblk, V, idx t]

include A in
theorem block_s (a : Fin 1024) : iblk m c 5 t (ix2 0 a) = ((s a : ℝ) : EReal) := by
  refine Eq.trans ?_ (A.hs (ix1 a))
  blk_simp [iblk]
  entry_read
  pointwise
  blk_ext [idx t]

include A in
theorem block_h {N : Vec Ideal S16x1024 .bf16} {S : Vec Ideal S1x1024 .f32} (hN : N = iblk m c 1 t) (hS : S = iblk m c 5 t)
    (r : Fin 16) (a : Fin 1024) :
    Scalar.select (Scalar.cmpi .slt (BitVec.ofNat 32 (grid0.coords t 0).val) 15#32) (N (ix2 r a) * S (ix2 0 a)) (0 : EReal)
      = ((y (t.val * 256 + (256 + r)) a * s a : ℝ) : EReal) := by
  have ht := (idx t).2.2.2.2.2.2.2.2.2.2
  rw [(idx t).2.2.2.2.2.2.2.2.2.1]
  by_cases h0 : t.val = 15
  · rw [h0, A.hz _ _ (by omega), zero_mul]
    rfl
  · rw [show Scalar.cmpi .slt (BitVec.ofNat 32 t.val) 15#32 = 1#1 from
      (by decide : ∀ n : Fin 16, n.val ≠ 15 → Scalar.cmpi .slt (BitVec.ofNat 32 n.val) 15#32 = 1#1) ⟨t.val, ht⟩ h0]
    refine Eq.trans (b := N (ix2 r a) * S (ix2 0 a)) rfl ?_
    rw [EReal.coe_mul, hN, hS]
    refine congrArg₂ (· * ·) (Eq.trans ?_
      ((A.hy (ix2 ⟨t.val * 256 + (256 + r), by omega⟩ a)).trans rfl)) (block_s A t a)
    blk_ext [iblk, V, idx t]

/-- The scaled gradient. -/
abbrev scl (y : ℕ → ℕ → ℝ) (s : ℕ → ℝ) (t a : ℕ) : ℝ := y t a * s a

theorem base_eq : t.val * 256 = base (grid0.coords t) := by rw [base, (idx t).2.2.2.2.2.2.2.2.2.1]

include A in
theorem block_x (n : Fin 272) (a : Fin 1024) :
    k0_pay6 (grid0.coords t) (iblk m c 0 t) (iblk m c 5 t) (iblk m c 1 t) (iblk m c 5 t) (ix2 n a)
      = ((scl y s (base (grid0.coords t) + n) a : ℝ) : EReal) := by
  rw [← base_eq]
  exact scaled (y := fun n => y (t.val * 256 + n)) (block_y A t) (block_h A t rfl rfl) (block_s A t) n a

include A in
theorem dp_block (r : Fin 256) (a : Fin 1024) :
    (outsAt0 m c t.val t.isLt).1 (ix2 r a) = ((unpooled 0 (scl y s) w (t.val * 256 + r) a : ℝ) : EReal) := by
  have hD := block_x A t
  have hW := block_w A t
  rw [← unpooled_from, base_eq]
  by_cases h0 : t.val % 16 = 0
  on_goal 1 => rw [outsAt0_A m c t h0]
  on_goal 2 => rw [outsAt0_B m c t h0]
  all_goals
    dsimp only
    frame_open
    frame_out
    generalize iblk m c 4 t = W at *
    canon_tiles x h
    all_goals
      idx_vars x
      have hr : r = x0 := Fin.ext (by omega)
      subst hr
    · have hw : ∀ (a k : Fin 256), View.ld W (Rect.unit ![3, 0, 0] ![1, 256, 256] inb_S4x256x256_S1x256x256_3_0_0) (ix3 0 a k)
          = ((w 3 a k : ℝ) : EReal) := by
        intro a k
        pointwise
        exact hW 3 a k
      exact (out16 hw (mixed3 hw hD rfl) hD rfl r x1).trans (congrArg (fun k => ((unpooled _ _ _ r k : ℝ) : EReal)) h1.symm)
    · have hw : ∀ (a k : Fin 256), View.ld W (Rect.unit ![2, 0, 0] ![1, 256, 256] inb_S4x256x256_S1x256x256_2_0_0) (ix3 0 a k)
          = ((w 2 a k : ℝ) : EReal) := by
        intro a k
        pointwise
        exact hW 2 a k
      exact (out8 (mixed2 hw hD rfl) (share8 hw hD rfl) rfl r x1).trans
        (congrArg (fun k => ((unpooled _ _ _ r k : ℝ) : EReal)) h1.symm)
    · have hw : ∀ (a k : Fin 256), View.ld W (Rect.unit ![1, 0, 0] ![1, 256, 256] inb_S4x256x256_S1x256x256_1_0_0) (ix3 0 a k)
          = ((w 1 a k : ℝ) : EReal) := by
        intro a k
        pointwise
        exact hW 1 a k
      exact (out4 (mixed1 hw hD rfl) rfl r x1).trans (congrArg (fun k => ((unpooled _ _ _ r k : ℝ) : EReal)) h1.symm)
    · have hw : ∀ (a k : Fin 256), View.ld W (Rect.unit ![0, 0, 0] ![1, 256, 256] inb_S4x256x256_S1x256x256_0_0_0) (ix3 0 a k)
          = ((w 0 a k : ℝ) : EReal) := by
        intro a k
        pointwise
        exact hW 0 a k
      have hx : ∀ (n : Fin 272) (k : Fin 256),
          k0_pay8 (grid0.coords t) (iblk m c 0 t) (iblk m c 5 t) (iblk m c 1 t) (iblk m c 5 t) (ix2 n k)
            = ((scl y s (base (grid0.coords t) + n) (256 * 0 + k) : ℝ) : EReal) := by
        intro n k
        pointwise [k0_pay8]
        exact hD n ⟨k.val, by omega⟩
      exact (out2 hx hw rfl r x1).trans
        (congrArg (fun k => ((unpooled _ _ _ r k : ℝ) : EReal)) ((Nat.zero_add x1.val).trans h1.symm))

/-- What a block of rows adds to the gradient of the weights. -/
abbrev dwr (y : ℕ → ℕ → ℝ) (s : ℕ → ℝ) (d : ℕ → ℕ → EReal) (g k a t : ℕ) : EReal :=
  d t (256 * g + k) * ((scl y s t (256 * g + a) : ℝ) : EReal)

/-- What a row adds to the gradient of the scale. -/
abbrev dsr (y : ℕ → ℕ → ℝ) (e : ℕ → ℕ → EReal) (a t : ℕ) : EReal := ((y t a : ℝ) : EReal) * e t a

include A in
theorem ds_first (h0 : t.val % 16 = 0) (a : Fin 1024) :
    (outsAt0 m c t.val t.isLt).2.2 (ix2 0 a) = ∑ r : Fin 256, dsr y e a (t.val * 256 + r) := by
  rw [outsAt0_A m c t h0]
  dsimp only
  frame_open
  simp (disch := decide) only [↓ View.readCov_skip, ↓ View.readCov_cons_toLoadRect, ↓ View.readCov_fill]
  frame_out
  pointwise [k0_pay5, k0_pay4, k0_pay3]
  exact Finset.sum_congr rfl fun r _ => congrArg₂ (· * ·) (block_y A t r a) (block_e A t r a)

include A in
theorem ds_next (h0 : ¬ t.val % 16 = 0) (a : Fin 1024) :
    (outsAt0 m c t.val t.isLt).2.2 (ix2 0 a) = (outsAt0 m c (t.val - 1) (Nat.lt_of_le_of_lt (Nat.sub_le _ _) t.isLt)).2.2 (ix2 0 a)
      + ∑ r : Fin 256, dsr y e a (t.val * 256 + r) := by
  rw [outsAt0_B m c t h0]
  dsimp only
  frame_open
  simp (disch := decide) only [↓ View.readCov_skip, ↓ View.readCov_cons_toLoadRect, ↓ View.readCov_fill]
  frame_out
  pointwise [k0_pay5, k0_pay4]
  exact congrArg (_ + ·) (Finset.sum_congr rfl fun r _ => congrArg₂ (· * ·) (block_y A t r a) (block_e A t r a))

section grown
variable {x : ℕ → ℕ → ℝ} {d : ℕ → ℕ → EReal} {D : Vec Ideal S272x1024 .bf16} {B : Vec Ideal S256x1024 .bf16}
variable (hD : ∀ (n : Fin 272) (c : Fin 1024), D (ix2 n c) = ((x n c : ℝ) : EReal))
variable (hB : ∀ (r : Fin 256) (c : Fin 1024), B (ix2 r c) = d r c) (O : Vec Ideal S4x256x256 .f32)

include hD hB in
/-- The block of the weights' gradient after a block of rows is added. -/
theorem grown (g : Fin 4) (k a : Fin 256) (X : Vec Ideal S272x256 .bf16)
    (hX : ∀ (n : Fin 272) (a : Fin 256), X (ix2 n a) = ((x n a : ℝ) : EReal)) :
    View.canon (Val := Elt Ideal) (s := S4x256x256) (e := .f32)
      [⟨Rect.unit ![3, 0, 0] ![1, 256, 256] inb_S4x256x256_S1x256x256_3_0_0,
          k0_pay24 D (View.ld O (Rect.unit ![3, 0, 0] ![1, 256, 256] inb_S4x256x256_S1x256x256_3_0_0))
            (View.ld B (Rect.unit ![0, 768] ![256, 256] inb_S256x1024_S256x256_0_768))⟩,
        ⟨Rect.unit ![2, 0, 0] ![1, 256, 256] inb_S4x256x256_S1x256x256_2_0_0,
          k0_pay19 D (View.ld O (Rect.unit ![2, 0, 0] ![1, 256, 256] inb_S4x256x256_S1x256x256_2_0_0))
            (View.ld B (Rect.unit ![0, 512] ![256, 256] inb_S256x1024_S256x256_0_512))⟩,
        ⟨Rect.unit ![1, 0, 0] ![1, 256, 256] inb_S4x256x256_S1x256x256_1_0_0,
          k0_pay15 (k0_pay13 (View.ld O (Rect.unit ![1, 0, 0] ![1, 256, 256] inb_S4x256x256_S1x256x256_1_0_0)))
            (View.ld B (Rect.unit ![0, 256] ![256, 256] inb_S256x1024_S256x256_0_256))
            (k0_pay14 D) (constant S256x256 FTy.f32 0#32)⟩,
        ⟨Rect.unit ![0, 0, 0] ![1, 256, 256] inb_S4x256x256_S1x256x256_0_0_0,
          k0_pay9 X (View.ld O (Rect.unit ![0, 0, 0] ![1, 256, 256] inb_S4x256x256_S1x256x256_0_0_0))
            (View.ld B (Rect.unit ![0, 0] ![256, 256] inb_S256x1024_S256x256_0_0))⟩]
      (ix3 g k a) = O (ix3 g k a) + ∑ r : Fin 256, d r (256 * g + k) * ((x r (256 * g + a) : ℝ) : EReal) := by
  canon_tiles x h
  all_goals
    idx_vars x
    obtain rfl : k = x1 := Fin.ext (by omega)
    obtain rfl : a = x2 := Fin.ext (by omega)
    pointwise [k0_pay24, k0_pay22, k0_pay19, k0_pay17, k0_pay15, k0_pay13, k0_pay14, k0_pay11, k0_pay9]
    simp only [hD, hB, hX]
  · obtain rfl : g = 3 := Fin.ext (by show g.val = 3; omega)
    rfl
  · obtain rfl : g = 2 := Fin.ext (by show g.val = 2; omega)
    rfl
  · obtain rfl : g = 1 := Fin.ext (by show g.val = 1; omega)
    rfl
  · obtain rfl : g = 0 := Fin.ext (by show g.val = 0; omega)
    simp
end grown

include A in
theorem dw_first (h0 : t.val % 16 = 0) (g : Fin 4) (k a : Fin 256) :
    (outsAt0 m c t.val t.isLt).2.1 (ix3 g k a) = ∑ r : Fin 256, dwr y s d g k a (t.val * 256 + r) := by
  rw [outsAt0_A m c t h0]
  dsimp only
  frame_open
  simp (disch := decide) only [↓ View.readCov_skip, ↓ View.readCov_cons_toLoadRect, ↓ View.readCov_fill]
  frame_out
  rw [Cert.KernelIdeal.Sgu.canon_dropLast _ _ _ (View.cover_of_tiled_head _ _ _ rfl _)]
  simp only [List.dropLast]
  refine (grown (x := fun n => scl y s (base (grid0.coords t) + n)) (d := fun r => d (t.val * 256 + r))
    (block_x A t) (block_d A t) _ g k a _ ?_).trans ?_
  · intro n a
    pointwise [k0_pay8]
    exact block_x A t n ⟨a.val, by omega⟩
  · rw [← base_eq]
    pointwise [k0_pay2]

include A in
theorem dw_next (h0 : ¬ t.val % 16 = 0) (g : Fin 4) (k a : Fin 256) :
    (outsAt0 m c t.val t.isLt).2.1 (ix3 g k a)
      = (outsAt0 m c (t.val - 1) (Nat.lt_of_le_of_lt (Nat.sub_le _ _) t.isLt)).2.1 (ix3 g k a)
        + ∑ r : Fin 256, dwr y s d g k a (t.val * 256 + r) := by
  rw [outsAt0_B m c t h0]
  dsimp only
  frame_open
  simp (disch := decide) only [↓ View.readCov_skip, ↓ View.readCov_cons_toLoadRect, ↓ View.readCov_fill]
  frame_out
  refine (grown (x := fun n => scl y s (base (grid0.coords t) + n)) (d := fun r => d (t.val * 256 + r))
    (block_x A t) (block_d A t) _ g k a _ ?_).trans ?_
  · intro n a
    pointwise [k0_pay8]
    exact block_x A t n ⟨a.val, by omega⟩
  · rw [← base_eq]

include A in
/-- The gradient of the columns of the pooled inputs. -/
theorem array_dp : (dats m 0 c).arrAt 6 (cfgs 0).N = fun i : S4096x1024.Idx =>
    ((unpooled 0 (scl y s) w (i 0).val (i 1).val : ℝ) : EReal) := by
  refine (dats m 0 c).arrAt_eq_of_covers 6 _ (by decide +kernel) fun t ht y => ?_
  blk_simp [idx t]
  rw [after0_6]
  idx_vars y
  exact dp_block A t _ _

include A in
/-- The gradient of the weights. -/
theorem array_dw : (dats m 0 c).arrAt 7 (cfgs 0).N = fun i : S4x256x256.Idx =>
    (∑ t : Fin 4096, dwr y s d (i 0).val (i 1).val (i 2).val t) := by
  refine (dats m 0 c).arrAt_eq_of_after_last 7 t0_15 (by decide +kernel) _ fun j => ?_
  blk_simp
  rw [after0_7]
  idx_vars j
  exact _root_.Norm.sum_after (fun n hn => (outsAt0 m c n hn).2.1 (ix3 j0 j1 j2)) (fun t => dwr y s d j0 j1 j2 t)
    (fun h => dw_first A ⟨0, h⟩ rfl j0 j1 j2) (fun n h => dw_next A ⟨n + 1, h⟩ (show ¬ (n + 1) % 16 = 0 by omega) j0 j1 j2) t0_15.isLt

include A in
/-- The gradient of the scale. -/
theorem array_ds : (dats m 0 c).arrAt 8 (cfgs 0).N = fun i : S1x1024.Idx => (∑ t : Fin 4096, dsr y e (i 1).val t) := by
  refine (dats m 0 c).arrAt_eq_of_after_last 8 t0_15 (by decide +kernel) _ fun j => ?_
  blk_simp
  rw [after0_8]
  idx_vars j
  obtain rfl : j0 = 0 := Subsingleton.elim _ _
  exact _root_.Norm.sum_after (fun n hn => (outsAt0 m c n hn).2.2 (ix2 0 j1)) (fun t => dsr y e j1 t)
    (fun h => ds_first A ⟨0, h⟩ rfl j1) (fun n h => ds_next A ⟨n + 1, h⟩ (show ¬ (n + 1) % 16 = 0 by omega) j1) t0_15.isLt

end Cert.PoolBwdIdeal.Value

namespace Cert.PoolBwdRefIdeal.Value
open Cert.PoolBwdRefIdeal Cert.PoolBwdRefIdeal.Read Cert.PoolBwdIdeal.Value Pool
open Sgu (sum_coe)

variable {y : ℕ → ℕ → ℝ} {s : ℕ → ℝ} {w : ℕ → ℕ → ℕ → ℝ} {e d : ℕ → ℕ → EReal}
variable {Y E D : (⟨S4096x1024, .bf16⟩ : BufTy).Contents (Elt Ideal)} {W : (⟨S4x256x256, .bf16⟩ : BufTy).Contents (Elt Ideal)}
variable {G : (⟨S1024, .f32⟩ : BufTy).Contents (Elt Ideal)}
variable (hY : ∀ i : S4096x1024.Idx, Y i = ((y (i 0).val (i 1).val : ℝ) : EReal))
variable (hz : ∀ t a, 4096 ≤ t → y t a = 0)
variable (hE : ∀ i : S4096x1024.Idx, E i = e (i 0).val (i 1).val)
variable (hD : ∀ i : S4096x1024.Idx, D i = d (i 0).val (i 1).val)
variable (hW : ∀ i : S4x256x256.Idx, W i = ((w (i 0).val (i 1).val (i 2).val : ℝ) : EReal))
variable (hG : ∀ i : S1024.Idx, G i = ((s (i 0).val : ℝ) : EReal))

include hY hE in
theorem entry_ds (i : S1x1024.Idx) : val_main_v130 (F := Ideal) Y E i = ∑ t : Fin 4096, dsr y e (i 1).val t := by
  have h0 : (i 0).val < 1 := (i 0).isLt
  simp only [val_main_v130_apply, val_main_v10_apply, val_main_v7_apply, val_main_v6_apply, val_main_v5_apply, val_main_v4_apply,
    val_main_v3_apply, val_main_v2_apply, val_main_v0_apply, val_main_cst_apply, val_main_cst_0_apply, hY, hE]
  pointwise
  rw [Fin.sum_univ_one]
  exact Finset.sum_congr rfl fun k _ => mul_comm _ _

include hY hG in
theorem scaled_ref (i : S4x256x4096.Idx) : val_main_v17 (F := Ideal) Y G i
    = ((scl y s (i 2).val (256 * (i 0).val + (i 1).val) : ℝ) : EReal) := by
  have h0 : (i 0).val < 4 := (i 0).isLt
  have h1 : (i 1).val < 256 := (i 1).isLt
  simp only [val_main_v17_apply, val_main_v16_apply, val_main_v9_apply, val_main_v8_apply, val_main_v4_apply,
    val_main_v1_apply, val_main_v0_apply, hY, hG]
  pointwise
  have e0 : (((i 2).val * 4 + (i 0).val) * 256 + (i 1).val) / 1024 = (i 2).val := by omega
  have e1 : (((i 2).val * 4 + (i 0).val) * 256 + (i 1).val) % 1024 = 256 * (i 0).val + (i 1).val := by omega
  rw [e0, e1, scl, EReal.coe_mul]

include hY hD hG in
theorem entry_dw (i : S4x256x256.Idx) : val_main_v21 (F := Ideal) Y D G i
    = ∑ t : Fin 4096, dwr y s d (i 0).val (i 1).val (i 2).val t := by
  have h0 : (i 0).val < 4 := (i 0).isLt
  have h1 : (i 1).val < 256 := (i 1).isLt
  simp only [val_main_v21_apply, val_main_v20_apply, scaled_ref hY hG, val_main_v12_apply, val_main_v11_apply, hD]
  pointwise
  refine Finset.sum_congr rfl fun t _ => (mul_comm _ _).trans (congrArg (· * _) (congrArg₂ d ?_ ?_))
  · show ((t.val * 4 + (i 0).val) * 256 + (i 1).val) / 1024 = t.val
    omega
  · show ((t.val * 4 + (i 0).val) * 256 + (i 1).val) % 1024 = 256 * (i 0).val + (i 1).val
    omega

include hY hW hG in
theorem mixed_ref (i : S4096x4x256.Idx) : val_main_v19 (F := Ideal) Y W G i
    = ((mixback (scl y s) w (i 0).val (256 * (i 1).val + (i 2).val) : ℝ) : EReal) := by
  simp only [val_main_v19_apply, val_main_v18_apply, scaled_ref hY hG, val_main_v13_apply, hW]
  pointwise
  rw [← mixback_group _ _ _ _ (i 2).isLt, ← sum_coe]
  exact Finset.sum_congr rfl fun k _ => (EReal.coe_mul _ _).symm

/-- A row of the mixed gradient over the length of its window is its share. -/
theorem div_window {x : ℕ → ℕ → ℝ} {t a g k : ℕ} (ht : t < 4096) (hg : k = window (256 * g + a)) (ha : a < 256) (h : g < 4) :
    Ideal.div ((mixback x w ((t * 256 + a) / 256) (256 * g + (t * 256 + a) % 256) : ℝ) : EReal)
        (FloatOps.sitofp (F := Ideal) .f32 (IntOp.minsi (IntOp.addi 1#32 (BitVec.ofNat 32 t)) (BitVec.ofNat 32 k)))
      = ((share 0 x w t (256 * g + a) : ℝ) : EReal) := by
  subst hg
  have e0 : (t * 256 + a) / 256 = t := by omega
  have e1 : (t * 256 + a) % 256 = a := by omega
  have hk : window (256 * g + a) ≤ 16 ∧ 0 < window (256 * g + a) := by
    rw [window, show (256 * g + a) / 256 = g by omega]
    interval_cases g <;> decide
  rw [count ht hk.1, Ideal.div_coe (by rw [Nat.cast_ne_zero]; omega), e0, e1, share, Nat.zero_add, EReal.coe_mul]

theorem window_of {a : ℕ} (h : a < 1024) : (a < 256 ∧ window a = 2) ∨ (256 ≤ a ∧ a < 512 ∧ window a = 4)
    ∨ (512 ≤ a ∧ a < 768 ∧ window a = 8) ∨ (768 ≤ a ∧ window a = 16) := by
  have e : a / 256 = 0 ∨ a / 256 = 1 ∨ a / 256 = 2 ∨ a / 256 = 3 := by omega
  rcases e with e | e | e | e
  · exact Or.inl ⟨by omega, by rw [window, e]; rfl⟩
  · exact Or.inr (Or.inl ⟨by omega, by omega, by rw [window, e]; rfl⟩)
  · exact Or.inr (Or.inr (Or.inl ⟨by omega, by omega, by rw [window, e]; rfl⟩))
  · exact Or.inr (Or.inr (Or.inr ⟨by omega, by rw [window, e]; rfl⟩))

include hY hW hG in
theorem share2 (i : S4096x256.Idx) : val_main_v118 (F := Ideal) Y W G i
    = ((share 0 (scl y s) w (i 0).val (i 1).val : ℝ) : EReal) := by
  have h1 : (i 1).val < 256 := (i 1).isLt
  simp only [val_main_v118_apply, val_main_v80_apply, val_main_v79_apply, mixed_ref hY hW hG, val_main_v117_apply, val_main_v34_apply,
    val_main_v33_apply, val_main_v32_apply, val_main_v31_apply, val_main_c_4_apply, val_main_v29_apply, val_main_v28_apply,
    val_main_v27_apply, val_main_c_apply]
  pointwise
  have e := div_window (w := w) (x := scl y s) (g := 0) (k := 2) (i 0).isLt
    (by rw [window, show (256 * 0 + (i 1).val) / 256 = 0 by omega]; rfl) (i 1).isLt (by decide)
  rw [Nat.mul_zero, Nat.zero_add, Nat.zero_add] at e
  exact e

include hY hW hG in
theorem share4 (i : S4096x256.Idx) : val_main_v108 (F := Ideal) Y W G i
    = ((share 0 (scl y s) w (i 0).val (256 + (i 1).val) : ℝ) : EReal) := by
  have h1 : (i 1).val < 256 := (i 1).isLt
  simp only [val_main_v108_apply, val_main_v82_apply, val_main_v81_apply, mixed_ref hY hW hG, val_main_v107_apply, val_main_v45_apply,
    val_main_v44_apply, val_main_v43_apply, val_main_v42_apply, val_main_c_5_apply, val_main_v29_apply, val_main_v28_apply,
    val_main_v27_apply, val_main_c_apply]
  pointwise
  exact div_window (g := 1) (k := 4) (i 0).isLt
    (by rw [window, show (256 * 1 + (i 1).val) / 256 = 1 by omega]; rfl) (i 1).isLt (by decide)

include hY hW hG in
theorem share_eight (i : S4096x256.Idx) : val_main_v98 (F := Ideal) Y W G i
    = ((share 0 (scl y s) w (i 0).val (512 + (i 1).val) : ℝ) : EReal) := by
  have h1 : (i 1).val < 256 := (i 1).isLt
  simp only [val_main_v98_apply, val_main_v84_apply, val_main_v83_apply, mixed_ref hY hW hG, val_main_v97_apply, val_main_v56_apply,
    val_main_v55_apply, val_main_v54_apply, val_main_v53_apply, val_main_c_6_apply, val_main_v29_apply, val_main_v28_apply,
    val_main_v27_apply, val_main_c_apply]
  pointwise
  exact div_window (g := 2) (k := 8) (i 0).isLt
    (by rw [window, show (256 * 2 + (i 1).val) / 256 = 2 by omega]; rfl) (i 1).isLt (by decide)

include hY hW hG in
theorem share16 (i : S4096x256.Idx) : val_main_v90 (F := Ideal) Y W G i
    = ((share 0 (scl y s) w (i 0).val (768 + (i 1).val) : ℝ) : EReal) := by
  have h1 : (i 1).val < 256 := (i 1).isLt
  simp only [val_main_v90_apply, val_main_v86_apply, val_main_v85_apply, mixed_ref hY hW hG, val_main_v89_apply, val_main_v67_apply,
    val_main_v66_apply, val_main_v65_apply, val_main_v64_apply, val_main_c_7_apply, val_main_v29_apply, val_main_v28_apply,
    val_main_v27_apply, val_main_c_apply]
  pointwise
  exact div_window (g := 3) (k := 16) (i 0).isLt
    (by rw [window, show (256 * 3 + (i 1).val) / 256 = 3 by omega]; rfl) (i 1).isLt (by decide)

include hY hW hG in
/-- The shares, one group of columns beside the other. -/
theorem entering (i : S4096x1024.Idx) : val_main_v121 (F := Ideal) Y W G i
    = ((share 0 (scl y s) w (i 0).val (i 1).val : ℝ) : EReal) := by
  idx_vars i
  simp only [val_main_v121_apply, val_main_v111_apply, val_main_v101_apply, val_main_v92, val_main_v100, val_main_v110, val_main_v120]
  pointwise
  split_ifs
  all_goals first | omega | skip
  all_goals
    simp only [share2 hY hW hG, share4 hY hW hG, share_eight hY hW hG, share16 hY hW hG, val_main_cst_9_apply,
      val_main_cst_12_apply, val_main_cst_15_apply, val_main_cst_18_apply]
    pointwise
  all_goals exact congrArg (fun a => ((share 0 (scl y s) w i0 a : ℝ) : EReal)) (by omega)

include hY hW hG in
/-- The mixed gradient, one group of columns beside the other, with its sign turned. -/
theorem turned (i : S4096x1024.Idx) : val_main_v116 (F := Ideal) Y W G i
    = ((- mixback (scl y s) w (i 0).val (i 1).val : ℝ) : EReal) := by
  idx_vars i
  simp only [val_main_v116_apply, val_main_v106_apply, val_main_v96_apply, val_main_v88, val_main_v95, val_main_v105, val_main_v115]
  pointwise
  split_ifs
  all_goals first | omega | skip
  all_goals
    simp only [val_main_v87_apply, val_main_v94_apply, val_main_v104_apply, val_main_v114_apply,
      val_main_v80_apply, val_main_v79_apply, val_main_v82_apply, val_main_v81_apply, val_main_v84_apply, val_main_v83_apply,
      val_main_v86_apply, val_main_v85_apply, mixed_ref hY hW hG, val_main_cst_8_apply,
      val_main_cst_11_apply, val_main_cst_14_apply, val_main_cst_17_apply]
    pointwise
  all_goals
    rw [EReal.coe_neg]
    exact congrArg₂ (fun t a => -((mixback (scl y s) w t a : ℝ) : EReal)) (by omega) (by omega)

omit hY in
include hz in
theorem share_end {t a : ℕ} (h : 4096 ≤ t) : share 0 (scl y s) w t a = 0 := by
  simp only [share, mixback, scl, hz t _ h, zero_mul, Finset.sum_const_zero]

include hY hW hG hz in
/-- The shares that leave the window. -/
theorem leaving (i : S4096x1024.Idx) : val_main_v125 (F := Ideal) Y W G i
    = ((- share 0 (scl y s) w ((i 0).val + window (i 1).val) (i 1).val : ℝ) : EReal) := by
  have hw := window_of (i 1).isLt
  idx_vars i
  have h1 : i1.val < 1024 := i1.isLt
  simp only [val_main_v125_apply, val_main_v123_apply, val_main_v113_apply, val_main_v103_apply, val_main_v93, val_main_v102,
    val_main_v112, val_main_v122]
  pointwise
  rcases hw with ⟨h, hw⟩ | ⟨h, h', hw⟩ | ⟨h, h', hw⟩ | ⟨h, hw⟩
  all_goals
    rw [hw]
    split_ifs
  all_goals first | omega | skip
  all_goals
    simp only [val_main_v91_apply, val_main_v99_apply, val_main_v109_apply, val_main_v119_apply,
      share2 hY hW hG, share4 hY hW hG, share_eight hY hW hG, share16 hY hW hG, val_main_cst_10_apply,
      val_main_cst_13_apply, val_main_cst_16_apply, val_main_cst_19_apply]
    pointwise
    rw [EReal.coe_neg]
    first
    | exact congrArg₂ (fun t a => -((share 0 (scl y s) w t a : ℝ) : EReal)) (by omega) (by omega)
    | (rw [share_end hz (by omega)]; simp)

include hY hW hG hz in
/-- What enters the window less what leaves it, added up from the last row back, is the window. -/
theorem windows (i : S4096x1024.Idx) : val_main_v127 (F := Ideal) Y W G i
    = ((ahead (share 0 (scl y s) w) (window (i 1).val) (i 0).val (i 1).val : ℝ) : EReal) := by
  have h0 : (i 0).val < 4096 := (i 0).isLt
  refine (cumsum_back (Rm1 := 4095) rfl _
    (fun t a => share 0 (scl y s) w t a - share 0 (scl y s) w (t + window a) a) (fun j => ?_) _
    (fun _ => by rw [val_main_call1_call0_v0_apply, val_main_call1_call0_cst_apply]; pointwise) _ _ i).trans ?_
  · rw [val_main_v126_apply, entering hY hW hG, leaving hY hz hW hG]
    pointwise
    rw [← EReal.coe_add, sub_eq_add_neg]
  · exact congrArg _ (sum_window (fun t => share 0 (scl y s) w t (i 1).val) _ _ _ fun t h => share_end hz (by omega))

include hY hW hG hz in
theorem entry_dp (i : S4096x1024.Idx) : val_main_v129 (F := Ideal) Y W G i
    = ((unpooled 0 (scl y s) w (i 0).val (i 1).val : ℝ) : EReal) := by
  rw [val_main_v129_apply, val_main_v128_apply, turned hY hW hG, windows hY hz hW hG]
  pointwise
  rw [← EReal.coe_add, unpooled, sub_eq_neg_add]

/-- The reference runs and leaves its arguments as they were. -/
theorem frame : Cert.quiescent_PoolBwdRefIdeal := fun m ρ _ => (θ_run defs _ _).mono
  (fun r h => ⟨fun c => (h c).2.2.2, sem_eq_zero_of_no_sems (by decide) r.2⟩) (run m ρ)

end Cert.PoolBwdRefIdeal.Value

namespace Cert.PoolBwdIdeal.Value
open Cert.PoolBwdIdeal

/-- The precondition's own side conditions. -/
theorem pre_facts : Cert.Pre_finite_pool_gradient.Facts where
  bitsLt_bf16_f32 := by decide
  bcast_S_S4096x1024 := by decide
  bcast_S_S4x256x256 := by decide
  bcast_S_S1024 := by decide

attribute [local instance] pre_facts

/-- The arrays the precondition asks of are finite. -/
theorem finite_of {x : S4096x1024.Idx → EReal} {e d : S4096x1024.Idx → EReal} {w : S4x256x256.Idx → EReal} {g : S1024.Idx → EReal}
    (h : (Cert.Pre_finite_pool_gradient.fn (F := Ideal) x e d w g).1 = (fun _ => 1#1)
      ∧ (Cert.Pre_finite_pool_gradient.fn (F := Ideal) x e d w g).2.1 = (fun _ => 1#1)
      ∧ (Cert.Pre_finite_pool_gradient.fn (F := Ideal) x e d w g).2.2 = (fun _ => 1#1)) :
    Sgu.Finite x ∧ Sgu.Finite w ∧ Sgu.Finite g := by
  simp only [Cert.Pre_finite_pool_gradient.fn] at h
  refine ⟨fun i => Eq.trans ?_ (congrFun h.1 i), fun i => Eq.trans ?_ (congrFun h.2.1 i), fun i => Eq.trans ?_ (congrFun h.2.2 i)⟩
  all_goals
    pointwise
    rfl

open _root_.Norm in
theorem args {m : (ℓ : Loc nD τ sig) → Buf (Elt Ideal) ℓ} (h : Cert.Pre_PoolBwdIdeal_finite_pool_gradient m) (c : Dev nD) :
    Args m c (Sgu.real2 (n := 4096) (k := 1024) (m ((c : Thread nD τ).loc main_arg0)))
      (entry2 (n := 4096) (k := 1024) (m ((c : Thread nD τ).loc main_arg1)))
      (entry2 (n := 4096) (k := 1024) (m ((c : Thread nD τ).loc main_arg2)))
      (Sgu.real3 (n := 4) (k := 256) (l := 256) (m ((c : Thread nD τ).loc main_arg3)))
      (Sgu.real1 (n := 1024) (m ((c : Thread nD τ).loc main_arg4))) := by
  obtain ⟨f0, f3, f4⟩ := finite_of (h c)
  exact ⟨Sgu.real2_eq f0, fun t a h => dif_neg (by omega), entry2_eq _, entry2_eq _, Sgu.real3_eq f3, Sgu.real1_eq f4⟩

open _root_.Norm in
/-- The two programs end with the same three arrays. -/
theorem equal : Cert.algebraic_PoolBwdIdeal_PoolBwdRefIdeal_pre_finite_pool_gradient := by
  intro m ρ m' ρ' hpre hargs
  refine ⟨fun c => (Cert.PoolBwdIdeal.Gen.dats m 0 c).arrAt 6 (Cert.PoolBwdIdeal.cfgs 0).N,
    fun c => (Cert.PoolBwdIdeal.Gen.dats m 0 c).arrAt 7 (Cert.PoolBwdIdeal.cfgs 0).N,
    fun c => (Cert.PoolBwdIdeal.Gen.dats m 0 c).arrAt 8 (Cert.PoolBwdIdeal.cfgs 0).N, Cert.PoolBwdIdeal.Value.run_blocks m ρ,
    (θ_run _ _ _).mono (fun r h c => ?_) (Cert.PoolBwdRefIdeal.Value.run m' ρ')⟩
  obtain ⟨r0, r1, r2, ra⟩ := h c
  obtain ⟨a0, a1, a2, a3, a4⟩ := hargs c
  have A := args hpre c
  clear h
  refine ⟨r0.trans ((Cert.PoolBwdRefIdeal.Read.val_main_v129_eq m' c).trans (Eq.trans ?_ (array_dp A).symm)),
    r1.trans ((Cert.PoolBwdRefIdeal.Read.val_main_v21_eq _ _ _).trans (Eq.trans ?_ (array_dw A).symm)),
    r2.trans ((Cert.PoolBwdRefIdeal.Read.val_main_v130_eq _ _).trans (Eq.trans ?_ (array_ds A).symm)), ra⟩
  all_goals
    funext i
  all_goals clear r0 r1 r2 ra hpre hargs
  · rw [a0, a3, a4]
    exact Cert.PoolBwdRefIdeal.Value.entry_dp A.hy A.hz A.hw A.hs i
  · rw [a0, a2, a4]
    exact Cert.PoolBwdRefIdeal.Value.entry_dw A.hy A.hd A.hs i
  · rw [a0, a1]
    exact Cert.PoolBwdRefIdeal.Value.entry_ds A.hy A.he i

end Cert.PoolBwdIdeal.Value
end
-- ==== Proof.Sgu.Arrays.lean ====
module
public import proofs.«01_k».proof.Proof.Sgu.Tiles
@[expose] public section
set_option maxRecDepth 16384
noncomputable section
open Idealize.ShloMosaic Idealize.ShloMosaic.TcCoe Idealize.SL.Sem
open Idealize.ShloMosaic.Pipeline (Dat)

/-!
# What the kernel's output arrays hold after the run

Grid point `t` works on rows `256 t` to `256 t + 255`, that is on chunks `2 t` and `2 t + 1`.  The blocks of
`du` and `dv` tile their arrays; the other three outputs are summed over the sixteen points.
-/
namespace Cert.KernelIdeal.Sgu
open Cert.KernelIdeal Cert.KernelIdeal.Gen Idealize.ShloMosaic.Ideal _root_.Sgu

/-- The five arguments hold the real values `z d g w b` on device `c`. -/
structure Args (m : (ℓ : Loc nD τ sig) → Buf (Elt Ideal) ℓ) (c : Dev nD) (z d : ℕ → ℕ → ℝ) (g : ℕ → ℝ)
    (w : ℕ → ℕ → ℕ → ℝ) (b : ℕ → ℕ → ℝ) : Prop where
  hz : ∀ (i : Fin 4096) (j : Fin 3072), m ((c : Thread nD τ).loc main_arg0) (ix2 i j) = ((z i j : ℝ) : EReal)
  hd : ∀ (i : Fin 4096) (j : Fin 1024), m ((c : Thread nD τ).loc main_arg1) (ix2 i j) = ((d i j : ℝ) : EReal)
  hg : ∀ j : Fin 1024, m ((c : Thread nD τ).loc main_arg2) (ix1 j) = ((g j : ℝ) : EReal)
  hw : ∀ (h : Fin 8) (i j : Fin 128), m ((c : Thread nD τ).loc main_arg3) (ix3 h i j) = ((w h i j : ℝ) : EReal)
  hb : ∀ (h : Fin 8) (i : Fin 128), m ((c : Thread nD τ).loc main_arg4) (ix2 h i) = ((b i h : ℝ) : EReal)

/-- The second of the three column blocks of `z`: the argument of `u`'s gelu. -/
def uz (z : ℕ → ℕ → ℝ) : ℕ → ℕ → ℝ := fun i j => z i (1024 + j)
/-- The third column block of `z`: the argument of `v`'s gelu. -/
def vz (z : ℕ → ℕ → ℝ) : ℕ → ℕ → ℝ := fun i j => z i (2048 + j)

variable {m : (ℓ : Loc nD τ sig) → Buf (Elt Ideal) ℓ} {c : Dev nD}
variable {z d : ℕ → ℕ → ℝ} {g : ℕ → ℝ} {w : ℕ → ℕ → ℕ → ℝ} {b : ℕ → ℕ → ℝ}

/-- Which blocks a grid point works on. -/
theorem idx : ∀ t : Fin cfg0.N, win0_0.index t = ![t.val, 1] ∧ win0_1.index t = ![t.val, 2] ∧
    win0_2.index t = ![t.val, 0] ∧ win0_3.index t = ![0, 0] ∧ win0_4.index t = ![0, 0, 0] ∧
    win0_5.index t = ![0, 0] ∧ win0_6.index t = ![t.val, 0] ∧ win0_7.index t = ![t.val, 0] ∧ t.val < 16 :=
  (by decide +kernel : ∀ t : Fin grid0.N, _)

/-- A grid point's input blocks hold the rows from `256 t` on. -/
theorem point (H : Args m c z d g w b) (t : Fin cfg0.N) :
    Point m c t (from' (128 * (2 * t)) (uz z)) (from' (128 * (2 * t)) (vz z)) (from' (128 * (2 * t)) d) g w b := by
  have ht := (idx t).2.2.2.2.2.2.2.2
  have hr (r : Fin 256) : 128 * (2 * t.val) + r.val < 4096 := by omega
  refine ⟨fun r a => ?_, fun r a => ?_, fun r a => ?_, fun a => ?_, fun h i j => ?_, fun i h => ?_⟩
  · refine Eq.trans ?_ (H.hz ⟨128 * (2 * t) + r, hr r⟩ ⟨1024 + a, by omega⟩)
    blk_ext [iblk, V, idx t]
  · refine Eq.trans ?_ (H.hz ⟨128 * (2 * t) + r, hr r⟩ ⟨2048 + a, by omega⟩)
    blk_ext [iblk, V, idx t]
  · refine Eq.trans ?_ (H.hd ⟨128 * (2 * t) + r, hr r⟩ a)
    blk_ext [iblk, V, idx t]
  · refine Eq.trans ?_ (H.hg a)
    blk_simp [iblk]
    entry_read
    pointwise
    blk_ext [idx t]
  · refine Eq.trans ?_ (H.hw h i j)
    blk_ext [iblk, V, idx t]
  · refine Eq.trans ?_ (H.hb h i)
    blk_simp [iblk]
    entry_read
    pointwise
    blk_ext [idx t]

/-- The array of `du`. -/
theorem du_array (H : Args m c z d g w b) : (dats m 0 c).arrAt 6 (cfgs 0).N
    = fun i : S4096x1024.Idx => ((du (uz z) (vz z) d g w b (i 0).val (i 1).val : ℝ) : EReal) := by
  refine (dats m 0 c).arrAt_eq_of_covers 6 _ (by decide +kernel) fun t hf y => ?_
  blk_simp [idx t]
  rw [after0_6]
  idx_vars y
  refine (du_block (point H t) _ _).trans ?_
  rw [du_from, show 128 * (2 * t.val) = t.val * 256 by omega]

/-- The array of `dv`. -/
theorem dv_array (H : Args m c z d g w b) : (dats m 0 c).arrAt 7 (cfgs 0).N
    = fun i : S4096x1024.Idx => ((dv (uz z) (vz z) d g w (i 0).val (i 1).val : ℝ) : EReal) := by
  refine (dats m 0 c).arrAt_eq_of_covers 7 _ (by decide +kernel) fun t hf y => ?_
  blk_simp [idx t]
  rw [after0_7]
  idx_vars y
  refine (dv_block (point H t) _ _).trans ?_
  rw [dv_from, show 128 * (2 * t.val) = t.val * 256 by omega]

/-- A block that the first point sets and every later one adds to holds the sum so far. -/
theorem sum_after (X : ∀ n, n < cfg0.N → EReal) (part : ℕ → ℝ)
    (h0 : ∀ t : Fin cfg0.N, t.val % 16 = 0 → X t.val t.isLt = ((part t.val : ℝ) : EReal))
    (hs : ∀ t : Fin cfg0.N, ¬ t.val % 16 = 0 →
      X t.val t.isLt = X (t.val - 1) (Nat.lt_of_le_of_lt (Nat.sub_le _ _) t.isLt) + ((part t.val : ℝ) : EReal)) :
    ∀ n (hn : n < cfg0.N), X n hn = ((∑ k ∈ Finset.range (n + 1), part k : ℝ) : EReal)
  | 0, hn => by
    rw [Finset.sum_range_succ, Finset.sum_range_zero, zero_add]
    exact h0 ⟨0, hn⟩ rfl
  | n + 1, hn => by
    have ht := (idx ⟨n + 1, hn⟩).2.2.2.2.2.2.2.2
    rw [Finset.sum_range_succ, EReal.coe_add, ← sum_after X part h0 hs n (Nat.lt_of_succ_lt hn)]
    exact hs ⟨n + 1, hn⟩ (by dsimp only at ht ⊢; omega)

/-- The sum over sixteen pairs of chunks is the sum over the chunks. -/
theorem sum_pairs (f : ℕ → ℝ) :
    ∑ k ∈ Finset.range 16, (f (2 * k) + f (2 * k + 1)) = ∑ k ∈ Finset.range 32, f k := by
  simp only [Finset.sum_range_succ, Finset.sum_range_zero, Nat.reduceMul, Nat.reduceAdd]
  ring

/-- The sum over sixteen row blocks is the sum over the rows. -/
theorem sum_rows (f : ℕ → ℝ) :
    ∑ k ∈ Finset.range 16, ∑ r : Fin 256, f (128 * (2 * k) + r) = ∑ r : Fin 4096, f r := by
  rw [← Fin.sum_univ_eq_sum_range (fun k => ∑ r : Fin 256, f (128 * (2 * k) + r)) 16]
  exact Fin.sum_mul_add_congr (S := 16) (f := fun r : Fin 4096 => f r)
    (fun s k _ => congrArg f (by dsimp only; omega))

/-- The array of `dw`. -/
theorem dw_array (H : Args m c z d g w b) : (dats m 0 c).arrAt 8 (cfgs 0).N
    = fun i : S8x128x128.Idx => ((∑ k ∈ Finset.range 32, dwc (uz z) (vz z) d g k (i 0).val (i 1).val (i 2).val : ℝ) : EReal) := by
  refine (dats m 0 c).arrAt_eq_of_after_last 8 t0_15 (by decide +kernel) _ fun j => ?_
  blk_simp
  rw [after0_8]
  idx_vars j
  refine (sum_after (fun n hn => (outsAt0 m c n hn).2.2.1 (ix3 j0 j1 j2))
    (fun k => dwc (uz z) (vz z) d g (2 * k) j0 j1 j2 + dwc (uz z) (vz z) d g (2 * k + 1) j0 j1 j2)
    (fun t h => ?_) (fun t h => ?_) 15 t0_15.isLt).trans
      (congrArg _ (sum_pairs fun k => dwc (uz z) (vz z) d g k j0 j1 j2))
  · refine (dw_first (point H t) h j0 j1 j2).trans ?_
    rw [dwc_from, dwc_from]; rfl
  · refine (dw_next (point H t) h j0 j1 j2).trans ?_
    rw [dwc_from, dwc_from]; rfl

/-- The array of the bias gradient, position by head. -/
theorem dbt_array (H : Args m c z d g w b) : (dats m 0 c).arrAt 9 (cfgs 0).N
    = fun i : S128x8.Idx => ((∑ k ∈ Finset.range 32, dbc (uz z) d k (i 0).val (i 1).val : ℝ) : EReal) := by
  refine (dats m 0 c).arrAt_eq_of_after_last 9 t0_15 (by decide +kernel) _ fun j => ?_
  blk_simp
  rw [after0_9]
  idx_vars j
  refine (sum_after (fun n hn => (outsAt0 m c n hn).2.2.2.1 (ix2 j0 j1))
    (fun k => dbc (uz z) d (2 * k) j0 j1 + dbc (uz z) d (2 * k + 1) j0 j1)
    (fun t h => ?_) (fun t h => ?_) 15 t0_15.isLt).trans
      (congrArg _ (sum_pairs fun k => dbc (uz z) d k j0 j1))
  · refine (dbt_first (point H t) h j0 j1).trans ?_
    rw [dbc_from, dbc_from]; rfl
  · refine (dbt_next (point H t) h j0 j1).trans ?_
    rw [dbc_from, dbc_from]; rfl

/-- The array of the gain's gradient. -/
theorem dgain_array (H : Args m c z d g w b) : (dats m 0 c).arrAt 10 (cfgs 0).N
    = fun i : S1x1024.Idx => ((∑ r : Fin 4096, dgr (uz z) (vz z) d w r.val (i 1).val : ℝ) : EReal) := by
  refine (dats m 0 c).arrAt_eq_of_after_last 10 t0_15 (by decide +kernel) _ fun j => ?_
  blk_simp
  rw [after0_10]
  idx_vars j
  obtain rfl : j0 = 0 := Subsingleton.elim _ _
  refine (sum_after (fun n hn => (outsAt0 m c n hn).2.2.2.2 (ix2 0 j1))
    (fun k => ∑ r : Fin 256, dgr (uz z) (vz z) d w (128 * (2 * k) + r) j1)
    (fun t h => ?_) (fun t h => ?_) 15 t0_15.isLt).trans
      (congrArg _ (sum_rows fun r => dgr (uz z) (vz z) d w r j1))
  · refine (dgain_first (point H t) h j1).trans ?_
    simp only [dgr_from]
  · refine (dgain_next (point H t) h j1).trans ?_
    simp only [dgr_from]

end Cert.KernelIdeal.Sgu
end
-- ==== Proof.Sgu.Equal.lean ====
module
public import proofs.«01_k».proof.Defs
public import proofs.«01_k».proof.Proof.Sgu.Arrays
public import proofs.«01_k».proof.Proof.Sgu.Reference
public import proofs.«01_k».proof.Proof.Sgu.Finite
public import proofs.«01_k».proof.Proof.Gen.ReferenceIdeal.Run
@[expose] public section
set_option maxRecDepth 16384
noncomputable section
open Idealize.ShloMosaic Idealize.ShloMosaic.TcCoe Idealize.SL.Sem

/-!
# The gradient of the spatial gating unit: kernel and reference agree

Over finite arguments each of the five arrays the kernel leaves is the same real formula as the
reference's result.
-/
namespace Cert.Sgu
open Idealize.ShloMosaic.Ideal _root_.Sgu

/-- The precondition's own side conditions. -/
theorem pre_facts : Cert.Pre_finite.Facts where
  bcast_S_S4096x3072 := by decide
  bitsLt_bf16_f32 := by decide
  bcast_S_S4096x1024 := by decide
  bcast_S_S1024 := by decide
  bcast_S_S8x128x128 := by decide
  bcast_S_S8x128 := by decide

attribute [local instance] pre_facts

variable {m : (ℓ : Loc Cert.KernelIdeal.nD Cert.KernelIdeal.τ Cert.KernelIdeal.sig) → Buf (Elt Ideal) ℓ}

/-- Under the precondition every argument array is finite. -/
theorem finite_args (h : Cert.Pre_KernelIdeal_finite m) (c : Dev Cert.KernelIdeal.nD) :
    Finite (m ((c.tc : Thread Cert.KernelIdeal.nD Cert.KernelIdeal.τ).loc Cert.KernelIdeal.main_arg0))
    ∧ Finite (m ((c.tc : Thread Cert.KernelIdeal.nD Cert.KernelIdeal.τ).loc Cert.KernelIdeal.main_arg1))
    ∧ Finite (m ((c.tc : Thread Cert.KernelIdeal.nD Cert.KernelIdeal.τ).loc Cert.KernelIdeal.main_arg2))
    ∧ Finite (m ((c.tc : Thread Cert.KernelIdeal.nD Cert.KernelIdeal.τ).loc Cert.KernelIdeal.main_arg3))
    ∧ Finite (m ((c.tc : Thread Cert.KernelIdeal.nD Cert.KernelIdeal.τ).loc Cert.KernelIdeal.main_arg4)) :=
  have ⟨h0, h1, h2, h3, h4⟩ := h c
  ⟨congrFun h0, congrFun h1, congrFun h2, congrFun h3, congrFun h4⟩

/-- The two programs end with the same gradients. -/
theorem equal : Cert.algebraic_KernelIdeal_ReferenceIdeal_pre_finite := by
  intro m ρ m' ρ' hpre hargs
  refine ⟨fun c => (Cert.KernelIdeal.Gen.dats m 0 c).arrAt 6 (Cert.KernelIdeal.cfgs 0).N,
    fun c => (Cert.KernelIdeal.Gen.dats m 0 c).arrAt 7 (Cert.KernelIdeal.cfgs 0).N,
    fun c => (Cert.KernelIdeal.Gen.dats m 0 c).arrAt 8 (Cert.KernelIdeal.cfgs 0).N,
    fun c => (Cert.KernelIdeal.Gen.dats m 0 c).arrAt 9 (Cert.KernelIdeal.cfgs 0).N,
    fun c => (Cert.KernelIdeal.Gen.dats m 0 c).arrAt 10 (Cert.KernelIdeal.cfgs 0).N,
    Cert.KernelIdeal.Value.run_blocks m ρ, (θ_run _ _ _).mono (fun r h c => ?_) (Cert.ReferenceIdeal.Value.run m' ρ')⟩
  obtain ⟨r0, r1, r2, r3, r4, ra⟩ := h c
  obtain ⟨a0, a1, a2, a3, a4⟩ := hargs c
  obtain ⟨f0, f1, f2, f3, f4⟩ := finite_args hpre c
  have H : Cert.KernelIdeal.Sgu.Args m c (real2 _) (real2 _) (real1 _) (real3 _) (fun i h => real2 _ h i) :=
    ⟨fun i j => real2_eq f0 (ValueIdx.ix2 i j), fun i j => real2_eq f1 (ValueIdx.ix2 i j), fun j => real1_eq f2 (ValueIdx.ix1 j),
      fun h i j => real3_eq f3 (ValueIdx.ix3 h i j), fun h i => real2_eq f4 (ValueIdx.ix2 h i)⟩
  rw [← a0] at f0
  rw [← a1] at f1
  rw [← a2] at f2
  rw [← a3] at f3
  rw [← a4] at f4
  have hu := fun i => (Cert.ReferenceIdeal.Read.val_main_v0_apply (F := Ideal) _ i).trans (real2_eq f0 _)
  have hv := fun i => (Cert.ReferenceIdeal.Read.val_main_v1_apply (F := Ideal) _ i).trans (real2_eq f0 _)
  have hd := real2_eq f1
  have hg := real1_eq f2
  have hw := real3_eq f3
  have hb := real2_eq f4
  refine ⟨r0.trans ?_, r1.trans ?_, r2.trans ?_, r3.trans ?_, r4.trans ?_, ra⟩
  · refine (Cert.ReferenceIdeal.Read.val_main_v141_eq (StableHlo.launchContents m' c)).trans (Eq.trans ?_ (Cert.KernelIdeal.Sgu.du_array H).symm)
    funext i
    rw [← a0, ← a1, ← a2, ← a3, ← a4]
    exact Cert.ReferenceIdeal.Sgu.du_ref hu hv hd hg hw hb i
  · refine (Cert.ReferenceIdeal.Read.val_main_v142_eq (StableHlo.launchContents m' c)).trans (Eq.trans ?_ (Cert.KernelIdeal.Sgu.dv_array H).symm)
    funext i
    rw [← a0, ← a1, ← a2, ← a3]
    exact Cert.ReferenceIdeal.Sgu.dv_ref hu hv hd hg hw i
  · refine (Cert.ReferenceIdeal.Read.val_main_v91_eq (StableHlo.launchContents m' c)).trans (Eq.trans ?_ (Cert.KernelIdeal.Sgu.dw_array H).symm)
    funext i
    rw [← a0, ← a1, ← a2]
    exact Cert.ReferenceIdeal.Sgu.dw_ref hu hv hd hg i
  · refine (Cert.ReferenceIdeal.Read.val_main_v143_eq (StableHlo.launchContents m' c)).trans (Eq.trans ?_ (Cert.KernelIdeal.Sgu.dbt_array H).symm)
    funext i
    rw [← a0, ← a1]
    exact Cert.ReferenceIdeal.Sgu.dbt_ref hu hd i
  · refine (Cert.ReferenceIdeal.Read.val_main_v144_eq (StableHlo.launchContents m' c)).trans (Eq.trans ?_ (Cert.KernelIdeal.Sgu.dgain_array H).symm)
    funext i
    rw [← a0, ← a1, ← a3]
    exact Cert.ReferenceIdeal.Sgu.dgain_ref hu hv hd hw i

end Cert.Sgu
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.DownDx.Frame
public import proofs.«01_k».proof.Proof.Gen.DownDxIdeal.Frame
public import proofs.«01_k».proof.Proof.Gen.DownDw.Frame
public import proofs.«01_k».proof.Proof.Gen.DownDwIdeal.Frame
public import proofs.«01_k».proof.Proof.Gen.UpDx.Frame
public import proofs.«01_k».proof.Proof.Gen.UpDxIdeal.Frame
public import proofs.«01_k».proof.Proof.Gen.UpDw.Frame
public import proofs.«01_k».proof.Proof.Gen.UpDwIdeal.Frame
public import proofs.«01_k».proof.Proof.Gen.InDx.Frame
public import proofs.«01_k».proof.Proof.Gen.InDxIdeal.Frame
public import proofs.«01_k».proof.Proof.Gen.InDw.Frame
public import proofs.«01_k».proof.Proof.Gen.InDwIdeal.Frame
public import proofs.«01_k».proof.Proof.Gen.OutDx.Frame
public import proofs.«01_k».proof.Proof.Gen.OutDxIdeal.Frame
public import proofs.«01_k».proof.Proof.Gen.OutDw.Frame
public import proofs.«01_k».proof.Proof.Gen.OutDwIdeal.Frame
public import proofs.«01_k».proof.Proof.Gen.BranchDx.Frame
public import proofs.«01_k».proof.Proof.Gen.BranchDxIdeal.Frame
public import proofs.«01_k».proof.Proof.Gen.BranchDw.Frame
public import proofs.«01_k».proof.Proof.Gen.BranchDwIdeal.Frame
public import proofs.«01_k».proof.Proof.Gen.Down.Frame
public import proofs.«01_k».proof.Proof.Gen.DownIdeal.Frame
public import proofs.«01_k».proof.Proof.Gen.InValues.Frame
public import proofs.«01_k».proof.Proof.Gen.InValuesIdeal.Frame
public import proofs.«01_k».proof.Proof.Gen.InGates.Frame
public import proofs.«01_k».proof.Proof.Gen.InGatesIdeal.Frame
public import proofs.«01_k».proof.Proof.Gen.Branch.Frame
public import proofs.«01_k».proof.Proof.Gen.BranchIdeal.Frame
public import proofs.«01_k».proof.Proof.Gen.Out.Frame
public import proofs.«01_k».proof.Proof.Gen.OutIdeal.Frame
public import proofs.«01_k».proof.Proof.Gen.Up.Frame
public import proofs.«01_k».proof.Proof.Gen.UpIdeal.Frame
public import proofs.«01_k».proof.Proof.Gen.ActBwd.Frame
public import proofs.«01_k».proof.Proof.Gen.ActBwdIdeal.Frame
public import proofs.«01_k».proof.Proof.Gen.Gates.Frame
public import proofs.«01_k».proof.Proof.Gen.GatesIdeal.Frame
public import proofs.«01_k».proof.Proof.Gen.GatesBwd.Frame
public import proofs.«01_k».proof.Proof.Gen.GatesBwdIdeal.Frame
public import proofs.«01_k».proof.Proof.Gen.LastNormBwd.Frame
public import proofs.«01_k».proof.Proof.Gen.LastNormBwdIdeal.Frame
public import proofs.«01_k».proof.Proof.Gen.NormBwd.Frame
public import proofs.«01_k».proof.Proof.Gen.NormBwdIdeal.Frame
public import proofs.«01_k».proof.Proof.Gen.NormBwdChain.Frame
public import proofs.«01_k».proof.Proof.Gen.NormBwdChainIdeal.Frame
public import proofs.«01_k».proof.Proof.Gen.NormBwdHalf.Frame
public import proofs.«01_k».proof.Proof.Gen.NormBwdHalfIdeal.Frame
public import proofs.«01_k».proof.Proof.Gen.Norm.Frame
public import proofs.«01_k».proof.Proof.Gen.NormIdeal.Frame
public import proofs.«01_k».proof.Proof.Gen.ResNorm.Frame
public import proofs.«01_k».proof.Proof.Gen.ResNormIdeal.Frame
public import proofs.«01_k».proof.Proof.Gen.ResNormMix.Frame
public import proofs.«01_k».proof.Proof.Gen.ResNormMixIdeal.Frame
public import proofs.«01_k».proof.Proof.Gen.ResNormLast.Frame
public import proofs.«01_k».proof.Proof.Gen.ResNormLastIdeal.Frame
public import proofs.«01_k».proof.Proof.Gen.Loss.Frame
public import proofs.«01_k».proof.Proof.Gen.LossIdeal.Frame
public import proofs.«01_k».proof.Proof.Gen.Adam.Frame
public import proofs.«01_k».proof.Proof.Gen.AdamIdeal.Frame
public import proofs.«01_k».proof.Proof.Gen.AdamUp.Frame
public import proofs.«01_k».proof.Proof.Gen.AdamUpIdeal.Frame
public import proofs.«01_k».proof.Proof.Gen.PoolFwd.Frame
public import proofs.«01_k».proof.Proof.Gen.PoolFwdIdeal.Frame
public import proofs.«01_k».proof.Proof.Gen.PoolBwd.Frame
public import proofs.«01_k».proof.Proof.Gen.PoolBwdIdeal.Frame
public import proofs.«01_k».proof.Proof.Gen.SguFwd.Frame
public import proofs.«01_k».proof.Proof.Gen.SguFwdIdeal.Frame
public import proofs.«01_k».proof.Proof.Product.DownDx
public import proofs.«01_k».proof.Proof.Product.DownDw
public import proofs.«01_k».proof.Proof.Product.UpDx
public import proofs.«01_k».proof.Proof.Product.UpDw
public import proofs.«01_k».proof.Proof.Product.InDx
public import proofs.«01_k».proof.Proof.Product.InDw
public import proofs.«01_k».proof.Proof.Product.OutDx
public import proofs.«01_k».proof.Proof.Product.OutDw
public import proofs.«01_k».proof.Proof.Product.BranchDx
public import proofs.«01_k».proof.Proof.Product.BranchDw
public import proofs.«01_k».proof.Proof.Product.Down
public import proofs.«01_k».proof.Proof.Product.InValues
public import proofs.«01_k».proof.Proof.Product.InGates
public import proofs.«01_k».proof.Proof.Product.Branch
public import proofs.«01_k».proof.Proof.Product.Out
public import proofs.«01_k».proof.Proof.Product.Up
public import proofs.«01_k».proof.Proof.Pointwise.ActBwd
public import proofs.«01_k».proof.Proof.Pointwise.Gates
public import proofs.«01_k».proof.Proof.Pointwise.GatesBwd
public import proofs.«01_k».proof.Proof.Norm.LastNormBwd
public import proofs.«01_k».proof.Proof.Norm.NormBwd
public import proofs.«01_k».proof.Proof.Norm.NormBwdChain
public import proofs.«01_k».proof.Proof.Norm.NormBwdHalf
public import proofs.«01_k».proof.Proof.Norm.Norm
public import proofs.«01_k».proof.Proof.Norm.ResNorm
public import proofs.«01_k».proof.Proof.Norm.ResNormMix
public import proofs.«01_k».proof.Proof.Norm.ResNormLast
public import proofs.«01_k».proof.Proof.Loss.Loss
public import proofs.«01_k».proof.Proof.Adam.Adam
public import proofs.«01_k».proof.Proof.Adam.AdamUp
public import proofs.«01_k».proof.Proof.Pool.PoolFwd
public import proofs.«01_k».proof.Proof.Pool.PoolBwd
public import proofs.«01_k».proof.Proof.Sgu.SguFwd
public import proofs.«01_k».proof.Proof.Sgu.Equal
public import Idealize.ShloMosaic.Adequacy
public import Idealize.ShloMosaic.Init

@[expose] public section

noncomputable section

namespace Cert.Proof
open Idealize.ShloMosaic Idealize.SL.Sem

/-- The reference runs and leaves its arguments as they were. -/
theorem reference_frame : Cert.quiescent_ReferenceIdeal := fun m ρ _ =>
  (θ_run Cert.ReferenceIdeal.defs _ _).mono
    (fun r h => ⟨fun c => (h c).2.2.2.2.2, sem_eq_zero_of_no_sems (by decide) r.2⟩) (Cert.ReferenceIdeal.Value.run m ρ)

/-- Each named constant stands for the decimal it rounds. -/
theorem named : Cert.preserves_Kernel_KernelIdeal :=
  ⟨IdealRules.named_const.statement _ _ _ _ _ rfl, IdealRules.named_const.statement _ _ _ _ _ rfl⟩

theorem claim : Cert.Claim :=
  ⟨Cert.Kernel.Gen.facts, Cert.KernelIdeal.Gen.facts, Cert.ReferenceIdeal.Gen.facts,
    Cert.DownDx.Gen.facts, Cert.DownDxIdeal.Gen.facts, Cert.DownDxRefIdeal.Gen.facts,
    Cert.DownDw.Gen.facts, Cert.DownDwIdeal.Gen.facts, Cert.DownDwRefIdeal.Gen.facts,
    Cert.UpDx.Gen.facts, Cert.UpDxIdeal.Gen.facts, Cert.UpDxRefIdeal.Gen.facts,
    Cert.UpDw.Gen.facts, Cert.UpDwIdeal.Gen.facts, Cert.UpDwRefIdeal.Gen.facts,
    Cert.InDx.Gen.facts, Cert.InDxIdeal.Gen.facts, Cert.InDxRefIdeal.Gen.facts,
    Cert.InDw.Gen.facts, Cert.InDwIdeal.Gen.facts, Cert.InDwRefIdeal.Gen.facts,
    Cert.OutDx.Gen.facts, Cert.OutDxIdeal.Gen.facts, Cert.OutDxRefIdeal.Gen.facts,
    Cert.OutDw.Gen.facts, Cert.OutDwIdeal.Gen.facts, Cert.OutDwRefIdeal.Gen.facts,
    Cert.BranchDx.Gen.facts, Cert.BranchDxIdeal.Gen.facts, Cert.BranchDxRefIdeal.Gen.facts,
    Cert.BranchDw.Gen.facts, Cert.BranchDwIdeal.Gen.facts, Cert.BranchDwRefIdeal.Gen.facts,
    Cert.Down.Gen.facts, Cert.DownIdeal.Gen.facts, Cert.DownRefIdeal.Gen.facts,
    Cert.InValues.Gen.facts, Cert.InValuesIdeal.Gen.facts, Cert.InValuesRefIdeal.Gen.facts,
    Cert.InGates.Gen.facts, Cert.InGatesIdeal.Gen.facts, Cert.InGatesRefIdeal.Gen.facts,
    Cert.Branch.Gen.facts, Cert.BranchIdeal.Gen.facts, Cert.BranchRefIdeal.Gen.facts,
    Cert.Out.Gen.facts, Cert.OutIdeal.Gen.facts, Cert.OutRefIdeal.Gen.facts,
    Cert.Up.Gen.facts, Cert.UpIdeal.Gen.facts, Cert.UpRefIdeal.Gen.facts,
    Cert.ActBwd.Gen.facts, Cert.ActBwdIdeal.Gen.facts, Cert.ActBwdRefIdeal.Gen.facts,
    Cert.Gates.Gen.facts, Cert.GatesIdeal.Gen.facts, Cert.GatesRefIdeal.Gen.facts,
    Cert.GatesBwd.Gen.facts, Cert.GatesBwdIdeal.Gen.facts, Cert.GatesBwdRefIdeal.Gen.facts,
    Cert.LastNormBwd.Gen.facts, Cert.LastNormBwdIdeal.Gen.facts, Cert.LastNormBwdRefIdeal.Gen.facts,
    Cert.NormBwd.Gen.facts, Cert.NormBwdIdeal.Gen.facts, Cert.NormBwdRefIdeal.Gen.facts,
    Cert.NormBwdChain.Gen.facts, Cert.NormBwdChainIdeal.Gen.facts, Cert.NormBwdChainRefIdeal.Gen.facts,
    Cert.NormBwdHalf.Gen.facts, Cert.NormBwdHalfIdeal.Gen.facts, Cert.NormBwdHalfRefIdeal.Gen.facts,
    Cert.Norm.Gen.facts, Cert.NormIdeal.Gen.facts, Cert.NormRefIdeal.Gen.facts,
    Cert.ResNorm.Gen.facts, Cert.ResNormIdeal.Gen.facts, Cert.ResNormRefIdeal.Gen.facts,
    Cert.ResNormMix.Gen.facts, Cert.ResNormMixIdeal.Gen.facts, Cert.ResNormMixRefIdeal.Gen.facts,
    Cert.ResNormLast.Gen.facts, Cert.ResNormLastIdeal.Gen.facts, Cert.ResNormLastRefIdeal.Gen.facts,
    Cert.Loss.Gen.facts, Cert.LossIdeal.Gen.facts, Cert.LossRefIdeal.Gen.facts,
    Cert.Adam.Gen.facts, Cert.AdamIdeal.Gen.facts, Cert.AdamRefIdeal.Gen.facts,
    Cert.AdamUp.Gen.facts, Cert.AdamUpIdeal.Gen.facts, Cert.AdamUpRefIdeal.Gen.facts,
    Cert.PoolFwd.Gen.facts, Cert.PoolFwdIdeal.Gen.facts, Cert.PoolFwdRefIdeal.Gen.facts,
    Cert.PoolBwd.Gen.facts, Cert.PoolBwdIdeal.Gen.facts, Cert.PoolBwdRefIdeal.Gen.facts,
    Cert.SguFwd.Gen.facts, Cert.SguFwdIdeal.Gen.facts, Cert.SguFwdRefIdeal.Gen.facts,
    Cert.Sgu.pre_facts, Cert.ActBwdIdeal.Value.pre_facts, Cert.PoolFwdIdeal.Value.pre_facts, Cert.PoolBwdIdeal.Value.pre_facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    fun m ρ _ => Cert.DownDx.Gen.frame m ρ, fun m ρ _ => Cert.DownDxIdeal.Gen.frame m ρ, Cert.DownDxRefIdeal.Value.frame,
    fun m ρ _ => Cert.DownDw.Gen.frame m ρ, fun m ρ _ => Cert.DownDwIdeal.Gen.frame m ρ, Cert.DownDwRefIdeal.Value.frame,
    fun m ρ _ => Cert.UpDx.Gen.frame m ρ, fun m ρ _ => Cert.UpDxIdeal.Gen.frame m ρ, Cert.UpDxRefIdeal.Value.frame,
    fun m ρ _ => Cert.UpDw.Gen.frame m ρ, fun m ρ _ => Cert.UpDwIdeal.Gen.frame m ρ, Cert.UpDwRefIdeal.Value.frame,
    fun m ρ _ => Cert.InDx.Gen.frame m ρ, fun m ρ _ => Cert.InDxIdeal.Gen.frame m ρ, Cert.InDxRefIdeal.Value.frame,
    fun m ρ _ => Cert.InDw.Gen.frame m ρ, fun m ρ _ => Cert.InDwIdeal.Gen.frame m ρ, Cert.InDwRefIdeal.Value.frame,
    fun m ρ _ => Cert.OutDx.Gen.frame m ρ, fun m ρ _ => Cert.OutDxIdeal.Gen.frame m ρ, Cert.OutDxRefIdeal.Value.frame,
    fun m ρ _ => Cert.OutDw.Gen.frame m ρ, fun m ρ _ => Cert.OutDwIdeal.Gen.frame m ρ, Cert.OutDwRefIdeal.Value.frame,
    fun m ρ _ => Cert.BranchDx.Gen.frame m ρ, fun m ρ _ => Cert.BranchDxIdeal.Gen.frame m ρ, Cert.BranchDxRefIdeal.Value.frame,
    fun m ρ _ => Cert.BranchDw.Gen.frame m ρ, fun m ρ _ => Cert.BranchDwIdeal.Gen.frame m ρ, Cert.BranchDwRefIdeal.Value.frame,
    fun m ρ _ => Cert.Down.Gen.frame m ρ, fun m ρ _ => Cert.DownIdeal.Gen.frame m ρ, Cert.DownRefIdeal.Value.frame,
    fun m ρ _ => Cert.InValues.Gen.frame m ρ, fun m ρ _ => Cert.InValuesIdeal.Gen.frame m ρ, Cert.InValuesRefIdeal.Value.frame,
    fun m ρ _ => Cert.InGates.Gen.frame m ρ, fun m ρ _ => Cert.InGatesIdeal.Gen.frame m ρ, Cert.InGatesRefIdeal.Value.frame,
    fun m ρ _ => Cert.Branch.Gen.frame m ρ, fun m ρ _ => Cert.BranchIdeal.Gen.frame m ρ, Cert.BranchRefIdeal.Value.frame,
    fun m ρ _ => Cert.Out.Gen.frame m ρ, fun m ρ _ => Cert.OutIdeal.Gen.frame m ρ, Cert.OutRefIdeal.Value.frame,
    fun m ρ _ => Cert.Up.Gen.frame m ρ, fun m ρ _ => Cert.UpIdeal.Gen.frame m ρ, Cert.UpRefIdeal.Value.frame,
    fun m ρ _ => Cert.ActBwd.Gen.frame m ρ, fun m ρ _ => Cert.ActBwdIdeal.Gen.frame m ρ,
    fun m ρ _ => Cert.ActBwdIdeal.Gen.frame m ρ, Cert.ActBwdRefIdeal.Value.frame,
    fun m ρ _ => Cert.ActBwdRefIdeal.Value.frame m ρ trivial,
    fun m ρ _ => Cert.Gates.Gen.frame m ρ, fun m ρ _ => Cert.GatesIdeal.Gen.frame m ρ, Cert.GatesRefIdeal.Value.frame,
    fun m ρ _ => Cert.GatesBwd.Gen.frame m ρ, fun m ρ _ => Cert.GatesBwdIdeal.Gen.frame m ρ, Cert.GatesBwdRefIdeal.Value.frame,
    fun m ρ _ => Cert.LastNormBwd.Gen.frame m ρ, fun m ρ _ => Cert.LastNormBwdIdeal.Gen.frame m ρ, Cert.LastNormBwdRefIdeal.Value.frame,
    fun m ρ _ => Cert.NormBwd.Gen.frame m ρ, fun m ρ _ => Cert.NormBwdIdeal.Gen.frame m ρ, Cert.NormBwdRefIdeal.Value.frame,
    fun m ρ _ => Cert.NormBwdChain.Gen.frame m ρ, fun m ρ _ => Cert.NormBwdChainIdeal.Gen.frame m ρ, Cert.NormBwdChainRefIdeal.Value.frame,
    fun m ρ _ => Cert.NormBwdHalf.Gen.frame m ρ, fun m ρ _ => Cert.NormBwdHalfIdeal.Gen.frame m ρ, Cert.NormBwdHalfRefIdeal.Value.frame,
    fun m ρ _ => Cert.Norm.Gen.frame m ρ, fun m ρ _ => Cert.NormIdeal.Gen.frame m ρ, Cert.NormRefIdeal.Value.frame,
    fun m ρ _ => Cert.ResNorm.Gen.frame m ρ, fun m ρ _ => Cert.ResNormIdeal.Gen.frame m ρ, Cert.ResNormRefIdeal.Value.frame,
    fun m ρ _ => Cert.ResNormMix.Gen.frame m ρ, fun m ρ _ => Cert.ResNormMixIdeal.Gen.frame m ρ, Cert.ResNormMixRefIdeal.Value.frame,
    fun m ρ _ => Cert.ResNormLast.Gen.frame m ρ, fun m ρ _ => Cert.ResNormLastIdeal.Gen.frame m ρ, Cert.ResNormLastRefIdeal.Value.frame,
    fun m ρ _ => Cert.Loss.Gen.frame m ρ, fun m ρ _ => Cert.LossIdeal.Gen.frame m ρ, Cert.LossRefIdeal.Value.frame,
    fun m ρ _ => Cert.Adam.Gen.frame m ρ, fun m ρ _ => Cert.AdamIdeal.Gen.frame m ρ, Cert.AdamRefIdeal.Value.frame,
    fun m ρ _ => Cert.AdamUp.Gen.frame m ρ, fun m ρ _ => Cert.AdamUpIdeal.Gen.frame m ρ, Cert.AdamUpRefIdeal.Value.frame,
    fun m ρ _ => Cert.PoolFwd.Gen.frame m ρ, fun m ρ _ => Cert.PoolFwdIdeal.Gen.frame m ρ,
    fun m ρ _ => Cert.PoolFwdIdeal.Gen.frame m ρ, Cert.PoolFwdRefIdeal.Value.frame,
    fun m ρ _ => Cert.PoolFwdRefIdeal.Value.frame m ρ trivial,
    fun m ρ _ => Cert.PoolBwd.Gen.frame m ρ, fun m ρ _ => Cert.PoolBwdIdeal.Gen.frame m ρ,
    fun m ρ _ => Cert.PoolBwdIdeal.Gen.frame m ρ, Cert.PoolBwdRefIdeal.Value.frame,
    fun m ρ _ => Cert.PoolBwdRefIdeal.Value.frame m ρ trivial,
    fun m ρ _ => Cert.SguFwd.Gen.frame m ρ, fun m ρ _ => Cert.SguFwdIdeal.Gen.frame m ρ, Cert.SguFwdRefIdeal.Value.frame,
    named, Cert.Sgu.equal,
    trivial, Cert.DownDxIdeal.Value.equal,
    trivial, Cert.DownDwIdeal.Value.equal,
    trivial, Cert.UpDxIdeal.Value.equal,
    trivial, Cert.UpDwIdeal.Value.equal,
    trivial, Cert.InDxIdeal.Value.equal,
    trivial, Cert.InDwIdeal.Value.equal,
    trivial, Cert.OutDxIdeal.Value.equal,
    trivial, Cert.OutDwIdeal.Value.equal,
    trivial, Cert.BranchDxIdeal.Value.equal,
    trivial, Cert.BranchDwIdeal.Value.equal,
    trivial, Cert.DownIdeal.Value.equal,
    trivial, Cert.InValuesIdeal.Value.equal,
    trivial, Cert.InGatesIdeal.Value.equal,
    trivial, Cert.BranchIdeal.Value.equal,
    trivial, Cert.OutIdeal.Value.equal,
    trivial, Cert.UpIdeal.Value.equal,
    trivial, Cert.ActBwdIdeal.Value.equal,
    trivial, Cert.GatesIdeal.Value.equal,
    trivial, Cert.GatesBwdIdeal.Value.equal,
    trivial, Cert.LastNormBwdIdeal.Value.equal,
    trivial, Cert.NormBwdIdeal.Value.equal,
    trivial, Cert.NormBwdChainIdeal.Value.equal,
    trivial, Cert.NormBwdHalfIdeal.Value.equal,
    trivial, Cert.NormIdeal.Value.equal,
    trivial, Cert.ResNormIdeal.Value.equal,
    trivial, Cert.ResNormMixIdeal.Value.equal,
    trivial, Cert.ResNormLastIdeal.Value.equal,
    trivial, Cert.LossIdeal.Value.equal,
    trivial, Cert.AdamIdeal.Value.equal,
    trivial, Cert.AdamUpIdeal.Value.equal,
    trivial, Cert.PoolFwdIdeal.Value.equal,
    trivial, Cert.PoolBwdIdeal.Value.equal,
    trivial, Cert.SguFwdIdeal.Value.equal⟩

end Cert.Proof
end
